-- ==== Defs.lean ====
def Pre_Recur (m : (ℓ : Loc Cert.Recur.nD Cert.Recur.τ Cert.Recur.sig) → Buf (Elt Bits) ℓ) : Prop :=
  True

def Pre_RecurIdeal (m : (ℓ : Loc Cert.RecurIdeal.nD Cert.RecurIdeal.τ Cert.RecurIdeal.sig) → Buf (Elt Ideal) ℓ) : Prop :=
  True

def Pre_RecurRefIdeal (m : (ℓ : Loc Cert.RecurRefIdeal.nD Cert.RecurRefIdeal.τ Cert.RecurRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_RecurP (m : (ℓ : Loc Cert.RecurP.nD Cert.RecurP.τ Cert.RecurP.sig) → Buf (Elt Bits) ℓ) : Prop :=
  True

def Pre_RecurPIdeal (m : (ℓ : Loc Cert.RecurPIdeal.nD Cert.RecurPIdeal.τ Cert.RecurPIdeal.sig) → Buf (Elt Ideal) ℓ) : Prop :=
  True

def Pre_RecurPRefIdeal (m : (ℓ : Loc Cert.RecurPRefIdeal.nD Cert.RecurPRefIdeal.τ Cert.RecurPRefIdeal.sig) → Buf (Elt Ideal) ℓ) : Prop :=
  True

def quiescent_Recur [hRecur : Cert.Recur.Facts] : Prop :=
  ∀ (m : (ℓ : Loc Cert.Recur.nD Cert.Recur.τ Cert.Recur.sig) → Buf (Elt Bits) ℓ) (g : Dev Cert.Recur.nD → PrngReg), Pre_Recur m →
    θ_run (Cert.Recur.defs (F := Bits)) (onTc (τ := Cert.Recur.τ) (Cert.Recur.main (F := Bits))) ⟨m, fun _ => 0, g⟩ (fun r => (∀ c : Dev Cert.Recur.nD,
      r.2.mem ((c.tc : Thread Cert.Recur.nD Cert.Recur.τ).loc Cert.Recur.main_arg0) = m ((c.tc : Thread Cert.Recur.nD Cert.Recur.τ).loc Cert.Recur.main_arg0)
      ∧ r.2.mem ((c.tc : Thread Cert.Recur.nD Cert.Recur.τ).loc Cert.Recur.main_arg1) = m ((c.tc : Thread Cert.Recur.nD Cert.Recur.τ).loc Cert.Recur.main_arg1)
      ∧ r.2.mem ((c.tc : Thread Cert.Recur.nD Cert.Recur.τ).loc Cert.Recur.main_arg2) = m ((c.tc : Thread Cert.Recur.nD Cert.Recur.τ).loc Cert.Recur.main_arg2)
      ∧ r.2.mem ((c.tc : Thread Cert.Recur.nD Cert.Recur.τ).loc Cert.Recur.main_arg3) = m ((c.tc : Thread Cert.Recur.nD Cert.Recur.τ).loc Cert.Recur.main_arg3)
      ∧ r.2.mem ((c.tc : Thread Cert.Recur.nD Cert.Recur.τ).loc Cert.Recur.main_arg4) = m ((c.tc : Thread Cert.Recur.nD Cert.Recur.τ).loc Cert.Recur.main_arg4)
      ∧ r.2.mem ((c.tc : Thread Cert.Recur.nD Cert.Recur.τ).loc Cert.Recur.main_arg5) = m ((c.tc : Thread Cert.Recur.nD Cert.Recur.τ).loc Cert.Recur.main_arg5)
      ∧ r.2.mem ((c.tc : Thread Cert.Recur.nD Cert.Recur.τ).loc Cert.Recur.main_arg6) = m ((c.tc : Thread Cert.Recur.nD Cert.Recur.τ).loc Cert.Recur.main_arg6)
      ∧ r.2.mem ((c.tc : Thread Cert.Recur.nD Cert.Recur.τ).loc Cert.Recur.main_arg7) = m ((c.tc : Thread Cert.Recur.nD Cert.Recur.τ).loc Cert.Recur.main_arg7)
      ∧ r.2.mem ((c.tc : Thread Cert.Recur.nD Cert.Recur.τ).loc Cert.Recur.main_arg8) = m ((c.tc : Thread Cert.Recur.nD Cert.Recur.τ).loc Cert.Recur.main_arg8)
      ∧ r.2.mem ((c.tc : Thread Cert.Recur.nD Cert.Recur.τ).loc Cert.Recur.main_arg9) = m ((c.tc : Thread Cert.Recur.nD Cert.Recur.τ).loc Cert.Recur.main_arg9)
      ∧ r.2.mem ((c.tc : Thread Cert.Recur.nD Cert.Recur.τ).loc Cert.Recur.main_arg10) = m ((c.tc : Thread Cert.Recur.nD Cert.Recur.τ).loc Cert.Recur.main_arg10)
      ∧ r.2.mem ((c.tc : Thread Cert.Recur.nD Cert.Recur.τ).loc Cert.Recur.main_arg11) = m ((c.tc : Thread Cert.Recur.nD Cert.Recur.τ).loc Cert.Recur.main_arg11))
      ∧ r.2.sem = fun _ => 0)

def quiescent_RecurIdeal [hRecurIdeal : Cert.RecurIdeal.Facts] : Prop :=
  ∀ (m : (ℓ : Loc Cert.RecurIdeal.nD Cert.RecurIdeal.τ Cert.RecurIdeal.sig) → Buf (Elt Ideal) ℓ) (g : Dev Cert.RecurIdeal.nD → PrngReg), Pre_RecurIdeal m →
    θ_run (Cert.RecurIdeal.defs (F := Ideal)) (onTc (τ := Cert.RecurIdeal.τ) (Cert.RecurIdeal.main (F := Ideal))) ⟨m, fun _ => 0, g⟩ (fun r => (∀ c : Dev Cert.RecurIdeal.nD,
      r.2.mem ((c.tc : Thread Cert.RecurIdeal.nD Cert.RecurIdeal.τ).loc Cert.RecurIdeal.main_arg0) = m ((c.tc : Thread Cert.RecurIdeal.nD Cert.RecurIdeal.τ).loc Cert.RecurIdeal.main_arg0)
      ∧ r.2.mem ((c.tc : Thread Cert.RecurIdeal.nD Cert.RecurIdeal.τ).loc Cert.RecurIdeal.main_arg1) = m ((c.tc : Thread Cert.RecurIdeal.nD Cert.RecurIdeal.τ).loc Cert.RecurIdeal.main_arg1)
      ∧ r.2.mem ((c.tc : Thread Cert.RecurIdeal.nD Cert.RecurIdeal.τ).loc Cert.RecurIdeal.main_arg2) = m ((c.tc : Thread Cert.RecurIdeal.nD Cert.RecurIdeal.τ).loc Cert.RecurIdeal.main_arg2)
      ∧ r.2.mem ((c.tc : Thread Cert.RecurIdeal.nD Cert.RecurIdeal.τ).loc Cert.RecurIdeal.main_arg3) = m ((c.tc : Thread Cert.RecurIdeal.nD Cert.RecurIdeal.τ).loc Cert.RecurIdeal.main_arg3)
      ∧ r.2.mem ((c.tc : Thread Cert.RecurIdeal.nD Cert.RecurIdeal.τ).loc Cert.RecurIdeal.main_arg4) = m ((c.tc : Thread Cert.RecurIdeal.nD Cert.RecurIdeal.τ).loc Cert.RecurIdeal.main_arg4)
      ∧ r.2.mem ((c.tc : Thread Cert.RecurIdeal.nD Cert.RecurIdeal.τ).loc Cert.RecurIdeal.main_arg5) = m ((c.tc : Thread Cert.RecurIdeal.nD Cert.RecurIdeal.τ).loc Cert.RecurIdeal.main_arg5)
      ∧ r.2.mem ((c.tc : Thread Cert.RecurIdeal.nD Cert.RecurIdeal.τ).loc Cert.RecurIdeal.main_arg6) = m ((c.tc : Thread Cert.RecurIdeal.nD Cert.RecurIdeal.τ).loc Cert.RecurIdeal.main_arg6)
      ∧ r.2.mem ((c.tc : Thread Cert.RecurIdeal.nD Cert.RecurIdeal.τ).loc Cert.RecurIdeal.main_arg7) = m ((c.tc : Thread Cert.RecurIdeal.nD Cert.RecurIdeal.τ).loc Cert.RecurIdeal.main_arg7)
      ∧ r.2.mem ((c.tc : Thread Cert.RecurIdeal.nD Cert.RecurIdeal.τ).loc Cert.RecurIdeal.main_arg8) = m ((c.tc : Thread Cert.RecurIdeal.nD Cert.RecurIdeal.τ).loc Cert.RecurIdeal.main_arg8)
      ∧ r.2.mem ((c.tc : Thread Cert.RecurIdeal.nD Cert.RecurIdeal.τ).loc Cert.RecurIdeal.main_arg9) = m ((c.tc : Thread Cert.RecurIdeal.nD Cert.RecurIdeal.τ).loc Cert.RecurIdeal.main_arg9)
      ∧ r.2.mem ((c.tc : Thread Cert.RecurIdeal.nD Cert.RecurIdeal.τ).loc Cert.RecurIdeal.main_arg10) = m ((c.tc : Thread Cert.RecurIdeal.nD Cert.RecurIdeal.τ).loc Cert.RecurIdeal.main_arg10)
      ∧ r.2.mem ((c.tc : Thread Cert.RecurIdeal.nD Cert.RecurIdeal.τ).loc Cert.RecurIdeal.main_arg11) = m ((c.tc : Thread Cert.RecurIdeal.nD Cert.RecurIdeal.τ).loc Cert.RecurIdeal.main_arg11))
      ∧ r.2.sem = fun _ => 0)

def quiescent_RecurRefIdeal [hRecurRefIdeal : Cert.RecurRefIdeal.Facts] : Prop :=
  ∀ (m : (ℓ : Loc Cert.RecurRefIdeal.nD Cert.RecurRefIdeal.τ Cert.RecurRefIdeal.sig) → Buf (Elt Ideal) ℓ) (g : Dev Cert.RecurRefIdeal.nD → PrngReg), Pre_RecurRefIdeal m →
    θ_run (Cert.RecurRefIdeal.defs (F := Ideal)) (onTc (τ := Cert.RecurRefIdeal.τ) (Cert.RecurRefIdeal.main (F := Ideal))) ⟨m, fun _ => 0, g⟩ (fun r => (∀ c : Dev Cert.RecurRefIdeal.nD,
      r.2.mem ((c.tc : Thread Cert.RecurRefIdeal.nD Cert.RecurRefIdeal.τ).loc Cert.RecurRefIdeal.main_arg0) = m ((c.tc : Thread Cert.RecurRefIdeal.nD Cert.RecurRefIdeal.τ).loc Cert.RecurRefIdeal.main_arg0)
      ∧ r.2.mem ((c.tc : Thread Cert.RecurRefIdeal.nD Cert.RecurRefIdeal.τ).loc Cert.RecurRefIdeal.main_arg1) = m ((c.tc : Thread Cert.RecurRefIdeal.nD Cert.RecurRefIdeal.τ).loc Cert.RecurRefIdeal.main_arg1)
      ∧ r.2.mem ((c.tc : Thread Cert.RecurRefIdeal.nD Cert.RecurRefIdeal.τ).loc Cert.RecurRefIdeal.main_arg2) = m ((c.tc : Thread Cert.RecurRefIdeal.nD Cert.RecurRefIdeal.τ).loc Cert.RecurRefIdeal.main_arg2)
      ∧ r.2.mem ((c.tc : Thread Cert.RecurRefIdeal.nD Cert.RecurRefIdeal.τ).loc Cert.RecurRefIdeal.main_arg3) = m ((c.tc : Thread Cert.RecurRefIdeal.nD Cert.RecurRefIdeal.τ).loc Cert.RecurRefIdeal.main_arg3)
      ∧ r.2.mem ((c.tc : Thread Cert.RecurRefIdeal.nD Cert.RecurRefIdeal.τ).loc Cert.RecurRefIdeal.main_arg4) = m ((c.tc : Thread Cert.RecurRefIdeal.nD Cert.RecurRefIdeal.τ).loc Cert.RecurRefIdeal.main_arg4)
      ∧ r.2.mem ((c.tc : Thread Cert.RecurRefIdeal.nD Cert.RecurRefIdeal.τ).loc Cert.RecurRefIdeal.main_arg5) = m ((c.tc : Thread Cert.RecurRefIdeal.nD Cert.RecurRefIdeal.τ).loc Cert.RecurRefIdeal.main_arg5)
      ∧ r.2.mem ((c.tc : Thread Cert.RecurRefIdeal.nD Cert.RecurRefIdeal.τ).loc Cert.RecurRefIdeal.main_arg6) = m ((c.tc : Thread Cert.RecurRefIdeal.nD Cert.RecurRefIdeal.τ).loc Cert.RecurRefIdeal.main_arg6)
      ∧ r.2.mem ((c.tc : Thread Cert.RecurRefIdeal.nD Cert.RecurRefIdeal.τ).loc Cert.RecurRefIdeal.main_arg7) = m ((c.tc : Thread Cert.RecurRefIdeal.nD Cert.RecurRefIdeal.τ).loc Cert.RecurRefIdeal.main_arg7)
      ∧ r.2.mem ((c.tc : Thread Cert.RecurRefIdeal.nD Cert.RecurRefIdeal.τ).loc Cert.RecurRefIdeal.main_arg8) = m ((c.tc : Thread Cert.RecurRefIdeal.nD Cert.RecurRefIdeal.τ).loc Cert.RecurRefIdeal.main_arg8)
      ∧ r.2.mem ((c.tc : Thread Cert.RecurRefIdeal.nD Cert.RecurRefIdeal.τ).loc Cert.RecurRefIdeal.main_arg9) = m ((c.tc : Thread Cert.RecurRefIdeal.nD Cert.RecurRefIdeal.τ).loc Cert.RecurRefIdeal.main_arg9)
      ∧ r.2.mem ((c.tc : Thread Cert.RecurRefIdeal.nD Cert.RecurRefIdeal.τ).loc Cert.RecurRefIdeal.main_arg10) = m ((c.tc : Thread Cert.RecurRefIdeal.nD Cert.RecurRefIdeal.τ).loc Cert.RecurRefIdeal.main_arg10)
      ∧ r.2.mem ((c.tc : Thread Cert.RecurRefIdeal.nD Cert.RecurRefIdeal.τ).loc Cert.RecurRefIdeal.main_arg11) = m ((c.tc : Thread Cert.RecurRefIdeal.nD Cert.RecurRefIdeal.τ).loc Cert.RecurRefIdeal.main_arg11))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_RecurP [hRecurP : Cert.RecurP.Facts] : Prop :=
  ∀ (m : (ℓ : Loc Cert.RecurP.nD Cert.RecurP.τ Cert.RecurP.sig) → Buf (Elt Bits) ℓ) (g : Dev Cert.RecurP.nD → PrngReg), Pre_RecurP m →
    θ_run (Cert.RecurP.defs (F := Bits)) (onTc (τ := Cert.RecurP.τ) (Cert.RecurP.main (F := Bits))) ⟨m, fun _ => 0, g⟩ (fun r => (∀ c : Dev Cert.RecurP.nD,
      r.2.mem ((c.tc : Thread Cert.RecurP.nD Cert.RecurP.τ).loc Cert.RecurP.main_arg0) = m ((c.tc : Thread Cert.RecurP.nD Cert.RecurP.τ).loc Cert.RecurP.main_arg0)
      ∧ r.2.mem ((c.tc : Thread Cert.RecurP.nD Cert.RecurP.τ).loc Cert.RecurP.main_arg1) = m ((c.tc : Thread Cert.RecurP.nD Cert.RecurP.τ).loc Cert.RecurP.main_arg1)
      ∧ r.2.mem ((c.tc : Thread Cert.RecurP.nD Cert.RecurP.τ).loc Cert.RecurP.main_arg2) = m ((c.tc : Thread Cert.RecurP.nD Cert.RecurP.τ).loc Cert.RecurP.main_arg2)
      ∧ r.2.mem ((c.tc : Thread Cert.RecurP.nD Cert.RecurP.τ).loc Cert.RecurP.main_arg3) = m ((c.tc : Thread Cert.RecurP.nD Cert.RecurP.τ).loc Cert.RecurP.main_arg3)
      ∧ r.2.mem ((c.tc : Thread Cert.RecurP.nD Cert.RecurP.τ).loc Cert.RecurP.main_arg4) = m ((c.tc : Thread Cert.RecurP.nD Cert.RecurP.τ).loc Cert.RecurP.main_arg4)
      ∧ r.2.mem ((c.tc : Thread Cert.RecurP.nD Cert.RecurP.τ).loc Cert.RecurP.main_arg5) = m ((c.tc : Thread Cert.RecurP.nD Cert.RecurP.τ).loc Cert.RecurP.main_arg5)
      ∧ r.2.mem ((c.tc : Thread Cert.RecurP.nD Cert.RecurP.τ).loc Cert.RecurP.main_arg6) = m ((c.tc : Thread Cert.RecurP.nD Cert.RecurP.τ).loc Cert.RecurP.main_arg6)
      ∧ r.2.mem ((c.tc : Thread Cert.RecurP.nD Cert.RecurP.τ).loc Cert.RecurP.main_arg7) = m ((c.tc : Thread Cert.RecurP.nD Cert.RecurP.τ).loc Cert.RecurP.main_arg7))
      ∧ r.2.sem = fun _ => 0)

def quiescent_RecurPIdeal [hRecurPIdeal : Cert.RecurPIdeal.Facts] : Prop :=
  ∀ (m : (ℓ : Loc Cert.RecurPIdeal.nD Cert.RecurPIdeal.τ Cert.RecurPIdeal.sig) → Buf (Elt Ideal) ℓ) (g : Dev Cert.RecurPIdeal.nD → PrngReg), Pre_RecurPIdeal m →
    θ_run (Cert.RecurPIdeal.defs (F := Ideal)) (onTc (τ := Cert.RecurPIdeal.τ) (Cert.RecurPIdeal.main (F := Ideal))) ⟨m, fun _ => 0, g⟩ (fun r => (∀ c : Dev Cert.RecurPIdeal.nD,
      r.2.mem ((c.tc : Thread Cert.RecurPIdeal.nD Cert.RecurPIdeal.τ).loc Cert.RecurPIdeal.main_arg0) = m ((c.tc : Thread Cert.RecurPIdeal.nD Cert.RecurPIdeal.τ).loc Cert.RecurPIdeal.main_arg0)
      ∧ r.2.mem ((c.tc : Thread Cert.RecurPIdeal.nD Cert.RecurPIdeal.τ).loc Cert.RecurPIdeal.main_arg1) = m ((c.tc : Thread Cert.RecurPIdeal.nD Cert.RecurPIdeal.τ).loc Cert.RecurPIdeal.main_arg1)
      ∧ r.2.mem ((c.tc : Thread Cert.RecurPIdeal.nD Cert.RecurPIdeal.τ).loc Cert.RecurPIdeal.main_arg2) = m ((c.tc : Thread Cert.RecurPIdeal.nD Cert.RecurPIdeal.τ).loc Cert.RecurPIdeal.main_arg2)
      ∧ r.2.mem ((c.tc : Thread Cert.RecurPIdeal.nD Cert.RecurPIdeal.τ).loc Cert.RecurPIdeal.main_arg3) = m ((c.tc : Thread Cert.RecurPIdeal.nD Cert.RecurPIdeal.τ).loc Cert.RecurPIdeal.main_arg3)
      ∧ r.2.mem ((c.tc : Thread Cert.RecurPIdeal.nD Cert.RecurPIdeal.τ).loc Cert.RecurPIdeal.main_arg4) = m ((c.tc : Thread Cert.RecurPIdeal.nD Cert.RecurPIdeal.τ).loc Cert.RecurPIdeal.main_arg4)
      ∧ r.2.mem ((c.tc : Thread Cert.RecurPIdeal.nD Cert.RecurPIdeal.τ).loc Cert.RecurPIdeal.main_arg5) = m ((c.tc : Thread Cert.RecurPIdeal.nD Cert.RecurPIdeal.τ).loc Cert.RecurPIdeal.main_arg5)
      ∧ r.2.mem ((c.tc : Thread Cert.RecurPIdeal.nD Cert.RecurPIdeal.τ).loc Cert.RecurPIdeal.main_arg6) = m ((c.tc : Thread Cert.RecurPIdeal.nD Cert.RecurPIdeal.τ).loc Cert.RecurPIdeal.main_arg6)
      ∧ r.2.mem ((c.tc : Thread Cert.RecurPIdeal.nD Cert.RecurPIdeal.τ).loc Cert.RecurPIdeal.main_arg7) = m ((c.tc : Thread Cert.RecurPIdeal.nD Cert.RecurPIdeal.τ).loc Cert.RecurPIdeal.main_arg7))
      ∧ r.2.sem = fun _ => 0)

def quiescent_RecurPRefIdeal [hRecurPRefIdeal : Cert.RecurPRefIdeal.Facts] : Prop :=
  ∀ (m : (ℓ : Loc Cert.RecurPRefIdeal.nD Cert.RecurPRefIdeal.τ Cert.RecurPRefIdeal.sig) → Buf (Elt Ideal) ℓ) (g : Dev Cert.RecurPRefIdeal.nD → PrngReg), Pre_RecurPRefIdeal m →
    θ_run (Cert.RecurPRefIdeal.defs (F := Ideal)) (onTc (τ := Cert.RecurPRefIdeal.τ) (Cert.RecurPRefIdeal.main (F := Ideal))) ⟨m, fun _ => 0, g⟩ (fun r => (∀ c : Dev Cert.RecurPRefIdeal.nD,
      r.2.mem ((c.tc : Thread Cert.RecurPRefIdeal.nD Cert.RecurPRefIdeal.τ).loc Cert.RecurPRefIdeal.main_arg0) = m ((c.tc : Thread Cert.RecurPRefIdeal.nD Cert.RecurPRefIdeal.τ).loc Cert.RecurPRefIdeal.main_arg0)
      ∧ r.2.mem ((c.tc : Thread Cert.RecurPRefIdeal.nD Cert.RecurPRefIdeal.τ).loc Cert.RecurPRefIdeal.main_arg1) = m ((c.tc : Thread Cert.RecurPRefIdeal.nD Cert.RecurPRefIdeal.τ).loc Cert.RecurPRefIdeal.main_arg1)
      ∧ r.2.mem ((c.tc : Thread Cert.RecurPRefIdeal.nD Cert.RecurPRefIdeal.τ).loc Cert.RecurPRefIdeal.main_arg2) = m ((c.tc : Thread Cert.RecurPRefIdeal.nD Cert.RecurPRefIdeal.τ).loc Cert.RecurPRefIdeal.main_arg2)
      ∧ r.2.mem ((c.tc : Thread Cert.RecurPRefIdeal.nD Cert.RecurPRefIdeal.τ).loc Cert.RecurPRefIdeal.main_arg3) = m ((c.tc : Thread Cert.RecurPRefIdeal.nD Cert.RecurPRefIdeal.τ).loc Cert.RecurPRefIdeal.main_arg3)
      ∧ r.2.mem ((c.tc : Thread Cert.RecurPRefIdeal.nD Cert.RecurPRefIdeal.τ).loc Cert.RecurPRefIdeal.main_arg4) = m ((c.tc : Thread Cert.RecurPRefIdeal.nD Cert.RecurPRefIdeal.τ).loc Cert.RecurPRefIdeal.main_arg4)
      ∧ r.2.mem ((c.tc : Thread Cert.RecurPRefIdeal.nD Cert.RecurPRefIdeal.τ).loc Cert.RecurPRefIdeal.main_arg5) = m ((c.tc : Thread Cert.RecurPRefIdeal.nD Cert.RecurPRefIdeal.τ).loc Cert.RecurPRefIdeal.main_arg5)
      ∧ r.2.mem ((c.tc : Thread Cert.RecurPRefIdeal.nD Cert.RecurPRefIdeal.τ).loc Cert.RecurPRefIdeal.main_arg6) = m ((c.tc : Thread Cert.RecurPRefIdeal.nD Cert.RecurPRefIdeal.τ).loc Cert.RecurPRefIdeal.main_arg6)
      ∧ r.2.mem ((c.tc : Thread Cert.RecurPRefIdeal.nD Cert.RecurPRefIdeal.τ).loc Cert.RecurPRefIdeal.main_arg7) = m ((c.tc : Thread Cert.RecurPRefIdeal.nD Cert.RecurPRefIdeal.τ).loc Cert.RecurPRefIdeal.main_arg7))
      ∧ r.2.sem = fun _ => 0)

def preserves_Recur_RecurIdeal : Prop :=
  True

def algebraic_RecurIdeal_RecurRefIdeal [hRecurIdeal : Cert.RecurIdeal.Facts] [hRecurRefIdeal : Cert.RecurRefIdeal.Facts] : Prop :=
  ∀ (m : (ℓ : Loc Cert.RecurIdeal.nD Cert.RecurIdeal.τ Cert.RecurIdeal.sig) → Buf (Elt Ideal) ℓ) (g : Dev Cert.RecurIdeal.nD → PrngReg)
    (m' : (ℓ : Loc Cert.RecurRefIdeal.nD Cert.RecurRefIdeal.τ Cert.RecurRefIdeal.sig) → Buf (Elt Ideal) ℓ) (g' : Dev Cert.RecurRefIdeal.nD → PrngReg), Pre_RecurIdeal m →
    (∀ c : Dev Cert.RecurIdeal.nD,
      m' ((c.tc : Thread Cert.RecurRefIdeal.nD Cert.RecurRefIdeal.τ).loc Cert.RecurRefIdeal.main_arg0) = m ((c.tc : Thread Cert.RecurIdeal.nD Cert.RecurIdeal.τ).loc Cert.RecurIdeal.main_arg0)
      ∧ m' ((c.tc : Thread Cert.RecurRefIdeal.nD Cert.RecurRefIdeal.τ).loc Cert.RecurRefIdeal.main_arg1) = m ((c.tc : Thread Cert.RecurIdeal.nD Cert.RecurIdeal.τ).loc Cert.RecurIdeal.main_arg1)
      ∧ m' ((c.tc : Thread Cert.RecurRefIdeal.nD Cert.RecurRefIdeal.τ).loc Cert.RecurRefIdeal.main_arg2) = m ((c.tc : Thread Cert.RecurIdeal.nD Cert.RecurIdeal.τ).loc Cert.RecurIdeal.main_arg2)
      ∧ m' ((c.tc : Thread Cert.RecurRefIdeal.nD Cert.RecurRefIdeal.τ).loc Cert.RecurRefIdeal.main_arg3) = m ((c.tc : Thread Cert.RecurIdeal.nD Cert.RecurIdeal.τ).loc Cert.RecurIdeal.main_arg3)
      ∧ m' ((c.tc : Thread Cert.RecurRefIdeal.nD Cert.RecurRefIdeal.τ).loc Cert.RecurRefIdeal.main_arg4) = m ((c.tc : Thread Cert.RecurIdeal.nD Cert.RecurIdeal.τ).loc Cert.RecurIdeal.main_arg4)
      ∧ m' ((c.tc : Thread Cert.RecurRefIdeal.nD Cert.RecurRefIdeal.τ).loc Cert.RecurRefIdeal.main_arg5) = m ((c.tc : Thread Cert.RecurIdeal.nD Cert.RecurIdeal.τ).loc Cert.RecurIdeal.main_arg5)
      ∧ m' ((c.tc : Thread Cert.RecurRefIdeal.nD Cert.RecurRefIdeal.τ).loc Cert.RecurRefIdeal.main_arg6) = m ((c.tc : Thread Cert.RecurIdeal.nD Cert.RecurIdeal.τ).loc Cert.RecurIdeal.main_arg6)
      ∧ m' ((c.tc : Thread Cert.RecurRefIdeal.nD Cert.RecurRefIdeal.τ).loc Cert.RecurRefIdeal.main_arg7) = m ((c.tc : Thread Cert.RecurIdeal.nD Cert.RecurIdeal.τ).loc Cert.RecurIdeal.main_arg7)
      ∧ m' ((c.tc : Thread Cert.RecurRefIdeal.nD Cert.RecurRefIdeal.τ).loc Cert.RecurRefIdeal.main_arg8) = m ((c.tc : Thread Cert.RecurIdeal.nD Cert.RecurIdeal.τ).loc Cert.RecurIdeal.main_arg8)
      ∧ m' ((c.tc : Thread Cert.RecurRefIdeal.nD Cert.RecurRefIdeal.τ).loc Cert.RecurRefIdeal.main_arg9) = m ((c.tc : Thread Cert.RecurIdeal.nD Cert.RecurIdeal.τ).loc Cert.RecurIdeal.main_arg9)
      ∧ m' ((c.tc : Thread Cert.RecurRefIdeal.nD Cert.RecurRefIdeal.τ).loc Cert.RecurRefIdeal.main_arg10) = m ((c.tc : Thread Cert.RecurIdeal.nD Cert.RecurIdeal.τ).loc Cert.RecurIdeal.main_arg10)
      ∧ m' ((c.tc : Thread Cert.RecurRefIdeal.nD Cert.RecurRefIdeal.τ).loc Cert.RecurRefIdeal.main_arg11) = m ((c.tc : Thread Cert.RecurIdeal.nD Cert.RecurIdeal.τ).loc Cert.RecurIdeal.main_arg11)) →
    ∃ (v0 : (c : Dev Cert.RecurIdeal.nD) → Buf (Elt Ideal) ((c.tc : Thread Cert.RecurIdeal.nD Cert.RecurIdeal.τ).loc Cert.RecurIdeal.main_v33_0)) (v1 : (c : Dev Cert.RecurIdeal.nD) → Buf (Elt Ideal) ((c.tc : Thread Cert.RecurIdeal.nD Cert.RecurIdeal.τ).loc Cert.RecurIdeal.main_v33_1)) (v2 : (c : Dev Cert.RecurIdeal.nD) → Buf (Elt Ideal) ((c.tc : Thread Cert.RecurIdeal.nD Cert.RecurIdeal.τ).loc Cert.RecurIdeal.main_v33_2)) (v3 : (c : Dev Cert.RecurIdeal.nD) → Buf (Elt Ideal) ((c.tc : Thread Cert.RecurIdeal.nD Cert.RecurIdeal.τ).loc Cert.RecurIdeal.main_v33_3)) (v4 : (c : Dev Cert.RecurIdeal.nD) → Buf (Elt Ideal) ((c.tc : Thread Cert.RecurIdeal.nD Cert.RecurIdeal.τ).loc Cert.RecurIdeal.main_v29)),
      θ_run (Cert.RecurIdeal.defs (F := Ideal)) (onTc (τ := Cert.RecurIdeal.τ) (Cert.RecurIdeal.main (F := Ideal))) ⟨m, fun _ => 0, g⟩ (fun r => ∀ c : Dev Cert.RecurIdeal.nD,
          r.2.mem ((c.tc : Thread Cert.RecurIdeal.nD Cert.RecurIdeal.τ).loc Cert.RecurIdeal.main_v33_0) = v0 c
          ∧ r.2.mem ((c.tc : Thread Cert.RecurIdeal.nD Cert.RecurIdeal.τ).loc Cert.RecurIdeal.main_v33_1) = v1 c
          ∧ r.2.mem ((c.tc : Thread Cert.RecurIdeal.nD Cert.RecurIdeal.τ).loc Cert.RecurIdeal.main_v33_2) = v2 c
          ∧ r.2.mem ((c.tc : Thread Cert.RecurIdeal.nD Cert.RecurIdeal.τ).loc Cert.RecurIdeal.main_v33_3) = v3 c
          ∧ r.2.mem ((c.tc : Thread Cert.RecurIdeal.nD Cert.RecurIdeal.τ).loc Cert.RecurIdeal.main_v29) = v4 c
          ∧ r.2.mem ((c.tc : Thread Cert.RecurIdeal.nD Cert.RecurIdeal.τ).loc Cert.RecurIdeal.main_arg0) = m ((c.tc : Thread Cert.RecurIdeal.nD Cert.RecurIdeal.τ).loc Cert.RecurIdeal.main_arg0)
          ∧ r.2.mem ((c.tc : Thread Cert.RecurIdeal.nD Cert.RecurIdeal.τ).loc Cert.RecurIdeal.main_arg1) = m ((c.tc : Thread Cert.RecurIdeal.nD Cert.RecurIdeal.τ).loc Cert.RecurIdeal.main_arg1)
          ∧ r.2.mem ((c.tc : Thread Cert.RecurIdeal.nD Cert.RecurIdeal.τ).loc Cert.RecurIdeal.main_arg2) = m ((c.tc : Thread Cert.RecurIdeal.nD Cert.RecurIdeal.τ).loc Cert.RecurIdeal.main_arg2)
          ∧ r.2.mem ((c.tc : Thread Cert.RecurIdeal.nD Cert.RecurIdeal.τ).loc Cert.RecurIdeal.main_arg3) = m ((c.tc : Thread Cert.RecurIdeal.nD Cert.RecurIdeal.τ).loc Cert.RecurIdeal.main_arg3)
          ∧ r.2.mem ((c.tc : Thread Cert.RecurIdeal.nD Cert.RecurIdeal.τ).loc Cert.RecurIdeal.main_arg4) = m ((c.tc : Thread Cert.RecurIdeal.nD Cert.RecurIdeal.τ).loc Cert.RecurIdeal.main_arg4)
          ∧ r.2.mem ((c.tc : Thread Cert.RecurIdeal.nD Cert.RecurIdeal.τ).loc Cert.RecurIdeal.main_arg5) = m ((c.tc : Thread Cert.RecurIdeal.nD Cert.RecurIdeal.τ).loc Cert.RecurIdeal.main_arg5)
          ∧ r.2.mem ((c.tc : Thread Cert.RecurIdeal.nD Cert.RecurIdeal.τ).loc Cert.RecurIdeal.main_arg6) = m ((c.tc : Thread Cert.RecurIdeal.nD Cert.RecurIdeal.τ).loc Cert.RecurIdeal.main_arg6)
          ∧ r.2.mem ((c.tc : Thread Cert.RecurIdeal.nD Cert.RecurIdeal.τ).loc Cert.RecurIdeal.main_arg7) = m ((c.tc : Thread Cert.RecurIdeal.nD Cert.RecurIdeal.τ).loc Cert.RecurIdeal.main_arg7)
          ∧ r.2.mem ((c.tc : Thread Cert.RecurIdeal.nD Cert.RecurIdeal.τ).loc Cert.RecurIdeal.main_arg8) = m ((c.tc : Thread Cert.RecurIdeal.nD Cert.RecurIdeal.τ).loc Cert.RecurIdeal.main_arg8)
          ∧ r.2.mem ((c.tc : Thread Cert.RecurIdeal.nD Cert.RecurIdeal.τ).loc Cert.RecurIdeal.main_arg9) = m ((c.tc : Thread Cert.RecurIdeal.nD Cert.RecurIdeal.τ).loc Cert.RecurIdeal.main_arg9)
          ∧ r.2.mem ((c.tc : Thread Cert.RecurIdeal.nD Cert.RecurIdeal.τ).loc Cert.RecurIdeal.main_arg10) = m ((c.tc : Thread Cert.RecurIdeal.nD Cert.RecurIdeal.τ).loc Cert.RecurIdeal.main_arg10)
          ∧ r.2.mem ((c.tc : Thread Cert.RecurIdeal.nD Cert.RecurIdeal.τ).loc Cert.RecurIdeal.main_arg11) = m ((c.tc : Thread Cert.RecurIdeal.nD Cert.RecurIdeal.τ).loc Cert.RecurIdeal.main_arg11))
      ∧ θ_run (Cert.RecurRefIdeal.defs (F := Ideal)) (onTc (τ := Cert.RecurRefIdeal.τ) (Cert.RecurRefIdeal.main (F := Ideal))) ⟨m', fun _ => 0, g'⟩ (fun r => ∀ c : Dev Cert.RecurRefIdeal.nD,
          r.2.mem ((c.tc : Thread Cert.RecurRefIdeal.nD Cert.RecurRefIdeal.τ).loc Cert.RecurRefIdeal.main_v164) = v0 c
          ∧ r.2.mem ((c.tc : Thread Cert.RecurRefIdeal.nD Cert.RecurRefIdeal.τ).loc Cert.RecurRefIdeal.main_v135) = v1 c
          ∧ r.2.mem ((c.tc : Thread Cert.RecurRefIdeal.nD Cert.RecurRefIdeal.τ).loc Cert.RecurRefIdeal.main_v140) = v2 c
          ∧ r.2.mem ((c.tc : Thread Cert.RecurRefIdeal.nD Cert.RecurRefIdeal.τ).loc Cert.RecurRefIdeal.main_v167) = v3 c
          ∧ r.2.mem ((c.tc : Thread Cert.RecurRefIdeal.nD Cert.RecurRefIdeal.τ).loc Cert.RecurRefIdeal.main_v169) = v4 c
          ∧ r.2.mem ((c.tc : Thread Cert.RecurRefIdeal.nD Cert.RecurRefIdeal.τ).loc Cert.RecurRefIdeal.main_arg0) = m' ((c.tc : Thread Cert.RecurRefIdeal.nD Cert.RecurRefIdeal.τ).loc Cert.RecurRefIdeal.main_arg0)
          ∧ r.2.mem ((c.tc : Thread Cert.RecurRefIdeal.nD Cert.RecurRefIdeal.τ).loc Cert.RecurRefIdeal.main_arg1) = m' ((c.tc : Thread Cert.RecurRefIdeal.nD Cert.RecurRefIdeal.τ).loc Cert.RecurRefIdeal.main_arg1)
          ∧ r.2.mem ((c.tc : Thread Cert.RecurRefIdeal.nD Cert.RecurRefIdeal.τ).loc Cert.RecurRefIdeal.main_arg2) = m' ((c.tc : Thread Cert.RecurRefIdeal.nD Cert.RecurRefIdeal.τ).loc Cert.RecurRefIdeal.main_arg2)
          ∧ r.2.mem ((c.tc : Thread Cert.RecurRefIdeal.nD Cert.RecurRefIdeal.τ).loc Cert.RecurRefIdeal.main_arg3) = m' ((c.tc : Thread Cert.RecurRefIdeal.nD Cert.RecurRefIdeal.τ).loc Cert.RecurRefIdeal.main_arg3)
          ∧ r.2.mem ((c.tc : Thread Cert.RecurRefIdeal.nD Cert.RecurRefIdeal.τ).loc Cert.RecurRefIdeal.main_arg4) = m' ((c.tc : Thread Cert.RecurRefIdeal.nD Cert.RecurRefIdeal.τ).loc Cert.RecurRefIdeal.main_arg4)
          ∧ r.2.mem ((c.tc : Thread Cert.RecurRefIdeal.nD Cert.RecurRefIdeal.τ).loc Cert.RecurRefIdeal.main_arg5) = m' ((c.tc : Thread Cert.RecurRefIdeal.nD Cert.RecurRefIdeal.τ).loc Cert.RecurRefIdeal.main_arg5)
          ∧ r.2.mem ((c.tc : Thread Cert.RecurRefIdeal.nD Cert.RecurRefIdeal.τ).loc Cert.RecurRefIdeal.main_arg6) = m' ((c.tc : Thread Cert.RecurRefIdeal.nD Cert.RecurRefIdeal.τ).loc Cert.RecurRefIdeal.main_arg6)
          ∧ r.2.mem ((c.tc : Thread Cert.RecurRefIdeal.nD Cert.RecurRefIdeal.τ).loc Cert.RecurRefIdeal.main_arg7) = m' ((c.tc : Thread Cert.RecurRefIdeal.nD Cert.RecurRefIdeal.τ).loc Cert.RecurRefIdeal.main_arg7)
          ∧ r.2.mem ((c.tc : Thread Cert.RecurRefIdeal.nD Cert.RecurRefIdeal.τ).loc Cert.RecurRefIdeal.main_arg8) = m' ((c.tc : Thread Cert.RecurRefIdeal.nD Cert.RecurRefIdeal.τ).loc Cert.RecurRefIdeal.main_arg8)
          ∧ r.2.mem ((c.tc : Thread Cert.RecurRefIdeal.nD Cert.RecurRefIdeal.τ).loc Cert.RecurRefIdeal.main_arg9) = m' ((c.tc : Thread Cert.RecurRefIdeal.nD Cert.RecurRefIdeal.τ).loc Cert.RecurRefIdeal.main_arg9)
          ∧ r.2.mem ((c.tc : Thread Cert.RecurRefIdeal.nD Cert.RecurRefIdeal.τ).loc Cert.RecurRefIdeal.main_arg10) = m' ((c.tc : Thread Cert.RecurRefIdeal.nD Cert.RecurRefIdeal.τ).loc Cert.RecurRefIdeal.main_arg10)
          ∧ r.2.mem ((c.tc : Thread Cert.RecurRefIdeal.nD Cert.RecurRefIdeal.τ).loc Cert.RecurRefIdeal.main_arg11) = m' ((c.tc : Thread Cert.RecurRefIdeal.nD Cert.RecurRefIdeal.τ).loc Cert.RecurRefIdeal.main_arg11))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_v35) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v11_0)) (v1 : (c : Dev Cert.InProjIdeal.nD) → Buf (Elt Ideal) ((c.tc : Thread Cert.InProjIdeal.nD Cert.InProjIdeal.τ).loc Cert.InProjIdeal.main_v11_1)) (v2 : (c : Dev Cert.InProjIdeal.nD) → Buf (Elt Ideal) ((c.tc : Thread Cert.InProjIdeal.nD Cert.InProjIdeal.τ).loc Cert.InProjIdeal.main_v11_2)) (v3 : (c : Dev Cert.InProjIdeal.nD) → Buf (Elt Ideal) ((c.tc : Thread Cert.InProjIdeal.nD Cert.InProjIdeal.τ).loc Cert.InProjIdeal.main_v11_3)) (v4 : (c : Dev Cert.InProjIdeal.nD) → Buf (Elt Ideal) ((c.tc : Thread Cert.InProjIdeal.nD Cert.InProjIdeal.τ).loc Cert.InProjIdeal.main_v11_4)) (v5 : (c : Dev Cert.InProjIdeal.nD) → Buf (Elt Ideal) ((c.tc : Thread Cert.InProjIdeal.nD Cert.InProjIdeal.τ).loc Cert.InProjIdeal.main_v11_5)) (v6 : (c : Dev Cert.InProjIdeal.nD) → Buf (Elt Ideal) ((c.tc : Thread Cert.InProjIdeal.nD Cert.InProjIdeal.τ).loc Cert.InProjIdeal.main_v11_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11_0) = v0 c
          ∧ r.2.mem ((c.tc : Thread Cert.InProjIdeal.nD Cert.InProjIdeal.τ).loc Cert.InProjIdeal.main_v11_1) = v1 c
          ∧ r.2.mem ((c.tc : Thread Cert.InProjIdeal.nD Cert.InProjIdeal.τ).loc Cert.InProjIdeal.main_v11_2) = v2 c
          ∧ r.2.mem ((c.tc : Thread Cert.InProjIdeal.nD Cert.InProjIdeal.τ).loc Cert.InProjIdeal.main_v11_3) = v3 c
          ∧ r.2.mem ((c.tc : Thread Cert.InProjIdeal.nD Cert.InProjIdeal.τ).loc Cert.InProjIdeal.main_v11_4) = v4 c
          ∧ r.2.mem ((c.tc : Thread Cert.InProjIdeal.nD Cert.InProjIdeal.τ).loc Cert.InProjIdeal.main_v11_5) = v5 c
          ∧ r.2.mem ((c.tc : Thread Cert.InProjIdeal.nD Cert.InProjIdeal.τ).loc Cert.InProjIdeal.main_v11_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v22) = v0 c
          ∧ r.2.mem ((c.tc : Thread Cert.InProjRefIdeal.nD Cert.InProjRefIdeal.τ).loc Cert.InProjRefIdeal.main_v28) = v1 c
          ∧ r.2.mem ((c.tc : Thread Cert.InProjRefIdeal.nD Cert.InProjRefIdeal.τ).loc Cert.InProjRefIdeal.main_v29) = v2 c
          ∧ r.2.mem ((c.tc : Thread Cert.InProjRefIdeal.nD Cert.InProjRefIdeal.τ).loc Cert.InProjRefIdeal.main_v30) = v3 c
          ∧ r.2.mem ((c.tc : Thread Cert.InProjRefIdeal.nD Cert.InProjRefIdeal.τ).loc Cert.InProjRefIdeal.main_v31) = v4 c
          ∧ r.2.mem ((c.tc : Thread Cert.InProjRefIdeal.nD Cert.InProjRefIdeal.τ).loc Cert.InProjRefIdeal.main_v32) = v5 c
          ∧ r.2.mem ((c.tc : Thread Cert.InProjRefIdeal.nD Cert.InProjRefIdeal.τ).loc Cert.InProjRefIdeal.main_v34) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_RecurP_RecurPIdeal : Prop :=
  True

def algebraic_RecurPIdeal_RecurPRefIdeal [hRecurPIdeal : Cert.RecurPIdeal.Facts] [hRecurPRefIdeal : Cert.RecurPRefIdeal.Facts] : Prop :=
  ∀ (m : (ℓ : Loc Cert.RecurPIdeal.nD Cert.RecurPIdeal.τ Cert.RecurPIdeal.sig) → Buf (Elt Ideal) ℓ) (g : Dev Cert.RecurPIdeal.nD → PrngReg)
    (m' : (ℓ : Loc Cert.RecurPRefIdeal.nD Cert.RecurPRefIdeal.τ Cert.RecurPRefIdeal.sig) → Buf (Elt Ideal) ℓ) (g' : Dev Cert.RecurPRefIdeal.nD → PrngReg), Pre_RecurPIdeal m →
    (∀ c : Dev Cert.RecurPIdeal.nD,
      m' ((c.tc : Thread Cert.RecurPRefIdeal.nD Cert.RecurPRefIdeal.τ).loc Cert.RecurPRefIdeal.main_arg0) = m ((c.tc : Thread Cert.RecurPIdeal.nD Cert.RecurPIdeal.τ).loc Cert.RecurPIdeal.main_arg0)
      ∧ m' ((c.tc : Thread Cert.RecurPRefIdeal.nD Cert.RecurPRefIdeal.τ).loc Cert.RecurPRefIdeal.main_arg1) = m ((c.tc : Thread Cert.RecurPIdeal.nD Cert.RecurPIdeal.τ).loc Cert.RecurPIdeal.main_arg1)
      ∧ m' ((c.tc : Thread Cert.RecurPRefIdeal.nD Cert.RecurPRefIdeal.τ).loc Cert.RecurPRefIdeal.main_arg2) = m ((c.tc : Thread Cert.RecurPIdeal.nD Cert.RecurPIdeal.τ).loc Cert.RecurPIdeal.main_arg2)
      ∧ m' ((c.tc : Thread Cert.RecurPRefIdeal.nD Cert.RecurPRefIdeal.τ).loc Cert.RecurPRefIdeal.main_arg3) = m ((c.tc : Thread Cert.RecurPIdeal.nD Cert.RecurPIdeal.τ).loc Cert.RecurPIdeal.main_arg3)
      ∧ m' ((c.tc : Thread Cert.RecurPRefIdeal.nD Cert.RecurPRefIdeal.τ).loc Cert.RecurPRefIdeal.main_arg4) = m ((c.tc : Thread Cert.RecurPIdeal.nD Cert.RecurPIdeal.τ).loc Cert.RecurPIdeal.main_arg4)
      ∧ m' ((c.tc : Thread Cert.RecurPRefIdeal.nD Cert.RecurPRefIdeal.τ).loc Cert.RecurPRefIdeal.main_arg5) = m ((c.tc : Thread Cert.RecurPIdeal.nD Cert.RecurPIdeal.τ).loc Cert.RecurPIdeal.main_arg5)
      ∧ m' ((c.tc : Thread Cert.RecurPRefIdeal.nD Cert.RecurPRefIdeal.τ).loc Cert.RecurPRefIdeal.main_arg6) = m ((c.tc : Thread Cert.RecurPIdeal.nD Cert.RecurPIdeal.τ).loc Cert.RecurPIdeal.main_arg6)
      ∧ m' ((c.tc : Thread Cert.RecurPRefIdeal.nD Cert.RecurPRefIdeal.τ).loc Cert.RecurPRefIdeal.main_arg7) = m ((c.tc : Thread Cert.RecurPIdeal.nD Cert.RecurPIdeal.τ).loc Cert.RecurPIdeal.main_arg7)) →
    ∃ (v0 : (c : Dev Cert.RecurPIdeal.nD) → Buf (Elt Ideal) ((c.tc : Thread Cert.RecurPIdeal.nD Cert.RecurPIdeal.τ).loc Cert.RecurPIdeal.main_v22)),
      θ_run (Cert.RecurPIdeal.defs (F := Ideal)) (onTc (τ := Cert.RecurPIdeal.τ) (Cert.RecurPIdeal.main (F := Ideal))) ⟨m, fun _ => 0, g⟩ (fun r => ∀ c : Dev Cert.RecurPIdeal.nD,
          r.2.mem ((c.tc : Thread Cert.RecurPIdeal.nD Cert.RecurPIdeal.τ).loc Cert.RecurPIdeal.main_v22) = v0 c
          ∧ r.2.mem ((c.tc : Thread Cert.RecurPIdeal.nD Cert.RecurPIdeal.τ).loc Cert.RecurPIdeal.main_arg0) = m ((c.tc : Thread Cert.RecurPIdeal.nD Cert.RecurPIdeal.τ).loc Cert.RecurPIdeal.main_arg0)
          ∧ r.2.mem ((c.tc : Thread Cert.RecurPIdeal.nD Cert.RecurPIdeal.τ).loc Cert.RecurPIdeal.main_arg1) = m ((c.tc : Thread Cert.RecurPIdeal.nD Cert.RecurPIdeal.τ).loc Cert.RecurPIdeal.main_arg1)
          ∧ r.2.mem ((c.tc : Thread Cert.RecurPIdeal.nD Cert.RecurPIdeal.τ).loc Cert.RecurPIdeal.main_arg2) = m ((c.tc : Thread Cert.RecurPIdeal.nD Cert.RecurPIdeal.τ).loc Cert.RecurPIdeal.main_arg2)
          ∧ r.2.mem ((c.tc : Thread Cert.RecurPIdeal.nD Cert.RecurPIdeal.τ).loc Cert.RecurPIdeal.main_arg3) = m ((c.tc : Thread Cert.RecurPIdeal.nD Cert.RecurPIdeal.τ).loc Cert.RecurPIdeal.main_arg3)
          ∧ r.2.mem ((c.tc : Thread Cert.RecurPIdeal.nD Cert.RecurPIdeal.τ).loc Cert.RecurPIdeal.main_arg4) = m ((c.tc : Thread Cert.RecurPIdeal.nD Cert.RecurPIdeal.τ).loc Cert.RecurPIdeal.main_arg4)
          ∧ r.2.mem ((c.tc : Thread Cert.RecurPIdeal.nD Cert.RecurPIdeal.τ).loc Cert.RecurPIdeal.main_arg5) = m ((c.tc : Thread Cert.RecurPIdeal.nD Cert.RecurPIdeal.τ).loc Cert.RecurPIdeal.main_arg5)
          ∧ r.2.mem ((c.tc : Thread Cert.RecurPIdeal.nD Cert.RecurPIdeal.τ).loc Cert.RecurPIdeal.main_arg6) = m ((c.tc : Thread Cert.RecurPIdeal.nD Cert.RecurPIdeal.τ).loc Cert.RecurPIdeal.main_arg6)
          ∧ r.2.mem ((c.tc : Thread Cert.RecurPIdeal.nD Cert.RecurPIdeal.τ).loc Cert.RecurPIdeal.main_arg7) = m ((c.tc : Thread Cert.RecurPIdeal.nD Cert.RecurPIdeal.τ).loc Cert.RecurPIdeal.main_arg7))
      ∧ θ_run (Cert.RecurPRefIdeal.defs (F := Ideal)) (onTc (τ := Cert.RecurPRefIdeal.τ) (Cert.RecurPRefIdeal.main (F := Ideal))) ⟨m', fun _ => 0, g'⟩ (fun r => ∀ c : Dev Cert.RecurPRefIdeal.nD,
          r.2.mem ((c.tc : Thread Cert.RecurPRefIdeal.nD Cert.RecurPRefIdeal.τ).loc Cert.RecurPRefIdeal.main_v5) = v0 c
          ∧ r.2.mem ((c.tc : Thread Cert.RecurPRefIdeal.nD Cert.RecurPRefIdeal.τ).loc Cert.RecurPRefIdeal.main_arg0) = m' ((c.tc : Thread Cert.RecurPRefIdeal.nD Cert.RecurPRefIdeal.τ).loc Cert.RecurPRefIdeal.main_arg0)
          ∧ r.2.mem ((c.tc : Thread Cert.RecurPRefIdeal.nD Cert.RecurPRefIdeal.τ).loc Cert.RecurPRefIdeal.main_arg1) = m' ((c.tc : Thread Cert.RecurPRefIdeal.nD Cert.RecurPRefIdeal.τ).loc Cert.RecurPRefIdeal.main_arg1)
          ∧ r.2.mem ((c.tc : Thread Cert.RecurPRefIdeal.nD Cert.RecurPRefIdeal.τ).loc Cert.RecurPRefIdeal.main_arg2) = m' ((c.tc : Thread Cert.RecurPRefIdeal.nD Cert.RecurPRefIdeal.τ).loc Cert.RecurPRefIdeal.main_arg2)
          ∧ r.2.mem ((c.tc : Thread Cert.RecurPRefIdeal.nD Cert.RecurPRefIdeal.τ).loc Cert.RecurPRefIdeal.main_arg3) = m' ((c.tc : Thread Cert.RecurPRefIdeal.nD Cert.RecurPRefIdeal.τ).loc Cert.RecurPRefIdeal.main_arg3)
          ∧ r.2.mem ((c.tc : Thread Cert.RecurPRefIdeal.nD Cert.RecurPRefIdeal.τ).loc Cert.RecurPRefIdeal.main_arg4) = m' ((c.tc : Thread Cert.RecurPRefIdeal.nD Cert.RecurPRefIdeal.τ).loc Cert.RecurPRefIdeal.main_arg4)
          ∧ r.2.mem ((c.tc : Thread Cert.RecurPRefIdeal.nD Cert.RecurPRefIdeal.τ).loc Cert.RecurPRefIdeal.main_arg5) = m' ((c.tc : Thread Cert.RecurPRefIdeal.nD Cert.RecurPRefIdeal.τ).loc Cert.RecurPRefIdeal.main_arg5)
          ∧ r.2.mem ((c.tc : Thread Cert.RecurPRefIdeal.nD Cert.RecurPRefIdeal.τ).loc Cert.RecurPRefIdeal.main_arg6) = m' ((c.tc : Thread Cert.RecurPRefIdeal.nD Cert.RecurPRefIdeal.τ).loc Cert.RecurPRefIdeal.main_arg6)
          ∧ r.2.mem ((c.tc : Thread Cert.RecurPRefIdeal.nD Cert.RecurPRefIdeal.τ).loc Cert.RecurPRefIdeal.main_arg7) = m' ((c.tc : Thread Cert.RecurPRefIdeal.nD Cert.RecurPRefIdeal.τ).loc Cert.RecurPRefIdeal.main_arg7))

def Claim : Prop :=
  ∃ (hRecur : Cert.Recur.Facts) (hRecurIdeal : Cert.RecurIdeal.Facts) (hRecurRefIdeal : Cert.RecurRefIdeal.Facts) (hFfn : Cert.Ffn.Facts) (hFfnIdeal : Cert.FfnIdeal.Facts) (hFfnRefIdeal : Cert.FfnRefIdeal.Facts) (hOutProj : Cert.OutProj.Facts) (hOutProjIdeal : Cert.OutProjIdeal.Facts) (hOutProjRefIdeal : Cert.OutProjRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hRecurP : Cert.RecurP.Facts) (hRecurPIdeal : Cert.RecurPIdeal.Facts) (hRecurPRefIdeal : Cert.RecurPRefIdeal.Facts),
    quiescent_Recur (hRecur := hRecur)
    ∧ quiescent_RecurIdeal (hRecurIdeal := hRecurIdeal)
    ∧ quiescent_RecurRefIdeal (hRecurRefIdeal := hRecurRefIdeal)
    ∧ quiescent_Ffn (hFfn := hFfn)
    ∧ quiescent_FfnIdeal (hFfnIdeal := hFfnIdeal)
    ∧ quiescent_FfnRefIdeal (hFfnRefIdeal := hFfnRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_RecurP (hRecurP := hRecurP)
    ∧ quiescent_RecurPIdeal (hRecurPIdeal := hRecurPIdeal)
    ∧ quiescent_RecurPRefIdeal (hRecurPRefIdeal := hRecurPRefIdeal)
    ∧ preserves_Recur_RecurIdeal
    ∧ algebraic_RecurIdeal_RecurRefIdeal (hRecurIdeal := hRecurIdeal) (hRecurRefIdeal := hRecurRefIdeal)
    ∧ preserves_Ffn_FfnIdeal
    ∧ algebraic_FfnIdeal_FfnRefIdeal (hFfnIdeal := hFfnIdeal) (hFfnRefIdeal := hFfnRefIdeal)
    ∧ preserves_OutProj_OutProjIdeal
    ∧ algebraic_OutProjIdeal_OutProjRefIdeal (hOutProjIdeal := hOutProjIdeal) (hOutProjRefIdeal := hOutProjRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_RecurP_RecurPIdeal
    ∧ algebraic_RecurPIdeal_RecurPRefIdeal (hRecurPIdeal := hRecurPIdeal) (hRecurPRefIdeal := hRecurPRefIdeal)
-- ==== Recur.lean ====
abbrev S9216x8192 : Shape := ⟨2, ![9216, 8192]⟩
abbrev S9216x8 : Shape := ⟨2, ![9216, 8]⟩
abbrev S1x128x8x128x128 : Shape := ⟨5, ![1, 128, 8, 128, 128]⟩
abbrev S1x128x8x128 : Shape := ⟨4, ![1, 128, 8, 128]⟩
abbrev S1x128x8 : Shape := ⟨3, ![1, 128, 8]⟩
abbrev S1x128x3x2048 : Shape := ⟨4, ![1, 128, 3, 2048]⟩
abbrev S1x8 : Shape := ⟨2, ![1, 8]⟩
abbrev S1x4x2048 : Shape := ⟨3, ![1, 4, 2048]⟩
abbrev S1x2048 : Shape := ⟨2, ![1, 2048]⟩
abbrev S1x128 : Shape := ⟨2, ![1, 128]⟩
abbrev S_ : Shape := ⟨0, ![]⟩
abbrev S9216x120 : Shape := ⟨2, ![9216, 120]⟩
abbrev S9216x256 : Shape := ⟨2, ![9216, 256]⟩
abbrev S9216x16 : Shape := ⟨2, ![9216, 16]⟩
abbrev S16x9216 : Shape := ⟨2, ![16, 9216]⟩
abbrev S1x256 : Shape := ⟨2, ![1, 256]⟩
abbrev S8 : Shape := ⟨1, ![8]⟩
abbrev S1 : Shape := ⟨1, ![1]⟩
abbrev S2 : Shape := ⟨1, ![2]⟩
abbrev S16 : Shape := ⟨1, ![16]⟩
abbrev S16x1 : Shape := ⟨2, ![16, 1]⟩
abbrev S128x3x2048 : Shape := ⟨3, ![128, 3, 2048]⟩
abbrev S128x8x2048 : Shape := ⟨3, ![128, 8, 2048]⟩
abbrev S1024x2048 : Shape := ⟨2, ![1024, 2048]⟩
abbrev S128x8 : Shape := ⟨2, ![128, 8]⟩
abbrev S128x128 : Shape := ⟨2, ![128, 128]⟩
abbrev S128x8x128 : Shape := ⟨3, ![128, 8, 128]⟩
abbrev S1024x128 : Shape := ⟨2, ![1024, 128]⟩
abbrev S128x8x128x128 : Shape := ⟨4, ![128, 8, 128, 128]⟩
abbrev S4x2048 : Shape := ⟨2, ![4, 2048]⟩
abbrev S1024x1024 : Shape := ⟨2, ![1024, 1024]⟩
abbrev S128x2048 : Shape := ⟨2, ![128, 2048]⟩
abbrev S128x1024 : Shape := ⟨2, ![128, 1024]⟩
abbrev S128x256 : Shape := ⟨2, ![128, 256]⟩
abbrev S16x128 : Shape := ⟨2, ![16, 128]⟩
abbrev S16x8x128x128 : Shape := ⟨4, ![16, 8, 128, 128]⟩
abbrev S16x8x128 : Shape := ⟨3, ![16, 8, 128]⟩
abbrev S128x1 : Shape := ⟨2, ![128, 1]⟩
abbrev S8x128 : Shape := ⟨2, ![8, 128]⟩
abbrev S16x1x128 : Shape := ⟨3, ![16, 1, 128]⟩
abbrev S128 : Shape := ⟨1, ![128]⟩
abbrev S16x1x128x128 : Shape := ⟨4, ![16, 1, 128, 128]⟩
abbrev S16x128x128 : Shape := ⟨3, ![16, 128, 128]⟩
abbrev S2048x128 : Shape := ⟨2, ![2048, 128]⟩
abbrev S16x8x1 : Shape := ⟨3, ![16, 8, 1]⟩
abbrev S16x1x1 : Shape := ⟨3, ![16, 1, 1]⟩

abbrev nBuf : Space → Nat
  | .hbm => 59
  | .vmem => 31
  | .smem => 0
  | _ => 0

abbrev bufTy : (tb : Table) → Fin (tcTables nBuf tb) → BufTy
  | .hbm, ⟨0, _⟩ => ⟨S9216x8192, .f32⟩
  | .hbm, ⟨1, _⟩ => ⟨S9216x8, .f32⟩
  | .hbm, ⟨2, _⟩ => ⟨S9216x8, .f32⟩
  | .hbm, ⟨3, _⟩ => ⟨S1x128x8x128x128, .f32⟩
  | .hbm, ⟨4, _⟩ => ⟨S1x128x8x128, .f32⟩
  | .hbm, ⟨5, _⟩ => ⟨S1x128x8, .f32⟩
  | .hbm, ⟨6, _⟩ => ⟨S1x128x3x2048, .f32⟩
  | .hbm, ⟨7, _⟩ => ⟨S1x8, .f32⟩
  | .hbm, ⟨8, _⟩ => ⟨S1x8, .f32⟩
  | .hbm, ⟨9, _⟩ => ⟨S1x4x2048, .f32⟩
  | .hbm, ⟨10, _⟩ => ⟨S1x2048, .f32⟩
  | .hbm, ⟨11, _⟩ => ⟨S1x128, .f32⟩
  | .hbm, ⟨12, _⟩ => ⟨S_, .f32⟩
  | .hbm, ⟨13, _⟩ => ⟨S9216x120, .f32⟩
  | .hbm, ⟨14, _⟩ => ⟨S9216x256, .f32⟩
  | .hbm, ⟨15, _⟩ => ⟨S9216x16, .f32⟩
  | .hbm, ⟨16, _⟩ => ⟨S16x9216, .f32⟩
  | .hbm, ⟨17, _⟩ => ⟨S_, .f32⟩
  | .hbm, ⟨18, _⟩ => ⟨S1x256, .f32⟩
  | .hbm, ⟨19, _⟩ => ⟨S8, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S1x256, .f32⟩
  | .hbm, ⟨26, _⟩ => ⟨S8, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x256, .f32⟩
  | .hbm, ⟨33, _⟩ => ⟨S8, .f32⟩
  | .hbm, ⟨34, _⟩ => ⟨S8, .f32⟩
  | .hbm, ⟨35, _⟩ => ⟨S16, .f32⟩
  | .hbm, ⟨36, _⟩ => ⟨S16x1, .f32⟩
  | .hbm, ⟨37, _⟩ => ⟨S128x3x2048, .f32⟩
  | .hbm, ⟨38, _⟩ => ⟨S_, .i32⟩
  | .hbm, ⟨39, _⟩ => ⟨S_, .f32⟩
  | .hbm, ⟨40, _⟩ => ⟨S128x8x2048, .f32⟩
  | .hbm, ⟨41, _⟩ => ⟨S1024x2048, .f32⟩
  | .hbm, ⟨42, _⟩ => ⟨S128x8, .f32⟩
  | .hbm, ⟨43, _⟩ => ⟨S_, .i32⟩
  | .hbm, ⟨44, _⟩ => ⟨S_, .f32⟩
  | .hbm, ⟨45, _⟩ => ⟨S128x128, .f32⟩
  | .hbm, ⟨46, _⟩ => ⟨S128x8x128, .f32⟩
  | .hbm, ⟨47, _⟩ => ⟨S1024x128, .f32⟩
  | .hbm, ⟨48, _⟩ => ⟨S1024x2048, .f32⟩
  | .hbm, ⟨49, _⟩ => ⟨S128x8x2048, .f32⟩
  | .hbm, ⟨50, _⟩ => ⟨S128x3x2048, .f32⟩
  | .hbm, ⟨51, _⟩ => ⟨S1x128x3x2048, .f32⟩
  | .hbm, ⟨52, _⟩ => ⟨S128x8x128x128, .f32⟩
  | .hbm, ⟨53, _⟩ => ⟨S128x8x128, .f32⟩
  | .hbm, ⟨54, _⟩ => ⟨S4x2048, .f32⟩
  | .hbm, ⟨55, _⟩ => ⟨S1024x1024, .bf16⟩
  | .hbm, ⟨56, _⟩ => ⟨S128x8x128x128, .f32⟩
  | .hbm, ⟨57, _⟩ => ⟨S128x8x128, .f32⟩
  | .hbm, ⟨58, _⟩ => ⟨S1024x128, .f32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x256, .f32⟩
  | .local _ .vmem, ⟨7, _⟩ => ⟨S128x256, .f32⟩
  | .local _ .vmem, ⟨8, _⟩ => ⟨S16x128, .f32⟩
  | .local _ .vmem, ⟨9, _⟩ => ⟨S16x128, .f32⟩
  | .local _ .vmem, ⟨10, _⟩ => ⟨S128x2048, .f32⟩
  | .local _ .vmem, ⟨11, _⟩ => ⟨S128x2048, .f32⟩
  | .local _ .vmem, ⟨12, _⟩ => ⟨S16x8x128x128, .f32⟩
  | .local _ .vmem, ⟨13, _⟩ => ⟨S16x8x128x128, .f32⟩
  | .local _ .vmem, ⟨14, _⟩ => ⟨S16x8x128, .f32⟩
  | .local _ .vmem, ⟨15, _⟩ => ⟨S16x8x128, .f32⟩
  | .local _ .vmem, ⟨16, _⟩ => ⟨S128x128, .f32⟩
  | .local _ .vmem, ⟨17, _⟩ => ⟨S128x128, .f32⟩
  | .local _ .vmem, ⟨18, _⟩ => ⟨S4x2048, .f32⟩
  | .local _ .vmem, ⟨19, _⟩ => ⟨S1x2048, .f32⟩
  | .local _ .vmem, ⟨20, _⟩ => ⟨S1x256, .f32⟩
  | .local _ .vmem, ⟨21, _⟩ => ⟨S16x1, .f32⟩
  | .local _ .vmem, ⟨22, _⟩ => ⟨S1x128, .f32⟩
  | .local _ .vmem, ⟨23, _⟩ => ⟨S128x1024, .bf16⟩
  | .local _ .vmem, ⟨24, _⟩ => ⟨S128x1024, .bf16⟩
  | .local _ .vmem, ⟨25, _⟩ => ⟨S16x8x128x128, .f32⟩
  | .local _ .vmem, ⟨26, _⟩ => ⟨S16x8x128x128, .f32⟩
  | .local _ .vmem, ⟨27, _⟩ => ⟨S16x8x128, .f32⟩
  | .local _ .vmem, ⟨28, _⟩ => ⟨S16x8x128, .f32⟩
  | .local _ .vmem, ⟨29, _⟩ => ⟨S128x128, .f32⟩
  | .local _ .vmem, ⟨30, _⟩ => ⟨S128x128, .f32⟩
  | _, _ => ⟨S9216x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_call0_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_call1_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33_0 : Ref sig .tc := ⟨.hbm, 55, rfl⟩
abbrev main_v33_1 : Ref sig .tc := ⟨.hbm, 56, rfl⟩
abbrev main_v33_2 : Ref sig .tc := ⟨.hbm, 57, rfl⟩
abbrev main_v33_3 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x8x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== RecurRefIdeal.lean ====
abbrev S9216x8192 : Shape := ⟨2, ![9216, 8192]⟩
abbrev S9216x8 : Shape := ⟨2, ![9216, 8]⟩
abbrev S1x128x8x128x128 : Shape := ⟨5, ![1, 128, 8, 128, 128]⟩
abbrev S1x128x8x128 : Shape := ⟨4, ![1, 128, 8, 128]⟩
abbrev S1x128x8 : Shape := ⟨3, ![1, 128, 8]⟩
abbrev S1x128x3x2048 : Shape := ⟨4, ![1, 128, 3, 2048]⟩
abbrev S1x8 : Shape := ⟨2, ![1, 8]⟩
abbrev S1x4x2048 : Shape := ⟨3, ![1, 4, 2048]⟩
abbrev S1x2048 : Shape := ⟨2, ![1, 2048]⟩
abbrev S1x128 : Shape := ⟨2, ![1, 128]⟩
abbrev S1024x8192 : Shape := ⟨2, ![1024, 8192]⟩
abbrev S128x8x8192 : Shape := ⟨3, ![128, 8, 8192]⟩
abbrev S128x8x2048 : Shape := ⟨3, ![128, 8, 2048]⟩
abbrev S128x8x1024 : Shape := ⟨3, ![128, 8, 1024]⟩
abbrev S128x3x2048 : Shape := ⟨3, ![128, 3, 2048]⟩
abbrev S128x11x2048 : Shape := ⟨3, ![128, 11, 2048]⟩
abbrev S2048 : Shape := ⟨1, ![2048]⟩
abbrev S1x1x2048 : Shape := ⟨3, ![1, 1, 2048]⟩
abbrev S_ : Shape := ⟨0, ![]⟩
abbrev S128x8x8x128 : Shape := ⟨4, ![128, 8, 8, 128]⟩
abbrev S1024x8 : Shape := ⟨2, ![1024, 8]⟩
abbrev S128x8x8 : Shape := ⟨3, ![128, 8, 8]⟩
abbrev S8 : Shape := ⟨1, ![8]⟩
abbrev S1x1x8 : Shape := ⟨3, ![1, 1, 8]⟩
abbrev S128x8x128x128 : Shape := ⟨4, ![128, 8, 128, 128]⟩
abbrev S128x8x128 : Shape := ⟨3, ![128, 8, 128]⟩
abbrev S128x8 : Shape := ⟨2, ![128, 8]⟩
abbrev S8x8 : Shape := ⟨2, ![8, 8]⟩
abbrev S128x8x8x1 : Shape := ⟨4, ![128, 8, 8, 1]⟩
abbrev S128x8x1x8 : Shape := ⟨4, ![128, 8, 1, 8]⟩
abbrev S128x8x8x8 : Shape := ⟨4, ![128, 8, 8, 8]⟩
abbrev S128x8x1 : Shape := ⟨3, ![128, 8, 1]⟩
abbrev S128x8x128x8 : Shape := ⟨4, ![128, 8, 128, 8]⟩
abbrev S128x8x1x1 : Shape := ⟨4, ![128, 8, 1, 1]⟩
abbrev S128 : Shape := ⟨1, ![128]⟩
abbrev S1x1x1x128 : Shape := ⟨4, ![1, 1, 1, 128]⟩
abbrev S1024x1024 : Shape := ⟨2, ![1024, 1024]⟩
abbrev S1024x128 : Shape := ⟨2, ![1024, 128]⟩

abbrev nBuf : Space → Nat
  | .hbm => 222
  | .vmem => 0
  | .smem => 0
  | _ => 0

abbrev hbmTy0_0 (i : Nat) : BufTy := match i % 128 with
  | 0 => ⟨S9216x8192, .f32⟩
  | 1 => ⟨S9216x8, .f32⟩
  | 2 => ⟨S9216x8, .f32⟩
  | 3 => ⟨S1x128x8x128x128, .f32⟩
  | 4 => ⟨S1x128x8x128, .f32⟩
  | 5 => ⟨S1x128x8, .f32⟩
  | 6 => ⟨S1x128x3x2048, .f32⟩
  | 7 => ⟨S1x8, .f32⟩
  | 8 => ⟨S1x8, .f32⟩
  | 9 => ⟨S1x4x2048, .f32⟩
  | 10 => ⟨S1x2048, .f32⟩
  | 11 => ⟨S1x128, .f32⟩
  | 12 => ⟨S1024x8192, .f32⟩
  | 13 => ⟨S128x8x8192, .f32⟩
  | 14 => ⟨S128x8x2048, .f32⟩
  | 15 => ⟨S128x8x1024, .f32⟩
  | 16 => ⟨S128x8x1024, .f32⟩
  | 17 => ⟨S128x3x2048, .f32⟩
  | 18 => ⟨S128x11x2048, .f32⟩
  | 19 => ⟨S2048, .f32⟩
  | 20 => ⟨S1x1x2048, .f32⟩
  | 21 => ⟨S2048, .f32⟩
  | 22 => ⟨S128x8x2048, .f32⟩
  | 23 => ⟨S1x1x2048, .f32⟩
  | 24 => ⟨S128x8x2048, .f32⟩
  | 25 => ⟨S128x8x2048, .f32⟩
  | 26 => ⟨S1x1x2048, .f32⟩
  | 27 => ⟨S128x8x2048, .f32⟩
  | 28 => ⟨S128x8x2048, .f32⟩
  | 29 => ⟨S1x1x2048, .f32⟩
  | 30 => ⟨S2048, .f32⟩
  | 31 => ⟨S128x8x2048, .f32⟩
  | 32 => ⟨S1x1x2048, .f32⟩
  | 33 => ⟨S128x8x2048, .f32⟩
  | 34 => ⟨S128x8x2048, .f32⟩
  | 35 => ⟨S128x8x2048, .f32⟩
  | 36 => ⟨S1x1x2048, .f32⟩
  | 37 => ⟨S2048, .f32⟩
  | 38 => ⟨S128x8x2048, .f32⟩
  | 39 => ⟨S1x1x2048, .f32⟩
  | 40 => ⟨S128x8x2048, .f32⟩
  | 41 => ⟨S128x8x2048, .f32⟩
  | 42 => ⟨S128x8x2048, .f32⟩
  | 43 => ⟨S1x1x2048, .f32⟩
  | 44 => ⟨S2048, .f32⟩
  | 45 => ⟨S128x8x2048, .f32⟩
  | 46 => ⟨S1x1x2048, .f32⟩
  | 47 => ⟨S128x8x2048, .f32⟩
  | 48 => ⟨S128x8x2048, .f32⟩
  | 49 => ⟨S128x8x2048, .f32⟩
  | 50 => ⟨S128x8x2048, .f32⟩
  | 51 => ⟨S128x8x2048, .f32⟩
  | 52 => ⟨S_, .f32⟩
  | 53 => ⟨S128x8x2048, .f32⟩
  | 54 => ⟨S128x8x2048, .f32⟩
  | 55 => ⟨S_, .f32⟩
  | 56 => ⟨S128x8x2048, .f32⟩
  | 57 => ⟨S128x8x2048, .f32⟩
  | 58 => ⟨S128x8x2048, .f32⟩
  | 59 => ⟨S128x8x1024, .f32⟩
  | 60 => ⟨S128x8x8x128, .f32⟩
  | 61 => ⟨S128x8x1024, .f32⟩
  | 62 => ⟨S128x8x8x128, .f32⟩
  | 63 => ⟨S_, .f32⟩
  | 64 => ⟨S128x8x8x128, .f32⟩
  | 65 => ⟨S128x8x8x128, .f32⟩
  | 66 => ⟨S128x8x8x128, .f32⟩
  | 67 => ⟨S1024x8, .f32⟩
  | 68 => ⟨S128x8x8, .f32⟩
  | 69 => ⟨S8, .f32⟩
  | 70 => ⟨S1x1x8, .f32⟩
  | 71 => ⟨S128x8x8, .f32⟩
  | 72 => ⟨S128x8x8, .f32⟩
  | 73 => ⟨S1024x8, .f32⟩
  | 74 => ⟨S128x8x8, .f32⟩
  | 75 => ⟨S8, .f32⟩
  | 76 => ⟨S1x1x8, .f32⟩
  | 77 => ⟨S128x8x8, .f32⟩
  | 78 => ⟨S128x8x8, .f32⟩
  | 79 => ⟨S128x8x8, .f32⟩
  | 80 => ⟨S_, .f32⟩
  | 81 => ⟨S128x8x8, .f32⟩
  | 82 => ⟨S128x8x8, .f32⟩
  | 83 => ⟨S128x8x8, .f32⟩
  | 84 => ⟨S128x8x8, .f32⟩
  | 85 => ⟨S128x8x8, .i1⟩
  | 86 => ⟨S128x8x8, .f32⟩
  | 87 => ⟨S128x8x8, .f32⟩
  | 88 => ⟨S128x8x8, .f32⟩
  | 89 => ⟨S128x8x8, .f32⟩
  | 90 => ⟨S128x8x8, .f32⟩
  | 91 => ⟨S128x8x8, .f32⟩
  | 92 => ⟨S128x8x8, .f32⟩
  | 93 => ⟨S128x8x8, .f32⟩
  | 94 => ⟨S128x8x8, .f32⟩
  | 95 => ⟨S128x8x128x128, .f32⟩
  | 96 => ⟨S128x8x128, .f32⟩
  | 97 => ⟨S128x8, .f32⟩
  | 98 => ⟨S8x8, .i32⟩
  | 99 => ⟨S8x8, .i32⟩
  | 100 => ⟨S8x8, .i1⟩
  | 101 => ⟨S_, .f32⟩
  | 102 => ⟨S_, .f32⟩
  | 103 => ⟨S128x8x8, .f32⟩
  | 104 => ⟨S128x8x8, .f32⟩
  | 105 => ⟨S128x8x8, .f32⟩
  | 106 => ⟨S128x8x8x1, .f32⟩
  | 107 => ⟨S128x8x1x8, .f32⟩
  | 108 => ⟨S128x8x8x8, .f32⟩
  | 109 => ⟨S128x8x8x8, .f32⟩
  | 110 => ⟨S128x8x8x8, .f32⟩
  | 111 => ⟨S128x8x1x8, .f32⟩
  | 112 => ⟨S128x8x8x8, .f32⟩
  | 113 => ⟨S128x8x8x8, .f32⟩
  | 114 => ⟨S_, .f32⟩
  | 115 => ⟨S_, .f32⟩
  | 116 => ⟨S128x8x8x8, .i1⟩
  | 117 => ⟨S128x8x8x8, .f32⟩
  | 118 => ⟨S128x8x8x8, .f32⟩
  | 119 => ⟨S128x8x1, .f32⟩
  | 120 => ⟨S128x8x8, .f32⟩
  | 121 => ⟨S128x8x8, .f32⟩
  | 122 => ⟨S_, .f32⟩
  | 123 => ⟨S128x8x8, .f32⟩
  | 124 => ⟨S128x8x8, .f32⟩
  | 125 => ⟨S128x8x8x1, .f32⟩
  | 126 => ⟨S128x8x8x8, .f32⟩
  | 127 => ⟨S128x8x8x8, .f32⟩
  | _ => ⟨S9216x8192, .f32⟩

abbrev hbmTy0_1 (i : Nat) : BufTy := match i % 128 with
  | 0 => ⟨S128x8x8x8, .f32⟩
  | 1 => ⟨S128x8x8, .f32⟩
  | 2 => ⟨S128x8x8, .f32⟩
  | 3 => ⟨S128x8x8x8, .f32⟩
  | 4 => ⟨S128x8x8x8, .f32⟩
  | 5 => ⟨S128x8x128x8, .f32⟩
  | 6 => ⟨S128x8x8x128, .f32⟩
  | 7 => ⟨S128x8x8, .f32⟩
  | 8 => ⟨S128x8x8x1, .f32⟩
  | 9 => ⟨S128x8x8x128, .f32⟩
  | 10 => ⟨S128x8x8x128, .f32⟩
  | 11 => ⟨S128x8x8x128, .f32⟩
  | 12 => ⟨S128x8x8x128, .f32⟩
  | 13 => ⟨S128x8x8x128, .f32⟩
  | 14 => ⟨S_, .f32⟩
  | 15 => ⟨S128x8x8, .f32⟩
  | 16 => ⟨S128x8x8, .f32⟩
  | 17 => ⟨S128x8x8, .f32⟩
  | 18 => ⟨S128x8x8, .f32⟩
  | 19 => ⟨S128x8x8, .f32⟩
  | 20 => ⟨S128x8x8, .f32⟩
  | 21 => ⟨S128x8x8, .f32⟩
  | 22 => ⟨S128x8x8, .f32⟩
  | 23 => ⟨S128x8x8, .f32⟩
  | 24 => ⟨S128x8x8x1, .f32⟩
  | 25 => ⟨S128x8x8x128, .f32⟩
  | 26 => ⟨S128x8x8x128, .f32⟩
  | 27 => ⟨S128x8x1, .f32⟩
  | 28 => ⟨S128x8, .f32⟩
  | 29 => ⟨S128x8x1, .f32⟩
  | 30 => ⟨S128x8x8, .f32⟩
  | 31 => ⟨S128x8x8, .f32⟩
  | 32 => ⟨S128x8x8, .f32⟩
  | 33 => ⟨S128x8, .f32⟩
  | 34 => ⟨S_, .f32⟩
  | 35 => ⟨S128x8, .f32⟩
  | 36 => ⟨S128x8, .f32⟩
  | 37 => ⟨S128x8x1, .f32⟩
  | 38 => ⟨S128x8x8, .f32⟩
  | 39 => ⟨S128x8x8, .f32⟩
  | 40 => ⟨S128x8x8, .f32⟩
  | 41 => ⟨S128x8, .f32⟩
  | 42 => ⟨S128x8, .f32⟩
  | 43 => ⟨S128x8, .f32⟩
  | 44 => ⟨S128x8x1x1, .f32⟩
  | 45 => ⟨S128x8x128x128, .f32⟩
  | 46 => ⟨S128x8x128x128, .f32⟩
  | 47 => ⟨S128x8x8, .f32⟩
  | 48 => ⟨S128x8x8x1, .f32⟩
  | 49 => ⟨S128x8x8x128, .f32⟩
  | 50 => ⟨S128x8x8x128, .f32⟩
  | 51 => ⟨S128x8x128x128, .f32⟩
  | 52 => ⟨S128x8x128x128, .f32⟩
  | 53 => ⟨S128x8x1, .f32⟩
  | 54 => ⟨S128x8x128, .f32⟩
  | 55 => ⟨S128x8x128, .f32⟩
  | 56 => ⟨S128x8x128, .f32⟩
  | 57 => ⟨S128x8x128, .f32⟩
  | 58 => ⟨S128, .f32⟩
  | 59 => ⟨S128x8x8x128, .f32⟩
  | 60 => ⟨S_, .f32⟩
  | 61 => ⟨S128x8x8, .f32⟩
  | 62 => ⟨S128x8x8x1, .f32⟩
  | 63 => ⟨S_, .f32⟩
  | 64 => ⟨S128x8x8x1, .f32⟩
  | 65 => ⟨S128x8x8x1, .f32⟩
  | 66 => ⟨S_, .f32⟩
  | 67 => ⟨S128x8x8x1, .f32⟩
  | 68 => ⟨S128x8x8x1, .f32⟩
  | 69 => ⟨S128x8x8x1, .f32⟩
  | 70 => ⟨S128x8x8x128, .f32⟩
  | 71 => ⟨S128x8x8x128, .f32⟩
  | 72 => ⟨S1x1x1x128, .f32⟩
  | 73 => ⟨S128x8x8x128, .f32⟩
  | 74 => ⟨S128x8x8x128, .f32⟩
  | 75 => ⟨S128x8x1024, .f32⟩
  | 76 => ⟨S128x8x1024, .f32⟩
  | 77 => ⟨S_, .f32⟩
  | 78 => ⟨S128x8x1024, .f32⟩
  | 79 => ⟨S128x8x1024, .f32⟩
  | 80 => ⟨S_, .f32⟩
  | 81 => ⟨S128x8x1024, .f32⟩
  | 82 => ⟨S128x8x1024, .f32⟩
  | 83 => ⟨S128x8x8x128, .f32⟩
  | 84 => ⟨S128x8x8x128, .f32⟩
  | 85 => ⟨S1024x1024, .f32⟩
  | 86 => ⟨S1024x1024, .bf16⟩
  | 87 => ⟨S128x8x8, .f32⟩
  | 88 => ⟨S1024x8, .f32⟩
  | 89 => ⟨S_, .i32⟩
  | 90 => ⟨S_, .f32⟩
  | 91 => ⟨S1024x128, .f32⟩
  | 92 => ⟨S128x3x2048, .f32⟩
  | 93 => ⟨S1x128x3x2048, .f32⟩
  | _ => ⟨S9216x8192, .f32⟩

abbrev hbmTy (i : Nat) : BufTy := match i / 128 with
  | 0 => hbmTy0_0 i
  | 1 => hbmTy0_1 i
  | _ => ⟨S9216x8192, .f32⟩

abbrev bufTy : (tb : Table) → Fin (tcTables nBuf tb) → BufTy
  | .hbm, ⟨i, _⟩ => hbmTy i
  | _, _ => ⟨S9216x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call1_v0 : Ref sig .tc := ⟨.hbm, 79, rfl⟩
abbrev main_call1_call0_cst : Ref sig .tc := ⟨.hbm, 80, rfl⟩
abbrev main_call1_call0_v0 : Ref sig .tc := ⟨.hbm, 81, rfl⟩
abbrev main_call1_call0_v1 : Ref sig .tc := ⟨.hbm, 82, rfl⟩
abbrev main_call1_call0_v2 : Ref sig .tc := ⟨.hbm, 83, rfl⟩
abbrev main_call1_call0_v3 : Ref sig .tc := ⟨.hbm, 84, rfl⟩
abbrev main_call1_call0_v4 : Ref sig .tc := ⟨.hbm, 85, rfl⟩
abbrev main_call1_call0_v5 : Ref sig .tc := ⟨.hbm, 86, rfl⟩
abbrev main_call1_call0_v6 : Ref sig .tc := ⟨.hbm, 87, rfl⟩
abbrev main_call1_call0_v7 : Ref sig .tc := ⟨.hbm, 88, rfl⟩
abbrev main_call1_call0_v8 : Ref sig .tc := ⟨.hbm, 89, rfl⟩
abbrev main_call1_call0_v9 : Ref sig .tc := ⟨.hbm, 90, rfl⟩
abbrev main_call1_call0_v10 : Ref sig .tc := ⟨.hbm, 91, rfl⟩
abbrev main_call1_call0_v11 : Ref sig .tc := ⟨.hbm, 92, rfl⟩
abbrev main_call1_v1 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call2_call0_cst : Ref sig .tc := ⟨.hbm, 101, rfl⟩
abbrev main_call2_call0_v0 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_0 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_1 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_2 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_3 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_4 : Ref sig .tc := ⟨.hbm, 188, rfl⟩
abbrev main_v143 : Ref sig .tc := ⟨.hbm, 189, rfl⟩
abbrev main_v144 : Ref sig .tc := ⟨.hbm, 190, rfl⟩
abbrev main_cst_5 : Ref sig .tc := ⟨.hbm, 191, rfl⟩
abbrev main_v145 : Ref sig .tc := ⟨.hbm, 192, rfl⟩
abbrev main_v146 : Ref sig .tc := ⟨.hbm, 193, rfl⟩
abbrev main_cst_6 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_7 : Ref sig .tc := ⟨.hbm, 205, rfl⟩
abbrev main_v157 : Ref sig .tc := ⟨.hbm, 206, rfl⟩
abbrev main_v158 : Ref sig .tc := ⟨.hbm, 207, rfl⟩
abbrev main_cst_8 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_c : Ref sig .tc := ⟨.hbm, 217, rfl⟩
abbrev main_call4_v0 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩

abbrev nD : Nat := 1
abbrev τ : Topo := Topo.v7x

variable {F : FTy → Type} [FloatOps F]
-- ==== Ffn.lean ====
abbrev S9216x2048 : Shape := ⟨2, ![9216, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S8192x2048 : Shape := ⟨2, ![8192, 2048]⟩
abbrev S1024x2048 : Shape := ⟨2, ![1024, 2048]⟩
abbrev S512x2048 : Shape := ⟨2, ![512, 2048]⟩
abbrev S2048x1024 : Shape := ⟨2, ![2048, 1024]⟩
abbrev S512 : Shape := ⟨1, ![512]⟩
abbrev S512x1 : Shape := ⟨2, ![512, 1]⟩
abbrev S512x1024 : Shape := ⟨2, ![512, 1024]⟩

abbrev nBuf : Space → Nat
  | .hbm => 12
  | .vmem => 14
  | .smem => 0
  | _ => 0

abbrev bufTy : (tb : Table) → Fin (tcTables nBuf tb) → BufTy
  | .hbm, ⟨0, _⟩ => ⟨S9216x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S1x2048, .f32⟩
  | .hbm, ⟨10, _⟩ => ⟨S8192x2048, .f32⟩
  | .hbm, ⟨11, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![18, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let arg0 : BitVec 32 := BitVec.ofNat 32 (i 0).val
  let c16_i32 : BitVec 32 := 16#32
  let v20 : BitVec 1 := Scalar.cmpi .slt arg0 c16_i32
  let v21 : BitVec 1 := Scalar.andi v19 v20
  let v22 : BitVec 32 := Scalar.extui v21
  let c0_i32_12 : BitVec 32 := 0#32
  let v23 : BitVec 1 := Scalar.cmpi .ne v22 c0_i32_12
  v23

def k0_cond3 (i : grid0.Coords) : BitVec 1 :=
  let arg1 : BitVec 32 := BitVec.ofNat 32 (i 1).val
  let c7_i32 : BitVec 32 := 7#32
  let v19 : BitVec 1 := Scalar.cmpi .eq arg1 c7_i32
  let arg0 : BitVec 32 := BitVec.ofNat 32 (i 0).val
  let c16_i32_13 : BitVec 32 := 16#32
  let v24 : BitVec 1 := Scalar.cmpi .sge arg0 c16_i32_13
  let v25 : BitVec 1 := Scalar.andi v19 v24
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S9216x2048 : Shape := ⟨2, ![9216, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S2048x8192 : Shape := ⟨2, ![2048, 8192]⟩
abbrev S9216x8192 : Shape := ⟨2, ![9216, 8192]⟩
abbrev S8192x2048 : Shape := ⟨2, ![8192, 2048]⟩
abbrev S1024x2048 : Shape := ⟨2, ![1024, 2048]⟩

abbrev nBuf : Space → Nat
  | .hbm => 49
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048, .f32⟩
  | .hbm, ⟨6, _⟩ => ⟨S9216x2048, .f32⟩
  | .hbm, ⟨7, _⟩ => ⟨S_, .f32⟩
  | .hbm, ⟨8, _⟩ => ⟨S9216, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S9216x1, .f32⟩
  | .hbm, ⟨17, _⟩ => ⟨S9216x2048, .f32⟩
  | .hbm, ⟨18, _⟩ => ⟨S9216x2048, .f32⟩
  | .hbm, ⟨19, _⟩ => ⟨S1x2048, .f32⟩
  | .hbm, ⟨20, _⟩ => ⟨S9216x2048, .f32⟩
  | .hbm, ⟨21, _⟩ => ⟨S9216x2048, .f32⟩
  | .hbm, ⟨22, _⟩ => ⟨S2048x8192, .f32⟩
  | .hbm, ⟨23, _⟩ => ⟨S9216x8192, .f32⟩
  | .hbm, ⟨24, _⟩ => ⟨S_, .f32⟩
  | .hbm, ⟨25, _⟩ => ⟨S9216x8192, .f32⟩
  | .hbm, ⟨26, _⟩ => ⟨S9216x8192, .f32⟩
  | .hbm, ⟨27, _⟩ => ⟨S9216x8192, .f32⟩
  | .hbm, ⟨28, _⟩ => ⟨S8192x2048, .f32⟩
  | .hbm, ⟨29, _⟩ => ⟨S9216x2048, .f32⟩
  | .hbm, ⟨30, _⟩ => ⟨S9216x2048, .f32⟩
  | .hbm, ⟨31, _⟩ => ⟨S9216x2048, .f32⟩
  | .hbm, ⟨32, _⟩ => ⟨S_, .f32⟩
  | .hbm, ⟨33, _⟩ => ⟨S9216, .f32⟩
  | .hbm, ⟨34, _⟩ => ⟨S9216x1, .f32⟩
  | .hbm, ⟨35, _⟩ => ⟨S_, .f32⟩
  | .hbm, ⟨36, _⟩ => ⟨S9216x1, .f32⟩
  | .hbm, ⟨37, _⟩ => ⟨S9216x1, .f32⟩
  | .hbm, ⟨38, _⟩ => ⟨S_, .f32⟩
  | .hbm, ⟨39, _⟩ => ⟨S9216x1, .f32⟩
  | .hbm, ⟨40, _⟩ => ⟨S9216x1, .f32⟩
  | .hbm, ⟨41, _⟩ => ⟨S9216x1, .f32⟩
  | .hbm, ⟨42, _⟩ => ⟨S9216x2048, .f32⟩
  | .hbm, ⟨43, _⟩ => ⟨S9216x2048, .f32⟩
  | .hbm, ⟨44, _⟩ => ⟨S1x2048, .f32⟩
  | .hbm, ⟨45, _⟩ => ⟨S9216x2048, .f32⟩
  | .hbm, ⟨46, _⟩ => ⟨S9216x2048, .f32⟩
  | .hbm, ⟨47, _⟩ => ⟨S8192x2048, .f32⟩
  | .hbm, ⟨48, _⟩ => ⟨S1024x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== OutProj.lean ====
abbrev S9216x2048 : Shape := ⟨2, ![9216, 2048]⟩
abbrev S1x2048x2048 : Shape := ⟨3, ![1, 2048, 2048]⟩
abbrev S1x8192x2048 : Shape := ⟨3, ![1, 8192, 2048]⟩
abbrev S128x8x2048 : Shape := ⟨3, ![128, 8, 2048]⟩
abbrev S2048x2048 : Shape := ⟨2, ![2048, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S1x2048x2048, .f32⟩
  | .hbm, ⟨2, _⟩ => ⟨S1x8192x2048, .f32⟩
  | .hbm, ⟨3, _⟩ => ⟨S128x8x2048, .f32⟩
  | .hbm, ⟨4, _⟩ => ⟨S2048x2048, .f32⟩
  | .hbm, ⟨5, _⟩ => ⟨S2048x2048, .bf16⟩
  | .hbm, ⟨6, _⟩ => ⟨S8192x2048, .f32⟩
  | .hbm, ⟨7, _⟩ => ⟨S1024x2048, .f32⟩
  | .hbm, ⟨8, _⟩ => ⟨S9216x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 2], ![false, false]⟩

def k0_cond1 (i : grid0.Coords) : BitVec 1 :=
  let arg0 : BitVec 32 := BitVec.ofNat 32 (i 0).val
  let c8_i32 : BitVec 32 := 8#32
  let v4 : BitVec 1 := Scalar.cmpi .slt arg0 c8_i32
  let v5 : BitVec 32 := Scalar.extui v4
  let c0_i32 : BitVec 32 := 0#32
  let v6 : BitVec 1 := Scalar.cmpi .ne v5 c0_i32
  v6

def k0_cond2 (i : grid0.Coords) : BitVec 1 :=
  let arg0 : BitVec 32 := BitVec.ofNat 32 (i 0).val
  let c8_i32_3 : BitVec 32 := 8#32
  let v7 : BitVec 1 := Scalar.cmpi .sge arg0 c8_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c8_i32 : BitVec 32 := 8#32
  let v1 : BitVec 1 := Scalar.cmpi .slt arg0 c8_i32
  let c1_i32 : BitVec 32 := 1#32
  let v2 : BitVec 32 := Scalar.select v1 arg1 c1_i32
  let c0_i32 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 1 := Scalar.cmpi .slt arg0 c8_i32_0
  let c0_i32_1 : BitVec 32 := 0#32
  let v3 : BitVec 32 := Scalar.select v2 c0_i32_1 arg1
  let c0_i32_2 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S9216x2048 : Shape := ⟨2, ![9216, 2048]⟩
abbrev S1x2048x2048 : Shape := ⟨3, ![1, 2048, 2048]⟩
abbrev S1x8192x2048 : Shape := ⟨3, ![1, 8192, 2048]⟩
abbrev S128x8x2048 : Shape := ⟨3, ![128, 8, 2048]⟩
abbrev S8192x2048 : Shape := ⟨2, ![8192, 2048]⟩
abbrev S1024x2048 : Shape := ⟨2, ![1024, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x2048x2048, .f32⟩
  | .hbm, ⟨2, _⟩ => ⟨S1x8192x2048, .f32⟩
  | .hbm, ⟨3, _⟩ => ⟨S128x8x2048, .f32⟩
  | .hbm, ⟨4, _⟩ => ⟨S8192x2048, .f32⟩
  | .hbm, ⟨5, _⟩ => ⟨S1024x2048, .f32⟩
  | .hbm, ⟨6, _⟩ => ⟨S9216x2048, .f32⟩
  | .hbm, ⟨7, _⟩ => ⟨S9216x2048, .f32⟩
  | .hbm, ⟨8, _⟩ => ⟨S2048x2048, .f32⟩
  | .hbm, ⟨9, _⟩ => ⟨S9216x2048, .f32⟩
  | .hbm, ⟨10, _⟩ => ⟨S9216x2048, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Merge.lean ====
abbrev S8192x1024 : Shape := ⟨2, ![8192, 1024]⟩
abbrev S1024x1024 : Shape := ⟨2, ![1024, 1024]⟩
abbrev S1x1024x2048 : Shape := ⟨3, ![1, 1024, 2048]⟩
abbrev S9216x9216 : Shape := ⟨2, ![9216, 9216]⟩
abbrev S1024x2048 : Shape := ⟨2, ![1024, 2048]⟩
abbrev S9216x2048 : Shape := ⟨2, ![9216, 2048]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .hbm, ⟨4, _⟩ => ⟨S1x1024x2048, .f32⟩
  | .hbm, ⟨5, _⟩ => ⟨S1x1024x2048, .f32⟩
  | .hbm, ⟨6, _⟩ => ⟨S9216x9216, .f32⟩
  | .hbm, ⟨7, _⟩ => ⟨S1024x2048, .f32⟩
  | .hbm, ⟨8, _⟩ => ⟨S1024x2048, .bf16⟩
  | .hbm, ⟨9, _⟩ => ⟨S1024x2048, .f32⟩
  | .hbm, ⟨10, _⟩ => ⟨S1024x2048, .bf16⟩
  | .hbm, ⟨11, _⟩ => ⟨S9216x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![9, 2], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S8192x1024 : Shape := ⟨2, ![8192, 1024]⟩
abbrev S1024x1024 : Shape := ⟨2, ![1024, 1024]⟩
abbrev S1x1024x2048 : Shape := ⟨3, ![1, 1024, 2048]⟩
abbrev S9216x9216 : Shape := ⟨2, ![9216, 9216]⟩
abbrev S9216x1024 : Shape := ⟨2, ![9216, 1024]⟩
abbrev S1024x2048 : Shape := ⟨2, ![1024, 2048]⟩
abbrev S9216x2048 : Shape := ⟨2, ![9216, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .hbm, ⟨4, _⟩ => ⟨S1x1024x2048, .f32⟩
  | .hbm, ⟨5, _⟩ => ⟨S1x1024x2048, .f32⟩
  | .hbm, ⟨6, _⟩ => ⟨S9216x9216, .f32⟩
  | .hbm, ⟨7, _⟩ => ⟨S9216x1024, .bf16⟩
  | .hbm, ⟨8, _⟩ => ⟨S9216x1024, .f32⟩
  | .hbm, ⟨9, _⟩ => ⟨S1024x2048, .f32⟩
  | .hbm, ⟨10, _⟩ => ⟨S9216x2048, .f32⟩
  | .hbm, ⟨11, _⟩ => ⟨S9216x1024, .bf16⟩
  | .hbm, ⟨12, _⟩ => ⟨S9216x1024, .f32⟩
  | .hbm, ⟨13, _⟩ => ⟨S1024x2048, .f32⟩
  | .hbm, ⟨14, _⟩ => ⟨S9216x2048, .f32⟩
  | .hbm, ⟨15, _⟩ => ⟨S9216x2048, .f32⟩
  | .hbm, ⟨16, _⟩ => ⟨S9216x2048, .f32⟩
  | .hbm, ⟨17, _⟩ => ⟨S9216x2048, .f32⟩
  | .hbm, ⟨18, _⟩ => ⟨S9216x2048, .f32⟩
  | .hbm, ⟨19, _⟩ => ⟨S_, .f32⟩
  | .hbm, ⟨20, _⟩ => ⟨S9216x2048, .f32⟩
  | .hbm, ⟨21, _⟩ => ⟨S9216x2048, .f32⟩
  | .hbm, ⟨22, _⟩ => ⟨S_, .f32⟩
  | .hbm, ⟨23, _⟩ => ⟨S9216x2048, .f32⟩
  | .hbm, ⟨24, _⟩ => ⟨S9216x2048, .f32⟩
  | .hbm, ⟨25, _⟩ => ⟨S9216x2048, .f32⟩
  | .hbm, ⟨26, _⟩ => ⟨S9216x2048, .f32⟩
  | .hbm, ⟨27, _⟩ => ⟨S9216x2048, .f32⟩
  | .hbm, ⟨28, _⟩ => ⟨S_, .f32⟩
  | .hbm, ⟨29, _⟩ => ⟨S9216x2048, .f32⟩
  | .hbm, ⟨30, _⟩ => ⟨S9216x2048, .f32⟩
  | .hbm, ⟨31, _⟩ => ⟨S_, .f32⟩
  | .hbm, ⟨32, _⟩ => ⟨S9216x2048, .f32⟩
  | .hbm, ⟨33, _⟩ => ⟨S9216x2048, .f32⟩
  | .hbm, ⟨34, _⟩ => ⟨S9216x2048, .f32⟩
  | .hbm, ⟨35, _⟩ => ⟨S9216x2048, .f32⟩
  | .hbm, ⟨36, _⟩ => ⟨S9216x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== InProj.lean ====
abbrev S1x8192x2048 : Shape := ⟨3, ![1, 8192, 2048]⟩
abbrev S128x8x2048 : Shape := ⟨3, ![128, 8, 2048]⟩
abbrev S1x2048 : Shape := ⟨2, ![1, 2048]⟩
abbrev S1x2048x11280 : Shape := ⟨3, ![1, 2048, 11280]⟩
abbrev S2048x11280 : Shape := ⟨2, ![2048, 11280]⟩
abbrev S11280x2048 : Shape := ⟨2, ![11280, 2048]⟩
abbrev S7168x2048 : Shape := ⟨2, ![7168, 2048]⟩
abbrev S16x2048 : Shape := ⟨2, ![16, 2048]⟩
abbrev S_ : Shape := ⟨0, ![]⟩
abbrev S120x2048 : Shape := ⟨2, ![120, 2048]⟩
abbrev S8x2048 : Shape := ⟨2, ![8, 2048]⟩
abbrev S256x2048 : Shape := ⟨2, ![256, 2048]⟩
abbrev S8192x2048 : Shape := ⟨2, ![8192, 2048]⟩
abbrev S1024x2048 : Shape := ⟨2, ![1024, 2048]⟩
abbrev S9216x9216 : Shape := ⟨2, ![9216, 9216]⟩
abbrev S8192x1024 : Shape := ⟨2, ![8192, 1024]⟩
abbrev S1024x1024 : Shape := ⟨2, ![1024, 1024]⟩
abbrev S9216x256 : Shape := ⟨2, ![9216, 256]⟩
abbrev S16x9216 : Shape := ⟨2, ![16, 9216]⟩
abbrev S512x2048 : Shape := ⟨2, ![512, 2048]⟩
abbrev S1024x512 : Shape := ⟨2, ![1024, 512]⟩
abbrev S1024x256 : Shape := ⟨2, ![1024, 256]⟩
abbrev S16x1024 : Shape := ⟨2, ![16, 1024]⟩
abbrev S1024 : Shape := ⟨1, ![1024]⟩
abbrev S1024x1 : Shape := ⟨2, ![1024, 1]⟩

abbrev nBuf : Space → Nat
  | .hbm => 23
  | .vmem => 24
  | .smem => 0
  | _ => 0

abbrev bufTy : (tb : Table) → Fin (tcTables nBuf tb) → BufTy
  | .hbm, ⟨0, _⟩ => ⟨S1x8192x2048, .f32⟩
  | .hbm, ⟨1, _⟩ => ⟨S128x8x2048, .f32⟩
  | .hbm, ⟨2, _⟩ => ⟨S1x2048, .f32⟩
  | .hbm, ⟨3, _⟩ => ⟨S1x2048x11280, .f32⟩
  | .hbm, ⟨4, _⟩ => ⟨S2048x11280, .f32⟩
  | .hbm, ⟨5, _⟩ => ⟨S11280x2048, .f32⟩
  | .hbm, ⟨6, _⟩ => ⟨S11280x2048, .bf16⟩
  | .hbm, ⟨7, _⟩ => ⟨S7168x2048, .bf16⟩
  | .hbm, ⟨8, _⟩ => ⟨S16x2048, .bf16⟩
  | .hbm, ⟨9, _⟩ => ⟨S_, .bf16⟩
  | .hbm, ⟨10, _⟩ => ⟨S120x2048, .bf16⟩
  | .hbm, ⟨11, _⟩ => ⟨S8x2048, .bf16⟩
  | .hbm, ⟨12, _⟩ => ⟨S8x2048, .bf16⟩
  | .hbm, ⟨13, _⟩ => ⟨S256x2048, .bf16⟩
  | .hbm, ⟨14, _⟩ => ⟨S8192x2048, .f32⟩
  | .hbm, ⟨15, _⟩ => ⟨S1024x2048, .f32⟩
  | .hbm, ⟨16, _⟩ => ⟨S9216x9216, .f32⟩
  | .hbm, ⟨17, _⟩ => ⟨S8192x1024, .f32⟩
  | .hbm, ⟨18, _⟩ => ⟨S1024x1024, .f32⟩
  | .hbm, ⟨19, _⟩ => ⟨S8192x1024, .f32⟩
  | .hbm, ⟨20, _⟩ => ⟨S1024x1024, .f32⟩
  | .hbm, ⟨21, _⟩ => ⟨S9216x256, .f32⟩
  | .hbm, ⟨22, _⟩ => ⟨S16x9216, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S256x2048, .bf16⟩
  | .local _ .vmem, ⟨8, _⟩ => ⟨S16x2048, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x256, .f32⟩
  | .local _ .vmem, ⟨20, _⟩ => ⟨S1024x256, .f32⟩
  | .local _ .vmem, ⟨21, _⟩ => ⟨S16x1024, .f32⟩
  | .local _ .vmem, ⟨22, _⟩ => ⟨S16x1024, .f32⟩
  | .local _ .vmem, ⟨23, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev main_v11_6 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![9, 22], ![false, false]⟩

def k0_cond3 (i : grid0.Coords) : BitVec 1 :=
  let arg1 : BitVec 32 := BitVec.ofNat 32 (i 1).val
  let c8_i32_6 : BitVec 32 := 8#32
  let v20 : BitVec 1 := Scalar.cmpi .slt arg1 c8_i32_6
  let v25 : BitVec 32 := Scalar.extui v20
  let c0_i32_7 : BitVec 32 := 0#32
  let v26 : BitVec 1 := Scalar.cmpi .ne v25 c0_i32_7
  v26

def k0_cond4 (i : grid0.Coords) : BitVec 1 :=
  let arg1 : BitVec 32 := BitVec.ofNat 32 (i 1).val
  let c8_i32_4 : BitVec 32 := 8#32
  let v16 : BitVec 1 := Scalar.cmpi .sge arg1 c8_i32_4
  let c10_i32 : BitVec 32 := 10#32
  let v10 : BitVec 1 := Scalar.cmpi .sge arg1 c10_i32
  let c12_i32 : BitVec 32 := 12#32
  let v11 : BitVec 1 := Scalar.cmpi .slt arg1 c12_i32
  let v12 : BitVec 1 := Scalar.andi v10 v11
  let c12_i32_3 : BitVec 32 := 12#32
  let v13 : BitVec 1 := Scalar.cmpi .sge arg1 c12_i32_3
  let c14_i32 : BitVec 32 := 14#32
  let v14 : BitVec 1 := Scalar.cmpi .slt arg1 c14_i32
  let v15 : BitVec 1 := Scalar.andi v13 v14
  let v17 : BitVec 1 := Scalar.ori v12 v15
  let true_5 : BitVec 1 := 1#1
  let v18 : BitVec 1 := Scalar.xori v17 true_5
  let v19 : BitVec 1 := Scalar.andi v16 v18
  let v27 : BitVec 32 := Scalar.extui v19
  let c0_i32_8 : BitVec 32 := 0#32
  let v28 : BitVec 1 := Scalar.cmpi .ne v27 c0_i32_8
  v28

def k0_cond5 (i : grid0.Coords) : BitVec 1 :=
  let arg1 : BitVec 32 := BitVec.ofNat 32 (i 1).val
  let c10_i32 : BitVec 32 := 10#32
  let v10 : BitVec 1 := Scalar.cmpi .sge arg1 c10_i32
  let c12_i32 : BitVec 32 := 12#32
  let v11 : BitVec 1 := Scalar.cmpi .slt arg1 c12_i32
  let v12 : BitVec 1 := Scalar.andi v10 v11
  let arg0 : BitVec 32 := BitVec.ofNat 32 (i 0).val
  let c8_i32 : BitVec 32 := 8#32
  let v0 : BitVec 1 := Scalar.cmpi .slt arg0 c8_i32
  let v21 : BitVec 1 := Scalar.andi v12 v0
  let v29 : BitVec 32 := Scalar.extui v21
  let c0_i32_9 : BitVec 32 := 0#32
  let v30 : BitVec 1 := Scalar.cmpi .ne v29 c0_i32_9
  v30

def k0_cond6 (i : grid0.Coords) : BitVec 1 :=
  let arg1 : BitVec 32 := BitVec.ofNat 32 (i 1).val
  let c10_i32 : BitVec 32 := 10#32
  let v10 : BitVec 1 := Scalar.cmpi .sge arg1 c10_i32
  let c12_i32 : BitVec 32 := 12#32
  let v11 : BitVec 1 := Scalar.cmpi .slt arg1 c12_i32
  let v12 : BitVec 1 := Scalar.andi v10 v11
  let arg0 : BitVec 32 := BitVec.ofNat 32 (i 0).val
  let c8_i32 : BitVec 32 := 8#32
  let v0 : BitVec 1 := Scalar.cmpi .slt arg0 c8_i32
  let v_true : BitVec 1 := 1#1
  let v1 : BitVec 1 := Scalar.xori v0 v_true
  let v22 : BitVec 1 := Scalar.andi v12 v1
  let v31 : BitVec 32 := Scalar.extui v22
  let c0_i32_10 : BitVec 32 := 0#32
  let v32 : BitVec 1 := Scalar.cmpi .ne v31 c0_i32_10
  v32

def k0_cond7 (i : grid0.Coords) : BitVec 1 :=
  let arg1 : BitVec 32 := BitVec.ofNat 32 (i 1).val
  let c12_i32_3 : BitVec 32 := 12#32
  let v13 : BitVec 1 := Scalar.cmpi .sge arg1 c12_i32_3
  let c14_i32 : BitVec 32 := 14#32
  let v14 : BitVec 1 := Scalar.cmpi .slt arg1 c14_i32
  let v15 : BitVec 1 := Scalar.andi v13 v14
  let arg0 : BitVec 32 := BitVec.ofNat 32 (i 0).val
  let c8_i32 : BitVec 32 := 8#32
  let v0 : BitVec 1 := Scalar.cmpi .slt arg0 c8_i32
  let v23 : BitVec 1 := Scalar.andi v15 v0
  let v33 : BitVec 32 := Scalar.extui v23
  let c0_i32_11 : BitVec 32 := 0#32
  let v34 : BitVec 1 := Scalar.cmpi .ne v33 c0_i32_11
  v34

def k0_cond8 (i : grid0.Coords) : BitVec 1 :=
  let arg1 : BitVec 32 := BitVec.ofNat 32 (i 1).val
  let c12_i32_3 : BitVec 32 := 12#32
  let v13 : BitVec 1 := Scalar.cmpi .sge arg1 c12_i32_3
  let c14_i32 : BitVec 32 := 14#32
  let v14 : BitVec 1 := Scalar.cmpi .slt arg1 c14_i32
  let v15 : BitVec 1 := Scalar.andi v13 v14
  let arg0 : BitVec 32 := BitVec.ofNat 32 (i 0).val
  let c8_i32 : BitVec 32 := 8#32
  let v0 : BitVec 1 := Scalar.cmpi .slt arg0 c8_i32
  let v_true : BitVec 1 := 1#1
  let v1 : BitVec 1 := Scalar.xori v0 v_true
  let v24 : BitVec 1 := Scalar.andi v15 v1
  let v35 : BitVec 32 := Scalar.extui v24
  let c0_i32_12 : BitVec 32 := 0#32
  let v36 : BitVec 1 := Scalar.cmpi .ne v35 c0_i32_12
  v36

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let arg0 : BitVec 32 := BitVec.ofNat 32 (i 0).val
  let c8_i32 : BitVec 32 := 8#32
  let v0 : BitVec 1 := Scalar.cmpi .slt arg0 c8_i32
  let v3 : BitVec 1 := Scalar.andi v2 v0
  let v4 : BitVec 32 := Scalar.extui v3
  let c0_i32_0 : BitVec 32 := 0#32
  let v5 : BitVec 1 := Scalar.cmpi .ne v4 c0_i32_0
  v5

def k0_cond2 (i : grid0.Coords) : BitVec 1 :=
  let arg1 : BitVec 32 := BitVec.ofNat 32 (i 1).val
  let c0_i32_1 : BitVec 32 := 0#32
  let v6 : BitVec 1 := Scalar.cmpi .eq arg1 c0_i32_1
  let arg0 : BitVec 32 := BitVec.ofNat 32 (i 0).val
  let c8_i32 : BitVec 32 := 8#32
  let v0 : BitVec 1 := Scalar.cmpi .slt arg0 c8_i32
  let v_true : BitVec 1 := 1#1
  let v1 : BitVec 1 := Scalar.xori v0 v_true
  let v7 : BitVec 1 := Scalar.andi v6 v1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .slt arg1 c10_i32
  let c14_i32 : BitVec 32 := 14#32
  let v1 : BitVec 1 := Scalar.cmpi .slt arg1 c14_i32
  let c4_i32 : BitVec 32 := 4#32
  let v2 : BitVec 32 := Scalar.subi arg1 c4_i32
  let c9_i32 : BitVec 32 := 9#32
  let v3 : BitVec 32 := Scalar.select v1 c9_i32 v2
  let v4 : BitVec 32 := Scalar.select v0 arg1 v3
  let c0_i32 : BitVec 32 := 0#32
  ![arg0.toNat, v4.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c8_i32 : BitVec 32 := 8#32
  let v1 : BitVec 1 := Scalar.cmpi .slt arg0 c8_i32
  let c10_i32 : BitVec 32 := 10#32
  let v2 : BitVec 32 := Scalar.subi arg1 c10_i32
  let c0_i32 : BitVec 32 := 0#32
  let c1_i32 : BitVec 32 := 1#32
  let v3 : BitVec 32 := Scalar.maxsi c0_i32 v2
  let v4 : BitVec 32 := Scalar.minsi c1_i32 v3
  let c1_i32_0 : BitVec 32 := 1#32
  let v5 : BitVec 32 := Scalar.select v1 v4 c1_i32_0
  let c0_i32_1 : BitVec 32 := 0#32
  ![v0.toNat, v5.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 1 := Scalar.cmpi .slt arg0 c8_i32_0
  let c10_i32 : BitVec 32 := 10#32
  let v3 : BitVec 32 := Scalar.subi arg1 c10_i32
  let c0_i32_1 : BitVec 32 := 0#32
  let c1_i32 : BitVec 32 := 1#32
  let v4 : BitVec 32 := Scalar.maxsi c0_i32_1 v3
  let v5 : BitVec 32 := Scalar.minsi c1_i32 v4
  let c0_i32_2 : BitVec 32 := 0#32
  let v6 : BitVec 32 := Scalar.select v2 c0_i32_2 v5
  let c0_i32_3 : BitVec 32 := 0#32
  ![v1.toNat, v6.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c8_i32 : BitVec 32 := 8#32
  let v1 : BitVec 1 := Scalar.cmpi .slt arg0 c8_i32
  let c10_i32 : BitVec 32 := 10#32
  let v2 : BitVec 32 := Scalar.subi arg1 c10_i32
  let c2_i32 : BitVec 32 := 2#32
  let v3 : BitVec 32 := Scalar.subi v2 c2_i32
  let c0_i32 : BitVec 32 := 0#32
  let c1_i32 : BitVec 32 := 1#32
  let v4 : BitVec 32 := Scalar.maxsi c0_i32 v3
  let v5 : BitVec 32 := Scalar.minsi c1_i32 v4
  let c1_i32_0 : BitVec 32 := 1#32
  let v6 : BitVec 32 := Scalar.select v1 v5 c1_i32_0
  let c0_i32_1 : BitVec 32 := 0#32
  ![v0.toNat, v6.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 1 := Scalar.cmpi .slt arg0 c8_i32_0
  let c10_i32 : BitVec 32 := 10#32
  let v3 : BitVec 32 := Scalar.subi arg1 c10_i32
  let c2_i32 : BitVec 32 := 2#32
  let v4 : BitVec 32 := Scalar.subi v3 c2_i32
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  let v7 : BitVec 32 := Scalar.select v2 c0_i32_2 v6
  let c0_i32_3 : BitVec 32 := 0#32
  ![v1.toNat, v7.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== InProjRefIdeal.lean ====
abbrev S1x8192x2048 : Shape := ⟨3, ![1, 8192, 2048]⟩
abbrev S128x8x2048 : Shape := ⟨3, ![128, 8, 2048]⟩
abbrev S1x2048 : Shape := ⟨2, ![1, 2048]⟩
abbrev S1x2048x11280 : Shape := ⟨3, ![1, 2048, 11280]⟩
abbrev S8192x2048 : Shape := ⟨2, ![8192, 2048]⟩
abbrev S1024x2048 : Shape := ⟨2, ![1024, 2048]⟩
abbrev S9216x2048 : Shape := ⟨2, ![9216, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S2048x11280 : Shape := ⟨2, ![2048, 11280]⟩
abbrev S9216x11280 : Shape := ⟨2, ![9216, 11280]⟩
abbrev S9216x4096 : Shape := ⟨2, ![9216, 4096]⟩
abbrev S9216x1024 : Shape := ⟨2, ![9216, 1024]⟩
abbrev S9216x9216 : Shape := ⟨2, ![9216, 9216]⟩
abbrev S9216x8 : Shape := ⟨2, ![9216, 8]⟩
abbrev S9216x120 : Shape := ⟨2, ![9216, 120]⟩
abbrev S8192x1024 : Shape := ⟨2, ![8192, 1024]⟩
abbrev S1024x1024 : Shape := ⟨2, ![1024, 1024]⟩
abbrev S9216x256 : Shape := ⟨2, ![9216, 256]⟩
abbrev S9216x16 : Shape := ⟨2, ![9216, 16]⟩
abbrev S16x9216 : Shape := ⟨2, ![16, 9216]⟩

abbrev nBuf : Space → Nat
  | .hbm => 43
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S128x8x2048, .f32⟩
  | .hbm, ⟨2, _⟩ => ⟨S1x2048, .f32⟩
  | .hbm, ⟨3, _⟩ => ⟨S1x2048x11280, .f32⟩
  | .hbm, ⟨4, _⟩ => ⟨S8192x2048, .f32⟩
  | .hbm, ⟨5, _⟩ => ⟨S1024x2048, .f32⟩
  | .hbm, ⟨6, _⟩ => ⟨S9216x2048, .f32⟩
  | .hbm, ⟨7, _⟩ => ⟨S2048, .f32⟩
  | .hbm, ⟨8, _⟩ => ⟨S9216x2048, .f32⟩
  | .hbm, ⟨9, _⟩ => ⟨S_, .f32⟩
  | .hbm, ⟨10, _⟩ => ⟨S9216, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S_, .f32⟩
  | .hbm, ⟨16, _⟩ => ⟨S9216x1, .f32⟩
  | .hbm, ⟨17, _⟩ => ⟨S9216x1, .f32⟩
  | .hbm, ⟨18, _⟩ => ⟨S9216x1, .f32⟩
  | .hbm, ⟨19, _⟩ => ⟨S9216x2048, .f32⟩
  | .hbm, ⟨20, _⟩ => ⟨S9216x2048, .f32⟩
  | .hbm, ⟨21, _⟩ => ⟨S1x2048, .f32⟩
  | .hbm, ⟨22, _⟩ => ⟨S9216x2048, .f32⟩
  | .hbm, ⟨23, _⟩ => ⟨S9216x2048, .f32⟩
  | .hbm, ⟨24, _⟩ => ⟨S2048x11280, .f32⟩
  | .hbm, ⟨25, _⟩ => ⟨S9216x11280, .f32⟩
  | .hbm, ⟨26, _⟩ => ⟨S9216x4096, .f32⟩
  | .hbm, ⟨27, _⟩ => ⟨S9216x1024, .f32⟩
  | .hbm, ⟨28, _⟩ => ⟨S9216x4096, .f32⟩
  | .hbm, ⟨29, _⟩ => ⟨S9216x9216, .f32⟩
  | .hbm, ⟨30, _⟩ => ⟨S9216x8, .f32⟩
  | .hbm, ⟨31, _⟩ => ⟨S9216x8, .f32⟩
  | .hbm, ⟨32, _⟩ => ⟨S9216x1024, .f32⟩
  | .hbm, ⟨33, _⟩ => ⟨S9216x1024, .f32⟩
  | .hbm, ⟨34, _⟩ => ⟨S_, .f32⟩
  | .hbm, ⟨35, _⟩ => ⟨S9216x120, .f32⟩
  | .hbm, ⟨36, _⟩ => ⟨S8192x1024, .f32⟩
  | .hbm, ⟨37, _⟩ => ⟨S1024x1024, .f32⟩
  | .hbm, ⟨38, _⟩ => ⟨S8192x1024, .f32⟩
  | .hbm, ⟨39, _⟩ => ⟨S1024x1024, .f32⟩
  | .hbm, ⟨40, _⟩ => ⟨S9216x256, .f32⟩
  | .hbm, ⟨41, _⟩ => ⟨S9216x16, .f32⟩
  | .hbm, ⟨42, _⟩ => ⟨S16x9216, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== RecurP.lean ====
abbrev S9216x8192 : Shape := ⟨2, ![9216, 8192]⟩
abbrev S9216x8 : Shape := ⟨2, ![9216, 8]⟩
abbrev S1x8 : Shape := ⟨2, ![1, 8]⟩
abbrev S1x4x2048 : Shape := ⟨3, ![1, 4, 2048]⟩
abbrev S1x2048 : Shape := ⟨2, ![1, 2048]⟩
abbrev S1x128 : Shape := ⟨2, ![1, 128]⟩
abbrev S_ : Shape := ⟨0, ![]⟩
abbrev S9216x120 : Shape := ⟨2, ![9216, 120]⟩
abbrev S9216x256 : Shape := ⟨2, ![9216, 256]⟩
abbrev S9216x16 : Shape := ⟨2, ![9216, 16]⟩
abbrev S16x9216 : Shape := ⟨2, ![16, 9216]⟩
abbrev S1x256 : Shape := ⟨2, ![1, 256]⟩
abbrev S8 : Shape := ⟨1, ![8]⟩
abbrev S1 : Shape := ⟨1, ![1]⟩
abbrev S2 : Shape := ⟨1, ![2]⟩
abbrev S16 : Shape := ⟨1, ![16]⟩
abbrev S16x1 : Shape := ⟨2, ![16, 1]⟩
abbrev S4x2048 : Shape := ⟨2, ![4, 2048]⟩
abbrev S8192x1024 : Shape := ⟨2, ![8192, 1024]⟩
abbrev S8x128x128 : Shape := ⟨3, ![8, 128, 128]⟩
abbrev S8x128 : Shape := ⟨2, ![8, 128]⟩
abbrev S8x2048 : Shape := ⟨2, ![8, 2048]⟩
abbrev S256x2048 : Shape := ⟨2, ![256, 2048]⟩
abbrev S256x1024 : Shape := ⟨2, ![256, 1024]⟩
abbrev S256x256 : Shape := ⟨2, ![256, 256]⟩
abbrev S16x256 : Shape := ⟨2, ![16, 256]⟩
abbrev S256x1 : Shape := ⟨2, ![256, 1]⟩
abbrev S8x1 : Shape := ⟨2, ![8, 1]⟩
abbrev S248x2048 : Shape := ⟨2, ![248, 2048]⟩
abbrev S256x128 : Shape := ⟨2, ![256, 128]⟩
abbrev S8x256 : Shape := ⟨2, ![8, 256]⟩
abbrev S128 : Shape := ⟨1, ![128]⟩
abbrev S256 : Shape := ⟨1, ![256]⟩
abbrev S1x128x128 : Shape := ⟨3, ![1, 128, 128]⟩
abbrev S128x128 : Shape := ⟨2, ![128, 128]⟩
abbrev S1x1 : Shape := ⟨2, ![1, 1]⟩
abbrev S3x2048 : Shape := ⟨2, ![3, 2048]⟩
abbrev S1x1x3x2048 : Shape := ⟨4, ![1, 1, 3, 2048]⟩

abbrev nBuf : Space → Nat
  | .hbm => 41
  | .vmem => 25
  | .smem => 0
  | _ => 0

abbrev bufTy : (tb : Table) → Fin (tcTables nBuf tb) → BufTy
  | .hbm, ⟨0, _⟩ => ⟨S9216x8192, .f32⟩
  | .hbm, ⟨1, _⟩ => ⟨S9216x8, .f32⟩
  | .hbm, ⟨2, _⟩ => ⟨S9216x8, .f32⟩
  | .hbm, ⟨3, _⟩ => ⟨S1x8, .f32⟩
  | .hbm, ⟨4, _⟩ => ⟨S1x8, .f32⟩
  | .hbm, ⟨5, _⟩ => ⟨S1x4x2048, .f32⟩
  | .hbm, ⟨6, _⟩ => ⟨S1x2048, .f32⟩
  | .hbm, ⟨7, _⟩ => ⟨S1x128, .f32⟩
  | .hbm, ⟨8, _⟩ => ⟨S_, .f32⟩
  | .hbm, ⟨9, _⟩ => ⟨S9216x120, .f32⟩
  | .hbm, ⟨10, _⟩ => ⟨S9216x256, .f32⟩
  | .hbm, ⟨11, _⟩ => ⟨S9216x16, .f32⟩
  | .hbm, ⟨12, _⟩ => ⟨S16x9216, .f32⟩
  | .hbm, ⟨13, _⟩ => ⟨S_, .f32⟩
  | .hbm, ⟨14, _⟩ => ⟨S1x256, .f32⟩
  | .hbm, ⟨15, _⟩ => ⟨S8, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x256, .f32⟩
  | .hbm, ⟨22, _⟩ => ⟨S8, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x256, .f32⟩
  | .hbm, ⟨29, _⟩ => ⟨S8, .f32⟩
  | .hbm, ⟨30, _⟩ => ⟨S8, .f32⟩
  | .hbm, ⟨31, _⟩ => ⟨S16, .f32⟩
  | .hbm, ⟨32, _⟩ => ⟨S16x1, .f32⟩
  | .hbm, ⟨33, _⟩ => ⟨S4x2048, .f32⟩
  | .hbm, ⟨34, _⟩ => ⟨S8192x1024, .bf16⟩
  | .hbm, ⟨35, _⟩ => ⟨S8x128x128, .f32⟩
  | .hbm, ⟨36, _⟩ => ⟨S8x128, .f32⟩
  | .hbm, ⟨37, _⟩ => ⟨S1x128, .f32⟩
  | .hbm, ⟨38, _⟩ => ⟨S8x2048, .f32⟩
  | .hbm, ⟨39, _⟩ => ⟨S3x2048, .f32⟩
  | .hbm, ⟨40, _⟩ => ⟨S1x1x3x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x256, .f32⟩
  | .local _ .vmem, ⟨7, _⟩ => ⟨S256x256, .f32⟩
  | .local _ .vmem, ⟨8, _⟩ => ⟨S16x256, .f32⟩
  | .local _ .vmem, ⟨9, _⟩ => ⟨S16x256, .f32⟩
  | .local _ .vmem, ⟨10, _⟩ => ⟨S4x2048, .f32⟩
  | .local _ .vmem, ⟨11, _⟩ => ⟨S1x2048, .f32⟩
  | .local _ .vmem, ⟨12, _⟩ => ⟨S1x256, .f32⟩
  | .local _ .vmem, ⟨13, _⟩ => ⟨S16x1, .f32⟩
  | .local _ .vmem, ⟨14, _⟩ => ⟨S1x128, .f32⟩
  | .local _ .vmem, ⟨15, _⟩ => ⟨S256x1024, .bf16⟩
  | .local _ .vmem, ⟨16, _⟩ => ⟨S256x1024, .bf16⟩
  | .local _ .vmem, ⟨17, _⟩ => ⟨S8x128x128, .f32⟩
  | .local _ .vmem, ⟨18, _⟩ => ⟨S8x128, .f32⟩
  | .local _ .vmem, ⟨19, _⟩ => ⟨S1x128, .f32⟩
  | .local _ .vmem, ⟨20, _⟩ => ⟨S8x2048, .f32⟩
  | .local _ .vmem, ⟨21, _⟩ => ⟨S8x128x128, .f32⟩
  | .local _ .vmem, ⟨22, _⟩ => ⟨S8x128, .f32⟩
  | .local _ .vmem, ⟨23, _⟩ => ⟨S1x128, .f32⟩
  | .local _ .vmem, ⟨24, _⟩ => ⟨S8x2048, .f32⟩
  | _, _ => ⟨S9216x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_v20_3 : Ref sig .tc := ⟨.hbm, 37, rfl⟩
abbrev main_v20_4 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== RecurPRefIdeal.lean ====
abbrev S9216x8192 : Shape := ⟨2, ![9216, 8192]⟩
abbrev S9216x8 : Shape := ⟨2, ![9216, 8]⟩
abbrev S1x8 : Shape := ⟨2, ![1, 8]⟩
abbrev S1x4x2048 : Shape := ⟨3, ![1, 4, 2048]⟩
abbrev S1x2048 : Shape := ⟨2, ![1, 2048]⟩
abbrev S1x128 : Shape := ⟨2, ![1, 128]⟩
abbrev S_ : Shape := ⟨0, ![]⟩
abbrev S1x3x2048 : Shape := ⟨3, ![1, 3, 2048]⟩
abbrev S8192x2048 : Shape := ⟨2, ![8192, 2048]⟩
abbrev S1x8192x2048 : Shape := ⟨3, ![1, 8192, 2048]⟩
abbrev S1x8195x2048 : Shape := ⟨3, ![1, 8195, 2048]⟩
abbrev S1x1x3x2048 : Shape := ⟨4, ![1, 1, 3, 2048]⟩

abbrev nBuf : Space → Nat
  | .hbm => 15
  | .vmem => 0
  | .smem => 0
  | _ => 0

abbrev bufTy : (tb : Table) → Fin (tcTables nBuf tb) → BufTy
  | .hbm, ⟨0, _⟩ => ⟨S9216x8192, .f32⟩
  | .hbm, ⟨1, _⟩ => ⟨S9216x8, .f32⟩
  | .hbm, ⟨2, _⟩ => ⟨S9216x8, .f32⟩
  | .hbm, ⟨3, _⟩ => ⟨S1x8, .f32⟩
  | .hbm, ⟨4, _⟩ => ⟨S1x8, .f32⟩
  | .hbm, ⟨5, _⟩ => ⟨S1x4x2048, .f32⟩
  | .hbm, ⟨6, _⟩ => ⟨S1x2048, .f32⟩
  | .hbm, ⟨7, _⟩ => ⟨S1x128, .f32⟩
  | .hbm, ⟨8, _⟩ => ⟨S_, .f32⟩
  | .hbm, ⟨9, _⟩ => ⟨S1x3x2048, .f32⟩
  | .hbm, ⟨10, _⟩ => ⟨S8192x2048, .f32⟩
  | .hbm, ⟨11, _⟩ => ⟨S1x8192x2048, .f32⟩
  | .hbm, ⟨12, _⟩ => ⟨S1x8195x2048, .f32⟩
  | .hbm, ⟨13, _⟩ => ⟨S1x3x2048, .f32⟩
  | .hbm, ⟨14, _⟩ => ⟨S1x1x3x2048, .f32⟩
  | _, _ => ⟨S9216x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Proof.RecurHead.lean ====
/-
  The kernel's body works head by head, the same operations eight times. This file states those operations ONCE, as
  functions of one head's slices, and shows that what the body stores for each of the eight heads is that function of the
  head's slices.
-/
module

public import proofs.«01_k».proof.Proof.Gen.RecurIdeal.Skeleton

@[expose] public section

set_option maxRecDepth 16384

noncomputable section

namespace Cert.RecurHead

open Cert.RecurIdeal Cert.RecurIdeal.Gen Idealize.ShloMosaic

variable {F : FTy → Type} [FloatOps F]

/-- The log weights of one head: row minus column plus gate where the mask is set, −∞ elsewhere. -/
def hDlog (mask : IVec S128x128 1) (bc : FVec F S128x1 .f32) (br ig : FVec F S1x128 .f32) : FVec F S128x128 .f32 :=
  select mask (addf (subf (broadcastTo S128x128 bc broadcasts_S128x1_S128x128) (broadcastTo S128x128 br broadcasts_S1x128_S128x128))
    (broadcastTo S128x128 ig broadcasts_S1x128_S128x128)) (broadcast S128x128 (Scalar.ofBits .f32 0xFF800000#32))

/-- The row maxima, with the carried state's log weight. -/
def hMt (dl : FVec F S128x128 .f32) (it : FVec F S128x1 .f32) : FVec F S128x1 .f32 :=
  maximumf it (shapeCast S128x1 (multiReduction .maximumf [1] S128 dl 0xFF800000#32 reduces_S128x128_S128 (.inl rfl) rfl)
    shapeCasts_S128_S128x1)

/-- The weight of the carried state. -/
def hIw (it mt : FVec F S128x1 .f32) : FVec F S128x1 .f32 := exp (subf it mt)

/-- One head's keys, scaled. -/
def hK (k : FVec F S128x128 .f32) : FVec F S128x128 .f32 :=
  mulf k (broadcast S128x128 (Scalar.ofBits .f32 0x3DB504F3#32))

/-- The weighted scores of one head. -/
def hS (dl : FVec F S128x128 .f32) (mt : FVec F S128x1 .f32) (q k : FVec F S128x128 .f32) : FVec F S128x128 .f32 :=
  mulf (matmul dot_S128x128_S128x128_S128x128_1_1_0_0_n_n none (truncf .bf16 q bitsLt_bf16_f32) (truncf .bf16 (hK k) bitsLt_bf16_f32)
      (constant S128x128 .f32 0x00000000#32))
    (exp (subf dl (broadcastTo S128x128 mt broadcasts_S128x1_S128x128)))

/-- Scores times values. -/
def hSv (s v : FVec F S128x128 .f32) : FVec F S128x128 .f32 :=
  matmul dot_S128x128_S128x128_S128x128_1_0_0_1_n_n none (truncf .bf16 s bitsLt_bf16_f32) (truncf .bf16 v bitsLt_bf16_f32)
    (constant S128x128 .f32 0x00000000#32)

/-- Row sums of the scores. -/
def hSsum (s : FVec F S128x128 .f32) : FVec F S128x1 .f32 :=
  shapeCast S128x1 (multiReduction .add [1] S128 s 0x00000000#32 reduces_S128x128_S128 (.inl rfl) rfl) shapeCasts_S128_S128x1

/-- Queries against the sixteen sequences' state matrices at once. -/
def hQcAll (q : FVec F S128x128 .f32) (C : Vec F S16x1x128x128 .f32) : FVec F S128x2048 .f32 :=
  matmul dot_S128x128_S2048x128_S128x2048_1_1_0_0_n_n none (truncf .bf16 q bitsLt_bf16_f32)
    (truncf .bf16 (shapeCast S2048x128 (shapeCast S16x128x128 C shapeCasts_S16x1x128x128_S16x128x128) shapeCasts_S16x128x128_S2048x128)
      bitsLt_bf16_f32) (constant S128x2048 .f32 0x00000000#32)

/-- The diagonal blocks of `hQcAll`: each sequence's rows against its own state. -/
def hQc (w : FVec F S128x2048 .f32) : FVec F S128x128 .f32 :=
  concatenate S128x128 0 [
    ⟨S8x128, extractStridedSlice S8x128 ![0, 0] w slices_S128x2048_o0_0_S8x128⟩,
    ⟨S8x128, extractStridedSlice S8x128 ![8, 128] w slices_S128x2048_o8_128_S8x128⟩,
    ⟨S8x128, extractStridedSlice S8x128 ![16, 256] w slices_S128x2048_o16_256_S8x128⟩,
    ⟨S8x128, extractStridedSlice S8x128 ![24, 384] w slices_S128x2048_o24_384_S8x128⟩,
    ⟨S8x128, extractStridedSlice S8x128 ![32, 512] w slices_S128x2048_o32_512_S8x128⟩,
    ⟨S8x128, extractStridedSlice S8x128 ![40, 640] w slices_S128x2048_o40_640_S8x128⟩,
    ⟨S8x128, extractStridedSlice S8x128 ![48, 768] w slices_S128x2048_o48_768_S8x128⟩,
    ⟨S8x128, extractStridedSlice S8x128 ![56, 896] w slices_S128x2048_o56_896_S8x128⟩,
    ⟨S8x128, extractStridedSlice S8x128 ![64, 1024] w slices_S128x2048_o64_1024_S8x128⟩,
    ⟨S8x128, extractStridedSlice S8x128 ![72, 1152] w slices_S128x2048_o72_1152_S8x128⟩,
    ⟨S8x128, extractStridedSlice S8x128 ![80, 1280] w slices_S128x2048_o80_1280_S8x128⟩,
    ⟨S8x128, extractStridedSlice S8x128 ![88, 1408] w slices_S128x2048_o88_1408_S8x128⟩,
    ⟨S8x128, extractStridedSlice S8x128 ![96, 1536] w slices_S128x2048_o96_1536_S8x128⟩,
    ⟨S8x128, extractStridedSlice S8x128 ![104, 1664] w slices_S128x2048_o104_1664_S8x128⟩,
    ⟨S8x128, extractStridedSlice S8x128 ![112, 1792] w slices_S128x2048_o112_1792_S8x128⟩,
    ⟨S8x128, extractStridedSlice S8x128 ![120, 1920] w slices_S128x2048_o120_1920_S8x128⟩] concatenates_S8x128_S8x128_S8x128_S8x128_S8x128_S8x128_S8x128_S8x128_S8x128_S8x128_S8x128_S8x128_S8x128_S8x128_S8x128_S8x128_S128x128_d0

/-- One head's rows of the state vectors, one copy per token. -/
def hNrows (n : Vec F S16x1x128 .f32) : FVec F S128x128 .f32 :=
  shapeCast S128x128 (broadcastTo S16x8x128 (shapeCast S16x1x128 (shapeCast S16x1x128 n shapeCasts_S16x1x128_S16x1x128)
    shapeCasts_S16x1x128_S16x1x128) broadcasts_S16x1x128_S16x8x128) shapeCasts_S16x8x128_S128x128

/-- The numerator. -/
def hNum (sv : FVec F S128x128 .f32) (iw : FVec F S128x1 .f32) (qc : FVec F S128x128 .f32) : FVec F S128x128 .f32 :=
  addf sv (mulf (broadcastTo S128x128 iw broadcasts_S128x1_S128x128) qc)

/-- The denominator before the absolute value. -/
def hDen (ss iw : FVec F S128x1 .f32) (q nr : FVec F S128x128 .f32) : FVec F S128x1 .f32 :=
  addf ss (mulf iw (shapeCast S128x1 (multiReduction .add [1] S128 (mulf q nr) 0x00000000#32 reduces_S128x128_S128 (.inl rfl) rfl)
    shapeCasts_S128_S128x1))

/-- The quotient of numerator and stabilised denominator. -/
def hH (num : FVec F S128x128 .f32) (den mt : FVec F S128x1 .f32) : FVec F S128x128 .f32 :=
  divf num (broadcastTo S128x128 (maximumf (absf den) (exp (subf (broadcast S128x1 (Scalar.ofBits .f32 0x00000000#32)) mt)))
    broadcasts_S128x1_S128x128)

/-- The head's normalisation and output gate. -/
def hOut (hh o : FVec F S128x128 .f32) (w : FVec F S1x128 .f32) : FVec F S128x128 .bf16 :=
  truncf .bf16 (mulf (mulf (mulf hh (broadcastTo S128x128 (rsqrt (addf (divf
      (shapeCast S128x1 (multiReduction .add [1] S128 (mulf hh hh) 0x00000000#32 reduces_S128x128_S128 (.inl rfl) rfl) shapeCasts_S128_S128x1)
      (broadcast S128x1 (Scalar.ofBits .f32 0x43000000#32))) (broadcast S128x1 (Scalar.ofBits .f32 0x358637BD#32)))) broadcasts_S128x1_S128x128))
      (broadcastTo S128x128 w broadcasts_S1x128_S128x128))
    (divf (broadcast S128x128 (Scalar.ofBits .f32 0x3F800000#32)) (addf (broadcast S128x128 (Scalar.ofBits .f32 0x3F800000#32))
      (exp (subf (broadcast S128x128 (Scalar.ofBits .f32 0x00000000#32)) o))))) bitsLt_bf16_f32

/-- What the body stores to the result for one head, from the head's slices. -/
def headOut (mask : IVec S128x128 1) (bc : FVec F S128x1 .f32) (br ig : FVec F S1x128 .f32) (it : FVec F S128x1 .f32)
    (q k v : FVec F S128x128 .f32) (C : Vec F S16x1x128x128 .f32) (n : Vec F S16x1x128 .f32) (o : FVec F S128x128 .f32)
    (w : FVec F S1x128 .f32) : FVec F S128x128 .bf16 :=
  hOut (hH (hNum (hSv (hS (hDlog mask bc br ig) (hMt (hDlog mask bc br ig) it) q k) v) (hIw it (hMt (hDlog mask bc br ig) it)) (hQc (hQcAll q C)))
      (hDen (hSsum (hS (hDlog mask bc br ig) (hMt (hDlog mask bc br ig) it) q k)) (hIw it (hMt (hDlog mask bc br ig) it)) q (hNrows n))
      (hMt (hDlog mask bc br ig) it)) o w

/-- The decay of each sequence's state, one entry per sequence. -/
def hDc (dec : FVec F S128x1 .f32) : FVec F S16x1x1 .f32 :=
  extractStridedSlice S16x1x1 ![0, 0, 0] (shapeCast S16x8x1 dec shapeCasts_S128x1_S16x8x1) slices_S16x8x1_o0_0_0_S16x1x1

/-- Weighted values, one copy per sequence, kept on the sequence's own rows. -/
def hVw (ws : FVec F S128x1 .f32) (bd : IVec S128x2048 1) (v : FVec F S128x128 .f32) : FVec F S128x2048 .f32 :=
  let vw := mulf v (broadcastTo S128x128 ws broadcasts_S128x1_S128x128)
  select bd (concatenate S128x2048 1 [⟨S128x128, vw⟩, ⟨S128x128, vw⟩, ⟨S128x128, vw⟩, ⟨S128x128, vw⟩, ⟨S128x128, vw⟩, ⟨S128x128, vw⟩, ⟨S128x128, vw⟩, ⟨S128x128, vw⟩, ⟨S128x128, vw⟩, ⟨S128x128, vw⟩, ⟨S128x128, vw⟩, ⟨S128x128, vw⟩, ⟨S128x128, vw⟩, ⟨S128x128, vw⟩, ⟨S128x128, vw⟩, ⟨S128x128, vw⟩] concatenates_S128x128_S128x128_S128x128_S128x128_S128x128_S128x128_S128x128_S128x128_S128x128_S128x128_S128x128_S128x128_S128x128_S128x128_S128x128_S128x128_S128x2048_d1)
    (broadcast S128x2048 (Scalar.ofBits .f32 0x00000000#32))

/-- What the body stores to the state matrices for one head. -/
def headC (ws dec : FVec F S128x1 .f32) (bd : IVec S128x2048 1) (v k : FVec F S128x128 .f32) (C : Vec F S16x1x128x128 .f32) :
    FVec F S16x1x128x128 .f32 :=
  shapeCast S16x1x128x128 (addf (mulf (broadcastTo S16x128x128 (hDc dec) broadcasts_S16x1x1_S16x128x128)
      (shapeCast S16x128x128 C shapeCasts_S16x1x128x128_S16x128x128))
    (shapeCast S16x128x128 (matmul dot_S128x2048_S128x128_S2048x128_0_0_1_1_n_n none (truncf .bf16 (hVw ws bd v) bitsLt_bf16_f32)
      (truncf .bf16 (hK k) bitsLt_bf16_f32) (constant S2048x128 .f32 0x00000000#32)) shapeCasts_S2048x128_S16x128x128))
    shapeCasts_S16x128x128_S16x1x128x128

/-- What the body stores to the state vectors for one head. -/
def headN (ws dec : FVec F S128x1 .f32) (k : FVec F S128x128 .f32) (n : Vec F S16x1x128 .f32) : FVec F S16x1x128 .f32 :=
  addf (mulf (broadcastTo S16x1x128 (hDc dec) broadcasts_S16x1x1_S16x1x128) (shapeCast S16x1x128 n shapeCasts_S16x1x128_S16x1x128))
    (shapeCast S16x1x128 (multiReduction .add [1] S16x128 (shapeCast S16x8x128 (mulf (broadcastTo S128x128 ws broadcasts_S128x1_S128x128) (hK k))
      shapeCasts_S128x128_S16x8x128) 0x00000000#32 reduces_S16x8x128_S16x128 (.inl rfl) rfl) shapeCasts_S16x128_S16x1x128)

variable (qk : FVec F S128x2048 .f32)

/-! ## The eight heads' results are `headOut` -/

section
variable (mask : IVec S128x128 1) (ig btr : FVec F S8x128 .f32) (bt it : FVec F S128x128 .f32) (v : Vec F S128x128 .f32)
  (C : Vec F S16x1x128x128 .f32) (n : Vec F S16x1x128 .f32) (o : Vec F S128x128 .f32) (w : Vec F S1x128 .f32)

/-- Head 0's result. -/
theorem out_0 : k0_pay43 (k0_pay30 qk) (k0_pay36 mask ig bt btr it) (k0_pay37 mask ig bt btr it) (k0_pay39 mask ig bt btr it (k0_pay31 qk) v (k0_pay32 qk)) (k0_pay40 mask ig bt btr it (k0_pay31 qk) (k0_pay32 qk)) (k0_pay42 (k0_pay32 qk) C) n o w =
    headOut mask (extractStridedSlice S128x1 ![0, 0] bt slices_S128x128_o0_0_S128x1) (extractStridedSlice S1x128 ![0, 0] btr slices_S8x128_o0_0_S1x128) (extractStridedSlice S1x128 ![0, 0] ig slices_S8x128_o0_0_S1x128) (extractStridedSlice S128x1 ![0, 0] it slices_S128x128_o0_0_S128x1) (extractStridedSlice S128x128 ![0, 0] qk slices_S128x2048_o0_0_S128x128) (extractStridedSlice S128x128 ![0, 1024] qk slices_S128x2048_o0_1024_S128x128) v C n o w := rfl

/-- Head 1's result. -/
theorem out_1 : k0_pay66 (k0_pay48 qk) (k0_pay58 mask (k0_pay53 bt) (k0_pay54 btr) (k0_pay55 ig) (k0_pay56 it)) (k0_pay59 mask (k0_pay53 bt) (k0_pay54 btr) (k0_pay55 ig) (k0_pay56 it)) (k0_pay61 mask (k0_pay50 qk) (k0_pay51 qk) (k0_pay52 v) (k0_pay53 bt) (k0_pay54 btr) (k0_pay55 ig) (k0_pay56 it)) (k0_pay62 mask (k0_pay50 qk) (k0_pay51 qk) (k0_pay53 bt) (k0_pay54 btr) (k0_pay55 ig) (k0_pay56 it)) (k0_pay64 (k0_pay50 qk) C) (k0_pay65 n) o w =
    headOut mask (extractStridedSlice S128x1 ![0, 1] bt slices_S128x128_o0_1_S128x1) (extractStridedSlice S1x128 ![1, 0] btr slices_S8x128_o1_0_S1x128) (extractStridedSlice S1x128 ![1, 0] ig slices_S8x128_o1_0_S1x128) (extractStridedSlice S128x1 ![0, 1] it slices_S128x128_o0_1_S128x1) (extractStridedSlice S128x128 ![0, 128] qk slices_S128x2048_o0_128_S128x128) (extractStridedSlice S128x128 ![0, 1152] qk slices_S128x2048_o0_1152_S128x128) v C n o w := rfl

/-- Head 2's result. -/
theorem out_2 : k0_pay87 (k0_pay80 mask (k0_pay77 it) (k0_pay78 ig bt btr) (Scalar.ofBits .f32 0xFF800000#32)) (k0_pay81 mask (k0_pay77 it) (k0_pay78 ig bt btr) (Scalar.ofBits .f32 0xFF800000#32)) (k0_pay83 mask (k0_pay74 qk) (k0_pay75 qk) (k0_pay77 it) (k0_pay78 ig bt btr) (Scalar.ofBits .f32 0xFF800000#32)) (k0_pay85 mask (k0_pay74 qk) (k0_pay75 qk) (k0_pay76 v) (k0_pay77 it) (k0_pay78 ig bt btr) (Scalar.ofBits .f32 0xFF800000#32) C) (k0_pay86 (k0_pay72 qk) n) o w =
    headOut mask (extractStridedSlice S128x1 ![0, 2] bt slices_S128x128_o0_2_S128x1) (extractStridedSlice S1x128 ![2, 0] btr slices_S8x128_o2_0_S1x128) (extractStridedSlice S1x128 ![2, 0] ig slices_S8x128_o2_0_S1x128) (extractStridedSlice S128x1 ![0, 2] it slices_S128x128_o0_2_S128x1) (extractStridedSlice S128x128 ![0, 256] qk slices_S128x2048_o0_256_S128x128) (extractStridedSlice S128x128 ![0, 1280] qk slices_S128x2048_o0_1280_S128x128) v C n o w := rfl

/-- Head 3's result. -/
theorem out_3 : k0_pay106 (k0_pay100 mask ig bt btr it) (k0_pay104 (k0_pay95 qk) (k0_pay96 qk) (k0_pay97 v) (k0_pay98 it) (k0_pay99 mask ig bt btr) (k0_pay100 mask ig bt btr it) C) (k0_pay105 (k0_pay93 qk) (k0_pay95 qk) (k0_pay96 qk) (k0_pay98 it) (k0_pay99 mask ig bt btr) (k0_pay100 mask ig bt btr it) n) o w =
    headOut mask (extractStridedSlice S128x1 ![0, 3] bt slices_S128x128_o0_3_S128x1) (extractStridedSlice S1x128 ![3, 0] btr slices_S8x128_o3_0_S1x128) (extractStridedSlice S1x128 ![3, 0] ig slices_S8x128_o3_0_S1x128) (extractStridedSlice S128x1 ![0, 3] it slices_S128x128_o0_3_S128x1) (extractStridedSlice S128x128 ![0, 384] qk slices_S128x2048_o0_384_S128x128) (extractStridedSlice S128x128 ![0, 1408] qk slices_S128x2048_o0_1408_S128x128) v C n o w := rfl

/-- Head 4's result. -/
theorem out_4 : k0_pay127 (k0_pay124 (k0_pay114 qk) (k0_pay115 qk) (k0_pay116 v) (k0_pay120 mask ig bt btr it) (k0_pay121 mask ig bt btr it) (constant S128x128 .f32 0x00000000#32) C) o (k0_pay125 (k0_pay112 qk) (k0_pay114 qk) (k0_pay115 qk) (k0_pay120 mask ig bt btr it) (k0_pay121 mask ig bt btr it) (constant S128x128 .f32 0x00000000#32) n) (k0_pay126 (k0_pay119 mask ig bt btr it)) w =
    headOut mask (extractStridedSlice S128x1 ![0, 4] bt slices_S128x128_o0_4_S128x1) (extractStridedSlice S1x128 ![4, 0] btr slices_S8x128_o4_0_S1x128) (extractStridedSlice S1x128 ![4, 0] ig slices_S8x128_o4_0_S1x128) (extractStridedSlice S128x1 ![0, 4] it slices_S128x128_o0_4_S128x1) (extractStridedSlice S128x128 ![0, 512] qk slices_S128x2048_o0_512_S128x128) (extractStridedSlice S128x128 ![0, 1536] qk slices_S128x2048_o0_1536_S128x128) v C n o w := rfl

/-- Head 5's result. -/
theorem out_5 : k0_pay146 o (k0_pay144 (k0_pay133 qk) (k0_pay135 qk) (k0_pay139 mask ig bt btr it) (k0_pay140 mask ig bt btr it) (k0_pay141 mask qk ig bt btr it) (k0_pay142 mask qk ig bt btr it v) C n) (k0_pay145 (k0_pay133 qk) (k0_pay135 qk) (k0_pay139 mask ig bt btr it) (k0_pay140 mask ig bt btr it) (k0_pay141 mask qk ig bt btr it) (k0_pay142 mask qk ig bt btr it v) C n) w =
    headOut mask (extractStridedSlice S128x1 ![0, 5] bt slices_S128x128_o0_5_S128x1) (extractStridedSlice S1x128 ![5, 0] btr slices_S8x128_o5_0_S1x128) (extractStridedSlice S1x128 ![5, 0] ig slices_S8x128_o5_0_S1x128) (extractStridedSlice S128x1 ![0, 5] it slices_S128x128_o0_5_S128x1) (extractStridedSlice S128x128 ![0, 640] qk slices_S128x2048_o0_640_S128x128) (extractStridedSlice S128x128 ![0, 1664] qk slices_S128x2048_o0_1664_S128x128) v C n o w := rfl

/-- Head 6's result. -/
theorem out_6 : k0_pay167 o (k0_pay164 (k0_pay152 qk) (k0_pay154 qk) (k0_pay158 mask ig bt btr it) (k0_pay159 mask ig bt btr it) (k0_pay161 mask qk ig bt btr it v) (k0_pay162 mask qk ig bt btr it) C n) (k0_pay165 (k0_pay152 qk) (k0_pay154 qk) (k0_pay158 mask ig bt btr it) (k0_pay159 mask ig bt btr it) (k0_pay161 mask qk ig bt btr it v) (k0_pay162 mask qk ig bt btr it) C n) (k0_pay166 (F := F)) w =
    headOut mask (extractStridedSlice S128x1 ![0, 6] bt slices_S128x128_o0_6_S128x1) (extractStridedSlice S1x128 ![6, 0] btr slices_S8x128_o6_0_S1x128) (extractStridedSlice S1x128 ![6, 0] ig slices_S8x128_o6_0_S1x128) (extractStridedSlice S128x1 ![0, 6] it slices_S128x128_o0_6_S128x1) (extractStridedSlice S128x128 ![0, 768] qk slices_S128x2048_o0_768_S128x128) (extractStridedSlice S128x128 ![0, 1792] qk slices_S128x2048_o0_1792_S128x128) v C n o w := rfl

/-- Head 7's result. -/
theorem out_7 : k0_pay188 o (k0_pay187 (k0_pay174 qk) (k0_pay180 mask ig bt btr it) (k0_pay181 mask ig bt btr it) (k0_pay183 mask qk ig bt btr it v) (k0_pay184 mask qk ig bt btr it) (k0_pay186 qk C) n) w =
    headOut mask (extractStridedSlice S128x1 ![0, 7] bt slices_S128x128_o0_7_S128x1) (extractStridedSlice S1x128 ![7, 0] btr slices_S8x128_o7_0_S1x128) (extractStridedSlice S1x128 ![7, 0] ig slices_S8x128_o7_0_S1x128) (extractStridedSlice S128x1 ![0, 7] it slices_S128x128_o0_7_S128x1) (extractStridedSlice S128x128 ![0, 896] qk slices_S128x2048_o0_896_S128x128) (extractStridedSlice S128x128 ![0, 1920] qk slices_S128x2048_o0_1920_S128x128) v C n o w := rfl

end

/-! ## The eight heads' state matrices are `headC` -/

section
variable (ws dec : FVec F S128x128 .f32) (bd : IVec S128x2048 1) (v : Vec F S128x128 .f32) (C : Vec F S16x1x128x128 .f32) (n : Vec F S16x1x128 .f32)

/-- Head 0's state matrices. -/
theorem c_0 : k0_pay46 ws dec bd v (k0_pay33 (k0_pay31 qk)) (k0_pay41 C) =
    headC (extractStridedSlice S128x1 ![0, 0] ws slices_S128x128_o0_0_S128x1) (extractStridedSlice S128x1 ![0, 0] dec slices_S128x128_o0_0_S128x1) bd v (extractStridedSlice S128x128 ![0, 1024] qk slices_S128x2048_o0_1024_S128x128) C := rfl

/-- Head 1's state matrices. -/
theorem c_1 : k0_pay70 dec bd (k0_pay51 qk) (k0_pay63 C) (k0_pay68 ws v) (Scalar.ofBits .f32 0x00000000#32) =
    headC (extractStridedSlice S128x1 ![0, 1] ws slices_S128x128_o0_1_S128x1) (extractStridedSlice S128x1 ![0, 1] dec slices_S128x128_o0_1_S128x1) bd v (extractStridedSlice S128x128 ![0, 1152] qk slices_S128x2048_o0_1152_S128x128) C := rfl

/-- Head 2's state matrices. -/
theorem c_2 : k0_pay91 dec (k0_pay84 C) (k0_pay89 ws bd v (k0_pay75 qk)) =
    headC (extractStridedSlice S128x1 ![0, 2] ws slices_S128x128_o0_2_S128x1) (extractStridedSlice S128x1 ![0, 2] dec slices_S128x128_o0_2_S128x1) bd v (extractStridedSlice S128x128 ![0, 1280] qk slices_S128x2048_o0_1280_S128x128) C := rfl

/-- Head 3's state matrices. -/
theorem c_3 : k0_pay110 (k0_pay109 ws dec bd v (k0_pay96 qk) (k0_pay103 C)) =
    headC (extractStridedSlice S128x1 ![0, 3] ws slices_S128x128_o0_3_S128x1) (extractStridedSlice S128x1 ![0, 3] dec slices_S128x128_o0_3_S128x1) bd v (extractStridedSlice S128x128 ![0, 1408] qk slices_S128x2048_o0_1408_S128x128) C := rfl

/-- Head 4's state matrices. -/
theorem c_4 : k0_pay131 (k0_pay130 ws dec bd v (k0_pay115 qk) (k0_pay123 C)) =
    headC (extractStridedSlice S128x1 ![0, 4] ws slices_S128x128_o0_4_S128x1) (extractStridedSlice S128x1 ![0, 4] dec slices_S128x128_o0_4_S128x1) bd v (extractStridedSlice S128x128 ![0, 1536] qk slices_S128x2048_o0_1536_S128x128) C := rfl

/-- Head 5's state matrices. -/
theorem c_5 : k0_pay149 ws dec bd v (k0_pay136 qk) (k0_pay143 C) =
    headC (extractStridedSlice S128x1 ![0, 5] ws slices_S128x128_o0_5_S128x1) (extractStridedSlice S128x1 ![0, 5] dec slices_S128x128_o0_5_S128x1) bd v (extractStridedSlice S128x128 ![0, 1664] qk slices_S128x2048_o0_1664_S128x128) C := rfl

/-- Head 6's state matrices. -/
theorem c_6 : k0_pay170 ws dec bd v (k0_pay155 qk) (k0_pay163 C) =
    headC (extractStridedSlice S128x1 ![0, 6] ws slices_S128x128_o0_6_S128x1) (extractStridedSlice S128x1 ![0, 6] dec slices_S128x128_o0_6_S128x1) bd v (extractStridedSlice S128x128 ![0, 1792] qk slices_S128x2048_o0_1792_S128x128) C := rfl

/-- Head 7's state matrices. -/
theorem c_7 : k0_pay191 ws dec bd v (k0_pay177 qk) (k0_pay185 C) =
    headC (extractStridedSlice S128x1 ![0, 7] ws slices_S128x128_o0_7_S128x1) (extractStridedSlice S128x1 ![0, 7] dec slices_S128x128_o0_7_S128x1) bd v (extractStridedSlice S128x128 ![0, 1920] qk slices_S128x2048_o0_1920_S128x128) C := rfl

/-- Head 0's state vectors. -/
theorem n_0 : k0_pay47 ws dec (k0_pay31 qk) n =
    headN (extractStridedSlice S128x1 ![0, 0] ws slices_S128x128_o0_0_S128x1) (extractStridedSlice S128x1 ![0, 0] dec slices_S128x128_o0_0_S128x1) (extractStridedSlice S128x128 ![0, 1024] qk slices_S128x2048_o0_1024_S128x128) n := rfl

/-- Head 1's state vectors. -/
theorem n_1 : k0_pay71 dec (k0_pay49 qk) (k0_pay67 ws) n =
    headN (extractStridedSlice S128x1 ![0, 1] ws slices_S128x128_o0_1_S128x1) (extractStridedSlice S128x1 ![0, 1] dec slices_S128x128_o0_1_S128x1) (extractStridedSlice S128x128 ![0, 1152] qk slices_S128x2048_o0_1152_S128x128) n := rfl

/-- Head 2's state vectors. -/
theorem n_2 : k0_pay92 dec (k0_pay73 qk) (k0_pay88 ws) n =
    headN (extractStridedSlice S128x1 ![0, 2] ws slices_S128x128_o0_2_S128x1) (extractStridedSlice S128x1 ![0, 2] dec slices_S128x128_o0_2_S128x1) (extractStridedSlice S128x128 ![0, 1280] qk slices_S128x2048_o0_1280_S128x128) n := rfl

/-- Head 3's state vectors. -/
theorem n_3 : k0_pay111 (k0_pay94 qk) (k0_pay107 ws) (k0_pay108 dec) n =
    headN (extractStridedSlice S128x1 ![0, 3] ws slices_S128x128_o0_3_S128x1) (extractStridedSlice S128x1 ![0, 3] dec slices_S128x128_o0_3_S128x1) (extractStridedSlice S128x128 ![0, 1408] qk slices_S128x2048_o0_1408_S128x128) n := rfl

/-- Head 4's state vectors. -/
theorem n_4 : k0_pay132 (k0_pay113 qk) (k0_pay128 ws) (k0_pay129 dec) n =
    headN (extractStridedSlice S128x1 ![0, 4] ws slices_S128x128_o0_4_S128x1) (extractStridedSlice S128x1 ![0, 4] dec slices_S128x128_o0_4_S128x1) (extractStridedSlice S128x128 ![0, 1536] qk slices_S128x2048_o0_1536_S128x128) n := rfl

/-- Head 5's state vectors. -/
theorem n_5 : k0_pay151 (k0_pay148 dec) (k0_pay150 ws (k0_pay134 qk)) n =
    headN (extractStridedSlice S128x1 ![0, 5] ws slices_S128x128_o0_5_S128x1) (extractStridedSlice S128x1 ![0, 5] dec slices_S128x128_o0_5_S128x1) (extractStridedSlice S128x128 ![0, 1664] qk slices_S128x2048_o0_1664_S128x128) n := rfl

/-- Head 6's state vectors. -/
theorem n_6 : k0_pay173 (k0_pay171 ws (k0_pay153 qk)) (k0_pay172 dec n) =
    headN (extractStridedSlice S128x1 ![0, 6] ws slices_S128x128_o0_6_S128x1) (extractStridedSlice S128x1 ![0, 6] dec slices_S128x128_o0_6_S128x1) (extractStridedSlice S128x128 ![0, 1792] qk slices_S128x2048_o0_1792_S128x128) n := rfl

/-- Head 7's state vectors. -/
theorem n_7 : k0_pay192 ws dec (k0_pay175 qk) n =
    headN (extractStridedSlice S128x1 ![0, 7] ws slices_S128x128_o0_7_S128x1) (extractStridedSlice S128x1 ![0, 7] dec slices_S128x128_o0_7_S128x1) (extractStridedSlice S128x128 ![0, 1920] qk slices_S128x2048_o0_1920_S128x128) n := rfl

end

end Cert.RecurHead
-- ==== Proof.RecurSpec.lean ====
/-
  One step of the recurrence on the extended reals, for one sequence of eight tokens and one head: the functions that both
  the kernel's block and the reference are shown to compute, and the facts about sums and maxima over a block's 128 rows
  (sixteen sequences of eight tokens) that reduce to one sequence.
-/
module

public import Idealize.ShloMosaic.Lib.Pointwise

@[expose] public section

noncomputable section

namespace Cert.RecurSpec

open Idealize.ShloMosaic

/-- The log-sigmoid of a gate. -/
def lsig (x : EReal) : EReal := min x 0 - Ideal.log (1 + Ideal.exp (0 - FloatOps.absf (F := Ideal) (φ := .f32) x))

/-- The token `j` steps back: from the eight rows that end with the history where it precedes the sequence. -/
def tap (x h : Fin 8 → EReal) (j : ℕ) (t : Fin 8) : EReal :=
  if t.val < j then h ⟨(t.val + 8 - j) % 8, by omega⟩ else x ⟨(t.val + 8 - j) % 8, by omega⟩

/-- The causal convolution of width four, plus its bias. -/
def conv (cb w0 w1 w2 w3 : EReal) (x h : Fin 8 → EReal) (t : Fin 8) : EReal :=
  cb + w3 * x t + w2 * tap x h 1 t + w1 * tap x h 2 t + w0 * tap x h 3 t

/-- The gated convolution. -/
def silu (a : EReal) : EReal := a * Ideal.div 1 (1 + Ideal.exp (0 - a))

/-- The prefix sums of the log forget gates. -/
def bt (lf : Fin 8 → EReal) (t : Fin 8) : EReal := ∑ s : Fin 8, if s ≤ t then lf s else 0

/-- The log weight of token `s` seen from token `t`: −∞ for a later token. -/
def dlog (bc br ig : Fin 8 → EReal) (t s : Fin 8) : EReal := if s ≤ t then bc t - br s + ig s else ⊥

/-- The stabiliser: the greatest log weight seen from token `t`, the carried state's included. -/
def mt (bc br ig it : Fin 8 → EReal) (t : Fin 8) : EReal :=
  max (it t) (Finset.univ.fold max ⊥ (dlog bc br ig t))

/-- The weighted score of token `s` seen from token `t`. -/
def sc (bc br ig it : Fin 8 → EReal) (q k : Fin 8 → Fin 128 → EReal) (t s : Fin 8) : EReal :=
  (∑ d, q t d * k s d) * Ideal.exp (dlog bc br ig t s - mt bc br ig it t)

/-- The weight of the carried state seen from token `t`. -/
def iw (bc br ig it : Fin 8 → EReal) (t : Fin 8) : EReal := Ideal.exp (it t - mt bc br ig it t)

/-- The numerator. -/
def num (bc br ig it : Fin 8 → EReal) (q k v : Fin 8 → Fin 128 → EReal) (C : Fin 128 → Fin 128 → EReal) (t : Fin 8)
    (j : Fin 128) : EReal :=
  (∑ s, sc bc br ig it q k t s * v s j) + iw bc br ig it t * ∑ d, q t d * C j d

/-- The denominator before the absolute value. -/
def den (bc br ig it : Fin 8 → EReal) (q k : Fin 8 → Fin 128 → EReal) (n : Fin 128 → EReal) (t : Fin 8) : EReal :=
  (∑ s, sc bc br ig it q k t s) + iw bc br ig it t * ∑ d, q t d * n d

/-- The hidden state. -/
def hid (bc br ig it : Fin 8 → EReal) (q k v : Fin 8 → Fin 128 → EReal) (C : Fin 128 → Fin 128 → EReal)
    (n : Fin 128 → EReal) (t : Fin 8) (j : Fin 128) : EReal :=
  Ideal.div (num bc br ig it q k v C t j)
    (max (FloatOps.absf (F := Ideal) (φ := .f32) (den bc br ig it q k n t)) (Ideal.exp (0 - mt bc br ig it t)))

/-- The normalised and gated hidden state. -/
def out (h : Fin 128 → EReal) (o w : Fin 128 → EReal) (j : Fin 128) : EReal :=
  h j * Ideal.rsqrt (Ideal.div (∑ x, h x * h x) (Ideal.ofBits FTy.f32 1124073472#32) + Ideal.ofBits FTy.f32 897988541#32)
    * w j * Ideal.div 1 (1 + Ideal.exp (0 - o j))

/-- The log weight of token `s` at the end of the sequence. -/
def wlog (b ig : Fin 8 → EReal) (s : Fin 8) : EReal := b 7 - b s + ig s

/-- The new stabiliser. -/
def mnew (b ig : Fin 8 → EReal) (m : EReal) : EReal := max (b 7 + m) (Finset.univ.fold max ⊥ (wlog b ig))

/-- The weight of token `s` in the new state. -/
def wst (b ig : Fin 8 → EReal) (m : EReal) (s : Fin 8) : EReal := Ideal.exp (wlog b ig s - mnew b ig m)

/-- The decay of the carried state. -/
def dec (b ig : Fin 8 → EReal) (m : EReal) : EReal := Ideal.exp (b 7 + m - mnew b ig m)

/-- The new state matrix. -/
def cnew (dc : EReal) (ws : Fin 8 → EReal) (v k : Fin 8 → Fin 128 → EReal) (C : Fin 128 → Fin 128 → EReal)
    (j d : Fin 128) : EReal :=
  dc * C j d + ∑ s, v s j * ws s * k s d

/-- The new state vector. -/
def nnew (dc : EReal) (ws : Fin 8 → EReal) (k : Fin 8 → Fin 128 → EReal) (n : Fin 128 → EReal) (d : Fin 128) : EReal :=
  dc * n d + ∑ s, ws s * k s d

/-- Token `t` of sequence `b` of a block, as a row of the block. -/
def row (b : Fin 16) (t : Fin 8) : Fin 128 := ⟨b.val * 8 + t.val, by omega⟩

theorem row_inj {b b' : Fin 16} {t t' : Fin 8} : row b t = row b' t' ↔ b = b' ∧ t = t' := by
  constructor
  · intro h
    have h' : b.val * 8 + t.val = b'.val * 8 + t'.val := congrArg Fin.val h
    exact ⟨Fin.ext (by omega), Fin.ext (by omega)⟩
  · rintro ⟨rfl, rfl⟩; rfl

/-- Every row is a token of a sequence. -/
theorem exists_row (r : Fin 128) : ∃ b t, r = row b t :=
  ⟨⟨r.val / 8, by omega⟩, ⟨r.val % 8, by omega⟩, Fin.ext (by show r.val = r.val / 8 * 8 + r.val % 8; omega)⟩

/-- The rows as sequences and tokens. -/
def rowEquiv : Fin 16 × Fin 8 ≃ Fin 128 where
  toFun p := row p.1 p.2
  invFun r := (⟨r.val / 8, by omega⟩, ⟨r.val % 8, by omega⟩)
  left_inv p := by
    have h1 := p.1.isLt; have h2 := p.2.isLt
    refine Prod.ext (Fin.ext ?_) (Fin.ext ?_)
    · show (p.1.val * 8 + p.2.val) / 8 = p.1.val; omega
    · show (p.1.val * 8 + p.2.val) % 8 = p.2.val; omega
  right_inv r := Fin.ext (by show r.val / 8 * 8 + r.val % 8 = r.val; omega)

/-- A sum over the rows that vanishes off one sequence is the sum over that sequence's tokens. -/
theorem sum_rows (f : Fin 128 → EReal) (b : Fin 16) (h : ∀ b' t, b' ≠ b → f (row b' t) = 0) :
    ∑ r, f r = ∑ t, f (row b t) := by
  rw [← Equiv.sum_comp rowEquiv, Fintype.sum_prod_type, Finset.sum_eq_single b]
  · rfl
  · intro b' _ hb; exact Finset.sum_eq_zero fun t _ => h b' t hb
  · intro hb; exact absurd (Finset.mem_univ b) hb

/-- A maximum over the rows that is −∞ off one sequence is the maximum over that sequence's tokens. -/
theorem fold_rows (f : Fin 128 → EReal) (b : Fin 16) (h : ∀ b' t, b' ≠ b → f (row b' t) = ⊥) :
    Finset.univ.fold max ⊥ f = Finset.univ.fold max ⊥ fun t => f (row b t) := by
  show Finset.univ.sup f = Finset.univ.sup fun t => f (row b t)
  apply le_antisymm
  · refine Finset.sup_le fun r _ => ?_
    obtain ⟨b', t, rfl⟩ := exists_row r
    by_cases hb : b' = b
    · subst hb; exact Finset.le_sup (f := fun t => f (row b' t)) (Finset.mem_univ t)
    · rw [h b' t hb]; exact bot_le
  · exact Finset.sup_le fun t _ => Finset.le_sup (f := f) (Finset.mem_univ (row b t))

end Cert.RecurSpec
-- ==== Proof.RecurHeadAt.lean ====
/-
  One head's stores, read at an index on the extended reals: row `t` of sequence `b` of a block of sixteen sequences is the
  recurrence step of `RecurSpec` for that sequence.
-/
module

public import proofs.«01_k».proof.Proof.RecurHead
public import proofs.«01_k».proof.Proof.RecurSpec
public import Idealize.ShloMosaic.Lib.Pipeline.Value

@[expose] public section

set_option maxRecDepth 16384

noncomputable section

namespace Cert.RecurHead

open Cert.RecurIdeal Cert.RecurIdeal.Gen Idealize.ShloMosaic Cert.RecurSpec

/-- The mask of a block: same sequence, and not later. -/
def IsMask (mask : IVec S128x128 1) : Prop :=
  ∀ b t b' s, mask (ix2 (row b t) (row b' s)) = BitVec.ofBool (decide (b = b' ∧ s ≤ t))

/-- The block-diagonal selector: rows of sequence `b`, copies of index `b`. -/
def IsDiag (bd : IVec S128x2048 1) : Prop :=
  ∀ b t b' (j : Fin 128), bd (ix2 (row b t) ⟨b'.val * 128 + j.val, by have := b'.isLt; omega⟩) = BitVec.ofBool (decide (b = b'))

theorem negInf : Ideal.ofBits FTy.f32 4286578688#32 = ⊥ := by
  show Ideal.ofBits FTy.f32 0xFF800000#32 = ⊥
  simp [Ideal.ofBits, Ideal.ieee]

theorem select_ofBool (p : Prop) [Decidable p] (x y : EReal) :
    Scalar.select (BitVec.ofBool (decide p)) x y = if p then x else y := by
  by_cases h : p <;> simp [h, Scalar.select]

theorem hDlog_row (mask : IVec S128x128 1) (hm : IsMask mask) (bc : FVec Ideal S128x1 .f32) (br ig : FVec Ideal S1x128 .f32)
    (b : Fin 16) (t : Fin 8) (b' : Fin 16) (s : Fin 8) :
    hDlog mask bc br ig (ix2 (row b t) (row b' s)) = if b = b' then
      dlog (fun t => bc (ix2 (row b t) 0)) (fun s => br (ix2 0 (row b s))) (fun s => ig (ix2 0 (row b s))) t s else ⊥ := by
  pointwise [hDlog]
  rw [hm, select_ofBool, negInf]
  unfold dlog
  by_cases hb : b = b'
  · subst hb; simp
  · simp [hb]

theorem hMt_row (mask : IVec S128x128 1) (hm : IsMask mask) (bc it : FVec Ideal S128x1 .f32) (br ig : FVec Ideal S1x128 .f32)
    (b : Fin 16) (t : Fin 8) :
    hMt (hDlog mask bc br ig) it (ix2 (row b t) 0) =
      RecurSpec.mt (fun t => bc (ix2 (row b t) 0)) (fun s => br (ix2 0 (row b s))) (fun s => ig (ix2 0 (row b s)))
        (fun t => it (ix2 (row b t) 0)) t := by
  pointwise [hMt]
  rw [negInf, fold_rows _ b (fun b' s hb => by rw [hDlog_row mask hm, if_neg (Ne.symm hb)])]
  unfold RecurSpec.mt
  congr 2
  funext s
  rw [hDlog_row mask hm, if_pos rfl]

theorem hIw_row (it mv : FVec Ideal S128x1 .f32) (r : Fin 128) :
    hIw it mv (ix2 r 0) = Ideal.exp (it (ix2 r 0) - mv (ix2 r 0)) := by
  pointwise [hIw]

theorem exp_bot_sub (x : EReal) : Ideal.exp (⊥ - x) = 0 := by
  rw [sub_eq_add_neg, EReal.bot_add]; rfl

/-- One head's scaled key. -/
def kv (k : FVec Ideal S128x128 .f32) (b : Fin 16) (s : Fin 8) (d : Fin 128) : EReal :=
  k (ix2 (row b s) d) * Ideal.ofBits FTy.f32 1035273459#32

theorem hS_row (mask : IVec S128x128 1) (hm : IsMask mask) (bc it : FVec Ideal S128x1 .f32) (br ig : FVec Ideal S1x128 .f32)
    (q k : FVec Ideal S128x128 .f32) (b : Fin 16) (t : Fin 8) (b' : Fin 16) (s : Fin 8) :
    hS (hDlog mask bc br ig) (hMt (hDlog mask bc br ig) it) q k (ix2 (row b t) (row b' s)) = if b = b' then
      sc (fun t => bc (ix2 (row b t) 0)) (fun s => br (ix2 0 (row b s))) (fun s => ig (ix2 0 (row b s)))
        (fun t => it (ix2 (row b t) 0)) (fun t d => q (ix2 (row b t) d)) (kv k b) t s else 0 := by
  pointwise [hS, hK]
  rw [hDlog_row mask hm, hMt_row mask hm]
  by_cases hb : b = b'
  · subst hb; simp only [if_true]; rfl
  · rw [if_neg hb, if_neg hb, exp_bot_sub, mul_zero]

theorem hSsum_row (mask : IVec S128x128 1) (hm : IsMask mask) (bc it : FVec Ideal S128x1 .f32) (br ig : FVec Ideal S1x128 .f32)
    (q k : FVec Ideal S128x128 .f32) (b : Fin 16) (t : Fin 8) :
    hSsum (hS (hDlog mask bc br ig) (hMt (hDlog mask bc br ig) it) q k) (ix2 (row b t) 0) =
      ∑ s, sc (fun t => bc (ix2 (row b t) 0)) (fun s => br (ix2 0 (row b s))) (fun s => ig (ix2 0 (row b s)))
        (fun t => it (ix2 (row b t) 0)) (fun t d => q (ix2 (row b t) d)) (kv k b) t s := by
  pointwise [hSsum]
  rw [sum_rows _ b (fun b' s hb => by rw [hS_row mask hm, if_neg (Ne.symm hb)])]
  exact Finset.sum_congr rfl fun s _ => by rw [hS_row mask hm, if_pos rfl]

theorem hSv_row (mask : IVec S128x128 1) (hm : IsMask mask) (bc it : FVec Ideal S128x1 .f32) (br ig : FVec Ideal S1x128 .f32)
    (q k v : FVec Ideal S128x128 .f32) (b : Fin 16) (t : Fin 8) (j : Fin 128) :
    hSv (hS (hDlog mask bc br ig) (hMt (hDlog mask bc br ig) it) q k) v (ix2 (row b t) j) =
      ∑ s, sc (fun t => bc (ix2 (row b t) 0)) (fun s => br (ix2 0 (row b s))) (fun s => ig (ix2 0 (row b s)))
        (fun t => it (ix2 (row b t) 0)) (fun t d => q (ix2 (row b t) d)) (kv k b) t s * v (ix2 (row b s) j) := by
  pointwise [hSv]
  rw [sum_rows _ b (fun b' s hb => by rw [hS_row mask hm, if_neg (Ne.symm hb), zero_mul])]
  exact Finset.sum_congr rfl fun s _ => by rw [hS_row mask hm, if_pos rfl]

theorem hQcAll_apply (q : FVec Ideal S128x128 .f32) (C : Vec Ideal S16x1x128x128 .f32) (r : Fin 128) (b : Fin 16) (j : Fin 128) :
    hQcAll q C (ix2 r ⟨b.val * 128 + j.val, by omega⟩) = ∑ d, q (ix2 r d) * C (ix4 b 0 j d) := by
  pointwise [hQcAll]

/-- A stack of sixteen pieces of eight rows, read at a row. -/
theorem concat16_apply (x : Fin 16 → (S8x128.Idx → EReal))
    (h : Shape.Concatenates (((List.finRange 16).map fun b => (⟨S8x128, x b⟩ : (s : Shape) × (s.Idx → EReal))).map (·.1)) S128x128 0)
    (b : Fin 16) (t : Fin 8) (j : Fin 128) :
    concatenate S128x128 0 ((List.finRange 16).map fun b => (⟨S8x128, x b⟩ : (s : Shape) × (s.Idx → EReal))) h (ix2 (row b t) j)
      = x b (ix2 t j) := by
  refine concatenate_apply_piece (0 : Fin S128x128.rank) _ h (ix2 (row b t) j) b.val (by simp) S8x128 (x b) ?_ rfl (b.val * 8) ?_ (ix2 t j) ?_ ?_
  · rw [List.getElem_map, List.getElem_finRange]; rfl
  · rw [← List.map_take, List.map_map, List.map_map]
    refine (congrArg List.sum (List.map_congr_left (g := fun _ => 8) fun _ _ => rfl)).trans ?_
    rw [List.map_const', List.sum_replicate, List.length_take, List.length_finRange, smul_eq_mul, Nat.min_eq_left (by omega)]
  · intro a ha
    match a with
    | ⟨0, _⟩ => exact absurd rfl ha
    | ⟨1, _⟩ => rfl
  · rfl

theorem hQc_row (w : FVec Ideal S128x2048 .f32) (b : Fin 16) (t : Fin 8) (j : Fin 128) :
    hQc w (ix2 (row b t) j) = w (ix2 (row b t) ⟨b.val * 128 + j.val, by omega⟩) := by
  unfold hQc
  have e := concat16_apply (fun b (i : S8x128.Idx) => w (ix2 (row b (i 0)) ⟨b.val * 128 + (i 1).val, by have h : (i 1).val < 128 := (i 1).isLt; have := b.isLt; omega⟩))
    concatenates_S8x128_S8x128_S8x128_S8x128_S8x128_S8x128_S8x128_S8x128_S8x128_S8x128_S8x128_S8x128_S8x128_S8x128_S8x128_S8x128_S128x128_d0 b t j
  refine Eq.trans ?_ e
  congr 1
  simp only [List.finRange_succ, List.finRange_zero, List.map_cons, List.map_nil, List.map_map, List.cons.injEq, Sigma.mk.injEq, heq_eq_eq, true_and, and_true]
  refine ⟨?_, ?_, ?_, ?_, ?_, ?_, ?_, ?_, ?_, ?_, ?_, ?_, ?_, ?_, ?_, ?_⟩ <;>
  · funext i
    idx_vars i
    pointwise []
    refine congrArg w ?_
    refine congrArg₂ ix2 (Fin.ext ?_) (Fin.ext ?_)
    · first | rfl | (simp [row]; done) | (simp [row]; omega)
    · first | rfl | (simp; done) | (simp; omega)

theorem hNrows_row (n : Vec Ideal S16x1x128 .f32) (b : Fin 16) (t : Fin 8) (d : Fin 128) :
    hNrows n (ix2 (row b t) d) = n (ix3 b 0 d) := by
  unfold row
  pointwise [hNrows]

/-- One head's result at token `t` of sequence `b`. -/
theorem headOut_row (mask : IVec S128x128 1) (hm : IsMask mask) (bc it : FVec Ideal S128x1 .f32) (br ig : FVec Ideal S1x128 .f32)
    (q k v : FVec Ideal S128x128 .f32) (C : Vec Ideal S16x1x128x128 .f32) (n : Vec Ideal S16x1x128 .f32) (o : FVec Ideal S128x128 .f32)
    (w : FVec Ideal S1x128 .f32) (b : Fin 16) (t : Fin 8) (j : Fin 128) :
    headOut mask bc br ig it q k v C n o w (ix2 (row b t) j) =
      out (hid (fun t => bc (ix2 (row b t) 0)) (fun s => br (ix2 0 (row b s))) (fun s => ig (ix2 0 (row b s)))
        (fun t => it (ix2 (row b t) 0)) (fun t d => q (ix2 (row b t) d)) (kv k b) (fun s j => v (ix2 (row b s) j))
        (fun j d => C (ix4 b 0 j d)) (fun d => n (ix3 b 0 d)) t) (fun j => o (ix2 (row b t) j)) (fun j => w (ix2 0 j)) j := by
  have hh : ∀ j, hH (hNum (hSv (hS (hDlog mask bc br ig) (hMt (hDlog mask bc br ig) it) q k) v) (hIw it (hMt (hDlog mask bc br ig) it)) (hQc (hQcAll q C)))
      (hDen (hSsum (hS (hDlog mask bc br ig) (hMt (hDlog mask bc br ig) it) q k)) (hIw it (hMt (hDlog mask bc br ig) it)) q (hNrows n))
      (hMt (hDlog mask bc br ig) it) (ix2 (row b t) j) = hid (fun t => bc (ix2 (row b t) 0)) (fun s => br (ix2 0 (row b s))) (fun s => ig (ix2 0 (row b s)))
        (fun t => it (ix2 (row b t) 0)) (fun t d => q (ix2 (row b t) d)) (kv k b) (fun s j => v (ix2 (row b s) j))
        (fun j d => C (ix4 b 0 j d)) (fun d => n (ix3 b 0 d)) t j := by
    intro j
    pointwise [hH, hNum, hDen]
    rw [hSv_row mask hm, hSsum_row mask hm, hMt_row mask hm, hIw_row, hMt_row mask hm, hQc_row, hQcAll_apply]
    simp only [hNrows_row]
    rfl
  unfold headOut out
  pointwise [hOut]
  simp only [hh]

theorem hVw_row (ws : FVec Ideal S128x1 .f32) (bd : IVec S128x2048 1) (hd : IsDiag bd) (v : FVec Ideal S128x128 .f32)
    (b : Fin 16) (t : Fin 8) (b' : Fin 16) (j : Fin 128) :
    hVw ws bd v (ix2 (row b t) ⟨b'.val * 128 + j.val, by omega⟩) =
      if b = b' then v (ix2 (row b t) j) * ws (ix2 (row b t) 0) else 0 := by
  unfold hVw
  have e := concatenate_replicate_apply (1 : Fin S128x2048.rank) 16 (mulf v (broadcastTo S128x128 ws broadcasts_S128x1_S128x128))
    concatenates_S128x128_S128x128_S128x128_S128x128_S128x128_S128x128_S128x128_S128x128_S128x128_S128x128_S128x128_S128x128_S128x128_S128x128_S128x128_S128x128_S128x2048_d1
    rfl (ix2 (row b t) ⟨b'.val * 128 + j.val, by omega⟩) (ix2 (row b t) j)
    (by show j.val = (b'.val * 128 + j.val) % 128; omega)
    (by intro a ha; match a with
        | ⟨0, _⟩ => rfl
        | ⟨1, _⟩ => exact absurd rfl ha)
  have e' : mulf v (broadcastTo S128x128 ws broadcasts_S128x1_S128x128) (ix2 (row b t) j) =
      v (ix2 (row b t) j) * ws (ix2 (row b t) 0) := by
    pointwise []
  refine (congrArg₂ (fun m y => Scalar.select m y (Ideal.ofBits FTy.f32 0#32)) (hd b t b' j) (e.trans e')).trans ?_
  simp only [select_ofBool]
  have z : Ideal.ofBits FTy.f32 0#32 = 0 := by simp [Ideal.ofBits, Ideal.ieee]
  rw [z]

/-- One head's state matrix after the step, of sequence `b`. -/
theorem headC_apply (ws dec : FVec Ideal S128x1 .f32) (bd : IVec S128x2048 1) (hd : IsDiag bd) (v k : FVec Ideal S128x128 .f32)
    (C : Vec Ideal S16x1x128x128 .f32) (b : Fin 16) (j d : Fin 128) :
    headC ws dec bd v k C (ix4 b 0 j d) = cnew (dec (ix2 (row b 0) 0)) (fun s => ws (ix2 (row b s) 0))
      (fun s j => v (ix2 (row b s) j)) (kv k b) (fun j d => C (ix4 b 0 j d)) j d := by
  pointwise [headC, hDc, hK]
  rw [sum_rows _ b (fun b' s hb => by rw [hVw_row ws bd hd, if_neg hb, zero_mul])]
  unfold cnew
  congr 1
  refine Finset.sum_congr rfl fun s _ => ?_
  rw [hVw_row ws bd hd, if_pos rfl]
  rfl

/-- One head's state vector after the step, of sequence `b`. -/
theorem headN_apply (ws dec : FVec Ideal S128x1 .f32) (k : FVec Ideal S128x128 .f32)
    (n : Vec Ideal S16x1x128 .f32) (b : Fin 16) (d : Fin 128) :
    headN ws dec k n (ix3 b 0 d) = nnew (dec (ix2 (row b 0) 0)) (fun s => ws (ix2 (row b s) 0)) (kv k b)
      (fun d => n (ix3 b 0 d)) d := by
  pointwise [headN, hDc, hK]
  rfl

end Cert.RecurHead
-- ==== Proof.RecurGates.lean ====
/-
  The block's masks, gates and convolution, read at an index on the extended reals.
-/
module

public import proofs.«01_k».proof.Proof.RecurHeadAt

@[expose] public section

set_option maxRecDepth 16384

noncomputable section

namespace Cert.RecurGates

open Cert.RecurIdeal Cert.RecurIdeal.Gen Idealize.ShloMosaic Cert.RecurSpec Cert.RecurHead

/-! ## Words -/

/-- The floored quotient by eight, as the body computes it. -/
def fdiv8 (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 8#32 0#32))
          (Scalar.extui (Scalar.cmpi CmpIPredicate.slt 8#32 0#32))))
      (IntOp.cmpi CmpIPredicate.ne (IntOp.remsi ArithUnit.vector x 8#32) 0#32))
    (IntOp.subi (IntOp.divsi ArithUnit.vector x 8#32) 1#32)
    (IntOp.divsi ArithUnit.vector x 8#32)

/-- The floored quotient by 128, as the body computes it. -/
def fdiv128 (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector x 128#32) 0#32))
    (IntOp.subi (IntOp.divsi ArithUnit.vector x 128#32) 1#32)
    (IntOp.divsi ArithUnit.vector x 128#32)

/-- The remainder by eight, as the body computes it. -/
def fmod8 (x : BitVec 32) : BitVec 32 :=
  Scalar.select
    (IntOp.andi
      (IntOp.xori (IntOp.cmpi CmpIPredicate.slt (IntOp.remsi ArithUnit.vector x 8#32) 0#32)
        (Scalar.cmpi CmpIPredicate.slt 8#32 0#32))
      (IntOp.cmpi CmpIPredicate.ne (IntOp.remsi ArithUnit.vector x 8#32) 0#32))
    (IntOp.addi (IntOp.remsi ArithUnit.vector x 8#32) 8#32)
    (IntOp.remsi ArithUnit.vector x 8#32)

theorem fdiv8_row : ∀ (b : Fin 16) (t : Fin 8), fdiv8 (BitVec.ofNat 32 (row b t).val) = BitVec.ofNat 32 b.val := by
  decide +kernel
theorem fmod8_row : ∀ (b : Fin 16) (t : Fin 8), fmod8 (BitVec.ofNat 32 (row b t).val) = BitVec.ofNat 32 t.val := by
  decide +kernel
theorem fdiv128_col : ∀ (b : Fin 16) (j : Fin 128), fdiv128 (BitVec.ofNat 32 (b.val * 128 + j.val)) = BitVec.ofNat 32 b.val := by
  decide +kernel
theorem eq_seq : ∀ b b' : Fin 16, IntOp.cmpi CmpIPredicate.eq (BitVec.ofNat 32 b.val) (BitVec.ofNat 32 b'.val) = BitVec.ofBool (decide (b = b')) := by
  decide +kernel
theorem eq_tok : ∀ t t' : Fin 8, IntOp.cmpi CmpIPredicate.eq (BitVec.ofNat 32 t.val) (BitVec.ofNat 32 t'.val) = BitVec.ofBool (decide (t = t')) := by
  decide +kernel
theorem le_row : ∀ r r' : Fin 128, IntOp.cmpi CmpIPredicate.sle (BitVec.ofNat 32 r.val) (BitVec.ofNat 32 r'.val) = BitVec.ofBool (decide (r ≤ r')) := by
  decide +kernel
theorem lt_tok : ∀ (t : Fin 8) (j : Fin 4), IntOp.cmpi CmpIPredicate.slt (BitVec.ofNat 32 t.val) (BitVec.ofNat 32 j.val) = BitVec.ofBool (decide (t.val < j.val)) := by
  decide +kernel

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem row_le (b : Fin 16) (s t : Fin 8) : row b s ≤ row b t ↔ s ≤ t := by
  show b.val * 8 + s.val ≤ b.val * 8 + t.val ↔ s.val ≤ t.val
  omega

/-! ## The masks -/

/-- Rows of the same sequence. -/
def IsSame (same : IVec S128x128 1) : Prop :=
  ∀ b t b' s, same (ix2 (row b t) (row b' s)) = BitVec.ofBool (decide (b = b'))

theorem pay1_row (b : Fin 16) (t : Fin 8) (c : Fin 128) : k0_pay1 (ix2 (row b t) c) = BitVec.ofNat 32 b.val := by
  rw [← fdiv8_row b t]
  pointwise [k0_pay1]
  rfl

theorem same_row : IsSame (k0_pay5 k0_pay1 k0_pay2 k0_pay3 k0_pay4) := by
  intro b t b' s
  have h := pay1_row b t (row b' s)
  rw [← eq_seq, ← h, ← fdiv8_row b' s]
  pointwise [k0_pay5, k0_pay2, k0_pay3, k0_pay4]
  rfl

theorem mask_row : IsMask (k0_pay6 (iota .tc S128x128 32 [0] iota_S128x128_d0_w32) (iota .tc S128x128 32 [1] iota_S128x128_d1_w32)
    k0_pay1 k0_pay2 k0_pay3 k0_pay4) := by
  intro b t b' s
  have h := same_row b t b' s
  have e : k0_pay6 (iota .tc S128x128 32 [0] iota_S128x128_d0_w32) (iota .tc S128x128 32 [1] iota_S128x128_d1_w32)
      k0_pay1 k0_pay2 k0_pay3 k0_pay4 (ix2 (row b t) (row b' s)) =
      IntOp.andi (k0_pay5 k0_pay1 k0_pay2 k0_pay3 k0_pay4 (ix2 (row b t) (row b' s)))
        (IntOp.cmpi CmpIPredicate.sle (BitVec.ofNat 32 (row b' s).val) (BitVec.ofNat 32 (row b t).val)) := by
    pointwise [k0_pay6]
  rw [e, h, le_row, andi_ofBool]
  congr 2
  refine propext (and_congr_right fun hb => ?_)
  subst hb
  exact row_le b s t

theorem diag_row : IsDiag (k0_pay29 (iota .tc S128x2048 32 [1] iota_S128x2048_d1_w32) 128#32 k0_pay27 k0_pay28 0#32) := by
  intro b t b' j
  have e : ∀ (r : Fin 128) (j : Fin 2048), k0_pay29 (iota .tc S128x2048 32 [1] iota_S128x2048_d1_w32) 128#32 k0_pay27 k0_pay28 0#32 (ix2 r j) =
      IntOp.cmpi CmpIPredicate.eq (fdiv128 (BitVec.ofNat 32 j.val)) (fdiv8 (BitVec.ofNat 32 r.val)) := by
    intro r j
    pointwise [k0_pay29, k0_pay27, k0_pay28]
    rfl
  rw [e, fdiv8_row]
  refine (congrArg (fun x => IntOp.cmpi CmpIPredicate.eq x _) (fdiv128_col b' j)).trans ?_
  rw [eq_seq]
  congr 2
  exact propext eq_comm

/-! ## The gates -/

theorem sitofp_ofBool (p : Prop) [Decidable p] :
    FloatOps.sitofp (F := Ideal) FTy.f32 (BitVec.setWidth 32 (BitVec.ofBool (decide p))) = if p then 1 else 0 := by
  have e1 : (BitVec.setWidth 32 (BitVec.ofBool true)).toInt = 1 := by decide
  have e0 : (BitVec.setWidth 32 (BitVec.ofBool false)).toInt = 0 := by decide
  show (((BitVec.setWidth 32 (BitVec.ofBool (decide p))).toInt : ℝ) : EReal) = _
  by_cases h : p
  · rw [if_pos h, decide_eq_true h, e1, Int.cast_one, EReal.coe_one]
  · rw [if_neg h, decide_eq_false h, e0, Int.cast_zero, EReal.coe_zero]

/-- The block's prefix sums of the log forget gates, token by token down the rows. -/
theorem btc_row (mask : IVec S128x128 1) (hm : IsMask mask) (x : FVec Ideal S128x256 .f32) (y : Vec Ideal S1x256 .f32) (b : Fin 16) (t : Fin 8)
    (c : Fin 128) :
    k0_pay18 mask (k0_pay12 x) (k0_pay13 y) (ix2 (row b t) c) =
      bt (fun s => lsig (x (ix2 (row b s) ⟨128 + c.val, by omega⟩) + y (ix2 0 ⟨128 + c.val, by omega⟩))) t := by
  pointwise [k0_pay18, k0_pay14, k0_pay12, k0_pay13]
  rw [sum_rows _ b (fun b' s hb => by rw [hm, sitofp_ofBool, if_neg (fun h => hb h.1.symm), zero_mul])]
  unfold bt
  refine Finset.sum_congr rfl fun s _ => ?_
  rw [hm, sitofp_ofBool]
  by_cases h : s ≤ t
  · rw [if_pos ⟨rfl, h⟩, if_pos h, one_mul]; rfl
  · rw [if_neg (fun k => h k.2), if_neg h, zero_mul]

/-- The block's prefix sums of the log forget gates, token by token along the columns. -/
theorem btr_row (same : IVec S128x128 1) (hs : IsSame same) (x : Vec Ideal S16x128 .f32) (y : Vec Ideal S16x1 .f32) (h : Fin 8) (b : Fin 16)
    (t : Fin 8) :
    k0_pay19 (iota .tc S128x128 32 [0] iota_S128x128_d0_w32) (iota .tc S128x128 32 [1] iota_S128x128_d1_w32) same x y (ix2 h (row b t)) =
      bt (fun s => lsig (x (ix2 ⟨8 + h.val, by omega⟩ (row b s)) + y (ix2 ⟨8 + h.val, by omega⟩ 0))) t := by
  pointwise [k0_pay19, k0_pay15]
  rw [sum_rows _ b (fun b' s hb => by rw [hs, le_row, andi_ofBool, sitofp_ofBool, if_neg (fun h => hb h.1), mul_zero])]
  unfold bt
  refine Finset.sum_congr rfl fun s _ => ?_
  rw [hs, le_row, andi_ofBool, sitofp_ofBool]
  by_cases h : s ≤ t
  · rw [if_pos ⟨rfl, (row_le b s t).2 h⟩, if_pos h, mul_one]; rfl
  · rw [if_neg (fun k => h ((row_le b s t).1 k.2)), if_neg h, mul_zero]

/-- The last token's entry, for every row of its sequence. -/
theorem last_row (same : IVec S128x128 1) (hs : IsSame same) (v : FVec Ideal S128x128 .f32) (b : Fin 16) (t : Fin 8) (c : Fin 128) :
    k0_pay21 (iota .tc S128x128 32 [1] iota_S128x128_d1_w32) same v (Scalar.select (Scalar.cmpi .eq 8#32 0#32) 1#32 8#32) (ix2 (row b t) c) =
      v (ix2 (row b 7) c) := by
  have e : ∀ b' s, IntOp.cmpi CmpIPredicate.eq (fmod8 (BitVec.ofNat 32 (row b' s).val)) 7#32 = BitVec.ofBool (decide (s = 7)) := by
    intro b' s
    rw [fmod8_row]
    exact eq_tok s 7
  have e8 : Scalar.select (Scalar.cmpi .eq 8#32 0#32) 1#32 8#32 = 8#32 := by decide
  rw [e8]
  pointwise [k0_pay21]
  refine (Finset.sum_congr rfl (g := fun x => FloatOps.sitofp FTy.f32 (BitVec.setWidth 32 (IntOp.andi (same (ix2 (row b t) x))
    (IntOp.cmpi CmpIPredicate.eq (fmod8 (BitVec.ofNat 32 x.val)) 7#32))) * v (ix2 x c)) fun x _ => rfl).trans ?_
  rw [sum_rows _ b (fun b' s hb => by rw [hs, e, andi_ofBool, sitofp_ofBool, if_neg (fun h => hb h.1.symm), zero_mul]),
    Finset.sum_eq_single 7]
  · rw [hs, e, andi_ofBool, sitofp_ofBool, if_pos ⟨rfl, rfl⟩, one_mul]
  · intro s _ h
    rw [hs, e, andi_ofBool, sitofp_ofBool, if_neg (fun k => h k.2), zero_mul]
  · intro h; exact absurd (Finset.mem_univ _) h

section
variable (same : IVec S128x128 1) (hs : IsSame same) (ig bc m : FVec Ideal S128x128 .f32) (b : Fin 16) (t : Fin 8) (c : Fin 128)
include hs

theorem wlog_row : k0_pay23 (iota .tc S128x128 32 [1] iota_S128x128_d1_w32) same ig bc (Scalar.select (Scalar.cmpi .eq 8#32 0#32) 1#32 8#32) (ix2 (row b t) c) =
    wlog (fun s => bc (ix2 (row b s) c)) (fun s => ig (ix2 (row b s) c)) t := by
  pointwise [k0_pay23]
  rw [last_row same hs]
  rfl

theorem mnew_row : k0_pay24 (iota .tc S128x128 32 [1] iota_S128x128_d1_w32) same ig bc m (Scalar.select (Scalar.cmpi .eq 8#32 0#32) 1#32 8#32) (ix2 (row b t) c) =
    mnew (fun s => bc (ix2 (row b s) c)) (fun s => ig (ix2 (row b s) c)) (m (ix2 (row b t) c)) := by
  have e : k0_pay24 (iota .tc S128x128 32 [1] iota_S128x128_d1_w32) same ig bc m (Scalar.select (Scalar.cmpi .eq 8#32 0#32) 1#32 8#32) (ix2 (row b t) c) =
      max (k0_pay21 (iota .tc S128x128 32 [1] iota_S128x128_d1_w32) same bc (Scalar.select (Scalar.cmpi .eq 8#32 0#32) 1#32 8#32) (ix2 (row b t) c) + m (ix2 (row b t) c))
        (Finset.fold max (Ideal.ofBits FTy.f32 4286578688#32) (fun x => k0_pay23 (iota .tc S128x128 32 [1] iota_S128x128_d1_w32) same ig bc
          (Scalar.select (Scalar.cmpi .eq 8#32 0#32) 1#32 8#32) (ix2 (row b x) c)) Finset.univ) := by
    unfold row
    pointwise [k0_pay24]
  rw [e, last_row same hs, negInf]
  simp only [wlog_row same hs]
  rfl

theorem wst_row : k0_pay25 (iota .tc S128x128 32 [1] iota_S128x128_d1_w32) same ig bc m (Scalar.select (Scalar.cmpi .eq 8#32 0#32) 1#32 8#32) (ix2 (row b t) c) =
    wst (fun s => bc (ix2 (row b s) c)) (fun s => ig (ix2 (row b s) c)) (m (ix2 (row b t) c)) t := by
  pointwise [k0_pay25]
  rw [wlog_row same hs, mnew_row same hs]
  rfl

theorem dec_row : k0_pay26 (iota .tc S128x128 32 [1] iota_S128x128_d1_w32) same ig bc m (Scalar.select (Scalar.cmpi .eq 8#32 0#32) 1#32 8#32) (ix2 (row b t) c) =
    dec (fun s => bc (ix2 (row b s) c)) (fun s => ig (ix2 (row b s) c)) (m (ix2 (row b t) c)) := by
  pointwise [k0_pay26]
  rw [last_row same hs, mnew_row same hs]
  rfl

end

/-! ## The convolution -/

theorem pay7_row (b : Fin 16) (t : Fin 8) : k0_pay7 (ix2 (row b t) 0) = BitVec.ofNat 32 t.val := by
  rw [← fmod8_row b t]
  pointwise [k0_pay7]
  rfl

theorem tapAt (x h : FVec Ideal S128x2048 .f32) (j : Fin 4) (hj : j ≠ 0) (b : Fin 16) (t : Fin 8) (c : Fin 2048) :
    Scalar.select (IntOp.cmpi CmpIPredicate.slt (k0_pay7 (ix2 (row b t) 0)) (BitVec.ofNat 32 j.val))
      (h (ix2 ⟨((row b t).val + 128 - (120 + j.val)) % 128, by omega⟩ c)) (x (ix2 ⟨((row b t).val + 128 - j.val) % 128, by omega⟩ c)) =
    tap (fun s => x (ix2 (row b s) c)) (fun s => h (ix2 (row b s) c)) j.val t := by
  have hb := b.isLt
  have ht := t.isLt
  have h4 := j.isLt
  have h0 : j.val ≠ 0 := fun h => hj (Fin.ext h)
  rw [pay7_row, lt_tok, select_ofBool]
  unfold tap
  by_cases h : t.val < j.val
  · rw [if_pos h, if_pos h]
    congr 2
    refine Fin.ext ?_
    show (b.val * 8 + t.val + 128 - (120 + j.val)) % 128 = b.val * 8 + (t.val + 8 - j.val) % 8
    omega
  · rw [if_neg h, if_neg h]
    congr 2
    refine Fin.ext ?_
    show (b.val * 8 + t.val + 128 - j.val) % 128 = b.val * 8 + (t.val + 8 - j.val) % 8
    omega

theorem conv_row (x h : Vec Ideal S128x2048 .f32) (cb w3 w2 w1 w0 : Vec Ideal S1x2048 .f32) (b : Fin 16) (t : Fin 8) (c : Fin 2048) :
    k0_pay11 x k0_pay7 (k0_pay8 h) (k0_pay9 x cb w3) (k0_pay10 x h) w2 w1 w0 (ix2 (row b t) c) =
      silu (conv (cb (ix2 0 c)) (w0 (ix2 0 c)) (w1 (ix2 0 c)) (w2 (ix2 0 c)) (w3 (ix2 0 c)) (fun s => x (ix2 (row b s) c)) (fun s => h (ix2 (row b s) c)) t) := by
  have e1 : _ = tap (fun s => x (ix2 (row b s) c)) (fun s => h (ix2 (row b s) c)) 1 t := tapAt x h 1 (by decide) b t c
  have e2 : _ = tap (fun s => x (ix2 (row b s) c)) (fun s => h (ix2 (row b s) c)) 2 t := tapAt x h 2 (by decide) b t c
  have e3 : _ = tap (fun s => x (ix2 (row b s) c)) (fun s => h (ix2 (row b s) c)) 3 t := tapAt x h 3 (by decide) b t c
  unfold conv
  rw [← e1, ← e2, ← e3]
  pointwise [k0_pay11, k0_pay8, k0_pay9, k0_pay10]
  rfl

end Cert.RecurGates
-- ==== Proof.RecurBlock.lean ====
/-
  What the body leaves in each result's block, at an index: row `b*8+t`, head `h` and lane `j` of the block are the recurrence
  step of `RecurSpec` for sequence `b` and head `h`.
-/
module

public import proofs.«01_k».proof.Proof.RecurGates
public import Idealize.ShloMosaic.Lib.Pipeline.ValueKit.Tiles
public import proofs.«01_k».proof.Proof.Gen.RecurIdeal.Frame

@[expose] public section

set_option maxRecDepth 16384

noncomputable section

namespace Cert.RecurBlock

open Cert.RecurIdeal Cert.RecurIdeal.Gen Idealize.ShloMosaic Cert.RecurSpec Cert.RecurHead Cert.RecurGates

/-! ## Columns of a head -/

/-- Head `h`'s gate lane. -/
def gcol (h : Fin 8) : Fin 128 := ⟨h.val, by omega⟩
/-- Head `h`'s query column. -/
def qcol (h : Fin 8) (j : Fin 128) : Fin 2048 := ⟨h.val * 128 + j.val, by omega⟩
/-- Head `h`'s key column. -/
def kcol (h : Fin 8) (j : Fin 128) : Fin 2048 := ⟨1024 + (h.val * 128 + j.val), by omega⟩
/-- Head `h`'s value column. -/
def vcol (h : Fin 8) (j : Fin 128) : Fin 1024 := ⟨h.val * 128 + j.val, by omega⟩

/-- A slice of a matrix, read at an index. -/
theorem slice2_apply {α : Type} {R C R' C' : ℕ} (off : Fin 2 → ℕ) (x : Shape.Idx (⟨2, ![R, C]⟩ : Shape) → α)
    (hs : Shape.Slices (⟨2, ![R, C]⟩ : Shape) off (⟨2, ![R', C']⟩ : Shape)) (r : Fin R') (c : Fin C') (r' : Fin R) (c' : Fin C)
    (hr : r'.val = off 0 + r.val) (hc : c'.val = off 1 + c.val) :
    extractStridedSlice (⟨2, ![R', C']⟩ : Shape) off x hs (ix2 r c) = x (ix2 r' c') :=
  extractStridedSlice_apply off x hs (ix2 r c) (ix2 r' c') fun a => by
    match a with
    | ⟨0, _⟩ => exact hr
    | ⟨1, _⟩ => exact hc

theorem exists_ix2 (x : S128x128.Idx) : ∃ b t j, x = ix2 (row b t) j := by
  obtain ⟨b, t, e⟩ := exists_row (x 0)
  refine ⟨b, t, x 1, funext fun a => ?_⟩
  match a with
  | ⟨0, _⟩ => exact e
  | ⟨1, _⟩ => rfl

theorem exists_ix4 (x : S16x1x128x128.Idx) : ∃ b j d, x = ix4 b 0 j d := by
  refine ⟨x 0, x 2, x 3, funext fun a => ?_⟩
  match a with
  | ⟨0, _⟩ => rfl
  | ⟨1, _⟩ => exact Fin.ext (by have h : (x 1).val < 1 := (x 1).isLt; show (x 1).val = 0; omega)
  | ⟨2, _⟩ => rfl
  | ⟨3, _⟩ => rfl

theorem exists_ix3 (x : S16x1x128.Idx) : ∃ b d, x = ix3 b 0 d := by
  refine ⟨x 0, x 2, funext fun a => ?_⟩
  match a with
  | ⟨0, _⟩ => rfl
  | ⟨1, _⟩ => exact Fin.ext (by have h : (x 1).val < 1 := (x 1).isLt; show (x 1).val = 0; omega)
  | ⟨2, _⟩ => rfl

/-! ## One head, from the block's shared values -/

section
variable (mask : IVec S128x128 1) (ig btr : FVec Ideal S8x128 .f32) (bt it ws dc : FVec Ideal S128x128 .f32) (bd : IVec S128x2048 1)
  (qk : FVec Ideal S128x2048 .f32) (x1 x2 : Vec Ideal S128x1024 .f32) (x6 : Vec Ideal S16x8x128x128 .f32) (x7 : Vec Ideal S16x8x128 .f32)
  (x13 : Vec Ideal S1x128 .f32)

/-- One head's key at a token, scaled. -/
def keyAt (h : Fin 8) (b : Fin 16) (s : Fin 8) (d : Fin 128) : EReal :=
  qk (ix2 (row b s) (kcol h d)) * Ideal.ofBits FTy.f32 1035273459#32

/-- One head's result. -/
def outAt (h : Fin 8) (b : Fin 16) (t : Fin 8) (j : Fin 128) : EReal :=
  out (hid (fun t => bt (ix2 (row b t) (gcol h))) (fun s => btr (ix2 h (row b s))) (fun s => ig (ix2 h (row b s)))
      (fun t => it (ix2 (row b t) (gcol h))) (fun t d => qk (ix2 (row b t) (qcol h d))) (keyAt qk h b)
      (fun s j => x1 (ix2 (row b s) (vcol h j))) (fun j d => x6 (ix4 b h j d)) (fun d => x7 (ix3 b h d)) t)
    (fun j => x2 (ix2 (row b t) (vcol h j))) (fun j => x13 (ix2 0 j)) j

/-- One head's new state matrix. -/
def cAt (h : Fin 8) (b : Fin 16) (j d : Fin 128) : EReal :=
  cnew (dc (ix2 (row b 0) (gcol h))) (fun s => ws (ix2 (row b s) (gcol h))) (fun s j => x1 (ix2 (row b s) (vcol h j)))
    (keyAt qk h b) (fun j d => x6 (ix4 b h j d)) j d

/-- One head's new state vector. -/
def nAt (h : Fin 8) (b : Fin 16) (d : Fin 128) : EReal :=
  nnew (dc (ix2 (row b 0) (gcol h))) (fun s => ws (ix2 (row b s) (gcol h))) (keyAt qk h b) (fun d => x7 (ix3 b h d)) d

variable (h : Fin 8) (oh oq ok : ℕ) (eh : oh = h.val) (eq : oq = h.val * 128) (ek : ok = 1024 + h.val * 128)
  (s1 : Shape.Slices S128x128 ![0, oh] S128x1) (s2 : Shape.Slices S8x128 ![oh, 0] S1x128) (s3 : Shape.Slices S128x2048 ![0, oq] S128x128)
  (s4 : Shape.Slices S128x2048 ![0, ok] S128x128)
  (i1 : ∀ a, (![0, oq] : Fin 2 → ℕ) a + S128x128.size a ≤ S128x1024.size a)
  (i6 : ∀ a, (![0, oh, 0, 0] : Fin 4 → ℕ) a + S16x1x128x128.size a ≤ S16x8x128x128.size a)
  (i7 : ∀ a, (![0, oh, 0] : Fin 3 → ℕ) a + S16x1x128.size a ≤ S16x8x128.size a)
  (i13 : ∀ a, (![0, 0] : Fin 2 → ℕ) a + S1x128.size a ≤ S1x128.size a)

include eh in
theorem col_slice (x : FVec Ideal S128x128 .f32) (r : Fin 128) : extractStridedSlice S128x1 ![0, oh] x s1 (ix2 r 0) = x (ix2 r (gcol h)) :=
  slice2_apply ![0, oh] x s1 r 0 r (gcol h) (by simp) (by simp [gcol, eh])

include eh in
theorem row_slice (x : FVec Ideal S8x128 .f32) (r : Fin 128) : extractStridedSlice S1x128 ![oh, 0] x s2 (ix2 0 r) = x (ix2 h r) :=
  slice2_apply ![oh, 0] x s2 0 r h r (by simp [eh]) (by simp)

include eq in
theorem q_slice (x : FVec Ideal S128x2048 .f32) (r j : Fin 128) : extractStridedSlice S128x128 ![0, oq] x s3 (ix2 r j) = x (ix2 r (qcol h j)) :=
  slice2_apply ![0, oq] x s3 r j r (qcol h j) (by simp) (by simp [qcol, eq])

include ek in
theorem k_slice (x : FVec Ideal S128x2048 .f32) (r j : Fin 128) : extractStridedSlice S128x128 ![0, ok] x s4 (ix2 r j) = x (ix2 r (kcol h j)) :=
  slice2_apply ![0, ok] x s4 r j r (kcol h j) (by simp) (by simp [kcol, ek]; omega)

include eq in
theorem v_load (x : Vec Ideal S128x1024 .f32) (r j : Fin 128) :
    View.ld (Val := Elt Ideal) (e' := .f32) x (Rect.unit (s := S128x1024) ![0, oq] S128x128.size i1) (ix2 r j) = x (ix2 r (vcol h j)) :=
  View.ld_unit_apply_of (Val := Elt Ideal) (e := .f32) x ![0, oq] S128x128.size i1 (ix2 r j) (ix2 r (vcol h j)) fun a => by
    match a with
    | ⟨0, _⟩ => show r.val = 0 + r.val; omega
    | ⟨1, _⟩ => show h.val * 128 + j.val = oq + j.val; omega

include eh in
theorem c_load (b : Fin 16) (j d : Fin 128) :
    View.ld (Val := Elt Ideal) (e' := .f32) x6 (Rect.unit (s := S16x8x128x128) ![0, oh, 0, 0] S16x1x128x128.size i6) (ix4 b 0 j d) = x6 (ix4 b h j d) :=
  View.ld_unit_apply_of (Val := Elt Ideal) (e := .f32) x6 ![0, oh, 0, 0] S16x1x128x128.size i6 (ix4 b 0 j d) (ix4 b h j d) fun a => by
    match a with
    | ⟨0, _⟩ => show b.val = 0 + b.val; omega
    | ⟨1, _⟩ => show h.val = oh + 0; omega
    | ⟨2, _⟩ => show j.val = 0 + j.val; omega
    | ⟨3, _⟩ => show d.val = 0 + d.val; omega

include eh in
theorem n_load (b : Fin 16) (d : Fin 128) :
    View.ld (Val := Elt Ideal) (e' := .f32) x7 (Rect.unit (s := S16x8x128) ![0, oh, 0] S16x1x128.size i7) (ix3 b 0 d) = x7 (ix3 b h d) :=
  View.ld_unit_apply_of (Val := Elt Ideal) (e := .f32) x7 ![0, oh, 0] S16x1x128.size i7 (ix3 b 0 d) (ix3 b h d) fun a => by
    match a with
    | ⟨0, _⟩ => show b.val = 0 + b.val; omega
    | ⟨1, _⟩ => show h.val = oh + 0; omega
    | ⟨2, _⟩ => show d.val = 0 + d.val; omega

theorem w_load (j : Fin 128) :
    View.ld (Val := Elt Ideal) (e' := .f32) x13 (Rect.unit (s := S1x128) ![0, 0] S1x128.size i13) (ix2 0 j) = x13 (ix2 0 j) :=
  View.ld_unit_apply_of (Val := Elt Ideal) (e := .f32) x13 ![0, 0] S1x128.size i13 (ix2 0 j) (ix2 0 j) fun a => by
    match a with
    | ⟨0, _⟩ => rfl
    | ⟨1, _⟩ => show j.val = 0 + j.val; omega

include eh eq ek in
/-- One head's stored result is `outAt`. -/
theorem head_out (v o : FVec Ideal S128x128 .f32) (C : Vec Ideal S16x1x128x128 .f32) (n : Vec Ideal S16x1x128 .f32) (w : FVec Ideal S1x128 .f32)
    (hv : ∀ r j, v (ix2 r j) = x1 (ix2 r (vcol h j))) (ho : ∀ r j, o (ix2 r j) = x2 (ix2 r (vcol h j))) (hC : ∀ b j d, C (ix4 b 0 j d) = x6 (ix4 b h j d))
    (hn : ∀ b d, n (ix3 b 0 d) = x7 (ix3 b h d)) (hw : ∀ j, w (ix2 0 j) = x13 (ix2 0 j)) (hm : IsMask mask) (b : Fin 16) (t : Fin 8) (j : Fin 128) :
    headOut mask (extractStridedSlice S128x1 ![0, oh] bt s1) (extractStridedSlice S1x128 ![oh, 0] btr s2) (extractStridedSlice S1x128 ![oh, 0] ig s2)
      (extractStridedSlice S128x1 ![0, oh] it s1) (extractStridedSlice S128x128 ![0, oq] qk s3) (extractStridedSlice S128x128 ![0, ok] qk s4)
      v
      C
      n
      o
      w (ix2 (row b t) j) =
      outAt ig btr bt it qk x1 x2 x6 x7 x13 h b t j := by
  refine (headOut_row mask hm _ _ _ _ _ _ _ _ _ _ _ b t j).trans ?_
  unfold outAt keyAt kv
  simp only [col_slice h oh eh s1, row_slice h oh eh s2, q_slice h oq eq s3, k_slice h ok ek s4, hv, ho, hC, hn, hw]

include eh ek in
/-- One head's stored state matrices are `cAt`. -/
theorem head_c (v : FVec Ideal S128x128 .f32) (C : Vec Ideal S16x1x128x128 .f32)
    (hv : ∀ r j, v (ix2 r j) = x1 (ix2 r (vcol h j))) (hC : ∀ b j d, C (ix4 b 0 j d) = x6 (ix4 b h j d)) (hd : IsDiag bd) (b : Fin 16) (j d : Fin 128) :
    headC (extractStridedSlice S128x1 ![0, oh] ws s1) (extractStridedSlice S128x1 ![0, oh] dc s1) bd
      v
      (extractStridedSlice S128x128 ![0, ok] qk s4)
      C (ix4 b 0 j d) =
      cAt ws dc qk x1 x6 h b j d := by
  refine (headC_apply _ _ bd hd _ _ _ b j d).trans ?_
  unfold cAt keyAt kv
  simp only [col_slice h oh eh s1, k_slice h ok ek s4, hv, hC]

include eh ek in
/-- One head's stored state vectors are `nAt`. -/
theorem head_n (n : Vec Ideal S16x1x128 .f32) (hn : ∀ b d, n (ix3 b 0 d) = x7 (ix3 b h d)) (b : Fin 16) (d : Fin 128) :
    headN (extractStridedSlice S128x1 ![0, oh] ws s1) (extractStridedSlice S128x1 ![0, oh] dc s1)
      (extractStridedSlice S128x128 ![0, ok] qk s4)
      n (ix3 b 0 d) =
      nAt ws dc qk x7 h b d := by
  refine (headN_apply _ _ _ _ b d).trans ?_
  unfold nAt keyAt kv
  simp only [col_slice h oh eh s1, k_slice h ok ek s4, hn]

end

/-! ## The eight heads -/

section
variable (x0 : Vec Ideal S128x2048 .f32) (x1 : Vec Ideal S128x1024 .f32) (x2 : Vec Ideal S128x1024 .f32) (x3 : Vec Ideal S128x256 .f32)
  (x4 : Vec Ideal S16x128 .f32) (x5 : Vec Ideal S128x2048 .f32) (x6 : Vec Ideal S16x8x128x128 .f32) (x7 : Vec Ideal S16x8x128 .f32)
  (x8 : Vec Ideal S128x128 .f32) (x9 : Vec Ideal S4x2048 .f32) (x10 : Vec Ideal S1x2048 .f32) (x11 : Vec Ideal S1x256 .f32)
  (x12 : Vec Ideal S16x1 .f32) (x13 : Vec Ideal S1x128 .f32)

/-! ### The shared values, from the blocks -/

theorem mask_at : IsMask (k0_pay200 x0 x1 x2 x3 x4 x5 x6 x7 x8 x9 x10 x11 x12 x13) := mask_row
theorem same_at : IsSame (k0_pay199 x0 x1 x2 x3 x4 x5 x6 x7 x8 x9 x10 x11 x12 x13) := same_row
theorem diag_at : IsDiag (k0_pay212 x0 x1 x2 x3 x4 x5 x6 x7 x8 x9 x10 x11 x12 x13) := diag_row

theorem gc_at (r c : Fin 128) : (k0_pay204 x0 x1 x2 x3 x4 x5 x6 x7 x8 x9 x10 x11 x12 x13) (ix2 r c) = x3 (ix2 r ⟨c.val, by omega⟩) + x11 (ix2 0 ⟨c.val, by omega⟩) := by
  unfold k0_pay204 k0_pay202 k0_pay203
  rw [View.ld_unit_zero (by decide), View.ld_unit_zero (by decide)]
  pointwise [k0_pay16, k0_pay14, k0_pay12, k0_pay13]
  try rfl

theorem gr_at (h : Fin 8) (r : Fin 128) : (k0_pay205 x0 x1 x2 x3 x4 x5 x6 x7 x8 x9 x10 x11 x12 x13) (ix2 h r) = x4 (ix2 ⟨h.val, by omega⟩ r) + x12 (ix2 ⟨h.val, by omega⟩ 0) := by
  unfold k0_pay205
  rw [View.ld_unit_zero (by decide), View.ld_unit_zero (by decide)]
  pointwise [k0_pay17, k0_pay15]
  try rfl

theorem bc_at (b : Fin 16) (t : Fin 8) (c : Fin 128) : (k0_pay206 x0 x1 x2 x3 x4 x5 x6 x7 x8 x9 x10 x11 x12 x13) (ix2 (row b t) c) =
    bt (fun s => lsig (x3 (ix2 (row b s) ⟨128 + c.val, by omega⟩) + x11 (ix2 0 ⟨128 + c.val, by omega⟩))) t := by
  unfold k0_pay206 k0_pay202 k0_pay203
  rw [View.ld_unit_zero (by decide), View.ld_unit_zero (by decide)]
  exact btc_row _ (mask_at x0 x1 x2 x3 x4 x5 x6 x7 x8 x9 x10 x11 x12 x13) x3 x11 b t c

theorem br_at (h : Fin 8) (b : Fin 16) (t : Fin 8) : (k0_pay207 x0 x1 x2 x3 x4 x5 x6 x7 x8 x9 x10 x11 x12 x13) (ix2 h (row b t)) =
    bt (fun s => lsig (x4 (ix2 ⟨8 + h.val, by omega⟩ (row b s)) + x12 (ix2 ⟨8 + h.val, by omega⟩ 0))) t := by
  unfold k0_pay207
  rw [View.ld_unit_zero (by decide), View.ld_unit_zero (by decide)]
  exact btr_row _ (same_at x0 x1 x2 x3 x4 x5 x6 x7 x8 x9 x10 x11 x12 x13) x4 x12 h b t

theorem m_at (r c : Fin 128) : (k0_pay208 x0 x1 x2 x3 x4 x5 x6 x7 x8 x9 x10 x11 x12 x13) (ix2 r c) = x8 (ix2 r c) := by
  unfold k0_pay208
  rw [View.ld_unit_zero (by decide)]
  pointwise [k0_pay20]

theorem it_at (r c : Fin 128) : (k0_pay209 x0 x1 x2 x3 x4 x5 x6 x7 x8 x9 x10 x11 x12 x13) (ix2 r c) = (k0_pay206 x0 x1 x2 x3 x4 x5 x6 x7 x8 x9 x10 x11 x12 x13) (ix2 r c) + x8 (ix2 r c) := by
  rw [← m_at x0 x1 x2 x3 x4 x5 x6 x7 x8 x9 x10 x11 x12 x13]
  unfold k0_pay209
  pointwise [k0_pay22]

theorem ws_at (b : Fin 16) (t : Fin 8) (c : Fin 128) : (k0_pay210 x0 x1 x2 x3 x4 x5 x6 x7 x8 x9 x10 x11 x12 x13) (ix2 (row b t) c) =
    wst (fun s => (k0_pay206 x0 x1 x2 x3 x4 x5 x6 x7 x8 x9 x10 x11 x12 x13) (ix2 (row b s) c)) (fun s => x3 (ix2 (row b s) ⟨c.val, by omega⟩) + x11 (ix2 0 ⟨c.val, by omega⟩)) (x8 (ix2 (row b t) c)) t := by
  simp only [← gc_at x0 x1 x2 x3 x4 x5 x6 x7 x8 x9 x10 x11 x12 x13, ← m_at x0 x1 x2 x3 x4 x5 x6 x7 x8 x9 x10 x11 x12 x13]
  exact wst_row _ (same_at x0 x1 x2 x3 x4 x5 x6 x7 x8 x9 x10 x11 x12 x13) _ _ _ b t c

theorem dec_at (b : Fin 16) (t : Fin 8) (c : Fin 128) : (k0_pay211 x0 x1 x2 x3 x4 x5 x6 x7 x8 x9 x10 x11 x12 x13) (ix2 (row b t) c) =
    dec (fun s => (k0_pay206 x0 x1 x2 x3 x4 x5 x6 x7 x8 x9 x10 x11 x12 x13) (ix2 (row b s) c)) (fun s => x3 (ix2 (row b s) ⟨c.val, by omega⟩) + x11 (ix2 0 ⟨c.val, by omega⟩)) (x8 (ix2 (row b t) c)) := by
  simp only [← gc_at x0 x1 x2 x3 x4 x5 x6 x7 x8 x9 x10 x11 x12 x13, ← m_at x0 x1 x2 x3 x4 x5 x6 x7 x8 x9 x10 x11 x12 x13]
  exact dec_row _ (same_at x0 x1 x2 x3 x4 x5 x6 x7 x8 x9 x10 x11 x12 x13) _ _ _ b t c

/-- What the body leaves in the block of the new stabilisers. -/
theorem m_block (b : Fin 16) (t : Fin 8) (c : Fin 128) : out0_17 x0 x1 x2 x3 x4 x5 x6 x7 x8 x9 x10 x11 x12 x13 (ix2 (row b t) c) =
    mnew (fun s => (k0_pay206 x0 x1 x2 x3 x4 x5 x6 x7 x8 x9 x10 x11 x12 x13) (ix2 (row b s) c)) (fun s => x3 (ix2 (row b s) ⟨c.val, by omega⟩) + x11 (ix2 0 ⟨c.val, by omega⟩)) (x8 (ix2 (row b t) c)) := by
  simp only [← gc_at x0 x1 x2 x3 x4 x5 x6 x7 x8 x9 x10 x11 x12 x13, ← m_at x0 x1 x2 x3 x4 x5 x6 x7 x8 x9 x10 x11 x12 x13]
  unfold out0_17
  rw [View.canon_unit_zero (by decide)]
  exact mnew_row _ (same_at x0 x1 x2 x3 x4 x5 x6 x7 x8 x9 x10 x11 x12 x13) _ _ _ b t c

theorem row_load (j : Fin 4) (o : ℕ) (ho : o = j.val) (inb : ∀ a, (![o, 0] : Fin 2 → ℕ) a + S1x2048.size a ≤ S4x2048.size a) (c : Fin 2048) :
    View.ld (Val := Elt Ideal) (e' := .f32) x9 (Rect.unit (s := S4x2048) ![o, 0] S1x2048.size inb) (ix2 0 c) = x9 (ix2 j c) :=
  View.ld_unit_apply_of (Val := Elt Ideal) (e := .f32) x9 ![o, 0] S1x2048.size inb (ix2 0 c) (ix2 j c) fun a => by
    match a with
    | ⟨0, _⟩ => show j.val = o + 0; omega
    | ⟨1, _⟩ => show c.val = 0 + c.val; omega

/-- The gated convolution's column, at a token. -/
theorem qk_at (b : Fin 16) (t : Fin 8) (c : Fin 2048) : (k0_pay201 x0 x1 x2 x3 x4 x5 x6 x7 x8 x9 x10 x11 x12 x13) (ix2 (row b t) c) =
    silu (conv (x10 (ix2 0 c)) (x9 (ix2 0 c)) (x9 (ix2 1 c)) (x9 (ix2 2 c)) (x9 (ix2 3 c)) (fun s => x0 (ix2 (row b s) c))
      (fun s => x5 (ix2 (row b s) c)) t) := by
  unfold k0_pay201
  rw [View.ld_unit_zero (by decide), View.ld_unit_zero (by decide), View.ld_unit_zero (by decide)]
  refine (conv_row x0 x5 x10 _ _ _ _ b t c).trans ?_
  rw [row_load x9 0 0 rfl, row_load x9 1 1 rfl, row_load x9 2 2 rfl, row_load x9 3 3 rfl]

/-- The block of the result, at row `r` and column `j`. -/
def outBlk (i : S128x1024.Idx) : EReal :=
  have h0 : (i 0).val < 128 := (i 0).isLt
  have h1 : (i 1).val < 1024 := (i 1).isLt
  outAt (k0_pay205 x0 x1 x2 x3 x4 x5 x6 x7 x8 x9 x10 x11 x12 x13) (k0_pay207 x0 x1 x2 x3 x4 x5 x6 x7 x8 x9 x10 x11 x12 x13)
    (k0_pay206 x0 x1 x2 x3 x4 x5 x6 x7 x8 x9 x10 x11 x12 x13) (k0_pay209 x0 x1 x2 x3 x4 x5 x6 x7 x8 x9 x10 x11 x12 x13)
    (k0_pay201 x0 x1 x2 x3 x4 x5 x6 x7 x8 x9 x10 x11 x12 x13) x1 x2 x6 x7 x13 ⟨(i 1).val / 128, by omega⟩ ⟨(i 0).val / 8, by omega⟩ ⟨(i 0).val % 8, by omega⟩
    ⟨(i 1).val % 128, by omega⟩

theorem outBlk_at (i : S128x1024.Idx) (h : Fin 8) (b : Fin 16) (t : Fin 8) (j : Fin 128) (h0 : (i 0).val = b.val * 8 + t.val)
    (h1 : (i 1).val = h.val * 128 + j.val) : outBlk x0 x1 x2 x3 x4 x5 x6 x7 x8 x9 x10 x11 x12 x13 i =
  outAt (k0_pay205 x0 x1 x2 x3 x4 x5 x6 x7 x8 x9 x10 x11 x12 x13) (k0_pay207 x0 x1 x2 x3 x4 x5 x6 x7 x8 x9 x10 x11 x12 x13)
    (k0_pay206 x0 x1 x2 x3 x4 x5 x6 x7 x8 x9 x10 x11 x12 x13) (k0_pay209 x0 x1 x2 x3 x4 x5 x6 x7 x8 x9 x10 x11 x12 x13)
    (k0_pay201 x0 x1 x2 x3 x4 x5 x6 x7 x8 x9 x10 x11 x12 x13) x1 x2 x6 x7 x13 h b t j := by
  have hh : (⟨(i 1).val / 128, by have := (i 1).isLt; rw [h1]; omega⟩ : Fin 8) = h := Fin.ext (by show (i 1).val / 128 = h.val; omega)
  have hb : (⟨(i 0).val / 8, by rw [h0]; omega⟩ : Fin 16) = b := Fin.ext (by show (i 0).val / 8 = b.val; omega)
  have ht : (⟨(i 0).val % 8, by omega⟩ : Fin 8) = t := Fin.ext (by show (i 0).val % 8 = t.val; omega)
  have hj : (⟨(i 1).val % 128, by omega⟩ : Fin 128) = j := Fin.ext (by show (i 1).val % 128 = j.val; omega)
  unfold outBlk
  simp only [hh, hb, ht, hj]

/-- What the body leaves in the result's block. -/
theorem out_block (b : Fin 16) (t : Fin 8) (h : Fin 8) (j : Fin 128) : out0_14 x0 x1 x2 x3 x4 x5 x6 x7 x8 x9 x10 x11 x12 x13 (ix2 (row b t) (vcol h j)) =
  outAt (k0_pay205 x0 x1 x2 x3 x4 x5 x6 x7 x8 x9 x10 x11 x12 x13) (k0_pay207 x0 x1 x2 x3 x4 x5 x6 x7 x8 x9 x10 x11 x12 x13)
    (k0_pay206 x0 x1 x2 x3 x4 x5 x6 x7 x8 x9 x10 x11 x12 x13) (k0_pay209 x0 x1 x2 x3 x4 x5 x6 x7 x8 x9 x10 x11 x12 x13)
    (k0_pay201 x0 x1 x2 x3 x4 x5 x6 x7 x8 x9 x10 x11 x12 x13) x1 x2 x6 x7 x13 h b t j := by
  rw [← outBlk_at x0 x1 x2 x3 x4 x5 x6 x7 x8 x9 x10 x11 x12 x13 (ix2 (row b t) (vcol h j)) h b t j rfl rfl]
  unfold out0_14
  refine View.canon_apply_of_pieces (Val := Elt Ideal) (outBlk x0 x1 x2 x3 x4 x5 x6 x7 x8 x9 x10 x11 x12 x13) _ ?_ _ (cover0_14 _ _ _ _ _ _ _ _ _)
  intro p hp x
  simp only [List.mem_cons, List.not_mem_nil, or_false] at hp
  rcases hp with rfl | rfl | rfl | rfl | rfl | rfl | rfl | rfl
  · obtain ⟨b, t, j, rfl⟩ := exists_ix2 x
    refine ((congrFun (out_7 (k0_pay201 x0 x1 x2 x3 x4 x5 x6 x7 x8 x9 x10 x11 x12 x13) (k0_pay200 x0 x1 x2 x3 x4 x5 x6 x7 x8 x9 x10 x11 x12 x13) (k0_pay205 x0 x1 x2 x3 x4 x5 x6 x7 x8 x9 x10 x11 x12 x13) (k0_pay207 x0 x1 x2 x3 x4 x5 x6 x7 x8 x9 x10 x11 x12 x13) (k0_pay206 x0 x1 x2 x3 x4 x5 x6 x7 x8 x9 x10 x11 x12 x13) (k0_pay209 x0 x1 x2 x3 x4 x5 x6 x7 x8 x9 x10 x11 x12 x13) (View.ld x1 r0_33) (View.ld x6 r0_34) (View.ld x7 r0_35) (View.ld x2 r0_33) (View.ld x13 r0_14)) _).trans
      (head_out _ _ _ _ _ _ x1 x2 x6 x7 x13 7 7 896 1920 rfl rfl rfl _ _ _ _ (View.ld x1 r0_33) (View.ld x2 r0_33) (View.ld x6 r0_34) (View.ld x7 r0_35) (View.ld x13 r0_14)
        (v_load 7 896 rfl _ x1) (v_load 7 896 rfl _ x2) (c_load x6 7 7 rfl _) (n_load x7 7 7 rfl _) (w_load x13 _) (mask_at x0 x1 x2 x3 x4 x5 x6 x7 x8 x9 x10 x11 x12 x13) b t j)).trans
      (outBlk_at x0 x1 x2 x3 x4 x5 x6 x7 x8 x9 x10 x11 x12 x13 (r0_33.idx (ix2 (row b t) j)) 7 b t j ((Rect.idx_unit_val _ _ _ _ _).trans (Nat.zero_add _)) (Rect.idx_unit_val _ _ _ _ _)).symm
  · obtain ⟨b, t, j, rfl⟩ := exists_ix2 x
    refine ((congrFun (out_6 (k0_pay201 x0 x1 x2 x3 x4 x5 x6 x7 x8 x9 x10 x11 x12 x13) (k0_pay200 x0 x1 x2 x3 x4 x5 x6 x7 x8 x9 x10 x11 x12 x13) (k0_pay205 x0 x1 x2 x3 x4 x5 x6 x7 x8 x9 x10 x11 x12 x13) (k0_pay207 x0 x1 x2 x3 x4 x5 x6 x7 x8 x9 x10 x11 x12 x13) (k0_pay206 x0 x1 x2 x3 x4 x5 x6 x7 x8 x9 x10 x11 x12 x13) (k0_pay209 x0 x1 x2 x3 x4 x5 x6 x7 x8 x9 x10 x11 x12 x13) (View.ld x1 r0_30) (View.ld x6 r0_31) (View.ld x7 r0_32) (View.ld x2 r0_30) (View.ld x13 r0_14)) _).trans
      (head_out _ _ _ _ _ _ x1 x2 x6 x7 x13 6 6 768 1792 rfl rfl rfl _ _ _ _ (View.ld x1 r0_30) (View.ld x2 r0_30) (View.ld x6 r0_31) (View.ld x7 r0_32) (View.ld x13 r0_14)
        (v_load 6 768 rfl _ x1) (v_load 6 768 rfl _ x2) (c_load x6 6 6 rfl _) (n_load x7 6 6 rfl _) (w_load x13 _) (mask_at x0 x1 x2 x3 x4 x5 x6 x7 x8 x9 x10 x11 x12 x13) b t j)).trans
      (outBlk_at x0 x1 x2 x3 x4 x5 x6 x7 x8 x9 x10 x11 x12 x13 (r0_30.idx (ix2 (row b t) j)) 6 b t j ((Rect.idx_unit_val _ _ _ _ _).trans (Nat.zero_add _)) (Rect.idx_unit_val _ _ _ _ _)).symm
  · obtain ⟨b, t, j, rfl⟩ := exists_ix2 x
    refine ((congrFun (out_5 (k0_pay201 x0 x1 x2 x3 x4 x5 x6 x7 x8 x9 x10 x11 x12 x13) (k0_pay200 x0 x1 x2 x3 x4 x5 x6 x7 x8 x9 x10 x11 x12 x13) (k0_pay205 x0 x1 x2 x3 x4 x5 x6 x7 x8 x9 x10 x11 x12 x13) (k0_pay207 x0 x1 x2 x3 x4 x5 x6 x7 x8 x9 x10 x11 x12 x13) (k0_pay206 x0 x1 x2 x3 x4 x5 x6 x7 x8 x9 x10 x11 x12 x13) (k0_pay209 x0 x1 x2 x3 x4 x5 x6 x7 x8 x9 x10 x11 x12 x13) (View.ld x1 r0_27) (View.ld x6 r0_28) (View.ld x7 r0_29) (View.ld x2 r0_27) (View.ld x13 r0_14)) _).trans
      (head_out _ _ _ _ _ _ x1 x2 x6 x7 x13 5 5 640 1664 rfl rfl rfl _ _ _ _ (View.ld x1 r0_27) (View.ld x2 r0_27) (View.ld x6 r0_28) (View.ld x7 r0_29) (View.ld x13 r0_14)
        (v_load 5 640 rfl _ x1) (v_load 5 640 rfl _ x2) (c_load x6 5 5 rfl _) (n_load x7 5 5 rfl _) (w_load x13 _) (mask_at x0 x1 x2 x3 x4 x5 x6 x7 x8 x9 x10 x11 x12 x13) b t j)).trans
      (outBlk_at x0 x1 x2 x3 x4 x5 x6 x7 x8 x9 x10 x11 x12 x13 (r0_27.idx (ix2 (row b t) j)) 5 b t j ((Rect.idx_unit_val _ _ _ _ _).trans (Nat.zero_add _)) (Rect.idx_unit_val _ _ _ _ _)).symm
  · obtain ⟨b, t, j, rfl⟩ := exists_ix2 x
    refine ((congrFun (out_4 (k0_pay201 x0 x1 x2 x3 x4 x5 x6 x7 x8 x9 x10 x11 x12 x13) (k0_pay200 x0 x1 x2 x3 x4 x5 x6 x7 x8 x9 x10 x11 x12 x13) (k0_pay205 x0 x1 x2 x3 x4 x5 x6 x7 x8 x9 x10 x11 x12 x13) (k0_pay207 x0 x1 x2 x3 x4 x5 x6 x7 x8 x9 x10 x11 x12 x13) (k0_pay206 x0 x1 x2 x3 x4 x5 x6 x7 x8 x9 x10 x11 x12 x13) (k0_pay209 x0 x1 x2 x3 x4 x5 x6 x7 x8 x9 x10 x11 x12 x13) (View.ld x1 r0_24) (View.ld x6 r0_25) (View.ld x7 r0_26) (View.ld x2 r0_24) (View.ld x13 r0_14)) _).trans
      (head_out _ _ _ _ _ _ x1 x2 x6 x7 x13 4 4 512 1536 rfl rfl rfl _ _ _ _ (View.ld x1 r0_24) (View.ld x2 r0_24) (View.ld x6 r0_25) (View.ld x7 r0_26) (View.ld x13 r0_14)
        (v_load 4 512 rfl _ x1) (v_load 4 512 rfl _ x2) (c_load x6 4 4 rfl _) (n_load x7 4 4 rfl _) (w_load x13 _) (mask_at x0 x1 x2 x3 x4 x5 x6 x7 x8 x9 x10 x11 x12 x13) b t j)).trans
      (outBlk_at x0 x1 x2 x3 x4 x5 x6 x7 x8 x9 x10 x11 x12 x13 (r0_24.idx (ix2 (row b t) j)) 4 b t j ((Rect.idx_unit_val _ _ _ _ _).trans (Nat.zero_add _)) (Rect.idx_unit_val _ _ _ _ _)).symm
  · obtain ⟨b, t, j, rfl⟩ := exists_ix2 x
    refine ((congrFun (out_3 (k0_pay201 x0 x1 x2 x3 x4 x5 x6 x7 x8 x9 x10 x11 x12 x13) (k0_pay200 x0 x1 x2 x3 x4 x5 x6 x7 x8 x9 x10 x11 x12 x13) (k0_pay205 x0 x1 x2 x3 x4 x5 x6 x7 x8 x9 x10 x11 x12 x13) (k0_pay207 x0 x1 x2 x3 x4 x5 x6 x7 x8 x9 x10 x11 x12 x13) (k0_pay206 x0 x1 x2 x3 x4 x5 x6 x7 x8 x9 x10 x11 x12 x13) (k0_pay209 x0 x1 x2 x3 x4 x5 x6 x7 x8 x9 x10 x11 x12 x13) (View.ld x1 r0_21) (View.ld x6 r0_22) (View.ld x7 r0_23) (View.ld x2 r0_21) (View.ld x13 r0_14)) _).trans
      (head_out _ _ _ _ _ _ x1 x2 x6 x7 x13 3 3 384 1408 rfl rfl rfl _ _ _ _ (View.ld x1 r0_21) (View.ld x2 r0_21) (View.ld x6 r0_22) (View.ld x7 r0_23) (View.ld x13 r0_14)
        (v_load 3 384 rfl _ x1) (v_load 3 384 rfl _ x2) (c_load x6 3 3 rfl _) (n_load x7 3 3 rfl _) (w_load x13 _) (mask_at x0 x1 x2 x3 x4 x5 x6 x7 x8 x9 x10 x11 x12 x13) b t j)).trans
      (outBlk_at x0 x1 x2 x3 x4 x5 x6 x7 x8 x9 x10 x11 x12 x13 (r0_21.idx (ix2 (row b t) j)) 3 b t j ((Rect.idx_unit_val _ _ _ _ _).trans (Nat.zero_add _)) (Rect.idx_unit_val _ _ _ _ _)).symm
  · obtain ⟨b, t, j, rfl⟩ := exists_ix2 x
    refine ((congrFun (out_2 (k0_pay201 x0 x1 x2 x3 x4 x5 x6 x7 x8 x9 x10 x11 x12 x13) (k0_pay200 x0 x1 x2 x3 x4 x5 x6 x7 x8 x9 x10 x11 x12 x13) (k0_pay205 x0 x1 x2 x3 x4 x5 x6 x7 x8 x9 x10 x11 x12 x13) (k0_pay207 x0 x1 x2 x3 x4 x5 x6 x7 x8 x9 x10 x11 x12 x13) (k0_pay206 x0 x1 x2 x3 x4 x5 x6 x7 x8 x9 x10 x11 x12 x13) (k0_pay209 x0 x1 x2 x3 x4 x5 x6 x7 x8 x9 x10 x11 x12 x13) (View.ld x1 r0_18) (View.ld x6 r0_19) (View.ld x7 r0_20) (View.ld x2 r0_18) (View.ld x13 r0_14)) _).trans
      (head_out _ _ _ _ _ _ x1 x2 x6 x7 x13 2 2 256 1280 rfl rfl rfl _ _ _ _ (View.ld x1 r0_18) (View.ld x2 r0_18) (View.ld x6 r0_19) (View.ld x7 r0_20) (View.ld x13 r0_14)
        (v_load 2 256 rfl _ x1) (v_load 2 256 rfl _ x2) (c_load x6 2 2 rfl _) (n_load x7 2 2 rfl _) (w_load x13 _) (mask_at x0 x1 x2 x3 x4 x5 x6 x7 x8 x9 x10 x11 x12 x13) b t j)).trans
      (outBlk_at x0 x1 x2 x3 x4 x5 x6 x7 x8 x9 x10 x11 x12 x13 (r0_18.idx (ix2 (row b t) j)) 2 b t j ((Rect.idx_unit_val _ _ _ _ _).trans (Nat.zero_add _)) (Rect.idx_unit_val _ _ _ _ _)).symm
  · obtain ⟨b, t, j, rfl⟩ := exists_ix2 x
    refine ((congrFun (out_1 (k0_pay201 x0 x1 x2 x3 x4 x5 x6 x7 x8 x9 x10 x11 x12 x13) (k0_pay200 x0 x1 x2 x3 x4 x5 x6 x7 x8 x9 x10 x11 x12 x13) (k0_pay205 x0 x1 x2 x3 x4 x5 x6 x7 x8 x9 x10 x11 x12 x13) (k0_pay207 x0 x1 x2 x3 x4 x5 x6 x7 x8 x9 x10 x11 x12 x13) (k0_pay206 x0 x1 x2 x3 x4 x5 x6 x7 x8 x9 x10 x11 x12 x13) (k0_pay209 x0 x1 x2 x3 x4 x5 x6 x7 x8 x9 x10 x11 x12 x13) (View.ld x1 r0_15) (View.ld x6 r0_16) (View.ld x7 r0_17) (View.ld x2 r0_15) (View.ld x13 r0_14)) _).trans
      (head_out _ _ _ _ _ _ x1 x2 x6 x7 x13 1 1 128 1152 rfl rfl rfl _ _ _ _ (View.ld x1 r0_15) (View.ld x2 r0_15) (View.ld x6 r0_16) (View.ld x7 r0_17) (View.ld x13 r0_14)
        (v_load 1 128 rfl _ x1) (v_load 1 128 rfl _ x2) (c_load x6 1 1 rfl _) (n_load x7 1 1 rfl _) (w_load x13 _) (mask_at x0 x1 x2 x3 x4 x5 x6 x7 x8 x9 x10 x11 x12 x13) b t j)).trans
      (outBlk_at x0 x1 x2 x3 x4 x5 x6 x7 x8 x9 x10 x11 x12 x13 (r0_15.idx (ix2 (row b t) j)) 1 b t j ((Rect.idx_unit_val _ _ _ _ _).trans (Nat.zero_add _)) (Rect.idx_unit_val _ _ _ _ _)).symm
  · obtain ⟨b, t, j, rfl⟩ := exists_ix2 x
    refine ((congrFun (out_0 (k0_pay201 x0 x1 x2 x3 x4 x5 x6 x7 x8 x9 x10 x11 x12 x13) (k0_pay200 x0 x1 x2 x3 x4 x5 x6 x7 x8 x9 x10 x11 x12 x13) (k0_pay205 x0 x1 x2 x3 x4 x5 x6 x7 x8 x9 x10 x11 x12 x13) (k0_pay207 x0 x1 x2 x3 x4 x5 x6 x7 x8 x9 x10 x11 x12 x13) (k0_pay206 x0 x1 x2 x3 x4 x5 x6 x7 x8 x9 x10 x11 x12 x13) (k0_pay209 x0 x1 x2 x3 x4 x5 x6 x7 x8 x9 x10 x11 x12 x13) (View.ld x1 r0_11) (View.ld x6 r0_12) (View.ld x7 r0_13) (View.ld x2 r0_11) (View.ld x13 r0_14)) _).trans
      (head_out _ _ _ _ _ _ x1 x2 x6 x7 x13 0 0 0 1024 rfl rfl rfl _ _ _ _ (View.ld x1 r0_11) (View.ld x2 r0_11) (View.ld x6 r0_12) (View.ld x7 r0_13) (View.ld x13 r0_14)
        (v_load 0 0 rfl _ x1) (v_load 0 0 rfl _ x2) (c_load x6 0 0 rfl _) (n_load x7 0 0 rfl _) (w_load x13 _) (mask_at x0 x1 x2 x3 x4 x5 x6 x7 x8 x9 x10 x11 x12 x13) b t j)).trans
      (outBlk_at x0 x1 x2 x3 x4 x5 x6 x7 x8 x9 x10 x11 x12 x13 (r0_11.idx (ix2 (row b t) j)) 0 b t j ((Rect.idx_unit_val _ _ _ _ _).trans (Nat.zero_add _)) (Rect.idx_unit_val _ _ _ _ _)).symm

/-- The block of the state matrices. -/
def cBlk (i : S16x8x128x128.Idx) : EReal := cAt (k0_pay210 x0 x1 x2 x3 x4 x5 x6 x7 x8 x9 x10 x11 x12 x13) (k0_pay211 x0 x1 x2 x3 x4 x5 x6 x7 x8 x9 x10 x11 x12 x13) (k0_pay201 x0 x1 x2 x3 x4 x5 x6 x7 x8 x9 x10 x11 x12 x13) x1 x6 (i 1) (i 0) (i 2) (i 3)

theorem cBlk_at (i : S16x8x128x128.Idx) (h : Fin 8) (b : Fin 16) (j d : Fin 128) (h0 : (i 0).val = b.val) (h1 : (i 1).val = h.val)
    (h2 : (i 2).val = j.val) (h3 : (i 3).val = d.val) : cBlk x0 x1 x2 x3 x4 x5 x6 x7 x8 x9 x10 x11 x12 x13 i = cAt (k0_pay210 x0 x1 x2 x3 x4 x5 x6 x7 x8 x9 x10 x11 x12 x13) (k0_pay211 x0 x1 x2 x3 x4 x5 x6 x7 x8 x9 x10 x11 x12 x13) (k0_pay201 x0 x1 x2 x3 x4 x5 x6 x7 x8 x9 x10 x11 x12 x13) x1 x6 h b j d := by
  have e0 : i 0 = b := Fin.ext h0
  have e1 : i 1 = h := Fin.ext h1
  have e2 : i 2 = j := Fin.ext h2
  have e3 : i 3 = d := Fin.ext h3
  unfold cBlk
  rw [e0, e1, e2, e3]

/-- What the body leaves in the state matrices' block. -/
theorem c_block (b : Fin 16) (h : Fin 8) (j d : Fin 128) : out0_15 x0 x1 x2 x3 x4 x5 x6 x7 x8 x9 x10 x11 x12 x13 (ix4 b h j d) = cAt (k0_pay210 x0 x1 x2 x3 x4 x5 x6 x7 x8 x9 x10 x11 x12 x13) (k0_pay211 x0 x1 x2 x3 x4 x5 x6 x7 x8 x9 x10 x11 x12 x13) (k0_pay201 x0 x1 x2 x3 x4 x5 x6 x7 x8 x9 x10 x11 x12 x13) x1 x6 h b j d := by
  rw [← cBlk_at x0 x1 x2 x3 x4 x5 x6 x7 x8 x9 x10 x11 x12 x13 (ix4 b h j d) h b j d rfl rfl rfl rfl]
  unfold out0_15
  refine View.canon_apply_of_pieces (Val := Elt Ideal) (cBlk x0 x1 x2 x3 x4 x5 x6 x7 x8 x9 x10 x11 x12 x13) _ ?_ _ (cover0_15 _ _ _ _ _ _ _ _ _)
  intro p hp x
  simp only [List.mem_cons, List.not_mem_nil, or_false] at hp
  rcases hp with rfl | rfl | rfl | rfl | rfl | rfl | rfl | rfl
  · obtain ⟨b, j, d, rfl⟩ := exists_ix4 x
    refine ((congrFun (c_7 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (k0_pay212 x0 x1 x2 x3 x4 x5 x6 x7 x8 x9 x10 x11 x12 x13) (View.ld x1 r0_33) (View.ld x6 r0_34)) _).trans
      (head_c _ _ _ _ x1 x6 7 7 1920 rfl rfl _ _ (View.ld x1 r0_33) (View.ld x6 r0_34) (v_load 7 896 rfl _ x1) (c_load x6 7 7 rfl _) (diag_at x0 x1 x2 x3 x4 x5 x6 x7 x8 x9 x10 x11 x12 x13) b j d)).trans
      (cBlk_at x0 x1 x2 x3 x4 x5 x6 x7 x8 x9 x10 x11 x12 x13 (r0_34.idx (ix4 b 0 j d)) 7 b j d ((Rect.idx_unit_val _ _ _ _ _).trans (Nat.zero_add _)) (Rect.idx_unit_val _ _ _ _ _)
        ((Rect.idx_unit_val _ _ _ _ _).trans (Nat.zero_add _)) ((Rect.idx_unit_val _ _ _ _ _).trans (Nat.zero_add _))).symm
  · obtain ⟨b, j, d, rfl⟩ := exists_ix4 x
    refine ((congrFun (c_6 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (k0_pay212 x0 x1 x2 x3 x4 x5 x6 x7 x8 x9 x10 x11 x12 x13) (View.ld x1 r0_30) (View.ld x6 r0_31)) _).trans
      (head_c _ _ _ _ x1 x6 6 6 1792 rfl rfl _ _ (View.ld x1 r0_30) (View.ld x6 r0_31) (v_load 6 768 rfl _ x1) (c_load x6 6 6 rfl _) (diag_at x0 x1 x2 x3 x4 x5 x6 x7 x8 x9 x10 x11 x12 x13) b j d)).trans
      (cBlk_at x0 x1 x2 x3 x4 x5 x6 x7 x8 x9 x10 x11 x12 x13 (r0_31.idx (ix4 b 0 j d)) 6 b j d ((Rect.idx_unit_val _ _ _ _ _).trans (Nat.zero_add _)) (Rect.idx_unit_val _ _ _ _ _)
        ((Rect.idx_unit_val _ _ _ _ _).trans (Nat.zero_add _)) ((Rect.idx_unit_val _ _ _ _ _).trans (Nat.zero_add _))).symm
  · obtain ⟨b, j, d, rfl⟩ := exists_ix4 x
    refine ((congrFun (c_5 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (k0_pay212 x0 x1 x2 x3 x4 x5 x6 x7 x8 x9 x10 x11 x12 x13) (View.ld x1 r0_27) (View.ld x6 r0_28)) _).trans
      (head_c _ _ _ _ x1 x6 5 5 1664 rfl rfl _ _ (View.ld x1 r0_27) (View.ld x6 r0_28) (v_load 5 640 rfl _ x1) (c_load x6 5 5 rfl _) (diag_at x0 x1 x2 x3 x4 x5 x6 x7 x8 x9 x10 x11 x12 x13) b j d)).trans
      (cBlk_at x0 x1 x2 x3 x4 x5 x6 x7 x8 x9 x10 x11 x12 x13 (r0_28.idx (ix4 b 0 j d)) 5 b j d ((Rect.idx_unit_val _ _ _ _ _).trans (Nat.zero_add _)) (Rect.idx_unit_val _ _ _ _ _)
        ((Rect.idx_unit_val _ _ _ _ _).trans (Nat.zero_add _)) ((Rect.idx_unit_val _ _ _ _ _).trans (Nat.zero_add _))).symm
  · obtain ⟨b, j, d, rfl⟩ := exists_ix4 x
    refine ((congrFun (c_4 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (k0_pay212 x0 x1 x2 x3 x4 x5 x6 x7 x8 x9 x10 x11 x12 x13) (View.ld x1 r0_24) (View.ld x6 r0_25)) _).trans
      (head_c _ _ _ _ x1 x6 4 4 1536 rfl rfl _ _ (View.ld x1 r0_24) (View.ld x6 r0_25) (v_load 4 512 rfl _ x1) (c_load x6 4 4 rfl _) (diag_at x0 x1 x2 x3 x4 x5 x6 x7 x8 x9 x10 x11 x12 x13) b j d)).trans
      (cBlk_at x0 x1 x2 x3 x4 x5 x6 x7 x8 x9 x10 x11 x12 x13 (r0_25.idx (ix4 b 0 j d)) 4 b j d ((Rect.idx_unit_val _ _ _ _ _).trans (Nat.zero_add _)) (Rect.idx_unit_val _ _ _ _ _)
        ((Rect.idx_unit_val _ _ _ _ _).trans (Nat.zero_add _)) ((Rect.idx_unit_val _ _ _ _ _).trans (Nat.zero_add _))).symm
  · obtain ⟨b, j, d, rfl⟩ := exists_ix4 x
    refine ((congrFun (c_3 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (k0_pay212 x0 x1 x2 x3 x4 x5 x6 x7 x8 x9 x10 x11 x12 x13) (View.ld x1 r0_21) (View.ld x6 r0_22)) _).trans
      (head_c _ _ _ _ x1 x6 3 3 1408 rfl rfl _ _ (View.ld x1 r0_21) (View.ld x6 r0_22) (v_load 3 384 rfl _ x1) (c_load x6 3 3 rfl _) (diag_at x0 x1 x2 x3 x4 x5 x6 x7 x8 x9 x10 x11 x12 x13) b j d)).trans
      (cBlk_at x0 x1 x2 x3 x4 x5 x6 x7 x8 x9 x10 x11 x12 x13 (r0_22.idx (ix4 b 0 j d)) 3 b j d ((Rect.idx_unit_val _ _ _ _ _).trans (Nat.zero_add _)) (Rect.idx_unit_val _ _ _ _ _)
        ((Rect.idx_unit_val _ _ _ _ _).trans (Nat.zero_add _)) ((Rect.idx_unit_val _ _ _ _ _).trans (Nat.zero_add _))).symm
  · obtain ⟨b, j, d, rfl⟩ := exists_ix4 x
    refine ((congrFun (c_2 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (k0_pay212 x0 x1 x2 x3 x4 x5 x6 x7 x8 x9 x10 x11 x12 x13) (View.ld x1 r0_18) (View.ld x6 r0_19)) _).trans
      (head_c _ _ _ _ x1 x6 2 2 1280 rfl rfl _ _ (View.ld x1 r0_18) (View.ld x6 r0_19) (v_load 2 256 rfl _ x1) (c_load x6 2 2 rfl _) (diag_at x0 x1 x2 x3 x4 x5 x6 x7 x8 x9 x10 x11 x12 x13) b j d)).trans
      (cBlk_at x0 x1 x2 x3 x4 x5 x6 x7 x8 x9 x10 x11 x12 x13 (r0_19.idx (ix4 b 0 j d)) 2 b j d ((Rect.idx_unit_val _ _ _ _ _).trans (Nat.zero_add _)) (Rect.idx_unit_val _ _ _ _ _)
        ((Rect.idx_unit_val _ _ _ _ _).trans (Nat.zero_add _)) ((Rect.idx_unit_val _ _ _ _ _).trans (Nat.zero_add _))).symm
  · obtain ⟨b, j, d, rfl⟩ := exists_ix4 x
    refine ((congrFun (c_1 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (k0_pay212 x0 x1 x2 x3 x4 x5 x6 x7 x8 x9 x10 x11 x12 x13) (View.ld x1 r0_15) (View.ld x6 r0_16)) _).trans
      (head_c _ _ _ _ x1 x6 1 1 1152 rfl rfl _ _ (View.ld x1 r0_15) (View.ld x6 r0_16) (v_load 1 128 rfl _ x1) (c_load x6 1 1 rfl _) (diag_at x0 x1 x2 x3 x4 x5 x6 x7 x8 x9 x10 x11 x12 x13) b j d)).trans
      (cBlk_at x0 x1 x2 x3 x4 x5 x6 x7 x8 x9 x10 x11 x12 x13 (r0_16.idx (ix4 b 0 j d)) 1 b j d ((Rect.idx_unit_val _ _ _ _ _).trans (Nat.zero_add _)) (Rect.idx_unit_val _ _ _ _ _)
        ((Rect.idx_unit_val _ _ _ _ _).trans (Nat.zero_add _)) ((Rect.idx_unit_val _ _ _ _ _).trans (Nat.zero_add _))).symm
  · obtain ⟨b, j, d, rfl⟩ := exists_ix4 x
    refine ((congrFun (c_0 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (k0_pay212 x0 x1 x2 x3 x4 x5 x6 x7 x8 x9 x10 x11 x12 x13) (View.ld x1 r0_11) (View.ld x6 r0_12)) _).trans
      (head_c _ _ _ _ x1 x6 0 0 1024 rfl rfl _ _ (View.ld x1 r0_11) (View.ld x6 r0_12) (v_load 0 0 rfl _ x1) (c_load x6 0 0 rfl _) (diag_at x0 x1 x2 x3 x4 x5 x6 x7 x8 x9 x10 x11 x12 x13) b j d)).trans
      (cBlk_at x0 x1 x2 x3 x4 x5 x6 x7 x8 x9 x10 x11 x12 x13 (r0_12.idx (ix4 b 0 j d)) 0 b j d ((Rect.idx_unit_val _ _ _ _ _).trans (Nat.zero_add _)) (Rect.idx_unit_val _ _ _ _ _)
        ((Rect.idx_unit_val _ _ _ _ _).trans (Nat.zero_add _)) ((Rect.idx_unit_val _ _ _ _ _).trans (Nat.zero_add _))).symm

/-- The block of the state vectors. -/
def nBlk (i : S16x8x128.Idx) : EReal := nAt (k0_pay210 x0 x1 x2 x3 x4 x5 x6 x7 x8 x9 x10 x11 x12 x13) (k0_pay211 x0 x1 x2 x3 x4 x5 x6 x7 x8 x9 x10 x11 x12 x13) (k0_pay201 x0 x1 x2 x3 x4 x5 x6 x7 x8 x9 x10 x11 x12 x13) x7 (i 1) (i 0) (i 2)

theorem nBlk_at (i : S16x8x128.Idx) (h : Fin 8) (b : Fin 16) (d : Fin 128) (h0 : (i 0).val = b.val) (h1 : (i 1).val = h.val)
    (h2 : (i 2).val = d.val) : nBlk x0 x1 x2 x3 x4 x5 x6 x7 x8 x9 x10 x11 x12 x13 i = nAt (k0_pay210 x0 x1 x2 x3 x4 x5 x6 x7 x8 x9 x10 x11 x12 x13) (k0_pay211 x0 x1 x2 x3 x4 x5 x6 x7 x8 x9 x10 x11 x12 x13) (k0_pay201 x0 x1 x2 x3 x4 x5 x6 x7 x8 x9 x10 x11 x12 x13) x7 h b d := by
  have e0 : i 0 = b := Fin.ext h0
  have e1 : i 1 = h := Fin.ext h1
  have e2 : i 2 = d := Fin.ext h2
  unfold nBlk
  rw [e0, e1, e2]

/-- What the body leaves in the state vectors' block. -/
theorem n_block (b : Fin 16) (h : Fin 8) (d : Fin 128) : out0_16 x0 x1 x2 x3 x4 x5 x6 x7 x8 x9 x10 x11 x12 x13 (ix3 b h d) = nAt (k0_pay210 x0 x1 x2 x3 x4 x5 x6 x7 x8 x9 x10 x11 x12 x13) (k0_pay211 x0 x1 x2 x3 x4 x5 x6 x7 x8 x9 x10 x11 x12 x13) (k0_pay201 x0 x1 x2 x3 x4 x5 x6 x7 x8 x9 x10 x11 x12 x13) x7 h b d := by
  rw [← nBlk_at x0 x1 x2 x3 x4 x5 x6 x7 x8 x9 x10 x11 x12 x13 (ix3 b h d) h b d rfl rfl rfl]
  unfold out0_16
  refine View.canon_apply_of_pieces (Val := Elt Ideal) (nBlk x0 x1 x2 x3 x4 x5 x6 x7 x8 x9 x10 x11 x12 x13) _ ?_ _ (cover0_16 _ _ _ _ _ _ _ _ _)
  intro p hp x
  simp only [List.mem_cons, List.not_mem_nil, or_false] at hp
  rcases hp with rfl | rfl | rfl | rfl | rfl | rfl | rfl | rfl
  · obtain ⟨b, d, rfl⟩ := exists_ix3 x
    refine ((congrFun (n_7 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (View.ld x7 r0_35)) _).trans
      (head_n _ _ _ x7 7 7 1920 rfl rfl _ _ (View.ld x7 r0_35) (n_load x7 7 7 rfl _) b d)).trans
      (nBlk_at x0 x1 x2 x3 x4 x5 x6 x7 x8 x9 x10 x11 x12 x13 (r0_35.idx (ix3 b 0 d)) 7 b d ((Rect.idx_unit_val _ _ _ _ _).trans (Nat.zero_add _)) (Rect.idx_unit_val _ _ _ _ _)
        ((Rect.idx_unit_val _ _ _ _ _).trans (Nat.zero_add _))).symm
  · obtain ⟨b, d, rfl⟩ := exists_ix3 x
    refine ((congrFun (n_6 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (View.ld x7 r0_32)) _).trans
      (head_n _ _ _ x7 6 6 1792 rfl rfl _ _ (View.ld x7 r0_32) (n_load x7 6 6 rfl _) b d)).trans
      (nBlk_at x0 x1 x2 x3 x4 x5 x6 x7 x8 x9 x10 x11 x12 x13 (r0_32.idx (ix3 b 0 d)) 6 b d ((Rect.idx_unit_val _ _ _ _ _).trans (Nat.zero_add _)) (Rect.idx_unit_val _ _ _ _ _)
        ((Rect.idx_unit_val _ _ _ _ _).trans (Nat.zero_add _))).symm
  · obtain ⟨b, d, rfl⟩ := exists_ix3 x
    refine ((congrFun (n_5 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (View.ld x7 r0_29)) _).trans
      (head_n _ _ _ x7 5 5 1664 rfl rfl _ _ (View.ld x7 r0_29) (n_load x7 5 5 rfl _) b d)).trans
      (nBlk_at x0 x1 x2 x3 x4 x5 x6 x7 x8 x9 x10 x11 x12 x13 (r0_29.idx (ix3 b 0 d)) 5 b d ((Rect.idx_unit_val _ _ _ _ _).trans (Nat.zero_add _)) (Rect.idx_unit_val _ _ _ _ _)
        ((Rect.idx_unit_val _ _ _ _ _).trans (Nat.zero_add _))).symm
  · obtain ⟨b, d, rfl⟩ := exists_ix3 x
    refine ((congrFun (n_4 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (View.ld x7 r0_26)) _).trans
      (head_n _ _ _ x7 4 4 1536 rfl rfl _ _ (View.ld x7 r0_26) (n_load x7 4 4 rfl _) b d)).trans
      (nBlk_at x0 x1 x2 x3 x4 x5 x6 x7 x8 x9 x10 x11 x12 x13 (r0_26.idx (ix3 b 0 d)) 4 b d ((Rect.idx_unit_val _ _ _ _ _).trans (Nat.zero_add _)) (Rect.idx_unit_val _ _ _ _ _)
        ((Rect.idx_unit_val _ _ _ _ _).trans (Nat.zero_add _))).symm
  · obtain ⟨b, d, rfl⟩ := exists_ix3 x
    refine ((congrFun (n_3 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (View.ld x7 r0_23)) _).trans
      (head_n _ _ _ x7 3 3 1408 rfl rfl _ _ (View.ld x7 r0_23) (n_load x7 3 3 rfl _) b d)).trans
      (nBlk_at x0 x1 x2 x3 x4 x5 x6 x7 x8 x9 x10 x11 x12 x13 (r0_23.idx (ix3 b 0 d)) 3 b d ((Rect.idx_unit_val _ _ _ _ _).trans (Nat.zero_add _)) (Rect.idx_unit_val _ _ _ _ _)
        ((Rect.idx_unit_val _ _ _ _ _).trans (Nat.zero_add _))).symm
  · obtain ⟨b, d, rfl⟩ := exists_ix3 x
    refine ((congrFun (n_2 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (View.ld x7 r0_20)) _).trans
      (head_n _ _ _ x7 2 2 1280 rfl rfl _ _ (View.ld x7 r0_20) (n_load x7 2 2 rfl _) b d)).trans
      (nBlk_at x0 x1 x2 x3 x4 x5 x6 x7 x8 x9 x10 x11 x12 x13 (r0_20.idx (ix3 b 0 d)) 2 b d ((Rect.idx_unit_val _ _ _ _ _).trans (Nat.zero_add _)) (Rect.idx_unit_val _ _ _ _ _)
        ((Rect.idx_unit_val _ _ _ _ _).trans (Nat.zero_add _))).symm
  · obtain ⟨b, d, rfl⟩ := exists_ix3 x
    refine ((congrFun (n_1 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (View.ld x7 r0_17)) _).trans
      (head_n _ _ _ x7 1 1 1152 rfl rfl _ _ (View.ld x7 r0_17) (n_load x7 1 1 rfl _) b d)).trans
      (nBlk_at x0 x1 x2 x3 x4 x5 x6 x7 x8 x9 x10 x11 x12 x13 (r0_17.idx (ix3 b 0 d)) 1 b d ((Rect.idx_unit_val _ _ _ _ _).trans (Nat.zero_add _)) (Rect.idx_unit_val _ _ _ _ _)
        ((Rect.idx_unit_val _ _ _ _ _).trans (Nat.zero_add _))).symm
  · obtain ⟨b, d, rfl⟩ := exists_ix3 x
    refine ((congrFun (n_0 (k0_pay201 x0 x1 x2 x3 x4 x5 x6 x7 x8 x9 x10 x11 x12 x13) (k0_pay210 x0 x1 x2 x3 x4 x5 x6 x7 x8 x9 x10 x11 x12 x13) (k0_pay211 x0 x1 x2 x3 x4 x5 x6 x7 x8 x9 x10 x11 x12 x13) (View.ld x7 r0_13)) _).trans
      (head_n _ _ _ x7 0 0 1024 rfl rfl _ _ (View.ld x7 r0_13) (n_load x7 0 0 rfl _) b d)).trans
      (nBlk_at x0 x1 x2 x3 x4 x5 x6 x7 x8 x9 x10 x11 x12 x13 (r0_13.idx (ix3 b 0 d)) 0 b d ((Rect.idx_unit_val _ _ _ _ _).trans (Nat.zero_add _)) (Rect.idx_unit_val _ _ _ _ _)
        ((Rect.idx_unit_val _ _ _ _ _).trans (Nat.zero_add _))).symm

end

end Cert.RecurBlock
-- ==== Proof.RecurSeq.lean ====
/-
  The recurrence step of every sequence and head, over the arrays that the layer holds: the functions that the kernel's result
  arrays and the reference's are both shown to be.
-/
module

public import proofs.«01_k».proof.Proof.RecurBlock

@[expose] public section

noncomputable section

namespace Cert.RecurSeq

open Idealize.ShloMosaic Cert.RecurSpec Cert.RecurBlock

/-- The arrays of the step: the projected tokens, the two gates, the carried states, the biases and the weights. -/
structure Arrays where
  z : FVec Ideal (⟨2, ![9216, 8192]⟩ : Shape) .f32
  i : FVec Ideal (⟨2, ![9216, 8]⟩ : Shape) .f32
  f : FVec Ideal (⟨2, ![9216, 8]⟩ : Shape) .f32
  C : FVec Ideal (⟨5, ![1, 128, 8, 128, 128]⟩ : Shape) .f32
  n : FVec Ideal (⟨4, ![1, 128, 8, 128]⟩ : Shape) .f32
  m : FVec Ideal (⟨3, ![1, 128, 8]⟩ : Shape) .f32
  cv : FVec Ideal (⟨4, ![1, 128, 3, 2048]⟩ : Shape) .f32
  bi : FVec Ideal (⟨2, ![1, 8]⟩ : Shape) .f32
  bf : FVec Ideal (⟨2, ![1, 8]⟩ : Shape) .f32
  cw : FVec Ideal (⟨3, ![1, 4, 2048]⟩ : Shape) .f32
  cb : FVec Ideal (⟨2, ![1, 2048]⟩ : Shape) .f32
  hw : FVec Ideal (⟨2, ![1, 128]⟩ : Shape) .f32

/-- Token `t` of sequence `g` as a row of the projected tokens: the sequences follow the prompt's 8192 rows. -/
def srow (g : Fin 128) (t : Fin 8) : Fin 9216 := ⟨8192 + (g.val * 8 + t.val), by omega⟩

variable (X : Arrays) (g : Fin 128) (h : Fin 8)

/-- The input gate of each token. -/
def ig (s : Fin 8) : EReal := X.i (ix2 (srow g s) h) + X.bi (ix2 0 h)
/-- The prefix sums of the log forget gates. -/
def b (t : Fin 8) : EReal := bt (fun s => lsig (X.f (ix2 (srow g s) h) + X.bf (ix2 0 h))) t
/-- The carried stabiliser, decayed to each token. -/
def it (t : Fin 8) : EReal := b X g h t + X.m (ix3 0 g h)
/-- The three tokens before the sequence, at the end of eight rows. -/
def hist (k : Fin 2048) (s : Fin 8) : EReal := if hs : 5 ≤ s.val then X.cv (ix4 0 g ⟨s.val - 5, by omega⟩ k) else 0
/-- The gated convolution of the first 2048 columns. -/
def qk (t : Fin 8) (k : Fin 2048) : EReal :=
  silu (conv (X.cb (ix2 0 k)) (X.cw (ix3 0 0 k)) (X.cw (ix3 0 1 k)) (X.cw (ix3 0 2 k)) (X.cw (ix3 0 3 k))
    (fun s => X.z (ix2 (srow g s) ⟨k.val, by omega⟩)) (hist X g k) t)
/-- A head's query. -/
def q (t : Fin 8) (d : Fin 128) : EReal := qk X g t (qcol h d)
/-- A head's key, scaled. -/
def k (s : Fin 8) (d : Fin 128) : EReal := qk X g s (kcol h d) * Ideal.ofBits FTy.f32 1035273459#32
/-- A head's value. -/
def v (s : Fin 8) (j : Fin 128) : EReal := X.z (ix2 (srow g s) ⟨2048 + (vcol h j).val, by have := (vcol h j).isLt; omega⟩)
/-- A head's output gate. -/
def o (s : Fin 8) (j : Fin 128) : EReal := X.z (ix2 (srow g s) ⟨3072 + (vcol h j).val, by have := (vcol h j).isLt; omega⟩)

/-- The hidden state, normalised and gated. -/
def outS (t : Fin 8) (j : Fin 128) : EReal :=
  out (hid (b X g h) (b X g h) (ig X g h) (it X g h) (q X g h) (k X g h) (v X g h) (fun j d => X.C (ix5 0 g h j d))
    (fun d => X.n (ix4 0 g h d)) t) (o X g h t) (fun j => X.hw (ix2 0 j)) j
/-- The new state matrix. -/
def cS (j d : Fin 128) : EReal :=
  cnew (dec (b X g h) (ig X g h) (X.m (ix3 0 g h))) (wst (b X g h) (ig X g h) (X.m (ix3 0 g h))) (v X g h) (k X g h)
    (fun j d => X.C (ix5 0 g h j d)) j d
/-- The new state vector. -/
def nS (d : Fin 128) : EReal :=
  nnew (dec (b X g h) (ig X g h) (X.m (ix3 0 g h))) (wst (b X g h) (ig X g h) (X.m (ix3 0 g h))) (k X g h)
    (fun d => X.n (ix4 0 g h d)) d
/-- The new stabiliser. -/
def mS : EReal := mnew (b X g h) (ig X g h) (X.m (ix3 0 g h))

end Cert.RecurSeq
-- ==== Proof.RecurRef.lean ====
/-
  The reference's gates, its decay prefix sums and its convolution, read at an index: the step's own functions.
-/
module

public import proofs.«01_k».proof.Proof.RecurSeq
public import proofs.«01_k».proof.Proof.Gen.RecurRefIdeal.Read

@[expose] public section

set_option maxRecDepth 16384

noncomputable section

namespace Cert.RecurRef

open Cert.RecurRefIdeal Cert.RecurRefIdeal.Gen Cert.RecurRefIdeal.Read Idealize.ShloMosaic Cert.RecurSpec Cert.RecurBlock Cert.RecurSeq

variable (X : Arrays) (g : Fin 128) (h t : Fin 8)

/-! ## The gates -/

theorem r_ig : val_main_v51 (F := Ideal) X.i X.bi (ix3 g t h) = ig X g h t := by
  pointwise [val_main_v46, val_main_v47, val_main_v48, val_main_v49, val_main_v50, val_main_v51]
  rfl

theorem log_one : Ideal.log 1 = ((0 : ℝ) : EReal) := by
  rw [← EReal.coe_one, Ideal.log_coe, if_neg (by norm_num), Real.log_one]

/-- The negated softplus of the negated gate is its log-sigmoid. -/
theorem neg_softplus (a : EReal) :
    -(max (-a) 0 + Ideal.log1p (Ideal.exp (-(FloatOps.absf (F := Ideal) (φ := .f32) (-a))))) = lsig a := by
  have h1 : FloatOps.absf (F := Ideal) (φ := .f32) (-a) = FloatOps.absf (F := Ideal) (φ := .f32) a := by
    show max (-a) (- -a) = max a (-a)
    rw [neg_neg, max_comm]
  have h2 : max (-a) 0 = -min a 0 := by
    rcases le_total a 0 with h | h
    · rw [min_eq_left h, max_eq_left (by simpa using EReal.neg_le_neg_iff.2 h)]
    · rw [min_eq_right h, max_eq_right (by simpa using EReal.neg_le_neg_iff.2 h), neg_zero]
  unfold lsig Ideal.log1p
  rw [h1, h2, zero_sub]
  have hl : ∃ r : ℝ, Ideal.log (1 + Ideal.exp (-(FloatOps.absf (F := Ideal) (φ := .f32) a))) = (r : EReal) := by
    have hn : FloatOps.absf (F := Ideal) (φ := .f32) a = max a (-a) := rfl
    rw [hn]
    induction a with
    | bot => exact ⟨0, by simp [log_one]⟩
    | top => exact ⟨0, by simp [log_one]⟩
    | coe a =>
      refine ⟨Real.log (1 + Real.exp (-(max a (-a)))), ?_⟩
      have : max (a : EReal) (-(a : EReal)) = ((max a (-a) : ℝ) : EReal) := by
        rw [← EReal.coe_neg]; exact (EReal.coe_strictMono.monotone.map_max).symm
      rw [this, ← EReal.coe_neg, Ideal.exp_coe, ← EReal.coe_one, ← EReal.coe_add, Ideal.log_coe, if_neg]
      have := Real.exp_pos (-(max a (-a)))
      linarith
  obtain ⟨r, hr⟩ := hl
  rw [hr, EReal.neg_add (Or.inr (EReal.coe_ne_top r)) (Or.inr (EReal.coe_ne_bot r)), neg_neg]

theorem r_lf : val_main_v58 (F := Ideal) X.f X.bf (ix3 g t h) = lsig (X.f (ix2 (srow g t) h) + X.bf (ix2 0 h)) := by
  rw [← neg_softplus]
  pointwise [val_main_v52, val_main_v53, val_main_v54, val_main_v55, val_main_v56, val_main_v57, val_main_v58, val_main_call1_v0, val_main_call1_call0_cst, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11, val_main_call1_v1]
  rw [if_neg (fun h => h rfl)]
  rfl

/-- A window of eight that ends at token `t`, summed, is the sum of the tokens up to `t`. -/
theorem cum (y : S128x8x8.Idx → EReal) (e : EReal) (he : e = 0) :
    Ideal.hostReduceWindowAdd (s := S128x8x8) ![1, 8, 1] ![1, 1, 1] ![0, 7, 0] ![0, 0, 0]
      reduceWindows_S128x8x8_S128x8x8_w1s1p0_0_w8s1p7_0_w1s1p0_0 y e (ix3 g t h) = ∑ s : Fin 8, if s ≤ t then y (ix3 g s h) else 0 := by
  subst he
  have hw : ∀ (n : Fin (⟨3, ![1, 8, 1]⟩ : Shape).numel) (a : Fin 3),
      ((⟨3, ![1, 8, 1]⟩ : Shape).rowMajor.symm n a).val = (![0, n.val, 0] : Fin 3 → ℕ) a := by decide +kernel
  unfold Ideal.hostReduceWindowAdd Host.reduceWindow
  have hs : ∀ f : Fin (⟨3, ![1, 8, 1]⟩ : Shape).numel → EReal,
      (List.finRange (⟨3, ![1, 8, 1]⟩ : Shape).numel).foldl (fun r n => r + f n) 0 = ∑ n, f n := by
    intro f
    rw [Fin.sum_univ_def, List.sum_eq_foldl, List.foldl_map]
  refine (hs _).trans ?_
  have ht := t.isLt
  have hterm : ∀ n : Fin 8, (if hin : ∀ a : Fin 3, (![0, 7, 0] : Fin 3 → ℕ) a ≤ ((ix3 g t h : S128x8x8.Idx) a).val * (![1, 1, 1] : Fin 3 → ℕ) a + ((⟨3, ![1, 8, 1]⟩ : Shape).rowMajor.symm n a).val ∧
      ((ix3 g t h : S128x8x8.Idx) a).val * (![1, 1, 1] : Fin 3 → ℕ) a + ((⟨3, ![1, 8, 1]⟩ : Shape).rowMajor.symm n a).val - (![0, 7, 0] : Fin 3 → ℕ) a < S128x8x8.size a
      then y (fun a => ⟨_, (hin a).2⟩) else 0)
      = if hn : 7 ≤ t.val + n.val then y (ix3 g ⟨t.val + n.val - 7, by omega⟩ h) else 0 := by
    intro n
    by_cases hn : 7 ≤ t.val + n.val
    · have hin : ∀ a : Fin 3, (![0, 7, 0] : Fin 3 → ℕ) a ≤ ((ix3 g t h : S128x8x8.Idx) a).val * (![1, 1, 1] : Fin 3 → ℕ) a + ((⟨3, ![1, 8, 1]⟩ : Shape).rowMajor.symm n a).val ∧
          ((ix3 g t h : S128x8x8.Idx) a).val * (![1, 1, 1] : Fin 3 → ℕ) a + ((⟨3, ![1, 8, 1]⟩ : Shape).rowMajor.symm n a).val - (![0, 7, 0] : Fin 3 → ℕ) a < S128x8x8.size a := by
        intro a
        have e := hw n a
        have hn' := n.isLt
        have hg := g.isLt
        have hh := h.isLt
        rw [e]
        match a with
        | ⟨0, _⟩ => show 0 ≤ g.val * 1 + 0 ∧ g.val * 1 + 0 - 0 < 128; omega
        | ⟨1, _⟩ => show 7 ≤ t.val * 1 + n.val ∧ t.val * 1 + n.val - 7 < 8; omega
        | ⟨2, _⟩ => show 0 ≤ h.val * 1 + 0 ∧ h.val * 1 + 0 - 0 < 8; omega
      rw [dif_pos hin, dif_pos hn]
      congr 1
      funext a
      apply Fin.ext
      have e := hw n a
      show ((ix3 g t h : S128x8x8.Idx) a).val * (![1, 1, 1] : Fin 3 → ℕ) a + ((⟨3, ![1, 8, 1]⟩ : Shape).rowMajor.symm n a).val - (![0, 7, 0] : Fin 3 → ℕ) a = _
      rw [e]
      match a with
      | ⟨0, _⟩ => show g.val * 1 + 0 - 0 = g.val; omega
      | ⟨1, _⟩ => show t.val * 1 + n.val - 7 = t.val + n.val - 7; omega
      | ⟨2, _⟩ => show h.val * 1 + 0 - 0 = h.val; omega
    · rw [dif_neg hn, dif_neg]
      intro hin
      have h1 := (hin 1).1
      have e := hw n 1
      rw [e] at h1
      have h1' : 7 ≤ t.val * 1 + n.val := h1
      omega
  refine (Finset.sum_congr rfl fun n _ => Eq.trans (dite_congr rfl (fun _ => rfl) fun _ => rfl) (hterm n)).trans ?_
  show (∑ n : Fin 8, if hn : 7 ≤ t.val + n.val then y (ix3 g ⟨t.val + n.val - 7, by omega⟩ h) else 0) = _
  rw [Fin.sum_univ_eight, Fin.sum_univ_eight]
  clear hterm hs hw
  fin_cases t <;> simp [Fin.le_def]
theorem r_b : val_main_v65 (F := Ideal) X.f X.bf (ix3 g t h) = b X g h t := by
  unfold b bt
  simp only [← r_lf]
  refine cum g h t _ _ ?_
  pointwise [val_main_call2_call0_v0, val_main_call2_call0_cst]

/-! ## The convolution -/

theorem r_cat (t : Fin 11) (k : Fin 2048) : val_main_v6 (F := Ideal) X.z X.cv (ix3 g t k) = if h : t.val < 3 then X.cv (ix4 0 g ⟨t.val, h⟩ k)
    else X.z (ix2 (srow g ⟨t.val - 3, by omega⟩) ⟨k.val, by omega⟩) := by
  pointwise [val_main_v6, val_main_v5, val_main_v2, val_main_v1, val_main_v0]
  rfl

/-- A row of the history joined with the tokens is a token some steps back. -/
theorem r_tap (k : Fin 2048) (j : ℕ) (hj : j ≤ 3) (n : Fin 11) (hn : n.val = t.val + 3 - j) : val_main_v6 (F := Ideal) X.z X.cv (ix3 g n k)
    = tap (fun s => X.z (ix2 (srow g s) ⟨k.val, by omega⟩)) (hist X g k) j t := by
  have := t.isLt
  rw [r_cat]
  unfold tap hist
  by_cases h : t.val < j
  · rw [dif_pos (by omega), if_pos h]
    dsimp only
    rw [dif_pos (by omega)]
    congr 2
    apply Fin.ext
    show n.val = (t.val + 8 - j) % 8 - 5
    omega
  · rw [dif_neg (by omega), if_neg h]
    congr 3
    apply Fin.ext
    show n.val - 3 = (t.val + 8 - j) % 8
    omega

theorem r_lin (k : Fin 2048) : val_main_v37 (F := Ideal) X.z X.cv X.cw X.cb (ix3 g t k)
    = conv (X.cb (ix2 0 k)) (X.cw (ix3 0 0 k)) (X.cw (ix3 0 1 k)) (X.cw (ix3 0 2 k)) (X.cw (ix3 0 3 k))
    (fun s => X.z (ix2 (srow g s) ⟨k.val, by omega⟩)) (hist X g k) t := by
  have := t.isLt
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37]
  rw [r_tap X g t k 3 (by omega) _ (by show t.val = _; omega), r_tap X g t k 2 (by omega) _ (by show 1 + t.val = _; omega),
    r_tap X g t k 1 (by omega) _ (by show 2 + t.val = _; omega), r_tap X g t k 0 (by omega) _ (by show 3 + t.val = _; omega)]
  have e : ∀ x y : Fin 8 → EReal, tap x y 0 t = x t := fun x y => by
    unfold tap
    rw [if_neg (by omega)]
    congr 1
    apply Fin.ext
    show (t.val + 8 - 0) % 8 = t.val
    omega
  rw [e]
  unfold conv
  abel

theorem r_conv (k : Fin 2048) : val_main_v38 (F := Ideal) X.z X.cv X.cw X.cb (ix3 g t k) = qk X g t k := by
  unfold qk silu
  rw [← r_lin, zero_sub]
  pointwise [val_main_v38, val_main_call0_v0, val_main_call0_v1, val_main_call0_v2, val_main_call0_v3, val_main_call0_v4, val_main_call0_v5, val_main_call0_cst, val_main_call0_cst_0]

theorem r_q (d : Fin 128) : val_main_v40 (F := Ideal) X.z X.cv X.cw X.cb (ix4 g t h d) = q X g h t d := by
  unfold q
  rw [← r_conv]
  pointwise [val_main_v39, val_main_v40]
  rfl

theorem r_k (d : Fin 128) : val_main_v44 (F := Ideal) X.z X.cv X.cw X.cb (ix4 g t h d) = k X g h t d := by
  unfold k
  rw [← r_conv]
  pointwise [val_main_v41, val_main_v42, val_main_v43, val_main_v44, val_main_cst]
  rfl

theorem r_v (d : Fin 128) : val_main_v45 (F := Ideal) X.z (ix4 g t h d) = v X g h t d := by
  unfold v
  pointwise [val_main_v0, val_main_v1, val_main_v3, val_main_v45]
  rfl
end Cert.RecurRef
-- ==== Proof.RecurStep.lean ====
/-
  The shared values and the results of a grid point's block, once the block's operands are known to be the layer's arrays at
  that point's sequences.
-/
module

public import proofs.«01_k».proof.Proof.RecurSeq

@[expose] public section

set_option maxRecDepth 16384

noncomputable section

namespace Cert.RecurStep

open Cert.RecurIdeal Cert.RecurIdeal.Gen Idealize.ShloMosaic Cert.RecurSpec Cert.RecurBlock Cert.RecurSeq

/-- The blocks of one grid point are the arrays `X` at the sequences `g`. -/
structure Reads (X : Arrays) (g : Fin 16 → Fin 128) (x0 : Vec Ideal S128x2048 .f32) (x1 : Vec Ideal S128x1024 .f32) (x2 : Vec Ideal S128x1024 .f32) (x3 : Vec Ideal S128x256 .f32)
  (x4 : Vec Ideal S16x128 .f32) (x5 : Vec Ideal S128x2048 .f32) (x6 : Vec Ideal S16x8x128x128 .f32) (x7 : Vec Ideal S16x8x128 .f32)
  (x8 : Vec Ideal S128x128 .f32) (x9 : Vec Ideal S4x2048 .f32) (x10 : Vec Ideal S1x2048 .f32) (x11 : Vec Ideal S1x256 .f32)
  (x12 : Vec Ideal S16x1 .f32) (x13 : Vec Ideal S1x128 .f32) : Prop where
  h0 : ∀ b s (k : Fin 2048), x0 (ix2 (row b s) k) = X.z (ix2 (srow (g b) s) ⟨k.val, by omega⟩)
  h1 : ∀ b s (k : Fin 1024), x1 (ix2 (row b s) k) = X.z (ix2 (srow (g b) s) ⟨2048 + k.val, by omega⟩)
  h2 : ∀ b s (k : Fin 1024), x2 (ix2 (row b s) k) = X.z (ix2 (srow (g b) s) ⟨3072 + k.val, by omega⟩)
  ci : ∀ b s (h : Fin 8), x3 (ix2 (row b s) ⟨h.val, by omega⟩) + x11 (ix2 0 ⟨h.val, by omega⟩) = ig X (g b) h s
  cf : ∀ b s (h : Fin 8), x3 (ix2 (row b s) ⟨128 + h.val, by omega⟩) + x11 (ix2 0 ⟨128 + h.val, by omega⟩) = X.f (ix2 (srow (g b) s) h) + X.bf (ix2 0 h)
  ri : ∀ b s (h : Fin 8), x4 (ix2 ⟨h.val, by omega⟩ (row b s)) + x12 (ix2 ⟨h.val, by omega⟩ 0) = ig X (g b) h s
  rf : ∀ b s (h : Fin 8), x4 (ix2 ⟨8 + h.val, by omega⟩ (row b s)) + x12 (ix2 ⟨8 + h.val, by omega⟩ 0) = X.f (ix2 (srow (g b) s) h) + X.bf (ix2 0 h)
  pad : ∀ b s (k : Fin 256), (k.val < 128 ∧ 8 ≤ k.val ∨ 136 ≤ k.val) → x3 (ix2 (row b s) k) + x11 (ix2 0 k) = (0 : EReal)
  h5 : ∀ b s (k : Fin 2048), x5 (ix2 (row b s) k) = hist X (g b) k s
  h6 : ∀ b h j d, x6 (ix4 b h j d) = X.C (ix5 0 (g b) h j d)
  h7 : ∀ b h d, x7 (ix3 b h d) = X.n (ix4 0 (g b) h d)
  h8 : ∀ b s (h : Fin 8), x8 (ix2 (row b s) ⟨h.val, by omega⟩) = X.m (ix3 0 (g b) h)
  mp : ∀ b s (k : Fin 128), 8 ≤ k.val → x8 (ix2 (row b s) k) = (0 : EReal)
  h9 : ∀ j k, x9 (ix2 j k) = X.cw (ix3 0 j k)
  h10 : ∀ k, x10 (ix2 0 k) = X.cb (ix2 0 k)
  h13 : ∀ k, x13 (ix2 0 k) = X.hw (ix2 0 k)

variable {X : Arrays} {g : Fin 16 → Fin 128} {x0 : Vec Ideal S128x2048 .f32} {x1 : Vec Ideal S128x1024 .f32} {x2 : Vec Ideal S128x1024 .f32} {x3 : Vec Ideal S128x256 .f32}
  {x4 : Vec Ideal S16x128 .f32} {x5 : Vec Ideal S128x2048 .f32} {x6 : Vec Ideal S16x8x128x128 .f32} {x7 : Vec Ideal S16x8x128 .f32}
  {x8 : Vec Ideal S128x128 .f32} {x9 : Vec Ideal S4x2048 .f32} {x10 : Vec Ideal S1x2048 .f32} {x11 : Vec Ideal S1x256 .f32}
  {x12 : Vec Ideal S16x1 .f32} {x13 : Vec Ideal S1x128 .f32}
  (R : Reads X g x0 x1 x2 x3 x4 x5 x6 x7 x8 x9 x10 x11 x12 x13) (b : Fin 16) (s : Fin 8) (h : Fin 8)

include R

/-! ## The shared values -/

theorem bc_eq : (k0_pay206 x0 x1 x2 x3 x4 x5 x6 x7 x8 x9 x10 x11 x12 x13) (ix2 (row b s) (gcol h)) = RecurSeq.b X (g b) h s := by
  rw [bc_at]
  exact congrArg (fun f => bt f s) (funext fun u => congrArg lsig (R.cf b u h))

theorem br_eq : (k0_pay207 x0 x1 x2 x3 x4 x5 x6 x7 x8 x9 x10 x11 x12 x13) (ix2 h (row b s)) = RecurSeq.b X (g b) h s := by
  rw [br_at]
  exact congrArg (fun f => bt f s) (funext fun u => congrArg lsig (R.rf b u h))

theorem igr_eq : (k0_pay205 x0 x1 x2 x3 x4 x5 x6 x7 x8 x9 x10 x11 x12 x13) (ix2 h (row b s)) = ig X (g b) h s := by
  rw [gr_at]
  exact R.ri b s h

theorem it_eq : (k0_pay209 x0 x1 x2 x3 x4 x5 x6 x7 x8 x9 x10 x11 x12 x13) (ix2 (row b s) (gcol h)) = it X (g b) h s := by
  rw [it_at, bc_eq R]
  exact congrArg _ (R.h8 b s h)

theorem qk_eq (k : Fin 2048) : (k0_pay201 x0 x1 x2 x3 x4 x5 x6 x7 x8 x9 x10 x11 x12 x13) (ix2 (row b s) k) = qk X (g b) s k := by
  rw [qk_at]
  simp only [R.h0, R.h5, R.h9, R.h10]
  rfl

theorem ws_eq : (k0_pay210 x0 x1 x2 x3 x4 x5 x6 x7 x8 x9 x10 x11 x12 x13) (ix2 (row b s) (gcol h)) = wst (RecurSeq.b X (g b) h) (ig X (g b) h) (X.m (ix3 0 (g b) h)) s := by
  rw [ws_at]
  have e1 := fun u => bc_eq R b u h
  have e2 := fun u => R.ci b u h
  have e3 := R.h8 b s h
  simp only [e1]
  exact congrArg₂ (fun i m => wst (RecurSeq.b X (g b) h) i m s) (funext e2) e3

theorem dec_eq : (k0_pay211 x0 x1 x2 x3 x4 x5 x6 x7 x8 x9 x10 x11 x12 x13) (ix2 (row b s) (gcol h)) = dec (RecurSeq.b X (g b) h) (ig X (g b) h) (X.m (ix3 0 (g b) h)) := by
  rw [dec_at]
  have e1 := fun u => bc_eq R b u h
  have e2 := fun u => R.ci b u h
  have e3 := R.h8 b s h
  simp only [e1]
  exact congrArg₂ (fun i m => dec (RecurSeq.b X (g b) h) i m) (funext e2) e3

theorem key_eq : keyAt (k0_pay201 x0 x1 x2 x3 x4 x5 x6 x7 x8 x9 x10 x11 x12 x13) h b = k X (g b) h := by
  funext s d
  unfold keyAt
  rw [qk_eq R]
  rfl

/-! ## The results -/

theorem out_eq (j : Fin 128) : out0_14 x0 x1 x2 x3 x4 x5 x6 x7 x8 x9 x10 x11 x12 x13 (ix2 (row b s) (vcol h j)) = outS X (g b) h s j := by
  rw [out_block]
  unfold outAt outS
  simp only [bc_eq R, br_eq R, igr_eq R, it_eq R, qk_eq R, key_eq R, R.h1, R.h2, R.h6, R.h7, R.h13]
  rfl

theorem c_eq (j d : Fin 128) : out0_15 x0 x1 x2 x3 x4 x5 x6 x7 x8 x9 x10 x11 x12 x13 (ix4 b h j d) = cS X (g b) h j d := by
  rw [c_block]
  unfold cAt cS
  simp only [ws_eq R, dec_eq R, key_eq R, R.h1, R.h6]
  rfl

theorem n_eq (d : Fin 128) : out0_16 x0 x1 x2 x3 x4 x5 x6 x7 x8 x9 x10 x11 x12 x13 (ix3 b h d) = nS X (g b) h d := by
  rw [n_block]
  unfold nAt nS
  simp only [ws_eq R, dec_eq R, key_eq R, R.h7]

theorem mn_eq : out0_17 x0 x1 x2 x3 x4 x5 x6 x7 x8 x9 x10 x11 x12 x13 (ix2 (row b s) (gcol h)) = mS X (g b) h := by
  rw [m_block]
  have e1 := fun u => bc_eq R b u h
  have e2 := fun u => R.ci b u h
  have e3 := R.h8 b s h
  simp only [e1]
  exact congrArg₂ (fun i m => mnew (RecurSeq.b X (g b) h) i m) (funext e2) e3

/-- The stabiliser of the lanes that hold no head. -/
theorem mp_eq (k : Fin 128) (hk : 8 ≤ k.val) : out0_17 x0 x1 x2 x3 x4 x5 x6 x7 x8 x9 x10 x11 x12 x13 (ix2 (row b s) k) = mnew (bt fun _ => lsig 0) (fun _ => 0) 0 := by
  rw [m_block]
  have e1 : ∀ u, (k0_pay206 x0 x1 x2 x3 x4 x5 x6 x7 x8 x9 x10 x11 x12 x13) (ix2 (row b u) k) = bt (fun _ => lsig 0) u := fun u => by
    rw [bc_at]
    exact congrArg (fun f => bt f u) (funext fun u' => congrArg lsig (R.pad b u' _ (Or.inr (by show 136 ≤ 128 + k.val; omega))))
  have e2 := fun u => R.pad b u ⟨k.val, by omega⟩ (Or.inl ⟨k.isLt, hk⟩)
  have e3 := R.mp b s k hk
  simp only [e1]
  exact congrArg₂ (fun i m => mnew (bt fun _ => lsig 0) i m) (funext e2) e3

end Cert.RecurStep
-- ==== Proof.RecurHost.lean ====
/-
  What the region finds in each operand that host operations prepare, at an index, from the arguments.
-/
module

public import proofs.«01_k».proof.Proof.RecurBlock
public import Idealize.ShloMosaic.Lib.Routing.OpsSet
public import Idealize.ShloMosaic.Lib.Routing.OpsPair

@[expose] public section

set_option maxRecDepth 16384

noncomputable section

namespace Cert.RecurHost

open Cert.RecurIdeal Cert.RecurIdeal.Gen Idealize.ShloMosaic Idealize.ShloMosaic.TcCoe Cert.RecurSpec Cert.RecurBlock

variable (m : (ℓ : Loc nD τ sig) → Buf (Elt Ideal) ℓ) (c : Dev nD)

/-! ## The arguments as arrays -/

/-- Argument 1 as launched. -/
abbrev a1 : FVec Ideal S9216x8 .f32 := m ((c : Thread nD τ).loc main_arg1)
/-- Argument 2 as launched. -/
abbrev a2 : FVec Ideal S9216x8 .f32 := m ((c : Thread nD τ).loc main_arg2)
/-- Argument 3 as launched. -/
abbrev a3 : FVec Ideal S1x128x8x128x128 .f32 := m ((c : Thread nD τ).loc main_arg3)
/-- Argument 4 as launched. -/
abbrev a4 : FVec Ideal S1x128x8x128 .f32 := m ((c : Thread nD τ).loc main_arg4)
/-- Argument 5 as launched. -/
abbrev a5 : FVec Ideal S1x128x8 .f32 := m ((c : Thread nD τ).loc main_arg5)
/-- Argument 6 as launched. -/
abbrev a6 : FVec Ideal S1x128x3x2048 .f32 := m ((c : Thread nD τ).loc main_arg6)
/-- Argument 7 as launched. -/
abbrev a7 : FVec Ideal S1x8 .f32 := m ((c : Thread nD τ).loc main_arg7)
/-- Argument 8 as launched. -/
abbrev a8 : FVec Ideal S1x8 .f32 := m ((c : Thread nD τ).loc main_arg8)
/-- Argument 9 as launched. -/
abbrev a9 : FVec Ideal S1x4x2048 .f32 := m ((c : Thread nD τ).loc main_arg9)

/-- The array of one constant. -/
abbrev zeros (s : Shape) (h : S_.BroadcastsInDim s (![] : Fin 0 → Fin s.rank)) : FVec Ideal s .f32 :=
  broadcastInDim s ![] h (constant (F := Ideal) S_ .f32 0x00000000#32)

/-! ## The operands as terms over the arguments -/

theorem V_v1 : V m c main_v1 = concatenate S9216x256 1 [⟨S9216x8, a1 m c⟩, ⟨S9216x120, zeros _ bcast_S_S9216x120⟩, ⟨S9216x8, a2 m c⟩,
    ⟨S9216x120, zeros _ bcast_S_S9216x120⟩] concatenates_S9216x8_S9216x120_S9216x8_S9216x120_S9216x256_d1 := by
  unfold_abbrev_sides
  try after_results_simp
  rfl

theorem V_v3 : V m c main_v3 = transpose S16x9216 [1, 0] (concatenate S9216x16 1 [⟨S9216x8, a1 m c⟩, ⟨S9216x8, a2 m c⟩]
    concatenates_S9216x8_S9216x8_S9216x16_d1) transposes_S9216x16_S16x9216_1_0 := by
  unfold_abbrev_sides
  try after_results_simp
  rfl

theorem V_v21 : V m c main_v21 = shapeCast S1024x2048 (pad S128x8x2048 ![0, 5, 0] ![0, 0, 0] ![0, 0, 0]
    (shapeCast S128x3x2048 (a6 m c) shapeCasts_S1x128x3x2048_S128x3x2048) (sitofp (F := Ideal) .f32 (constantI S_ 32 0#32))
    pads_S128x3x2048_S128x8x2048_000_500_000 h_S_) shapeCasts_S128x8x2048_S1024x2048 := by
  unfold_abbrev_sides
  try after_results_simp
  rfl

theorem V_v25 : V m c main_v25 = shapeCast S1024x128 (broadcastInDim S128x8x128 ![0, 2] bcast_S128x128_S128x8x128_0_2
    (pad S128x128 ![0, 0] ![0, 120] ![0, 0] (shapeCast S128x8 (a5 m c) shapeCasts_S1x128x8_S128x8)
    (sitofp (F := Ideal) .f32 (constantI S_ 32 0#32)) pads_S128x8_S128x128_000_01200 h_S_)) shapeCasts_S128x8x128_S1024x128 := by
  unfold_abbrev_sides
  try after_results_simp
  rfl

theorem V_v30 : V m c main_v30 = shapeCast S128x8x128x128 (a3 m c) shapeCasts_S1x128x8x128x128_S128x8x128x128 := by
  unfold_abbrev_sides
  try after_results_simp
  rfl

theorem V_v31 : V m c main_v31 = shapeCast S128x8x128 (a4 m c) shapeCasts_S1x128x8x128_S128x8x128 := by
  unfold_abbrev_sides
  try after_results_simp
  rfl

theorem V_v32 : V m c main_v32 = shapeCast S4x2048 (a9 m c) shapeCasts_S1x4x2048_S4x2048 := by
  unfold_abbrev_sides
  try after_results_simp
  rfl

/-- Where the two biases are set: row 0, lanes from `k`. -/
abbrev at2 (k : BitVec 32) : IVec S2 32 :=
  concatenate S2 0 [⟨S1, broadcastInDim S1 ![] bcast_S_S1 (constantI S_ 32 0#32)⟩, ⟨S1, broadcastInDim S1 ![] bcast_S_S1 (constantI S_ 32 k)⟩]
    concatenates_S1_S1_S2_d0

theorem V_v14 : V m c main_v14 = Host.scatter scatter_S1x256_S2_S8_0_0_01_0 (fun _ b => b)
    (Host.scatter scatter_S1x256_S2_S8_0_0_01_0 (fun _ b => b) (zeros _ bcast_S_S1x256) (at2 0#32) (shapeCast S8 (a7 m c) shapeCasts_S1x8_S8))
    (at2 128#32) (shapeCast S8 (a8 m c) shapeCasts_S1x8_S8) := by
  unfold_abbrev_sides
  try after_results_simp
  rfl

theorem V_v18 : V m c main_v18 = broadcastInDim S16x1 ![0] bcast_S16_S16x1_0 (concatenate S16 0 [⟨S8, shapeCast S8 (a7 m c) shapeCasts_S1x8_S8⟩,
    ⟨S8, shapeCast S8 (a8 m c) shapeCasts_S1x8_S8⟩] concatenates_S8_S8_S16_d0) := by
  unfold_abbrev_sides
  try after_results_simp
  rfl

/-! ## The operands at an index -/

theorem toInt_0 : (0#32 : BitVec 32).toInt = 0 := rfl
theorem toInt_128 : (128#32 : BitVec 32).toInt = 128 := by decide

theorem gc_ig (r : Fin 9216) (h : Fin 8) : V m c main_v1 (ix2 r ⟨h.val, by omega⟩) = a1 m c (ix2 r h) := by
  rw [V_v1]
  pointwise

theorem gc_fg (r : Fin 9216) (h : Fin 8) : V m c main_v1 (ix2 r ⟨128 + h.val, by omega⟩) = a2 m c (ix2 r h) := by
  rw [V_v1]
  pointwise
  rw [dif_neg (by omega), dif_neg (by omega), dif_pos (by omega)]
  congr 2
  exact Fin.ext (by show 128 + h.val - 8 - 120 = h.val; omega)

theorem gc_pad (r : Fin 9216) (k : Fin 256) (h : k.val < 128 ∧ 8 ≤ k.val ∨ 136 ≤ k.val) : V m c main_v1 (ix2 r k) = (0 : EReal) := by
  rw [V_v1]
  pointwise
  rw [dif_neg (by omega)]
  split
  · rfl
  · rw [dif_neg (by omega)]

theorem gr_ig (r : Fin 9216) (h : Fin 8) : V m c main_v3 (ix2 ⟨h.val, by omega⟩ r) = a1 m c (ix2 r h) := by
  rw [V_v3]
  pointwise

theorem gr_fg (r : Fin 9216) (h : Fin 8) : V m c main_v3 (ix2 ⟨8 + h.val, by omega⟩ r) = a2 m c (ix2 r h) := by
  rw [V_v3]
  pointwise

theorem hist_at (b : Fin 128) (t : Fin 8) (k : Fin 2048) : V m c main_v21 (ix2 ⟨b.val * 8 + t.val, by omega⟩ k) =
    if h : 5 ≤ t.val then a6 m c (ix4 0 b ⟨t.val - 5, by omega⟩ k) else (0 : EReal) := by
  rw [V_v21]
  pointwise
  by_cases ht : 5 ≤ t.val
  · rw [dif_pos ht]; exact dif_pos ⟨ht, by omega⟩
  · rw [dif_neg ht, dif_neg (fun h => ht h.1)]
    show (((0#32 : BitVec 32).toInt : ℝ) : EReal) = 0
    rw [toInt_0]; norm_num

theorem m_at (b : Fin 128) (t : Fin 8) (k : Fin 8) :
    V m c main_v25 (ix2 ⟨b.val * 8 + t.val, by omega⟩ ⟨k.val, by omega⟩) = a5 m c (ix3 0 b k) := by
  rw [V_v25]
  pointwise

theorem m_pad (b : Fin 128) (t : Fin 8) (k : Fin 128) (hk : 8 ≤ k.val) :
    V m c main_v25 (ix2 ⟨b.val * 8 + t.val, by omega⟩ k) = (0 : EReal) := by
  rw [V_v25]
  pointwise
  rw [dif_neg (by omega)]
  show FloatOps.sitofp (F := Ideal) FTy.f32 0#32 = 0
  show (((0#32 : BitVec 32).toInt : ℝ) : EReal) = 0
  rw [toInt_0]; norm_num

theorem C_at (b : Fin 128) (h : Fin 8) (j d : Fin 128) : V m c main_v30 (ix4 b h j d) = a3 m c (ix5 0 b h j d) := by
  rw [V_v30]
  pointwise

theorem n_at (b : Fin 128) (h : Fin 8) (d : Fin 128) : V m c main_v31 (ix3 b h d) = a4 m c (ix4 0 b h d) := by
  rw [V_v31]
  pointwise

theorem w_at (j : Fin 4) (k : Fin 2048) : V m c main_v32 (ix2 j k) = a9 m c (ix3 0 j k) := by
  rw [V_v32]
  pointwise

theorem br_ig (h : Fin 8) : V m c main_v18 (ix2 ⟨h.val, by omega⟩ 0) = a7 m c (ix2 0 h) := by
  rw [V_v18]
  pointwise

theorem br_fg (h : Fin 8) : V m c main_v18 (ix2 ⟨8 + h.val, by omega⟩ 0) = a8 m c (ix2 0 h) := by
  rw [V_v18]
  pointwise

/-! ## The bias row -/

theorem at2_0 (k : BitVec 32) : at2 k (ix1 0) = 0#32 := by
  unfold at2
  pointwise

theorem at2_1 (k : BitVec 32) : at2 k (ix1 1) = k := by
  unfold at2
  pointwise

/-- Update `h` of a bias set from lane `k` on lands in lane `k + h`. -/
theorem lands (k : BitVec 32) (h : Fin 8) (l : Fin 256) :
    scatter_S1x256_S2_S8_0_0_01_0.resultIdx? (ix1 h) (at2 k) = some (ix2 0 l) ↔ k.toInt + h.val = l.val := by
  have s0 : scatter_S1x256_S2_S8_0_0_01_0.start (ix1 h) (at2 k) 0 = (at2 k (ix1 0)).toInt := by
    unfold ScatterDims.start
    rw [dif_pos (by decide)]
    congr 2; funext b; match b with | ⟨0, _⟩ => rfl
  have s1 : scatter_S1x256_S2_S8_0_0_01_0.start (ix1 h) (at2 k) 1 = (at2 k (ix1 1)).toInt := by
    show ((at2 k) _).toInt = _
    congr 2; funext b; match b with | ⟨0, _⟩ => rfl
  have w0 : scatter_S1x256_S2_S8_0_0_01_0.window (ix1 h) 0 = 0 := rfl
  have w1 : scatter_S1x256_S2_S8_0_0_01_0.window (ix1 h) 1 = h.val := rfl
  refine (Routing.resultIdx?_ix2 (R := 1) (C := 256) scatter_S1x256_S2_S8_0_0_01_0 (ix1 h) (at2 k) 0 l).trans ?_
  rw [s0, s1, w0, w1, at2_0, at2_1]
  constructor
  · rintro ⟨-, e⟩; exact e
  · intro e; exact ⟨rfl, e⟩

theorem exists_ix1 (k : S8.Idx) : ∃ h : Fin 8, k = ix1 h := ⟨k 0, funext fun a => by match a with | ⟨0, _⟩ => rfl⟩

/-- The eight lanes from `k` on read the update, -/
theorem set_hit (x : FVec Ideal S1x256 .f32) (k : BitVec 32) (u : FVec Ideal S8 .f32) (h : Fin 8) (l : Fin 256) (e : k.toInt + h.val = l.val) :
    Host.scatter scatter_S1x256_S2_S8_0_0_01_0 (fun _ b => b) x (at2 k) u (ix2 0 l) = u (ix1 h) := by
  refine Routing.scatter_set_hit _ x (at2 k) u (ix2 0 l) _ ?_ (ix1 h) ((lands k h l).2 e)
  intro k' hk'
  obtain ⟨h', rfl⟩ := exists_ix1 k'
  have := (lands k h' l).1 hk'
  have hh : h' = h := Fin.ext (by omega)
  rw [hh]

/-- and the other lanes what was there. -/
theorem set_miss (x : FVec Ideal S1x256 .f32) (k : BitVec 32) (u : FVec Ideal S8 .f32) (l : Fin 256) (e : ∀ h : Fin 8, k.toInt + h.val ≠ l.val) :
    Host.scatter scatter_S1x256_S2_S8_0_0_01_0 (fun _ b => b) x (at2 k) u (ix2 0 l) = x (ix2 0 l) := by
  refine Routing.scatter_set_miss _ x (at2 k) u (ix2 0 l) ?_
  intro k' hk'
  obtain ⟨h', rfl⟩ := exists_ix1 k'
  exact e h' ((lands k h' l).1 hk')

theorem bc_ig (h : Fin 8) : V m c main_v14 (ix2 0 ⟨h.val, by omega⟩) = a7 m c (ix2 0 h) := by
  rw [V_v14, set_miss _ _ _ _ (fun h' => by rw [toInt_128]; show (128 : Int) + h'.val ≠ h.val; omega), set_hit _ _ _ h _ (by rw [toInt_0]; exact Int.zero_add _)]
  pointwise

theorem bc_fg (h : Fin 8) : V m c main_v14 (ix2 0 ⟨128 + h.val, by omega⟩) = a8 m c (ix2 0 h) := by
  rw [V_v14, set_hit _ _ _ h _ (by rw [toInt_128]; push_cast; rfl)]
  pointwise

theorem bc_pad (k : Fin 256) (h : k.val < 128 ∧ 8 ≤ k.val ∨ 136 ≤ k.val) : V m c main_v14 (ix2 0 k) = (0 : EReal) := by
  rw [V_v14, set_miss _ _ _ _ (fun h' => by rw [toInt_128]; omega), set_miss _ _ _ _ (fun h' => by rw [toInt_0]; omega)]
  pointwise

end Cert.RecurHost
-- ==== Proof.RecurArray.lean ====
/-
  The result arrays of the kernel's run, at an index: the step of `RecurSeq` over the arguments.
-/
module

public import proofs.«01_k».proof.Proof.RecurStep
public import proofs.«01_k».proof.Proof.RecurHost
public import proofs.«01_k».proof.Proof.Gen.RecurIdeal.Value
public import Idealize.ShloMosaic.Lib.Pipeline.ValueKit.Point

@[expose] public section

set_option maxRecDepth 16384

noncomputable section

namespace Cert.RecurArray

open Cert.RecurIdeal Cert.RecurIdeal.Gen Idealize.ShloMosaic Idealize.ShloMosaic.TcCoe Cert.RecurSpec Cert.RecurBlock
  Cert.RecurHost Cert.RecurSeq Cert.RecurStep Cert.RecurStep

variable (m : (ℓ : Loc nD τ sig) → Buf (Elt Ideal) ℓ) (c : Dev nD)

theorem idxA : ∀ t : Fin cfg0.N, win0_0.index t = ![64 + t.val, 0] ∧ win0_1.index t = ![64 + t.val, 2] ∧ win0_2.index t = ![64 + t.val, 3]
    ∧ win0_3.index t = ![64 + t.val, 0] ∧ win0_4.index t = ![0, 64 + t.val] ∧ win0_5.index t = ![t.val, 0] := by decide +kernel
theorem idxB : ∀ t : Fin cfg0.N, win0_6.index t = ![t.val, 0, 0, 0] ∧ win0_7.index t = ![t.val, 0, 0] ∧ win0_8.index t = ![t.val, 0]
    ∧ win0_9.index t = ![0, 0] ∧ win0_10.index t = ![0, 0] ∧ win0_11.index t = ![0, 0] ∧ win0_12.index t = ![0, 0] ∧ win0_13.index t = ![0, 0] := by decide +kernel
theorem idxC : ∀ t : Fin cfg0.N, win0_14.index t = ![t.val, 0] ∧ win0_15.index t = ![t.val, 0, 0, 0] ∧ win0_16.index t = ![t.val, 0, 0] ∧ win0_17.index t = ![t.val, 0] := by decide +kernel

theorem N8 : cfg0.N = 8 := rfl

/-- Sequence `b` of grid point `t`. -/
def sq (t : Fin cfg0.N) (b : Fin 16) : Fin 128 := ⟨t.val * 16 + b.val, by have h := t.isLt; have e := N8; omega⟩

/-! ## The windows' blocks, from the arrays -/

theorem blk0 (t : Fin cfg0.N) (b : Fin 16) (s : Fin 8) (k : Fin 2048) : iblk m c 0 t (ix2 (row b s) k) = V m c main_arg0 (ix2 (srow (sq t b) s) ⟨k.val, by omega⟩) := by
  blk_ext [iblk, (idxA t).1]
  show (64 + t.val) * 128 + (b.val * 8 + s.val) = 8192 + ((t.val * 16 + b.val) * 8 + s.val)
  omega

theorem blk1 (t : Fin cfg0.N) (b : Fin 16) (s : Fin 8) (k : Fin 1024) : iblk m c 1 t (ix2 (row b s) k) = V m c main_arg0 (ix2 (srow (sq t b) s) ⟨2048 + k.val, by omega⟩) := by
  blk_ext [iblk, (idxA t).2.1]
  show (64 + t.val) * 128 + (b.val * 8 + s.val) = 8192 + ((t.val * 16 + b.val) * 8 + s.val)
  omega

theorem blk2 (t : Fin cfg0.N) (b : Fin 16) (s : Fin 8) (k : Fin 1024) : iblk m c 2 t (ix2 (row b s) k) = V m c main_arg0 (ix2 (srow (sq t b) s) ⟨3072 + k.val, by omega⟩) := by
  blk_ext [iblk, (idxA t).2.2.1]
  show (64 + t.val) * 128 + (b.val * 8 + s.val) = 8192 + ((t.val * 16 + b.val) * 8 + s.val)
  omega

theorem blk3 (t : Fin cfg0.N) (b : Fin 16) (s : Fin 8) (k : Fin 256) : iblk m c 3 t (ix2 (row b s) k) = V m c main_v1 (ix2 (srow (sq t b) s) k) := by
  blk_ext [iblk, (idxA t).2.2.2.1]
  show (64 + t.val) * 128 + (b.val * 8 + s.val) = 8192 + ((t.val * 16 + b.val) * 8 + s.val)
  omega

theorem blk4 (t : Fin cfg0.N) (b : Fin 16) (s : Fin 8) (k : Fin 16) : iblk m c 4 t (ix2 k (row b s)) = V m c main_v3 (ix2 k (srow (sq t b) s)) := by
  blk_ext [iblk, (idxA t).2.2.2.2.1]
  show (64 + t.val) * 128 + (b.val * 8 + s.val) = 8192 + ((t.val * 16 + b.val) * 8 + s.val)
  omega

theorem blk5 (t : Fin cfg0.N) (b : Fin 16) (s : Fin 8) (k : Fin 2048) : iblk m c 5 t (ix2 (row b s) k) = V m c main_v21 (ix2 ⟨(sq t b).val * 8 + s.val, by omega⟩ k) := by
  blk_ext [iblk, (idxA t).2.2.2.2.2]
  show t.val * 128 + (b.val * 8 + s.val) = (t.val * 16 + b.val) * 8 + s.val
  omega

theorem blk6 (t : Fin cfg0.N) (b : Fin 16) (h : Fin 8) (j d : Fin 128) : iblk m c 6 t (ix4 b h j d) = V m c main_v30 (ix4 (sq t b) h j d) := by
  blk_ext [iblk, (idxB t).1]
  show t.val * 16 + b.val = t.val * 16 + b.val
  omega

theorem blk7 (t : Fin cfg0.N) (b : Fin 16) (h : Fin 8) (d : Fin 128) : iblk m c 7 t (ix3 b h d) = V m c main_v31 (ix3 (sq t b) h d) := by
  blk_ext [iblk, (idxB t).2.1]
  show t.val * 16 + b.val = t.val * 16 + b.val
  omega

theorem blk8 (t : Fin cfg0.N) (b : Fin 16) (s : Fin 8) (k : Fin 128) : iblk m c 8 t (ix2 (row b s) k) = V m c main_v25 (ix2 ⟨(sq t b).val * 8 + s.val, by omega⟩ k) := by
  blk_ext [iblk, (idxB t).2.2.1]
  show t.val * 128 + (b.val * 8 + s.val) = (t.val * 16 + b.val) * 8 + s.val
  omega

theorem blk9 (t : Fin cfg0.N) (j : Fin 4) (k : Fin 2048) : iblk m c 9 t (ix2 j k) = V m c main_v32 (ix2 j k) := by
  blk_ext [iblk, (idxB t).2.2.2.1]

theorem blk10 (t : Fin cfg0.N) (k : Fin 2048) : iblk m c 10 t (ix2 0 k) = V m c main_arg10 (ix2 0 k) := by
  blk_ext [iblk, (idxB t).2.2.2.2.1]

theorem blk11 (t : Fin cfg0.N) (k : Fin 256) : iblk m c 11 t (ix2 0 k) = V m c main_v14 (ix2 0 k) := by
  blk_ext [iblk, (idxB t).2.2.2.2.2.1]

theorem blk12 (t : Fin cfg0.N) (k : Fin 16) : iblk m c 12 t (ix2 k 0) = V m c main_v18 (ix2 k 0) := by
  blk_ext [iblk, (idxB t).2.2.2.2.2.2.1]

theorem blk13 (t : Fin cfg0.N) (k : Fin 128) : iblk m c 13 t (ix2 0 k) = V m c main_arg11 (ix2 0 k) := by
  blk_ext [iblk, (idxB t).2.2.2.2.2.2.2]

/-- The arguments as the arrays of the step. -/
def args : Arrays where
  z := m ((c : Thread nD τ).loc main_arg0)
  i := a1 m c
  f := a2 m c
  C := a3 m c
  n := a4 m c
  m := a5 m c
  cv := a6 m c
  bi := a7 m c
  bf := a8 m c
  cw := a9 m c
  cb := m ((c : Thread nD τ).loc main_arg10)
  hw := m ((c : Thread nD τ).loc main_arg11)

/-- Every grid point's blocks are the arguments at that point's sixteen sequences. -/
theorem reads (t : Fin cfg0.N) : Reads (args m c) (sq t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) where
  h0 b s k := (blk0 m c t b s k).trans (congrFun (V_main_arg0 m c) _)
  h1 b s k := (blk1 m c t b s k).trans (congrFun (V_main_arg0 m c) _)
  h2 b s k := (blk2 m c t b s k).trans (congrFun (V_main_arg0 m c) _)
  ci b s h := congrArg₂ (fun x y : EReal => x + y) ((blk3 m c t b s _).trans (gc_ig m c _ h)) ((blk11 m c t _).trans (bc_ig m c h))
  cf b s h := congrArg₂ (fun x y : EReal => x + y) ((blk3 m c t b s _).trans (gc_fg m c _ h)) ((blk11 m c t _).trans (bc_fg m c h))
  ri b s h := congrArg₂ (fun x y : EReal => x + y) ((blk4 m c t b s _).trans (gr_ig m c _ h)) ((blk12 m c t _).trans (br_ig m c h))
  rf b s h := congrArg₂ (fun x y : EReal => x + y) ((blk4 m c t b s _).trans (gr_fg m c _ h)) ((blk12 m c t _).trans (br_fg m c h))
  pad b s k hk := (congrArg₂ (fun x y : EReal => x + y) ((blk3 m c t b s _).trans (gc_pad m c _ k hk)) ((blk11 m c t _).trans (bc_pad m c k hk))).trans (add_zero 0)
  h5 b s k := (blk5 m c t b s k).trans (hist_at m c (sq t b) s k)
  h6 b h j d := (blk6 m c t b h j d).trans (C_at m c _ h j d)
  h7 b h d := (blk7 m c t b h d).trans (n_at m c _ h d)
  h8 b s h := (blk8 m c t b s _).trans (m_at m c (sq t b) s h)
  mp b s k hk := (blk8 m c t b s k).trans (m_pad m c (sq t b) s k hk)
  h9 j k := (blk9 m c t j k).trans (w_at m c j k)
  h10 k := (blk10 m c t k).trans (congrFun (V_main_arg10 m c) _)
  h13 k := (blk13 m c t k).trans (congrFun (V_main_arg11 m c) _)

end Cert.RecurArray
-- ==== Proof.RecurFinal.lean ====
/-
  The five result arrays after the kernel's run: the step of every sequence and head, at each array's own layout, and the rows of
  the convolution's history.
-/
module

public import proofs.«01_k».proof.Proof.RecurArray

@[expose] public section

set_option maxRecDepth 16384

noncomputable section

namespace Cert.RecurFinal

open Cert.RecurIdeal Cert.RecurIdeal.Gen Idealize.ShloMosaic Idealize.ShloMosaic.TcCoe Cert.RecurSpec Cert.RecurBlock
  Cert.RecurSeq Cert.RecurStep Cert.RecurArray Idealize.SL.Sem

variable (X : Arrays)

/-! ## The layouts of the results -/

/-- The hidden states: a row per token, a head's 128 lanes side by side. -/
def gOut (i : S1024x1024.Idx) : EReal :=
  outS X ⟨(i 0).val / 8, by have h : (i 0).val < 1024 := (i 0).isLt; omega⟩ ⟨(i 1).val / 128, by have h : (i 1).val < 1024 := (i 1).isLt; omega⟩
    ⟨(i 0).val % 8, by omega⟩ ⟨(i 1).val % 128, by omega⟩
/-- The state matrices. -/
def gC (i : S128x8x128x128.Idx) : EReal := cS X (i 0) (i 1) (i 2) (i 3)
/-- The state vectors. -/
def gN (i : S128x8x128.Idx) : EReal := nS X (i 0) (i 1) (i 2)
/-- The stabilisers: a row per token, the eight heads in the first lanes and zero in the others. -/
def gM (i : S1024x128.Idx) : EReal :=
  if h : (i 1).val < 8 then mS X ⟨(i 0).val / 8, by have h : (i 0).val < 1024 := (i 0).isLt; omega⟩ ⟨(i 1).val, h⟩
  else mnew (bt fun _ => lsig 0) (fun _ => 0) 0

/-- The convolution's history: each sequence's last three rows before the convolution. -/
def gV (i : S1x128x3x2048.Idx) : EReal :=
  X.z (ix2 ⟨8192 + ((i 1).val * 8 + (5 + (i 2).val)), by
    have h : (i 1).val < 128 := (i 1).isLt
    have h' : (i 2).val < 3 := (i 2).isLt
    omega⟩ ⟨(i 3).val, lt_of_lt_of_le (show (i 3).val < 2048 from (i 3).isLt) (by decide)⟩)

theorem gOut_at (i : S1024x1024.Idx) (g : Fin 128) (s h : Fin 8) (j : Fin 128) (h0 : (i 0).val = g.val * 8 + s.val)
    (h1 : (i 1).val = h.val * 128 + j.val) : gOut X i = outS X g h s j := by
  unfold gOut
  congr 1 <;> apply Fin.ext
  · show (i 0).val / 8 = g.val; omega
  · show (i 1).val / 128 = h.val; omega
  · show (i 0).val % 8 = s.val; omega
  · show (i 1).val % 128 = j.val; omega

theorem gC_at (i : S128x8x128x128.Idx) (g : Fin 128) (h : Fin 8) (j d : Fin 128) (h0 : (i 0).val = g.val) (h1 : (i 1).val = h.val)
    (h2 : (i 2).val = j.val) (h3 : (i 3).val = d.val) : gC X i = cS X g h j d := by
  unfold gC
  congr 1 <;> apply Fin.ext <;> assumption

theorem gN_at (i : S128x8x128.Idx) (g : Fin 128) (h : Fin 8) (d : Fin 128) (h0 : (i 0).val = g.val) (h1 : (i 1).val = h.val)
    (h2 : (i 2).val = d.val) : gN X i = nS X g h d := by
  unfold gN
  congr 1 <;> apply Fin.ext <;> assumption

theorem gM_at (i : S1024x128.Idx) (g : Fin 128) (s h : Fin 8) (h0 : (i 0).val = g.val * 8 + s.val) (h1 : (i 1).val = h.val) :
    gM X i = mS X g h := by
  unfold gM
  rw [dif_pos (by omega)]
  congr 1 <;> apply Fin.ext
  · show (i 0).val / 8 = g.val; omega
  · exact h1

theorem gM_pad (i : S1024x128.Idx) (h1 : 8 ≤ (i 1).val) : gM X i = mnew (bt fun _ => lsig 0) (fun _ => 0) 0 := by
  unfold gM
  rw [dif_neg (by omega)]

/-! ## The kernel's arrays -/

variable (m : (ℓ : Loc nD τ sig) → Buf (Elt Ideal) ℓ) (c : Dev nD)

theorem exists_out (y : S128x1024.Idx) : ∃ b s h j, y = ix2 (row b s) (vcol h j) := by
  obtain ⟨b, s, e⟩ := exists_row (y 0)
  refine ⟨b, s, ⟨(y 1).val / 128, by have h : (y 1).val < 1024 := (y 1).isLt; omega⟩, ⟨(y 1).val % 128, by omega⟩, funext fun a => ?_⟩
  match a with
  | ⟨0, _⟩ => exact e
  | ⟨1, _⟩ => exact Fin.ext (by show (y 1).val = (y 1).val / 128 * 128 + (y 1).val % 128; omega)

theorem final_out : (dats m 0 c).arrAt 14 cfg0.N = gOut (args m c) := by
  refine (dats m 0 c).arrAt_eq_of_covers 14 _ (by decide +kernel) fun t hf y => ?_
  blk_simp
  rw [after0_14]
  obtain ⟨b, s, h, j, rfl⟩ := exists_out y
  refine (out_eq (reads m c t) b s h j).trans (gOut_at _ _ (sq t b) s h j ?_ ?_).symm
  · blk_simp [(idxC t).1]
    show t.val * 128 + (b.val * 8 + s.val) = (t.val * 16 + b.val) * 8 + s.val
    omega
  · blk_simp [(idxC t).1]
    rfl

theorem final_C : (dats m 0 c).arrAt 15 cfg0.N = gC (args m c) := by
  refine (dats m 0 c).arrAt_eq_of_covers 15 _ (by decide +kernel) fun t hf y => ?_
  blk_simp
  rw [after0_15]
  have hy : y = ix4 (y 0) (y 1) (y 2) (y 3) := ValueIdx.eq_ix4 y
  rw [hy]
  refine (c_eq (reads m c t) (y 0) (y 1) (y 2) (y 3)).trans (gC_at _ _ (sq t (y 0)) (y 1) (y 2) (y 3) ?_ ?_ ?_ ?_).symm
  all_goals
    blk_simp [(idxC t).2.1]
    try rfl

theorem final_N : (dats m 0 c).arrAt 16 cfg0.N = gN (args m c) := by
  refine (dats m 0 c).arrAt_eq_of_covers 16 _ (by decide +kernel) fun t hf y => ?_
  blk_simp
  rw [after0_16]
  have hy : y = ix3 (y 0) (y 1) (y 2) := ValueIdx.eq_ix3 y
  rw [hy]
  refine (n_eq (reads m c t) (y 0) (y 1) (y 2)).trans (gN_at _ _ (sq t (y 0)) (y 1) (y 2) ?_ ?_ ?_).symm
  all_goals
    blk_simp [(idxC t).2.2.1]
    try rfl

theorem final_M : (dats m 0 c).arrAt 17 cfg0.N = gM (args m c) := by
  refine (dats m 0 c).arrAt_eq_of_covers 17 _ (by decide +kernel) fun t hf y => ?_
  blk_simp
  rw [after0_17]
  obtain ⟨b, s, k, rfl⟩ := exists_ix2 y
  have h1 : ((((cfg0.win 17).blk t).view.emb (ix2 (row b s) k)) 1 : ℕ) = k.val := by
    blk_simp [(idxC t).2.2.2]
  by_cases hk : k.val < 8
  · refine (mn_eq (reads m c t) b s ⟨k.val, hk⟩).trans (gM_at _ _ (sq t b) s ⟨k.val, hk⟩ ?_ h1).symm
    blk_simp [(idxC t).2.2.2]
    show t.val * 128 + (b.val * 8 + s.val) = (t.val * 16 + b.val) * 8 + s.val
    omega
  · refine (mp_eq (reads m c t) b s k (by omega)).trans (gM_pad _ _ ?_).symm
    exact h1 ▸ (by omega)

theorem V_v29 : V m c main_v29 = broadcastInDim S1x128x3x2048 ![1, 2, 3] bcast_S128x3x2048_S1x128x3x2048_1_2_3
    (extractStridedSlice S128x3x2048 ![0, 5, 0] (shapeCast S128x8x2048 (extractStridedSlice S1024x2048 ![8192, 0] (args m c).z
      slices_S9216x8192_S1024x2048_8192_0) shapeCasts_S1024x2048_S128x8x2048) slices_S128x8x2048_S128x3x2048_0_5_0) := by
  unfold_abbrev_sides
  try after_results_simp
  rfl

/-- The history is cut out of the tokens by the host before the call. -/
theorem final_V : V m c main_v29 = gV (args m c) := by
  rw [V_v29]
  funext i
  obtain ⟨a, b, s, k, rfl⟩ : ∃ a b s k, i = ix4 a b s k := ⟨i 0, i 1, i 2, i 3, ValueIdx.eq_ix4 i⟩
  show _ = (args m c).z (ix2 ⟨8192 + (b.val * 8 + (5 + s.val)), _⟩ ⟨k.val, _⟩)
  pointwise

/-- The run with the five results named. -/
theorem run_all (ρ : Dev nD → PrngReg) : θ_run defs (onTc (τ := τ) (main (F := Ideal))) ⟨m, fun _ => 0, ρ⟩ fun r => ∀ c : Dev nD,
      (r.2.mem ((c : Thread nD τ).loc main_v33_0) = gOut (args m c)
      ∧ r.2.mem ((c : Thread nD τ).loc main_v33_1) = gC (args m c)
      ∧ r.2.mem ((c : Thread nD τ).loc main_v33_2) = gN (args m c)
      ∧ r.2.mem ((c : Thread nD τ).loc main_v33_3) = gM (args m c))
      ∧ r.2.mem ((c : Thread nD τ).loc main_v29) = gV (args m c) :=
  (θ_run defs _ _).mono (fun _ h c => ⟨⟨((h c).1 14).trans (final_out m c), ((h c).1 15).trans (final_C m c), ((h c).1 16).trans (final_N m c),
    ((h c).1 17).trans (final_M m c)⟩, ((h c).2 main_v29 (by decide)).trans (final_V m c)⟩) (run_main m ρ)

end Cert.RecurFinal
-- ==== Proof.RecurRefValue.lean ====
/-
  The reference's four results are the step of every sequence and head.
-/
module

public import proofs.«01_k».proof.Proof.RecurRef
public import proofs.«01_k».proof.Proof.RecurFinal

@[expose] public section

set_option maxRecDepth 16384

noncomputable section

namespace Cert.RecurRef

open Cert.RecurRefIdeal Cert.RecurRefIdeal.Gen Cert.RecurRefIdeal.Read Idealize.ShloMosaic Cert.RecurSpec Cert.RecurBlock Cert.RecurSeq

variable (X : Arrays) (g : Fin 128) (h t : Fin 8)

theorem negInf : (val_main_cst_1 (F := Ideal)) (Shape.Idx.first h_S_) = (⊥ : EReal) := by
  show Ideal.ofBits FTy.f32 0xFF800000#32 = ⊥
  simp [Ideal.ofBits, Ideal.ieee]

theorem le_tok : ∀ s t : Fin 8, IntOp.cmpi CmpIPredicate.sle (BitVec.ofNat 32 s.val) (BitVec.ofNat 32 t.val) = BitVec.ofBool (decide (s ≤ t)) := by
  decide +kernel

theorem r_dlog (s : Fin 8) : val_main_v76 (F := Ideal) X.i X.f X.bi X.bf (ix4 g h t s) = dlog (b X g h) (b X g h) (ig X g h) t s := by
  unfold dlog
  rw [← r_b, ← r_b, ← r_ig]
  pointwise [val_main_v62, val_main_v63, val_main_v64, val_main_v66, val_main_v67, val_main_v68, val_main_v69, val_main_v70, val_main_v71, val_main_v72, val_main_v73, val_main_v74, val_main_v75, val_main_v76, val_main_cst_0, val_main_call3_v0, val_main_call3_v1, val_main_call3_v2]
  rw [le_tok]
  by_cases hst : s ≤ t
  · rw [if_pos hst, decide_eq_true hst]; rfl
  · rw [if_neg hst, decide_eq_false hst]; exact negInf

theorem r_it : val_main_v79 (F := Ideal) X.f X.m X.bf (ix3 g h t) = it X g h t := by
  unfold it
  rw [← r_b]
  pointwise [val_main_v66, val_main_v61, val_main_v77, val_main_v78, val_main_v79]

theorem r_mt : val_main_v81 (F := Ideal) X.i X.f X.m X.bi X.bf (ix3 g h t) = RecurSpec.mt (b X g h) (b X g h) (ig X g h) (it X g h) t := by
  unfold RecurSpec.mt
  rw [← r_it]
  pointwise [val_main_v81, val_main_v80]
  rw [negInf]
  simp only [r_dlog]

theorem r_sc (s : Fin 8) : val_main_v89 (F := Ideal) X.z X.i X.f X.m X.cv X.bi X.bf X.cw X.cb (ix4 g h t s) = sc (b X g h) (b X g h) (ig X g h) (it X g h) (q X g h) (k X g h) t s := by
  unfold sc
  rw [← r_mt, ← r_dlog]
  simp only [← r_q, ← r_k]
  pointwise [val_main_v82, val_main_v83, val_main_v84, val_main_v85, val_main_v88, val_main_v89]

theorem r_iw : val_main_v87 (F := Ideal) X.i X.f X.m X.bi X.bf (ix3 g h t) = iw (b X g h) (b X g h) (ig X g h) (it X g h) t := by
  unfold iw
  rw [← r_mt, ← r_it]
  pointwise [val_main_v86, val_main_v87]

theorem r_num (j : Fin 128) : val_main_v98 (F := Ideal) X.z X.i X.f X.C X.m X.cv X.bi X.bf X.cw X.cb (ix4 g t h j)
    = num (b X g h) (b X g h) (ig X g h) (it X g h) (q X g h) (k X g h) (v X g h) (fun j d => X.C (ix5 0 g h j d)) t j := by
  unfold num
  rw [← r_iw]
  simp only [← r_q, ← r_sc, ← r_v]
  pointwise [val_main_v59, val_main_v90, val_main_v91, val_main_v92, val_main_v93, val_main_v94, val_main_v95, val_main_v96, val_main_v97, val_main_v98]
  simp only [mul_comm]

theorem r_den : val_main_v102 (F := Ideal) X.z X.i X.f X.n X.m X.cv X.bi X.bf X.cw X.cb (ix3 g h t)
    = den (b X g h) (b X g h) (ig X g h) (it X g h) (q X g h) (k X g h) (fun d => X.n (ix4 0 g h d)) t := by
  unfold den
  rw [← r_iw]
  simp only [← r_q, ← r_sc]
  pointwise [val_main_v60, val_main_v99, val_main_v100, val_main_v101, val_main_v102, val_main_cst_2]
  simp only [mul_comm]

theorem r_hid (j : Fin 128) : val_main_v110 (F := Ideal) X.z X.i X.f X.C X.n X.m X.cv X.bi X.bf X.cw X.cb (ix4 g t h j)
    = hid (b X g h) (b X g h) (ig X g h) (it X g h) (q X g h) (k X g h) (v X g h) (fun j d => X.C (ix5 0 g h j d))
      (fun d => X.n (ix4 0 g h d)) t j := by
  unfold hid
  rw [← r_num, ← r_den, ← r_mt, zero_sub]
  pointwise [val_main_v103, val_main_v104, val_main_v105, val_main_v106, val_main_v107, val_main_v108, val_main_v109, val_main_v110]

theorem r_out (r l : Fin 1024) (j : Fin 128) (hr : r.val = g.val * 8 + t.val) (hl : l.val = h.val * 128 + j.val) :
    val_main_v164 (F := Ideal) X.z X.i X.f X.C X.n X.m X.cv X.bi X.bf X.cw X.cb X.hw (ix2 r l) = outS X g h t j := by
  unfold outS out
  simp only [← r_hid, zero_sub]
  pointwise [val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_cst_4, val_main_cst_5, val_main_cst_6, val_main_cst_7, val_main_cst_8, val_main_v0, val_main_v1, val_main_v4]
  have hh := h.isLt
  have hj := j.isLt
  have ht := t.isLt
  have e0 : ∀ p, (⟨r.val / 8, p⟩ : Fin 128) = g := fun p => Fin.ext (by show r.val / 8 = g.val; omega)
  have e1 : ∀ p, (⟨r.val % 8, p⟩ : Fin 8) = t := fun p => Fin.ext (by show r.val % 8 = t.val; omega)
  have e2 : ∀ p, (⟨l.val / 128, p⟩ : Fin 8) = h := fun p => Fin.ext (by show l.val / 128 = h.val; omega)
  have e3 : ∀ p, (⟨l.val % 128, p⟩ : Fin 128) = j := fun p => Fin.ext (by show l.val % 128 = j.val; omega)
  have e4 : ∀ p, (⟨8192 + r.val, p⟩ : Fin 9216) = srow g t := fun p => Fin.ext (by show 8192 + r.val = 8192 + (g.val * 8 + t.val); omega)
  have e5 : ∀ p, (⟨3072 + l.val, p⟩ : Fin 8192) = ⟨3072 + (vcol h j).val, by have := (vcol h j).isLt; omega⟩ :=
    fun p => Fin.ext (by show 3072 + l.val = 3072 + (h.val * 128 + j.val); omega)
  simp only [e0, e1, e2, e3, e4, e5]
  rfl

theorem r_wlog (s : Fin 8) : val_main_v116 (F := Ideal) X.i X.f X.bi X.bf (ix3 g h s) = wlog (b X g h) (ig X g h) s := by
  unfold wlog
  rw [← r_b, ← r_b, ← r_ig]
  pointwise [val_main_v66, val_main_v67, val_main_v111, val_main_v112, val_main_v113, val_main_v114, val_main_v115, val_main_v116]

theorem r_mnew : val_main_v119 (F := Ideal) X.i X.f X.m X.bi X.bf (ix2 g h) = mnew (b X g h) (ig X g h) (X.m (ix3 0 g h)) := by
  unfold mnew
  rw [← r_b]
  simp only [← r_wlog]
  pointwise [val_main_v61, val_main_v66, val_main_v111, val_main_v112, val_main_v117, val_main_v118, val_main_v119, val_main_cst_3]
  rw [show Ideal.ofBits FTy.f32 4286578688#32 = (⊥ : EReal) from negInf]

theorem r_wst (s : Fin 8) : val_main_v123 (F := Ideal) X.i X.f X.m X.bi X.bf (ix3 g h s) = wst (b X g h) (ig X g h) (X.m (ix3 0 g h)) s := by
  unfold wst
  rw [← r_mnew, ← r_wlog]
  pointwise [val_main_v120, val_main_v121, val_main_v122, val_main_v123]

theorem r_dec : val_main_v126 (F := Ideal) X.i X.f X.m X.bi X.bf (ix2 g h) = dec (b X g h) (ig X g h) (X.m (ix3 0 g h)) := by
  unfold dec
  rw [← r_mnew, ← r_b]
  pointwise [val_main_v61, val_main_v66, val_main_v111, val_main_v112, val_main_v124, val_main_v125, val_main_v126]

theorem r_c (j d : Fin 128) : val_main_v135 (F := Ideal) X.z X.i X.f X.C X.m X.cv X.bi X.bf X.cw X.cb (ix4 g h j d) = cS X g h j d := by
  unfold cS cnew
  simp only [← r_dec, ← r_wst, ← r_v, ← r_k]
  pointwise [val_main_v59, val_main_v127, val_main_v128, val_main_v129, val_main_v130, val_main_v131, val_main_v132, val_main_v133, val_main_v134, val_main_v135]
  simp only [mul_comm]

theorem r_n (d : Fin 128) : val_main_v140 (F := Ideal) X.z X.i X.f X.n X.m X.cv X.bi X.bf X.cw X.cb (ix3 g h d) = nS X g h d := by
  unfold nS nnew
  simp only [← r_dec, ← r_wst, ← r_k]
  pointwise [val_main_v60, val_main_v136, val_main_v137, val_main_v138, val_main_v139, val_main_v140]

theorem lsig_zero : ∃ c : ℝ, c ≤ 0 ∧ lsig 0 = (c : EReal) := by
  refine ⟨-Real.log (1 + 1), by have := Real.log_nonneg (show (1 : ℝ) ≤ 1 + 1 by norm_num); linarith, ?_⟩
  unfold lsig
  have e : FloatOps.absf (F := Ideal) (φ := .f32) (0 : EReal) = 0 := by
    show max (0 : EReal) (-0) = 0
    simp
  rw [e, sub_zero, min_self, ← EReal.coe_zero, Ideal.exp_coe, Real.exp_zero, ← EReal.coe_one, ← EReal.coe_add, Ideal.log_coe,
    if_neg (by norm_num), EReal.coe_zero, zero_sub, EReal.coe_neg]

/-- Where every gate and the carried stabiliser are zero, so is the new stabiliser. -/
theorem mnew_pad : mnew (bt fun _ => lsig 0) (fun _ => 0) 0 = 0 := by
  obtain ⟨c, hc, e⟩ := lsig_zero
  rw [e]
  have hb : ∀ t : Fin 8, bt (fun _ => (c : EReal)) t = (((t.val + 1 : ℝ) * c : ℝ) : EReal) := by
    intro t
    unfold bt
    have h1 : ∀ s : Fin 8, (if s ≤ t then (c : EReal) else 0) = ((if s ≤ t then c else 0 : ℝ) : EReal) := by
      intro s; split_ifs <;> simp
    simp only [h1]
    rw [Fin.sum_univ_eight]
    simp only [← EReal.coe_add]
    congr 1
    fin_cases t <;> simp [Fin.le_def] <;> ring
  unfold mnew
  show max _ (Finset.univ.sup _) = _
  apply le_antisymm
  · refine max_le ?_ (Finset.sup_le fun s _ => ?_)
    · rw [hb, add_zero]
      rw [← EReal.coe_zero, EReal.coe_le_coe_iff]
      exact mul_nonpos_of_nonneg_of_nonpos (by positivity) hc
    · unfold wlog
      have hs : (s.val : ℝ) ≤ 7 := by have := s.isLt; exact_mod_cast (by omega : s.val ≤ 7)
      rw [hb, hb, add_zero, ← EReal.coe_sub, ← EReal.coe_zero, EReal.coe_le_coe_iff]
      have h7 : (((7 : Fin 8).val : ℕ) : ℝ) = 7 := by norm_num
      nlinarith
  · refine le_max_of_le_right (le_trans (le_of_eq ?_) (Finset.le_sup (f := wlog (bt fun _ => (c : EReal)) fun _ => 0) (Finset.mem_univ (7 : Fin 8))))
    unfold wlog
    rw [hb, add_zero, ← EReal.coe_sub, sub_self, EReal.coe_zero]

/-! ## The four results -/

open Cert.RecurFinal

theorem ref_out : val_main_v164 (F := Ideal) X.z X.i X.f X.C X.n X.m X.cv X.bi X.bf X.cw X.cb X.hw = gOut X := by
  funext i
  obtain ⟨r, l, rfl⟩ : ∃ r l, i = ix2 r l := ⟨i 0, i 1, (ValueIdx.eq_ix2 i)⟩
  have hr := r.isLt
  have hl := l.isLt
  have e := r_out X ⟨r.val / 8, by omega⟩ ⟨l.val / 128, by omega⟩ ⟨r.val % 8, by omega⟩ r l ⟨l.val % 128, by omega⟩
    (by show r.val = r.val / 8 * 8 + r.val % 8; omega) (by show l.val = l.val / 128 * 128 + l.val % 128; omega)
  exact e

theorem ref_C : val_main_v135 (F := Ideal) X.z X.i X.f X.C X.m X.cv X.bi X.bf X.cw X.cb = gC X := by
  funext i
  obtain ⟨g, h, j, d, rfl⟩ : ∃ g h j d, i = ix4 g h j d := ⟨i 0, i 1, i 2, i 3, (ValueIdx.eq_ix4 i)⟩
  exact r_c X g h j d

theorem ref_N : val_main_v140 (F := Ideal) X.z X.i X.f X.n X.m X.cv X.bi X.bf X.cw X.cb = gN X := by
  funext i
  obtain ⟨g, h, d, rfl⟩ : ∃ g h d, i = ix3 g h d := ⟨i 0, i 1, i 2, (ValueIdx.eq_ix3 i)⟩
  exact r_n X g h d

theorem ref_V : val_main_v169 (F := Ideal) X.z X.cv = gV X := by
  funext i
  obtain ⟨a, b, s, k, rfl⟩ : ∃ a b s k, i = ix4 a b s k := ⟨i 0, i 1, i 2, i 3, ValueIdx.eq_ix4 i⟩
  show _ = X.z (ix2 ⟨8192 + (b.val * 8 + (5 + s.val)), _⟩ ⟨k.val, _⟩)
  pointwise [val_main_v169, val_main_v168]
  rw [r_cat, dif_neg (by show ¬ 8 + s.val < 3; omega)]
  refine congrArg X.z (congrArg₂ ix2 (Fin.ext ?_) rfl)
  show 8192 + (b.val * 8 + (8 + s.val - 3)) = 8192 + (b.val * 8 + (5 + s.val))
  omega

theorem ref_M : val_main_v167 (F := Ideal) X.i X.f X.m X.bi X.bf = gM X := by
  funext i
  obtain ⟨r, l, rfl⟩ : ∃ r l, i = ix2 r l := ⟨i 0, i 1, (ValueIdx.eq_ix2 i)⟩
  pointwise [val_main_v165, val_main_v166, val_main_v167, val_main_c, val_main_call4_v0]
  by_cases hl : l.val < 8
  · rw [dif_pos hl, r_mnew, gM_at X _ ⟨r.val / 8, by omega⟩ ⟨r.val % 8, by omega⟩ ⟨l.val, hl⟩
      (by show r.val = r.val / 8 * 8 + r.val % 8; omega) rfl]
    rfl
  · have e : gM X (ix2 r l) = mnew (bt fun _ => lsig 0) (fun _ => 0) 0 := dif_neg hl
    rw [dif_neg hl, e, mnew_pad]
    show (((0#32 : BitVec 32).toInt : ℝ) : EReal) = 0
    simp

end Cert.RecurRef
-- ==== Proof.RecurClaim.lean ====
/-
  The claims about the recurrence step: both programs end with the same five arrays.
-/
module

public import proofs.«01_k».proof.Defs
public import proofs.«01_k».proof.Proof.RecurRefValue
public import proofs.«01_k».proof.Proof.RecurFinal
public import proofs.«01_k».proof.Proof.Gen.Recur
public import proofs.«01_k».proof.Proof.Gen.Recur.Frame
public import proofs.«01_k».proof.Proof.Gen.RecurIdeal.Frame
public import Idealize.ShloMosaic.Lib.Claim

@[expose] public section

set_option maxRecDepth 16384

noncomputable section

namespace Cert.RecurClaim

open Idealize.ShloMosaic Idealize.ShloMosaic.StableHlo Idealize.SL.Sem Cert.RecurSeq Cert.RecurFinal

attribute [local instance] Cert.Recur.Gen.facts Cert.RecurIdeal.Gen.facts Cert.RecurRefIdeal.Gen.facts

section Reference

open Cert.RecurRefIdeal Cert.RecurRefIdeal.Gen Cert.RecurRefIdeal.Read

/-- The reference's arguments at launch. -/
def refArgs (m : (ℓ : Loc nD τ sig) → Buf (Elt Ideal) ℓ) (c : Dev nD) : Arrays where
  z := m ((c.tc : Thread nD τ).loc main_arg0)
  i := m ((c.tc : Thread nD τ).loc main_arg1)
  f := m ((c.tc : Thread nD τ).loc main_arg2)
  C := m ((c.tc : Thread nD τ).loc main_arg3)
  n := m ((c.tc : Thread nD τ).loc main_arg4)
  m := m ((c.tc : Thread nD τ).loc main_arg5)
  cv := m ((c.tc : Thread nD τ).loc main_arg6)
  bi := m ((c.tc : Thread nD τ).loc main_arg7)
  bf := m ((c.tc : Thread nD τ).loc main_arg8)
  cw := m ((c.tc : Thread nD τ).loc main_arg9)
  cb := m ((c.tc : Thread nD τ).loc main_arg10)
  hw := m ((c.tc : Thread nD τ).loc main_arg11)

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v164) = gOut (refArgs m c)
      ∧ r.2.mem ((c.tc : Thread nD τ).loc main_v135) = gC (refArgs m c)
      ∧ r.2.mem ((c.tc : Thread nD τ).loc main_v140) = gN (refArgs m c)
      ∧ r.2.mem ((c.tc : Thread nD τ).loc main_v167) = gM (refArgs m c)
      ∧ r.2.mem ((c.tc : Thread nD τ).loc main_v169) = gV (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
    obtain ⟨e0, e1, e2, e3, e4, e5⟩ := h c
    refine ⟨?_, ?_, ?_, ?_, ?_, e5⟩
    · rw [e0, val_main_v164_eq (launchContents m c), ← Cert.RecurRef.ref_out (refArgs m c)]; rfl
    · rw [e1, val_main_v135_eq (launchContents m c), ← Cert.RecurRef.ref_C (refArgs m c)]; rfl
    · rw [e2, val_main_v140_eq (launchContents m c), ← Cert.RecurRef.ref_N (refArgs m c)]; rfl
    · rw [e3, val_main_v167_eq (launchContents m c), ← Cert.RecurRef.ref_M (refArgs m c)]; rfl
    · rw [e4, val_main_v169_eq (launchContents m c), ← Cert.RecurRef.ref_V (refArgs m c)]; rfl) (Cert.RecurRefIdeal.Value.run (F := Ideal) m ρ)

theorem ref_frame : Cert.quiescent_RecurRefIdeal := fun m ρ _ =>
  (θ_run defs _ _).mono (fun r h => ⟨fun c => (h c).2.2.2.2.2,
    Idealize.ShloMosaic.sem_eq_zero_of_no_sems (by decide) r.2⟩) (ref_run m ρ)

end Reference

section Kernel

open Cert.RecurIdeal Cert.RecurIdeal.Gen

theorem algebraic : Cert.algebraic_RecurIdeal_RecurRefIdeal := by
  intro m ρ m' ρ' _ hagree
  have he : ∀ c, refArgs m' c = Cert.RecurArray.args m c := by
    intro c
    obtain ⟨h0, h1, h2, h3, h4, h5, h6, h7, h8, h9, h10, h11⟩ := hagree c
    unfold refArgs Cert.RecurArray.args
    rw [h0, h1, h2, h3, h4, h5, h6, h7, h8, h9, h10, h11]
  refine ⟨fun c => gOut (Cert.RecurArray.args m c), fun c => gC (Cert.RecurArray.args m c), fun c => gN (Cert.RecurArray.args m c),
    fun c => gM (Cert.RecurArray.args m c), fun c => gV (Cert.RecurArray.args m c),
    (θ_run _ _ _).mono (fun _ h c => ?_) (θ_run_and (run_all m ρ) (Cert.RecurIdeal.Value.run_blocks (F := Ideal) m ρ)),
    (θ_run _ _ _).mono (fun _ h c => ?_) (ref_run m' ρ')⟩
  · obtain ⟨⟨e0, e1, e2, e3⟩, e4⟩ := h.1 c
    exact ⟨e0, e1, e2, e3, e4, (h.2 c).2.2.2.2⟩
  · have e := he c
    obtain ⟨e0, e1, e2, e3, e4, e5⟩ := h c
    rw [e] at e0 e1 e2 e3 e4
    exact ⟨e0, e1, e2, e3, e4, e5⟩

end Kernel

theorem frame : Cert.quiescent_Recur := fun m ρ _ => Cert.Recur.Gen.frame m ρ
theorem frame_ideal : Cert.quiescent_RecurIdeal := fun m ρ _ => Cert.RecurIdeal.Gen.frame m ρ

end Cert.RecurClaim
-- ==== Proof.FfnRun.lean ====
/- The feed-forward body run once per case of its conditionals, over any whole buffers. -/
module

public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-- The first chunk of the hidden width. -/
abbrev cond0_0 (i : grid0.Coords) : Prop := (Scalar.cmpi .ne (Scalar.extui (Scalar.cmpi .eq (BitVec.ofNat 32 (i 1).val) 0#32)) 0#32) = 1#1
/-- The last chunk, at a block of prompt rows. -/
abbrev cond0_1 (i : grid0.Coords) : Prop := k0_cond2 i = 1#1
/-- The last chunk, at a block of sample rows. -/
abbrev cond0_2 (i : grid0.Coords) : Prop := k0_cond3 i = 1#1

theorem cond0_0_iff (t : Fin cfg0.N) : cond0_0 (grid0.coords t) ↔ t.val % 8 = 0 := by
  have ht : t.val < 144 := Nat.lt_of_lt_of_eq t.isLt N_0
  have e0 : (grid0.coords t 0).val = t.val / 8 % 18 := Pipeline.Grid.coords_val t 0 (by decide) rfl
  have e1 : (grid0.coords t 1).val = t.val / 1 % 8 := Pipeline.Grid.coords_val t 1 (by decide) rfl
  simp only [cond0_0, e0, e1]
  word_cmp

theorem cond0_1_iff : ∀ t : Fin cfg0.N, cond0_1 (grid0.coords t) ↔ t.val % 8 = 7 ∧ t.val < 128 :=
  (by decide +kernel : ∀ t : Fin grid0.N, cond0_1 (grid0.coords t) ↔ t.val % 8 = 7 ∧ t.val < 128)

theorem cond0_2_iff : ∀ t : Fin cfg0.N, cond0_2 (grid0.coords t) ↔ t.val % 8 = 7 ∧ 128 ≤ t.val :=
  (by decide +kernel : ∀ t : Fin grid0.N, cond0_2 (grid0.coords t) ↔ t.val % 8 = 7 ∧ 128 ≤ t.val)

/-- The five input buffers of the feed-forward body, at their contents. -/
def Ins (c : Dev nD) (arg2 : Memref sig .tc .vmem S512x2048 .f32) (arg3 : Memref sig .tc .vmem S1x2048 .f32) (arg4 : Memref sig .tc .vmem S2048x1024 .bf16) (arg5 : Memref sig .tc .vmem S1024x2048 .bf16) (arg6 : Memref sig .tc .vmem S1x2048 .f32)
    (x0 : Vec F S512x2048 .f32) (x1 : Vec F S1x2048 .f32) (x2 : Vec F S2048x1024 .bf16) (x3 : Vec F S1024x2048 .bf16) (x4 : Vec F S1x2048 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4)

set_option maxHeartbeats 1000000 in
/-- What the body stores at the first point of a block of rows, where the normalised rows are stored and the sum starts from zero, with the run that stores it: on whole buffers, the inputs' at their contents,
    the body runs to a continuation that holds the inputs' buffers as they were and the stored pieces written. -/
def runA (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : cond0_0 i) (hc1 : ¬cond0_1 i) (hc2 : ¬cond0_2 i) (x0 : Vec F S512x2048 .f32) (x1 : Vec F S1x2048 .f32) (x2 : Vec F S2048x1024 .bf16) (x3 : Vec F S1024x2048 .bf16) (x4 : Vec F S1x2048 .f32) :
    Σ' (L9 : List (View.Piece (Elt F) S512x2048 .bf16)), { L10 : List (View.Piece (Elt F) S512x2048 .f32) //
      ∀ (E : Set ℕ) (K : PUnit → sProp 𝕄),
        iprop(Ins c arg2 arg3 arg4 arg5 arg6 x0 x1 x2 x3 x4 ∗ (∃ d, owns (c : Thread nD τ) arg9 fullShare d) ∗ (∃ d, owns (c : Thread nD τ) arg10 fullShare d)
            ∗ (iprop(Ins c arg2 arg3 arg4 arg5 arg6 x0 x1 x2 x3 x4 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10) K } := by
  refine ⟨?_, ?_, fun E K => ?run⟩
  case run =>
    simp only [cc0_ffn_eq_skeleton]; unfold cc0_ffn_skel
    unfold Ins; unfold owns
    iintro ⟨⟨⟨%f0, %hf0, H0⟩, ⟨%f1, %hf1, H1⟩, ⟨%f2, %hf2, H2⟩, ⟨%f3, %hf3, H3⟩, ⟨%f4, %hf4, H4⟩⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | sl_exact hc0 | sl_exact hc1 | sl_exact hc2)
    sl_step
    iapply Hk
    isplitl [H0 H1 H2 H3 H4]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      iexists _; isplitr; · ipureintro; exact harg6.read_unread _
      iexact H4
    isplitl [HS0]
    · iexists _; iexact HS0
    iexists _; iexact HS1

set_option maxHeartbeats 1000000 in
/-- What the body stores at a point in the middle of a block of rows, with the run that stores it: on whole buffers, the inputs' at their contents,
    the body runs to a continuation that holds the inputs' buffers as they were and the stored pieces written. -/
def runB (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : ¬cond0_0 i) (hc1 : ¬cond0_1 i) (hc2 : ¬cond0_2 i) (x0 : Vec F S512x2048 .f32) (x1 : Vec F S1x2048 .f32) (x2 : Vec F S2048x1024 .bf16) (x3 : Vec F S1024x2048 .bf16) (x4 : Vec F S1x2048 .f32) (xs0 : Vec F S512x2048 .bf16) (xs1 : Vec F S512x2048 .f32) :
    { L10 : List (View.Piece (Elt F) S512x2048 .f32) //
      ∀ (E : Set ℕ) (K : PUnit → sProp 𝕄),
        iprop(Ins c arg2 arg3 arg4 arg5 arg6 x0 x1 x2 x3 x4 ∗ owns (c : Thread nD τ) arg9 fullShare xs0 ∗ owns (c : Thread nD τ) arg10 fullShare xs1
            ∗ (iprop(Ins c arg2 arg3 arg4 arg5 arg6 x0 x1 x2 x3 x4 ∗ owns (c : Thread nD τ) arg9 fullShare xs0 ∗ (∃ f, arg10.view.loc (c : Thread nD τ) ↦[arg10.view.set]{fullShare} arg10.view.writes (Elt F) f L10)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10) K } := by
  refine ⟨?_, fun E K => ?run⟩
  case run =>
    simp only [cc0_ffn_eq_skeleton]; unfold cc0_ffn_skel
    unfold Ins; unfold owns
    iintro ⟨⟨⟨%f0, %hf0, H0⟩, ⟨%f1, %hf1, H1⟩, ⟨%f2, %hf2, H2⟩, ⟨%f3, %hf3, H3⟩, ⟨%f4, %hf4, H4⟩⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1
    sl_exec (disch := first | sl_exact hc0 | sl_exact hc1 | sl_exact hc2)
    sl_step
    iapply Hk
    isplitl [H0 H1 H2 H3 H4]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      iexists _; isplitr; · ipureintro; exact harg6.read_unread _
      iexact H4
    isplitl [HS0]
    · iexists _; isplitr; · ipureintro; exact harg9.read_unread _
      iexact HS0
    iexists _; iexact HS1

set_option maxHeartbeats 1000000 in
/-- What the body stores at the last point of a block of prompt rows, which also stores the first output, with the run that stores it: on whole buffers, the inputs' at their contents,
    the body runs to a continuation that holds the inputs' buffers as they were and the stored pieces written. -/
def runC (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : ¬cond0_0 i) (hc1 : cond0_1 i) (hc2 : ¬cond0_2 i) (x0 : Vec F S512x2048 .f32) (x1 : Vec F S1x2048 .f32) (x2 : Vec F S2048x1024 .bf16) (x3 : Vec F S1024x2048 .bf16) (x4 : Vec F S1x2048 .f32) (xs0 : Vec F S512x2048 .bf16) (xs1 : Vec F S512x2048 .f32) :
    Σ' (LO : List (View.Piece (Elt F) S512x2048 .f32)), { L10 : List (View.Piece (Elt F) S512x2048 .f32) //
      ∀ (E : Set ℕ) (K : PUnit → sProp 𝕄),
        iprop(Ins c arg2 arg3 arg4 arg5 arg6 x0 x1 x2 x3 x4 ∗ (∃ d, owns (c : Thread nD τ) arg7 fullShare d) ∗ owns (c : Thread nD τ) arg9 fullShare xs0 ∗ owns (c : Thread nD τ) arg10 fullShare xs1
            ∗ (iprop(Ins c arg2 arg3 arg4 arg5 arg6 x0 x1 x2 x3 x4 ∗ (∃ f, arg7.view.loc (c : Thread nD τ) ↦[arg7.view.set]{fullShare} arg7.view.writes (Elt F) f LO) ∗ owns (c : Thread nD τ) arg9 fullShare xs0 ∗ (∃ f, arg10.view.loc (c : Thread nD τ) ↦[arg10.view.set]{fullShare} arg10.view.writes (Elt F) f L10)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10) K } := by
  refine ⟨?_, ?_, fun E K => ?run⟩
  case run =>
    simp only [cc0_ffn_eq_skeleton]; unfold cc0_ffn_skel
    unfold Ins; unfold owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1
    sl_exec (disch := first | sl_exact hc0 | sl_exact hc1 | sl_exact hc2)
    sl_step
    iapply Hk
    isplitl [H0 H1 H2 H3 H4]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      iexists _; isplitr; · ipureintro; exact harg6.read_unread _
      iexact H4
    isplitl [H5]
    · iexists _; iexact H5
    isplitl [HS0]
    · iexists _; isplitr; · ipureintro; exact harg9.read_unread _
      iexact HS0
    iexists _; iexact HS1

set_option maxHeartbeats 1000000 in
/-- What the body stores at the last point of a block of sample rows, which also stores the second output, with the run that stores it: on whole buffers, the inputs' at their contents,
    the body runs to a continuation that holds the inputs' buffers as they were and the stored pieces written. -/
def runD (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : ¬cond0_0 i) (hc1 : ¬cond0_1 i) (hc2 : cond0_2 i) (x0 : Vec F S512x2048 .f32) (x1 : Vec F S1x2048 .f32) (x2 : Vec F S2048x1024 .bf16) (x3 : Vec F S1024x2048 .bf16) (x4 : Vec F S1x2048 .f32) (xs0 : Vec F S512x2048 .bf16) (xs1 : Vec F S512x2048 .f32) :
    Σ' (LO : List (View.Piece (Elt F) S512x2048 .f32)), { L10 : List (View.Piece (Elt F) S512x2048 .f32) //
      ∀ (E : Set ℕ) (K : PUnit → sProp 𝕄),
        iprop(Ins c arg2 arg3 arg4 arg5 arg6 x0 x1 x2 x3 x4 ∗ (∃ d, owns (c : Thread nD τ) arg8 fullShare d) ∗ owns (c : Thread nD τ) arg9 fullShare xs0 ∗ owns (c : Thread nD τ) arg10 fullShare xs1
            ∗ (iprop(Ins c arg2 arg3 arg4 arg5 arg6 x0 x1 x2 x3 x4 ∗ (∃ f, arg8.view.loc (c : Thread nD τ) ↦[arg8.view.set]{fullShare} arg8.view.writes (Elt F) f LO) ∗ owns (c : Thread nD τ) arg9 fullShare xs0 ∗ (∃ f, arg10.view.loc (c : Thread nD τ) ↦[arg10.view.set]{fullShare} arg10.view.writes (Elt F) f L10)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10) K } := by
  refine ⟨?_, ?_, fun E K => ?run⟩
  case run =>
    simp only [cc0_ffn_eq_skeleton]; unfold cc0_ffn_skel
    unfold Ins; unfold owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1
    sl_exec (disch := first | sl_exact hc0 | sl_exact hc1 | sl_exact hc2)
    sl_step
    iapply Hk
    isplitl [H0 H1 H2 H3 H4]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      iexists _; isplitr; · ipureintro; exact harg6.read_unread _
      iexact H4
    isplitl [H5]
    · iexists _; iexact H5
    isplitl [HS0]
    · iexists _; isplitr; · ipureintro; exact harg9.read_unread _
      iexact HS0
    iexists _; iexact HS1

end Cert.FfnRun

end
-- ==== Proof.FfnStep.lean ====
/- The contents the feed-forward body stores, case by case, named as the payloads of its stores. -/
module

public import proofs.«01_k».proof.Proof.FfnRun
public import Idealize.ShloMosaic.Lib.Pipeline.ValueKit

@[expose] public section

set_option maxRecDepth 16384

noncomputable section

namespace Cert.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

theorem canonA_9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : cond0_0 i) (hc1 : ¬cond0_1 i) (hc2 : ¬cond0_2 i) (x0 : Vec F S512x2048 .f32) (x1 : Vec F S1x2048 .f32) (x2 : Vec F S2048x1024 .bf16) (x3 : Vec F S1024x2048 .bf16) (x4 : Vec F S1x2048 .f32) :
    (∀ y : S512x2048.Idx, ∃ pc ∈ (runA c i arg2 harg2 arg3 harg3 arg4 harg4 arg5 harg5 arg6 harg6 arg7 harg7 arg8 harg8 arg9 harg9 arg10 harg10 hc0 hc1 hc2 x0 x1 x2 x3 x4).1, y ∈ pc.1.set)
      ∧ View.canon (runA c i arg2 harg2 arg3 harg3 arg4 harg4 arg5 harg5 arg6 harg6 arg7 harg7 arg8 harg8 arg9 harg9 arg10 harg10 hc0 hc1 hc2 x0 x1 x2 x3 x4).1 = (k0_pay1 x0 x1) := by
  refine ⟨fun y => View.cover_of_tiledL (runA c i arg2 harg2 arg3 harg3 arg4 harg4 arg5 harg5 arg6 harg6 arg7 harg7 arg8 harg8 arg9 harg9 arg10 harg10 hc0 hc1 hc2 x0 x1 x2 x3 x4).1 S512x2048.size (by sl_kernel_rfl) y, ?_⟩
  frame_out

theorem canonA_10 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : cond0_0 i) (hc1 : ¬cond0_1 i) (hc2 : ¬cond0_2 i) (x0 : Vec F S512x2048 .f32) (x1 : Vec F S1x2048 .f32) (x2 : Vec F S2048x1024 .bf16) (x3 : Vec F S1024x2048 .bf16) (x4 : Vec F S1x2048 .f32) :
    (∀ y : S512x2048.Idx, ∃ pc ∈ (runA c i arg2 harg2 arg3 harg3 arg4 harg4 arg5 harg5 arg6 harg6 arg7 harg7 arg8 harg8 arg9 harg9 arg10 harg10 hc0 hc1 hc2 x0 x1 x2 x3 x4).2.1, y ∈ pc.1.set)
      ∧ View.canon (runA c i arg2 harg2 arg3 harg3 arg4 harg4 arg5 harg5 arg6 harg6 arg7 harg7 arg8 harg8 arg9 harg9 arg10 harg10 hc0 hc1 hc2 x0 x1 x2 x3 x4).2.1 = (k0_pay3 (k0_pay1 x0 x1) x2 k0_pay2 x3) := by
  refine ⟨fun y => View.cover_of_tiledL (runA c i arg2 harg2 arg3 harg3 arg4 harg4 arg5 harg5 arg6 harg6 arg7 harg7 arg8 harg8 arg9 harg9 arg10 harg10 hc0 hc1 hc2 x0 x1 x2 x3 x4).2.1 S512x2048.size (by sl_kernel_rfl) y, ?_⟩
  frame_out

/-- Case A with the stored contents named. -/
theorem stepA (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : cond0_0 i) (hc1 : ¬cond0_1 i) (hc2 : ¬cond0_2 i) (x0 : Vec F S512x2048 .f32) (x1 : Vec F S1x2048 .f32) (x2 : Vec F S2048x1024 .bf16) (x3 : Vec F S1024x2048 .bf16) (x4 : Vec F S1x2048 .f32) (E : Set ℕ) (K : PUnit → sProp 𝕄) :
    iprop(Ins c arg2 arg3 arg4 arg5 arg6 x0 x1 x2 x3 x4 ∗ (∃ d, owns (c : Thread nD τ) arg9 fullShare d) ∗ (∃ d, owns (c : Thread nD τ) arg10 fullShare d)
        ∗ (iprop(Ins c arg2 arg3 arg4 arg5 arg6 x0 x1 x2 x3 x4 ∗ owns (c : Thread nD τ) arg9 fullShare (k0_pay1 x0 x1) ∗ owns (c : Thread nD τ) arg10 fullShare (k0_pay3 (k0_pay1 x0 x1) x2 k0_pay2 x3)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  iintro ⟨HI, H9, H10, Hk⟩
  iapply ((runA c i arg2 harg2 arg3 harg3 arg4 harg4 arg5 harg5 arg6 harg6 arg7 harg7 arg8 harg8 arg9 harg9 arg10 harg10 hc0 hc1 hc2 x0 x1 x2 x3 x4).2.2 E K)
  isplitl [HI]; · iexact HI
  isplitl [H9]; · iexact H9
  isplitl [H10]; · iexact H10
  iintro ⟨HI, ⟨%e9, H9⟩, ⟨%e10, H10⟩⟩
  iapply Hk
  isplitl [HI]; · iexact HI
  isplitl [H9]
  · unfold owns; iexists _; isplitr
    swap; · iexact H9
    ipureintro; exact (View.read_writes_eq_canon _ _ _ (canonA_9 c i arg2 harg2 arg3 harg3 arg4 harg4 arg5 harg5 arg6 harg6 arg7 harg7 arg8 harg8 arg9 harg9 arg10 harg10 hc0 hc1 hc2 x0 x1 x2 x3 x4).1).trans (canonA_9 c i arg2 harg2 arg3 harg3 arg4 harg4 arg5 harg5 arg6 harg6 arg7 harg7 arg8 harg8 arg9 harg9 arg10 harg10 hc0 hc1 hc2 x0 x1 x2 x3 x4).2
  unfold owns; iexists _; isplitr
  swap; · iexact H10
  ipureintro; exact (View.read_writes_eq_canon _ _ _ (canonA_10 c i arg2 harg2 arg3 harg3 arg4 harg4 arg5 harg5 arg6 harg6 arg7 harg7 arg8 harg8 arg9 harg9 arg10 harg10 hc0 hc1 hc2 x0 x1 x2 x3 x4).1).trans (canonA_10 c i arg2 harg2 arg3 harg3 arg4 harg4 arg5 harg5 arg6 harg6 arg7 harg7 arg8 harg8 arg9 harg9 arg10 harg10 hc0 hc1 hc2 x0 x1 x2 x3 x4).2

theorem canonB_10 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : ¬cond0_0 i) (hc1 : ¬cond0_1 i) (hc2 : ¬cond0_2 i) (x0 : Vec F S512x2048 .f32) (x1 : Vec F S1x2048 .f32) (x2 : Vec F S2048x1024 .bf16) (x3 : Vec F S1024x2048 .bf16) (x4 : Vec F S1x2048 .f32) (xs0 : Vec F S512x2048 .bf16) (xs1 : Vec F S512x2048 .f32) :
    (∀ y : S512x2048.Idx, ∃ pc ∈ (runB c i arg2 harg2 arg3 harg3 arg4 harg4 arg5 harg5 arg6 harg6 arg7 harg7 arg8 harg8 arg9 harg9 arg10 harg10 hc0 hc1 hc2 x0 x1 x2 x3 x4 xs0 xs1).1, y ∈ pc.1.set)
      ∧ View.canon (runB c i arg2 harg2 arg3 harg3 arg4 harg4 arg5 harg5 arg6 harg6 arg7 harg7 arg8 harg8 arg9 harg9 arg10 harg10 hc0 hc1 hc2 x0 x1 x2 x3 x4 xs0 xs1).1 = (k0_pay3 xs0 x2 xs1 x3) := by
  refine ⟨fun y => View.cover_of_tiledL (runB c i arg2 harg2 arg3 harg3 arg4 harg4 arg5 harg5 arg6 harg6 arg7 harg7 arg8 harg8 arg9 harg9 arg10 harg10 hc0 hc1 hc2 x0 x1 x2 x3 x4 xs0 xs1).1 S512x2048.size (by sl_kernel_rfl) y, ?_⟩
  frame_out

/-- Case B with the stored contents named. -/
theorem stepB (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : ¬cond0_0 i) (hc1 : ¬cond0_1 i) (hc2 : ¬cond0_2 i) (x0 : Vec F S512x2048 .f32) (x1 : Vec F S1x2048 .f32) (x2 : Vec F S2048x1024 .bf16) (x3 : Vec F S1024x2048 .bf16) (x4 : Vec F S1x2048 .f32) (xs0 : Vec F S512x2048 .bf16) (xs1 : Vec F S512x2048 .f32) (E : Set ℕ) (K : PUnit → sProp 𝕄) :
    iprop(Ins c arg2 arg3 arg4 arg5 arg6 x0 x1 x2 x3 x4 ∗ owns (c : Thread nD τ) arg9 fullShare xs0 ∗ owns (c : Thread nD τ) arg10 fullShare xs1
        ∗ (iprop(Ins c arg2 arg3 arg4 arg5 arg6 x0 x1 x2 x3 x4 ∗ owns (c : Thread nD τ) arg9 fullShare xs0 ∗ owns (c : Thread nD τ) arg10 fullShare (k0_pay3 xs0 x2 xs1 x3)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  iintro ⟨HI, H9, H10, Hk⟩
  iapply ((runB c i arg2 harg2 arg3 harg3 arg4 harg4 arg5 harg5 arg6 harg6 arg7 harg7 arg8 harg8 arg9 harg9 arg10 harg10 hc0 hc1 hc2 x0 x1 x2 x3 x4 xs0 xs1).2 E K)
  isplitl [HI]; · iexact HI
  isplitl [H9]; · iexact H9
  isplitl [H10]; · iexact H10
  iintro ⟨HI, H9, ⟨%e10, H10⟩⟩
  iapply Hk
  isplitl [HI]; · iexact HI
  isplitl [H9]; · iexact H9
  unfold owns; iexists _; isplitr
  swap; · iexact H10
  ipureintro; exact (View.read_writes_eq_canon _ _ _ (canonB_10 c i arg2 harg2 arg3 harg3 arg4 harg4 arg5 harg5 arg6 harg6 arg7 harg7 arg8 harg8 arg9 harg9 arg10 harg10 hc0 hc1 hc2 x0 x1 x2 x3 x4 xs0 xs1).1).trans (canonB_10 c i arg2 harg2 arg3 harg3 arg4 harg4 arg5 harg5 arg6 harg6 arg7 harg7 arg8 harg8 arg9 harg9 arg10 harg10 hc0 hc1 hc2 x0 x1 x2 x3 x4 xs0 xs1).2

theorem canonC_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : ¬cond0_0 i) (hc1 : cond0_1 i) (hc2 : ¬cond0_2 i) (x0 : Vec F S512x2048 .f32) (x1 : Vec F S1x2048 .f32) (x2 : Vec F S2048x1024 .bf16) (x3 : Vec F S1024x2048 .bf16) (x4 : Vec F S1x2048 .f32) (xs0 : Vec F S512x2048 .bf16) (xs1 : Vec F S512x2048 .f32) :
    (∀ y : S512x2048.Idx, ∃ pc ∈ (runC c i arg2 harg2 arg3 harg3 arg4 harg4 arg5 harg5 arg6 harg6 arg7 harg7 arg8 harg8 arg9 harg9 arg10 harg10 hc0 hc1 hc2 x0 x1 x2 x3 x4 xs0 xs1).1, y ∈ pc.1.set)
      ∧ View.canon (runC c i arg2 harg2 arg3 harg3 arg4 harg4 arg5 harg5 arg6 harg6 arg7 harg7 arg8 harg8 arg9 harg9 arg10 harg10 hc0 hc1 hc2 x0 x1 x2 x3 x4 xs0 xs1).1 = (k0_pay4 x0 (k0_pay3 xs0 x2 xs1 x3) x4) := by
  refine ⟨fun y => View.cover_of_tiledL (runC c i arg2 harg2 arg3 harg3 arg4 harg4 arg5 harg5 arg6 harg6 arg7 harg7 arg8 harg8 arg9 harg9 arg10 harg10 hc0 hc1 hc2 x0 x1 x2 x3 x4 xs0 xs1).1 S512x2048.size (by sl_kernel_rfl) y, ?_⟩
  frame_out

theorem canonC_10 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : ¬cond0_0 i) (hc1 : cond0_1 i) (hc2 : ¬cond0_2 i) (x0 : Vec F S512x2048 .f32) (x1 : Vec F S1x2048 .f32) (x2 : Vec F S2048x1024 .bf16) (x3 : Vec F S1024x2048 .bf16) (x4 : Vec F S1x2048 .f32) (xs0 : Vec F S512x2048 .bf16) (xs1 : Vec F S512x2048 .f32) :
    (∀ y : S512x2048.Idx, ∃ pc ∈ (runC c i arg2 harg2 arg3 harg3 arg4 harg4 arg5 harg5 arg6 harg6 arg7 harg7 arg8 harg8 arg9 harg9 arg10 harg10 hc0 hc1 hc2 x0 x1 x2 x3 x4 xs0 xs1).2.1, y ∈ pc.1.set)
      ∧ View.canon (runC c i arg2 harg2 arg3 harg3 arg4 harg4 arg5 harg5 arg6 harg6 arg7 harg7 arg8 harg8 arg9 harg9 arg10 harg10 hc0 hc1 hc2 x0 x1 x2 x3 x4 xs0 xs1).2.1 = (k0_pay3 xs0 x2 xs1 x3) := by
  refine ⟨fun y => View.cover_of_tiledL (runC c i arg2 harg2 arg3 harg3 arg4 harg4 arg5 harg5 arg6 harg6 arg7 harg7 arg8 harg8 arg9 harg9 arg10 harg10 hc0 hc1 hc2 x0 x1 x2 x3 x4 xs0 xs1).2.1 S512x2048.size (by sl_kernel_rfl) y, ?_⟩
  frame_out

/-- Case C with the stored contents named. -/
theorem stepC (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : ¬cond0_0 i) (hc1 : cond0_1 i) (hc2 : ¬cond0_2 i) (x0 : Vec F S512x2048 .f32) (x1 : Vec F S1x2048 .f32) (x2 : Vec F S2048x1024 .bf16) (x3 : Vec F S1024x2048 .bf16) (x4 : Vec F S1x2048 .f32) (xs0 : Vec F S512x2048 .bf16) (xs1 : Vec F S512x2048 .f32) (E : Set ℕ) (K : PUnit → sProp 𝕄) :
    iprop(Ins c arg2 arg3 arg4 arg5 arg6 x0 x1 x2 x3 x4 ∗ (∃ d, owns (c : Thread nD τ) arg7 fullShare d) ∗ owns (c : Thread nD τ) arg9 fullShare xs0 ∗ owns (c : Thread nD τ) arg10 fullShare xs1
        ∗ (iprop(Ins c arg2 arg3 arg4 arg5 arg6 x0 x1 x2 x3 x4 ∗ owns (c : Thread nD τ) arg7 fullShare (k0_pay4 x0 (k0_pay3 xs0 x2 xs1 x3) x4) ∗ owns (c : Thread nD τ) arg9 fullShare xs0 ∗ owns (c : Thread nD τ) arg10 fullShare (k0_pay3 xs0 x2 xs1 x3)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  iintro ⟨HI, HO, H9, H10, Hk⟩
  iapply ((runC c i arg2 harg2 arg3 harg3 arg4 harg4 arg5 harg5 arg6 harg6 arg7 harg7 arg8 harg8 arg9 harg9 arg10 harg10 hc0 hc1 hc2 x0 x1 x2 x3 x4 xs0 xs1).2.2 E K)
  isplitl [HI]; · iexact HI
  isplitl [HO]; · iexact HO
  isplitl [H9]; · iexact H9
  isplitl [H10]; · iexact H10
  iintro ⟨HI, ⟨%eo, HO⟩, H9, ⟨%e10, H10⟩⟩
  iapply Hk
  isplitl [HI]; · iexact HI
  isplitl [HO]
  · unfold owns; iexists _; isplitr
    swap; · iexact HO
    ipureintro; exact (View.read_writes_eq_canon _ _ _ (canonC_7 c i arg2 harg2 arg3 harg3 arg4 harg4 arg5 harg5 arg6 harg6 arg7 harg7 arg8 harg8 arg9 harg9 arg10 harg10 hc0 hc1 hc2 x0 x1 x2 x3 x4 xs0 xs1).1).trans (canonC_7 c i arg2 harg2 arg3 harg3 arg4 harg4 arg5 harg5 arg6 harg6 arg7 harg7 arg8 harg8 arg9 harg9 arg10 harg10 hc0 hc1 hc2 x0 x1 x2 x3 x4 xs0 xs1).2
  isplitl [H9]; · iexact H9
  unfold owns; iexists _; isplitr
  swap; · iexact H10
  ipureintro; exact (View.read_writes_eq_canon _ _ _ (canonC_10 c i arg2 harg2 arg3 harg3 arg4 harg4 arg5 harg5 arg6 harg6 arg7 harg7 arg8 harg8 arg9 harg9 arg10 harg10 hc0 hc1 hc2 x0 x1 x2 x3 x4 xs0 xs1).1).trans (canonC_10 c i arg2 harg2 arg3 harg3 arg4 harg4 arg5 harg5 arg6 harg6 arg7 harg7 arg8 harg8 arg9 harg9 arg10 harg10 hc0 hc1 hc2 x0 x1 x2 x3 x4 xs0 xs1).2

theorem canonD_8 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : ¬cond0_0 i) (hc1 : ¬cond0_1 i) (hc2 : cond0_2 i) (x0 : Vec F S512x2048 .f32) (x1 : Vec F S1x2048 .f32) (x2 : Vec F S2048x1024 .bf16) (x3 : Vec F S1024x2048 .bf16) (x4 : Vec F S1x2048 .f32) (xs0 : Vec F S512x2048 .bf16) (xs1 : Vec F S512x2048 .f32) :
    (∀ y : S512x2048.Idx, ∃ pc ∈ (runD c i arg2 harg2 arg3 harg3 arg4 harg4 arg5 harg5 arg6 harg6 arg7 harg7 arg8 harg8 arg9 harg9 arg10 harg10 hc0 hc1 hc2 x0 x1 x2 x3 x4 xs0 xs1).1, y ∈ pc.1.set)
      ∧ View.canon (runD c i arg2 harg2 arg3 harg3 arg4 harg4 arg5 harg5 arg6 harg6 arg7 harg7 arg8 harg8 arg9 harg9 arg10 harg10 hc0 hc1 hc2 x0 x1 x2 x3 x4 xs0 xs1).1 = (k0_pay5 x0 (k0_pay3 xs0 x2 xs1 x3) x4) := by
  refine ⟨fun y => View.cover_of_tiledL (runD c i arg2 harg2 arg3 harg3 arg4 harg4 arg5 harg5 arg6 harg6 arg7 harg7 arg8 harg8 arg9 harg9 arg10 harg10 hc0 hc1 hc2 x0 x1 x2 x3 x4 xs0 xs1).1 S512x2048.size (by sl_kernel_rfl) y, ?_⟩
  frame_out

theorem canonD_10 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : ¬cond0_0 i) (hc1 : ¬cond0_1 i) (hc2 : cond0_2 i) (x0 : Vec F S512x2048 .f32) (x1 : Vec F S1x2048 .f32) (x2 : Vec F S2048x1024 .bf16) (x3 : Vec F S1024x2048 .bf16) (x4 : Vec F S1x2048 .f32) (xs0 : Vec F S512x2048 .bf16) (xs1 : Vec F S512x2048 .f32) :
    (∀ y : S512x2048.Idx, ∃ pc ∈ (runD c i arg2 harg2 arg3 harg3 arg4 harg4 arg5 harg5 arg6 harg6 arg7 harg7 arg8 harg8 arg9 harg9 arg10 harg10 hc0 hc1 hc2 x0 x1 x2 x3 x4 xs0 xs1).2.1, y ∈ pc.1.set)
      ∧ View.canon (runD c i arg2 harg2 arg3 harg3 arg4 harg4 arg5 harg5 arg6 harg6 arg7 harg7 arg8 harg8 arg9 harg9 arg10 harg10 hc0 hc1 hc2 x0 x1 x2 x3 x4 xs0 xs1).2.1 = (k0_pay3 xs0 x2 xs1 x3) := by
  refine ⟨fun y => View.cover_of_tiledL (runD c i arg2 harg2 arg3 harg3 arg4 harg4 arg5 harg5 arg6 harg6 arg7 harg7 arg8 harg8 arg9 harg9 arg10 harg10 hc0 hc1 hc2 x0 x1 x2 x3 x4 xs0 xs1).2.1 S512x2048.size (by sl_kernel_rfl) y, ?_⟩
  frame_out

/-- Case D with the stored contents named. -/
theorem stepD (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (hc0 : ¬cond0_0 i) (hc1 : ¬cond0_1 i) (hc2 : cond0_2 i) (x0 : Vec F S512x2048 .f32) (x1 : Vec F S1x2048 .f32) (x2 : Vec F S2048x1024 .bf16) (x3 : Vec F S1024x2048 .bf16) (x4 : Vec F S1x2048 .f32) (xs0 : Vec F S512x2048 .bf16) (xs1 : Vec F S512x2048 .f32) (E : Set ℕ) (K : PUnit → sProp 𝕄) :
    iprop(Ins c arg2 arg3 arg4 arg5 arg6 x0 x1 x2 x3 x4 ∗ (∃ d, owns (c : Thread nD τ) arg8 fullShare d) ∗ owns (c : Thread nD τ) arg9 fullShare xs0 ∗ owns (c : Thread nD τ) arg10 fullShare xs1
        ∗ (iprop(Ins c arg2 arg3 arg4 arg5 arg6 x0 x1 x2 x3 x4 ∗ owns (c : Thread nD τ) arg8 fullShare (k0_pay5 x0 (k0_pay3 xs0 x2 xs1 x3) x4) ∗ owns (c : Thread nD τ) arg9 fullShare xs0 ∗ owns (c : Thread nD τ) arg10 fullShare (k0_pay3 xs0 x2 xs1 x3)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  iintro ⟨HI, HO, H9, H10, Hk⟩
  iapply ((runD c i arg2 harg2 arg3 harg3 arg4 harg4 arg5 harg5 arg6 harg6 arg7 harg7 arg8 harg8 arg9 harg9 arg10 harg10 hc0 hc1 hc2 x0 x1 x2 x3 x4 xs0 xs1).2.2 E K)
  isplitl [HI]; · iexact HI
  isplitl [HO]; · iexact HO
  isplitl [H9]; · iexact H9
  isplitl [H10]; · iexact H10
  iintro ⟨HI, ⟨%eo, HO⟩, H9, ⟨%e10, H10⟩⟩
  iapply Hk
  isplitl [HI]; · iexact HI
  isplitl [HO]
  · unfold owns; iexists _; isplitr
    swap; · iexact HO
    ipureintro; exact (View.read_writes_eq_canon _ _ _ (canonD_8 c i arg2 harg2 arg3 harg3 arg4 harg4 arg5 harg5 arg6 harg6 arg7 harg7 arg8 harg8 arg9 harg9 arg10 harg10 hc0 hc1 hc2 x0 x1 x2 x3 x4 xs0 xs1).1).trans (canonD_8 c i arg2 harg2 arg3 harg3 arg4 harg4 arg5 harg5 arg6 harg6 arg7 harg7 arg8 harg8 arg9 harg9 arg10 harg10 hc0 hc1 hc2 x0 x1 x2 x3 x4 xs0 xs1).2
  isplitl [H9]; · iexact H9
  unfold owns; iexists _; isplitr
  swap; · iexact H10
  ipureintro; exact (View.read_writes_eq_canon _ _ _ (canonD_10 c i arg2 harg2 arg3 harg3 arg4 harg4 arg5 harg5 arg6 harg6 arg7 harg7 arg8 harg8 arg9 harg9 arg10 harg10 hc0 hc1 hc2 x0 x1 x2 x3 x4 xs0 xs1).1).trans (canonD_10 c i arg2 harg2 arg3 harg3 arg4 harg4 arg5 harg5 arg6 harg6 arg7 harg7 arg8 harg8 arg9 harg9 arg10 harg10 hc0 hc1 hc2 x0 x1 x2 x3 x4 xs0 xs1).2

end Cert.FfnRun

end
-- ==== Proof.FfnDat.lean ====
/- What the feed-forward launch holds at every grid point: the two scratch buffers, and the outputs where they are stored and written back. -/
module

public import proofs.«01_k».proof.Proof.FfnStep
public import proofs.«01_k».proof.Proof.Gen.FfnIdeal.Frame

@[expose] public section

set_option maxRecDepth 16384

noncomputable section

namespace Cert.FfnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen Cert.FfnRun

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' current buffers -/

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .f32 := win0_6.stage (cfg0.slots t 6)
abbrev hs0_6 (t : Fin cfg0.N) : (ms0_6 t).IsWhole := hstage0_6 ((cfg0.slots t 6).cast nbuf0_6)

/-! ## What the two scratch buffers hold -/

/-- The scratch that holds the normalised rows, as a whole buffer. -/
abbrev scN : Memref sig .tc .vmem S512x2048 .bf16 := Memref.whole cc0_scratch0
/-- The scratch that holds the running sum, as a whole buffer. -/
abbrev scA : Memref sig .tc .vmem S512x2048 .f32 := Memref.whole cc0_scratch1

/-- After the first chunk of a block of rows. -/
def first (c : Dev nD) (t : Fin cfg0.N) : Vec F S512x2048 .bf16 × Vec F S512x2048 .f32 :=
  (k0_pay1 (iblk m c 0 t) (iblk m c 1 t), k0_pay3 (k0_pay1 (iblk m c 0 t) (iblk m c 1 t)) (iblk m c 2 t) k0_pay2 (iblk m c 3 t))

/-- After a later chunk, from what the chunk before left. -/
def next (c : Dev nD) (t : Fin cfg0.N) (s : Vec F S512x2048 .bf16 × Vec F S512x2048 .f32) : Vec F S512x2048 .bf16 × Vec F S512x2048 .f32 :=
  (s.1, k0_pay3 s.1 (iblk m c 2 t) s.2 (iblk m c 3 t))

/-- The normalised rows and the running sum after each grid point. -/
def scr (c : Dev nD) : (n : ℕ) → n < cfg0.N → Vec F S512x2048 .bf16 × Vec F S512x2048 .f32
  | 0, h => first m c ⟨0, h⟩
  | n + 1, h => if (n + 1) % 8 = 0 then first m c ⟨n + 1, h⟩ else next m c ⟨n + 1, h⟩ (scr c n (Nat.lt_of_succ_lt h))

theorem scr_first (c : Dev nD) (t : Fin cfg0.N) (h : t.val % 8 = 0) : scr m c t.val t.isLt = first m c t := by
  obtain ⟨n, hn⟩ := t
  cases n with
  | zero => rfl
  | succ n => exact if_pos h

theorem scr_next (c : Dev nD) (t : Fin cfg0.N) (h : t.val % 8 ≠ 0) :
    scr m c t.val t.isLt = next m c t (scr m c (t.val - 1) (Nat.lt_of_le_of_lt (Nat.sub_le _ _) t.isLt)) := by
  obtain ⟨n, hn⟩ := t
  cases n with
  | zero => exact absurd rfl h
  | succ n => exact if_neg h

/-- The rows of prompt the body stores at a block's last point, -/
def outP (c : Dev nD) (t : Fin cfg0.N) : Vec F S512x2048 .f32 := k0_pay4 (iblk m c 0 t) (scr m c t.val t.isLt).2 (iblk m c 4 t)
/-- and the rows of sample. -/
def outS (c : Dev nD) (t : Fin cfg0.N) : Vec F S512x2048 .f32 := k0_pay5 (iblk m c 0 t) (scr m c t.val t.isLt).2 (iblk m c 4 t)

/-- The last point at which the body stores rows of prompt. -/
abbrev lastP : Fin cfg0.N := ⟨127, by rw [show cfg0.N = 144 from N_0]; decide⟩

/-! ## The invariant -/

/-- Between points: the two scratch buffers at what the point before left, the generator register at some state. -/
def PhiS (c : Dev nD) : (n : ℕ) → n ≤ cfg0.N → sProp 𝕄
  | 0, _ => Pipeline.ΦA spec0 c
  | n + 1, hn => iprop(iprop(owns (c : Thread nD τ) scN fullShare (scr m c n hn).1 ∗ owns (c : Thread nD τ) scA fullShare (scr m c n hn).2) ∗ (∃ r, prngReg c r))

theorem PhiS_pos (c : Dev nD) (n : ℕ) (h : n ≤ cfg0.N) (hz : n ≠ 0) :
    PhiS m c n h = iprop(iprop(owns (c : Thread nD τ) scN fullShare (scr m c (n - 1) (by omega)).1 ∗ owns (c : Thread nD τ) scA fullShare (scr m c (n - 1) (by omega)).2) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) scN fullShare d) ∗ (∃ d, owns (c : Thread nD τ) scA fullShare d)) ∗ (∃ r, prngReg c r)) := by
  unfold Pipeline.ΦA; rw [scopedRest0_eq]; simp only [scN, scA, owns_whole]; try rfl

/-- Whatever the point, the invariant gives the scratch buffers at some contents. -/
theorem PhiS_any (c : Dev nD) (n : ℕ) (h : n ≤ cfg0.N) : PhiS m c n h ⊢ Pipeline.ΦA spec0 c := by
  cases n with
  | zero => exact Entails.refl _
  | succ n =>
    unfold PhiS; rw [PhiA_eq]
    iintro ⟨⟨HN, HA⟩, Hg⟩
    isplitl [HN HA]
    · isplitl [HN]
      · iexists _; iexact HN
      iexists _; iexact HA
    iexact Hg

/-! ## The pipeline's proof data -/

/-- The arrays as the launch finds them; each input's buffer at its block; the prompt's output at what the last point that
    stored into it left, the sample's at what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outP m c (if t.val < 128 then t else lastP)
    | ⟨6, _⟩ => outS m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outP m c (if t.val < 128 then t else lastP) := by dsimp only [dats]
theorem after_6 (c : Dev nD) (t : Fin cfg0.N) : (dats m 0 c).after 6 t = outS m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## Where the outputs are stored and written back -/

theorem leaves_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after_4]

theorem idle_5 : ∀ t : Fin cfg0.N, cfg0.idle 5 (cfg0.grid.coords t) = !(decide (t.val % 8 = 7) && decide (t.val < 128)) := by decide +kernel
theorem idle_6 : ∀ t : Fin cfg0.N, cfg0.idle 6 (cfg0.grid.coords t) = !(decide (t.val % 8 = 7) && decide (128 ≤ t.val)) := by decide +kernel
theorem flush_5 : ∀ t : Fin cfg0.N, (cfg0.win 5).flush t = ((decide (t.val % 8 = 7) && decide (t.val < 127)) || decide (t.val = 143)) := by decide +kernel
theorem flush_6 : ∀ t : Fin cfg0.N, (cfg0.win 6).flush t = (decide (t.val % 8 = 7) && decide (128 ≤ t.val)) := by decide +kernel

/-- One step back from a point whose predecessor does not write the prompt's block back. -/
theorem before_5_step (c : Dev nD) (t s : Fin cfg0.N) (h : t.val = s.val + 1) (hf : (cfg0.win 5).flush s = false) (d) :
    (dats m 0 c).before 5 t d = (dats m 0 c).left 5 s d := by
  have e : (⟨t.val - 1, Nat.lt_of_le_of_lt (Nat.sub_le _ _) t.isLt⟩ : Fin cfg0.N) = s := Fin.ext (by show t.val - 1 = s.val; omega)
  rw [(dats m 0 c).before_of_pos 5 t (by omega) rfl, e, hf, if_neg Bool.false_ne_true]

/-- After the last block of prompt rows the prompt's buffer keeps what was stored there. -/
theorem before_5_late (c : Dev nD) (d) : ∀ k (hk : 128 + k < cfg0.N), (dats m 0 c).before 5 ⟨128 + k, hk⟩ d = outP m c lastP := by
  have hN : cfg0.N = 144 := N_0
  intro k
  induction k with
  | zero =>
    intro hk
    rw [before_5_step m c ⟨128 + 0, hk⟩ lastP rfl (by rw [flush_5]; decide)]
    unfold Dat.left
    rw [show cfg0.idle 5 (cfg0.grid.coords lastP) = false from by rw [idle_5]; decide]
    exact (show _ = (dats m 0 c).after 5 lastP from rfl).trans (after_5 m c lastP)
  | succ k ih =>
    intro hk
    rw [before_5_step m c ⟨128 + (k + 1), hk⟩ ⟨128 + k, Nat.lt_of_succ_lt hk⟩ rfl (by
      rw [flush_5]; simp only [Bool.or_eq_false_iff, Bool.and_eq_false_iff, decide_eq_false_iff_not]; omega)]
    unfold Dat.left
    rw [show cfg0.idle 5 (cfg0.grid.coords ⟨128 + k, Nat.lt_of_succ_lt hk⟩) = true from by
      rw [idle_5]; simp only [Bool.not_eq_true', Bool.and_eq_false_iff, decide_eq_false_iff_not]; omega]
    exact ih (Nat.lt_of_succ_lt hk)

/-- Where the body does not store the prompt's output, handing its buffer back as found is what is asked. -/
theorem pass_5 (c : Dev nD) (t : Fin cfg0.N) (h : ¬(t.val % 8 = 7 ∧ t.val < 128)) (d) :
    (owns (c : Thread nD τ) (ms0_5 t) fullShare ((dats m 0 c).before 5 t d) : sProp 𝕄) ⊢ (dats m 0 c).leavesExact 5 t := by
  have hN : t.val < 144 := lt_of_lt_of_eq t.isLt (show cfg0.N = 144 from N_0)
  have hi : cfg0.idle 5 (cfg0.grid.coords t) = true := by
    rw [idle_5]; simp only [Bool.not_eq_true', Bool.and_eq_false_iff, decide_eq_false_iff_not]; omega
  by_cases h143 : t.val = 143
  · have ht : t = ⟨128 + 15, by rw [show cfg0.N = 144 from N_0]; decide⟩ := Fin.ext h143
    have hf : (cfg0.win 5).flush t = true := by rw [flush_5]; simp [h143]
    have e : (dats m 0 c).leavesExact 5 t = owns (c : Thread nD τ) (ms0_5 t) fullShare ((dats m 0 c).after 5 t) := by
      unfold Dat.leavesExact; rw [hi, hf]
    rw [e, after_5, if_neg (by omega)]
    have hb : (dats m 0 c).before 5 t d = outP m c lastP := by rw [ht]; exact before_5_late m c d 15 _
    rw [hb]
  · have hf : (cfg0.win 5).flush t = false := by
      rw [flush_5]; simp only [Bool.or_eq_false_iff, Bool.and_eq_false_iff, decide_eq_false_iff_not]; omega
    rw [(dats m 0 c).leavesExact_idle 5 t hi hf]
    iintro H; iexists _; iexact H

/-- The same for the sample's output. -/
theorem pass_6 (c : Dev nD) (t : Fin cfg0.N) (h : ¬(t.val % 8 = 7 ∧ 128 ≤ t.val)) (d) :
    (owns (c : Thread nD τ) (ms0_6 t) fullShare ((dats m 0 c).before 6 t d) : sProp 𝕄) ⊢ (dats m 0 c).leavesExact 6 t := by
  have hi : cfg0.idle 6 (cfg0.grid.coords t) = true := by
    rw [idle_6]; simp only [Bool.not_eq_true', Bool.and_eq_false_iff, decide_eq_false_iff_not]; omega
  have hf : (cfg0.win 6).flush t = false := by
    rw [flush_6]; simp only [Bool.and_eq_false_iff, decide_eq_false_iff_not]; omega
  rw [(dats m 0 c).leavesExact_idle 6 t hi hf]
  iintro H; iexists _; iexact H

theorem leaves_5 (c : Dev nD) (t : Fin cfg0.N) (h : t.val % 8 = 7) (hl : t.val < 128) :
    (dats m 0 c).leavesExact 5 t = owns (c : Thread nD τ) (ms0_5 t) fullShare (outP m c t) := by
  unfold Dat.leavesExact; rw [show cfg0.idle 5 (cfg0.grid.coords t) = false from by rw [idle_5]; simp [h, hl], after_5, if_pos hl]

theorem leaves_6 (c : Dev nD) (t : Fin cfg0.N) (h : t.val % 8 = 7) (hl : 128 ≤ t.val) :
    (dats m 0 c).leavesExact 6 t = owns (c : Thread nD τ) (ms0_6 t) fullShare (outS m c t) := by
  unfold Dat.leavesExact; rw [show cfg0.idle 6 (cfg0.grid.coords t) = false from by rw [idle_6]; simp [h, hl], after_6]

end Cert.FfnFrame

end
-- ==== Proof.FfnFrame.lean ====
/- The feed-forward launch runs: the body at every grid point, then the whole program. -/
module

public import proofs.«01_k».proof.Proof.FfnDat
public import Idealize.ShloMosaic.Lib.Claim

@[expose] public section

set_option maxRecDepth 16384

noncomputable section

namespace Cert.FfnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen Cert.FfnRun

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [leaves_0, leaves_1, leaves_2, leaves_3, leaves_4]
  rw [show (dats m 0 c).owesAt () t.succ = (dats m 0 c).owesAt () t.castSucc from rfl]
  rw [show (dats m 0 c).Φ t.succ = iprop(iprop(owns (c : Thread nD τ) scN fullShare (scr m c t.val t.isLt).1 ∗ owns (c : Thread nD τ) scA fullShare (scr m c t.val t.isLt).2) ∗ (∃ r, prngReg c r)) from rfl]
  rw [Phi_castSucc]
  have hN : t.val < 144 := lt_of_lt_of_eq t.isLt (show cfg0.N = 144 from N_0)
  by_cases h0 : t.val % 8 = 0
  · refine BIBase.Entails.trans (BI.BIClass.sep_mono (PhiS_any m c _ _) (Entails.refl _)) ?_
    rw [PhiA_eq, scr_first m c t h0]
    unfold first
    dsimp only
    iintro ⟨⟨⟨HN, HA⟩, Hg⟩, Ho, ⟨%d0, H0⟩, ⟨%d1, H1⟩, ⟨%d2, H2⟩, ⟨%d3, H3⟩, ⟨%d4, H4⟩, ⟨%d5, H5⟩, ⟨%d6, H6⟩⟩
    iapply (stepA c (grid0.coords t) _ (hs0_0 t) _ (hs0_1 t) _ (hs0_2 t) _ (hs0_3 t) _ (hs0_4 t) _ (hs0_5 t) _ (hs0_6 t) _ (Memref.isWhole_whole _) _ (Memref.isWhole_whole _) ((cond0_0_iff t).mpr h0) (fun h => by have := (cond0_1_iff t).mp h; omega) (fun h => by have := (cond0_2_iff t).mp h; omega) (iblk m c 0 t) (iblk m c 1 t) (iblk m c 2 t) (iblk m c 3 t) (iblk m c 4 t) Set.univ _)
    isplitl [H0 H1 H2 H3 H4]
    · unfold Ins
      isplitl [H0]; · iexact H0
      isplitl [H1]; · iexact H1
      isplitl [H2]; · iexact H2
      isplitl [H3]; · iexact H3
      iexact H4
    isplitl [HN]; · iexact HN
    isplitl [HA]; · iexact HA
    unfold Ins
    iintro ⟨⟨H0, H1, H2, H3, H4⟩, HN, HA⟩
    isplitl [HN HA Hg]
    · isplitl [HN HA]
      · isplitl [HN]; · iexact HN
        iexact HA
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (pass_5 m c t (by omega) d5); iexact H5
    iapply (pass_6 m c t (by omega) d6); iexact H6
  · by_cases h7 : t.val % 8 = 7
    · by_cases hl : t.val < 128
      · rw [PhiS_pos m c _ _ (fun hz => h0 (by rw [hz]))]
        rw [leaves_5 m c t h7 hl]
        unfold outP
        rw [scr_next m c t h0]
        unfold next
        dsimp only
        iintro ⟨⟨⟨HN, HA⟩, Hg⟩, Ho, ⟨%d0, H0⟩, ⟨%d1, H1⟩, ⟨%d2, H2⟩, ⟨%d3, H3⟩, ⟨%d4, H4⟩, ⟨%d5, H5⟩, ⟨%d6, H6⟩⟩
        iapply (stepC c (grid0.coords t) _ (hs0_0 t) _ (hs0_1 t) _ (hs0_2 t) _ (hs0_3 t) _ (hs0_4 t) _ (hs0_5 t) _ (hs0_6 t) _ (Memref.isWhole_whole _) _ (Memref.isWhole_whole _) (fun h => h0 ((cond0_0_iff t).mp h)) ((cond0_1_iff t).mpr ⟨h7, hl⟩) (fun h => by have := (cond0_2_iff t).mp h; omega) (iblk m c 0 t) (iblk m c 1 t) (iblk m c 2 t) (iblk m c 3 t) (iblk m c 4 t) _ _ Set.univ _)
        isplitl [H0 H1 H2 H3 H4]
        · unfold Ins
          isplitl [H0]; · iexact H0
          isplitl [H1]; · iexact H1
          isplitl [H2]; · iexact H2
          isplitl [H3]; · iexact H3
          iexact H4
        isplitl [H5]; · iexists _; iexact H5
        isplitl [HN]; · iexact HN
        isplitl [HA]; · iexact HA
        unfold Ins
        iintro ⟨⟨H0, H1, H2, H3, H4⟩, H5, HN, HA⟩
        isplitl [HN HA Hg]
        · isplitl [HN HA]
          · isplitl [HN]; · iexact HN
            iexact HA
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iapply (pass_6 m c t (by omega) d6); iexact H6
      · rw [PhiS_pos m c _ _ (fun hz => h0 (by rw [hz]))]
        rw [leaves_6 m c t h7 (Nat.le_of_not_lt hl)]
        unfold outS
        rw [scr_next m c t h0]
        unfold next
        dsimp only
        iintro ⟨⟨⟨HN, HA⟩, Hg⟩, Ho, ⟨%d0, H0⟩, ⟨%d1, H1⟩, ⟨%d2, H2⟩, ⟨%d3, H3⟩, ⟨%d4, H4⟩, ⟨%d5, H5⟩, ⟨%d6, H6⟩⟩
        iapply (stepD c (grid0.coords t) _ (hs0_0 t) _ (hs0_1 t) _ (hs0_2 t) _ (hs0_3 t) _ (hs0_4 t) _ (hs0_5 t) _ (hs0_6 t) _ (Memref.isWhole_whole _) _ (Memref.isWhole_whole _) (fun h => h0 ((cond0_0_iff t).mp h)) (fun h => by have := (cond0_1_iff t).mp h; omega) ((cond0_2_iff t).mpr ⟨h7, Nat.le_of_not_lt hl⟩) (iblk m c 0 t) (iblk m c 1 t) (iblk m c 2 t) (iblk m c 3 t) (iblk m c 4 t) _ _ Set.univ _)
        isplitl [H0 H1 H2 H3 H4]
        · unfold Ins
          isplitl [H0]; · iexact H0
          isplitl [H1]; · iexact H1
          isplitl [H2]; · iexact H2
          isplitl [H3]; · iexact H3
          iexact H4
        isplitl [H6]; · iexists _; iexact H6
        isplitl [HN]; · iexact HN
        isplitl [HA]; · iexact HA
        unfold Ins
        iintro ⟨⟨H0, H1, H2, H3, H4⟩, H6, HN, HA⟩
        isplitl [HN HA Hg]
        · isplitl [HN HA]
          · isplitl [HN]; · iexact HN
            iexact HA
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iapply (pass_5 m c t (by omega) d5); iexact H5
        iexact H6
    · rw [PhiS_pos m c _ _ (fun hz => h0 (by rw [hz]))]
      rw [scr_next m c t h0]
      unfold next
      dsimp only
      iintro ⟨⟨⟨HN, HA⟩, Hg⟩, Ho, ⟨%d0, H0⟩, ⟨%d1, H1⟩, ⟨%d2, H2⟩, ⟨%d3, H3⟩, ⟨%d4, H4⟩, ⟨%d5, H5⟩, ⟨%d6, H6⟩⟩
      iapply (stepB c (grid0.coords t) _ (hs0_0 t) _ (hs0_1 t) _ (hs0_2 t) _ (hs0_3 t) _ (hs0_4 t) _ (hs0_5 t) _ (hs0_6 t) _ (Memref.isWhole_whole _) _ (Memref.isWhole_whole _) (fun h => h0 ((cond0_0_iff t).mp h)) (fun h => h7 ((cond0_1_iff t).mp h).1) (fun h => h7 ((cond0_2_iff t).mp h).1) (iblk m c 0 t) (iblk m c 1 t) (iblk m c 2 t) (iblk m c 3 t) (iblk m c 4 t) _ _ Set.univ _)
      isplitl [H0 H1 H2 H3 H4]
      · unfold Ins
        isplitl [H0]; · iexact H0
        isplitl [H1]; · iexact H1
        isplitl [H2]; · iexact H2
        isplitl [H3]; · iexact H3
        iexact H4
      isplitl [HN]; · iexact HN
      isplitl [HA]; · iexact HA
      unfold Ins
      iintro ⟨⟨H0, H1, H2, H3, H4⟩, HN, HA⟩
      isplitl [HN HA Hg]
      · isplitl [HN HA]
        · isplitl [HN]; · iexact HN
          iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (pass_5 m c t (by omega) d5); iexact H5
      iapply (pass_6 m c t (by omega) d6); iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

/-! ## The run and the frame -/

set_option backward.isDefEq.respectTransparency.types false in
/-- The whole program runs to the end; every window's array ends at what the write-backs made it, and every semaphore is at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FfnFrame

end
-- ==== Proof.FfnValue.lean ====
/-
  The feed-forward layer with the last normalisation: what the kernel's run leaves in its two results, and what the
  reference computes, at an index. The kernel adds the hidden width up in eight chunks; the reference in one sum.
-/
module

public import proofs.«01_k».proof.Proof.FfnFrame
public import proofs.«01_k».proof.Proof.Gen.FfnRefIdeal.Read
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.FfnValue

open Idealize.ShloMosaic Idealize.ShloMosaic.TcCoe Idealize.SL.Sem

theorem exists_ix2 {a b : ℕ} (x : (⟨2, ![a, b]⟩ : Shape).Idx) : ∃ r n, x = ix2 r n := ⟨x 0, x 1, ValueIdx.eq_ix2 x⟩

section Kernel

open Cert.FfnIdeal Cert.FfnIdeal.Gen Cert.FfnFrame

/-- The arguments: the tokens, the two norms' weights and the two projections. -/
structure Args where
  x : FVec Ideal S9216x2048 .f32
  nw : FVec Ideal S1x2048 .f32
  w1 : FVec Ideal S1x2048x8192 .f32
  w2 : FVec Ideal S1x8192x2048 .f32
  fw : FVec Ideal S2048 .f32

variable (X : Args)

/-- A row over its root mean square, times the weights. -/
def nrm (h w : Fin 2048 → EReal) (j : Fin 2048) : EReal :=
  h j * Ideal.rsqrt (Ideal.div (∑ x, h x * h x) (Ideal.ofBits FTy.f32 0x45000000#32) + Ideal.ofBits FTy.f32 0x358637BD#32) * w j

/-- One hidden unit's share of the layer's output: the square of its positive part, times its weight. -/
def unit (xn w1 : Fin 2048 → EReal) (w2 : EReal) : EReal := max (∑ j, xn j * w1 j) 0 * max (∑ j, xn j * w1 j) 0 * w2

/-- Hidden unit `k` at row `r`, in output column `n`. -/
def term (r : Fin 9216) (n : Fin 2048) (k : Fin 8192) : EReal :=
  unit (nrm (fun j => X.x (ix2 r j)) fun j => X.nw (ix2 0 j)) (fun j => X.w1 (ix3 0 j k)) (X.w2 (ix3 0 k n))

/-- The result at row `r` and column `n`. -/
def out (r : Fin 9216) (n : Fin 2048) : EReal :=
  nrm (fun j => X.x (ix2 r j) + ∑ k, term X r j k) (fun j => X.fw (ix1 j)) n

/-- The prompt's rows and the sample group's. -/
def gP (i : S8192x2048.Idx) : EReal := out X ⟨(i 0).val, lt_of_lt_of_le (show (i 0).val < 8192 from (i 0).isLt) (by decide)⟩ (i 1)
def gS (i : S1024x2048.Idx) : EReal := out X ⟨8192 + (i 0).val, Nat.add_lt_add_left (show (i 0).val < 1024 from (i 0).isLt) 8192⟩ (i 1)

theorem gP_at (i : S8192x2048.Idx) (r : Fin 9216) (n : Fin 2048) (h0 : (i 0).val = r.val) (h1 : (i 1).val = n.val) : gP X i = out X r n := by
  unfold gP
  congr 1 <;> apply Fin.ext <;> assumption
theorem gS_at (i : S1024x2048.Idx) (r : Fin 9216) (n : Fin 2048) (h0 : 8192 + (i 0).val = r.val) (h1 : (i 1).val = n.val) : gS X i = out X r n := by
  unfold gS
  congr 1 <;> apply Fin.ext <;> assumption

/-! ## The sum over the hidden width, chunk by chunk -/

/-- A chunk of 1024 hidden units. -/
def chunk (g : Fin 8192 → EReal) (f : ℕ) : EReal := ∑ k : Fin 1024, g ⟨(f * 1024 + k.val) % 8192, Nat.mod_lt _ (by decide)⟩

theorem sum_chunks (g : Fin 8192 → EReal) : ∑ f ∈ Finset.range 8, chunk g f = ∑ k, g k := by
  rw [Finset.sum_range, ← (finProdFinEquiv (m := 8) (n := 1024)).sum_comp (fun k => g k), Fintype.sum_prod_type]
  refine Finset.sum_congr rfl fun f _ => Finset.sum_congr rfl fun k _ => congrArg g (Fin.ext ?_)
  show (f.val * 1024 + k.val) % 8192 = k.val + 1024 * f.val
  omega

/-! ## The body -/

theorem pay1 (x0 : Vec Ideal S512x2048 .f32) (x1 : Vec Ideal S1x2048 .f32) (r : Fin 512) (j : Fin 2048) :
    k0_pay1 x0 x1 (ix2 r j) = nrm (fun j => x0 (ix2 r j)) (fun j => x1 (ix2 0 j)) j := by
  unfold nrm
  pointwise [k0_pay1]

theorem pay2 (r : Fin 512) (n : Fin 2048) : (k0_pay2 (F := Ideal)) (ix2 r n) = (0 : EReal) := by
  pointwise [k0_pay2]

theorem pay3 (xn : Vec Ideal S512x2048 .bf16) (w1 : Vec Ideal S2048x1024 .bf16) (acc : Vec Ideal S512x2048 .f32) (w2 : Vec Ideal S1024x2048 .bf16)
    (r : Fin 512) (n : Fin 2048) :
    k0_pay3 xn w1 acc w2 (ix2 r n)
      = (fun x y : EReal => x + y) (acc (ix2 r n)) (∑ k : Fin 1024, unit (fun j => xn (ix2 r j)) (fun j => w1 (ix2 j k)) (w2 (ix2 k n))) := by
  unfold unit
  pointwise [k0_pay3]

theorem pay4 (x0 acc : Vec Ideal S512x2048 .f32) (fw : Vec Ideal S1x2048 .f32) (r : Fin 512) (n : Fin 2048) :
    k0_pay4 x0 acc fw (ix2 r n) = nrm (fun j => (fun x y : EReal => x + y) (x0 (ix2 r j)) (acc (ix2 r j))) (fun j => fw (ix2 0 j)) n := by
  unfold nrm
  pointwise [k0_pay4]

theorem pay5 (x0 acc : Vec Ideal S512x2048 .f32) (fw : Vec Ideal S1x2048 .f32) (r : Fin 512) (n : Fin 2048) :
    k0_pay5 x0 acc fw (ix2 r n) = nrm (fun j => (fun x y : EReal => x + y) (x0 (ix2 r j)) (acc (ix2 r j))) (fun j => fw (ix2 0 j)) n := by
  unfold nrm
  pointwise [k0_pay5]

variable (m : (ℓ : Loc nD τ sig) → Buf (Elt Ideal) ℓ) (c : Dev nD)

/-- The arguments as launched. -/
def args : Args where
  x := m ((c : Thread nD τ).loc main_arg0)
  nw := m ((c : Thread nD τ).loc main_arg1)
  w1 := m ((c : Thread nD τ).loc main_arg2)
  w2 := m ((c : Thread nD τ).loc main_arg3)
  fw := m ((c : Thread nD τ).loc main_arg4)

theorem N144 : cfg0.N = 144 := rfl

theorem idx : ∀ t : Fin cfg0.N, win0_0.index t = ![t.val / 8, 0] ∧ win0_1.index t = ![0, 0] ∧ win0_2.index t = ![0, t.val % 8]
    ∧ win0_3.index t = ![t.val % 8, 0] ∧ win0_4.index t = ![0, 0] := by decide +kernel
theorem idxP : ∀ t : Fin cfg0.N, win0_5.index t = ![min (t.val / 8) 15, 0] := by decide +kernel
theorem idxS : ∀ t : Fin cfg0.N, win0_6.index t = ![t.val / 8 - 16, 0] := by decide +kernel

/-! ## The operands -/

theorem V_v1 : V m c main_v1 = truncf .bf16 (shapeCast S2048x8192 (args m c).w1 shapeCasts_S1x2048x8192_S2048x8192) bitsLt_bf16_f32 := by
  unfold_abbrev_sides
  try after_results_simp
  rfl
theorem V_v3 : V m c main_v3 = truncf .bf16 (shapeCast S8192x2048 (args m c).w2 shapeCasts_S1x8192x2048_S8192x2048) bitsLt_bf16_f32 := by
  unfold_abbrev_sides
  try after_results_simp
  rfl
theorem V_v4 : V m c main_v4 = broadcastInDim S1x2048 ![1] bcast_S2048_S1x2048_1 (args m c).fw := by
  unfold_abbrev_sides
  try after_results_simp
  rfl

theorem w1_at (j : Fin 2048) (k : Fin 8192) : V m c main_v1 (ix2 j k) = (args m c).w1 (ix3 0 j k) := by
  rw [V_v1]; pointwise
theorem w2_at (k : Fin 8192) (n : Fin 2048) : V m c main_v3 (ix2 k n) = (args m c).w2 (ix3 0 k n) := by
  rw [V_v3]; pointwise
theorem fw_at (j : Fin 2048) : V m c main_v4 (ix2 0 j) = (args m c).fw (ix1 j) := by
  rw [V_v4]; pointwise

/-! ## The blocks -/

/-- Row `r` of grid point `t`, and hidden unit `k`. -/
def row (t : Fin cfg0.N) (r : Fin 512) : Fin 9216 := ⟨t.val / 8 * 512 + r.val, by have h := t.isLt; have e := N144; omega⟩
def hid (t : Fin cfg0.N) (k : Fin 1024) : Fin 8192 := ⟨t.val % 8 * 1024 + k.val, by omega⟩

theorem blk0 (t : Fin cfg0.N) (r : Fin 512) (j : Fin 2048) : iblk m c 0 t (ix2 r j) = (args m c).x (ix2 (row t r) j) := by
  refine Eq.trans ?_ (congrFun (V_main_arg0 m c) (ix2 (row t r) j))
  blk_ext [iblk, (idx t).1]
  rfl
theorem blk1 (t : Fin cfg0.N) (j : Fin 2048) : iblk m c 1 t (ix2 0 j) = (args m c).nw (ix2 0 j) := by
  refine Eq.trans ?_ (congrFun (V_main_arg1 m c) (ix2 0 j))
  blk_ext [iblk, (idx t).2.1]
theorem blk2 (t : Fin cfg0.N) (j : Fin 2048) (k : Fin 1024) : iblk m c 2 t (ix2 j k) = (args m c).w1 (ix3 0 j (hid t k)) := by
  rw [← w1_at]
  blk_ext [iblk, (idx t).2.2.1]
  rfl
theorem blk3 (t : Fin cfg0.N) (k : Fin 1024) (n : Fin 2048) : iblk m c 3 t (ix2 k n) = (args m c).w2 (ix3 0 (hid t k) n) := by
  rw [← w2_at]
  blk_ext [iblk, (idx t).2.2.2.1]
  rfl
theorem blk4 (t : Fin cfg0.N) (j : Fin 2048) : iblk m c 4 t (ix2 0 j) = (args m c).fw (ix1 j) := by
  rw [← fw_at]
  blk_ext [iblk, (idx t).2.2.2.2]

/-! ## The scratch buffers, point by point -/

/-- The chunk of grid point `t`. -/
theorem chunk_at (t : Fin cfg0.N) (r : Fin 512) (n : Fin 2048) (xn : Vec Ideal S512x2048 .bf16)
    (hx : ∀ j, xn (ix2 r j) = nrm (fun j => (args m c).x (ix2 (row t r) j)) (fun j => (args m c).nw (ix2 0 j)) j) :
    (∑ k : Fin 1024, unit (fun j => xn (ix2 r j)) (fun j => iblk m c 2 t (ix2 j k)) (iblk m c 3 t (ix2 k n)))
      = chunk (term (args m c) (row t r) n) (t.val % 8) := by
  unfold chunk term
  refine Finset.sum_congr rfl fun k _ => ?_
  have e : (⟨(t.val % 8 * 1024 + k.val) % 8192, Nat.mod_lt _ (by decide)⟩ : Fin 8192) = hid t k := Fin.ext (by
    show (t.val % 8 * 1024 + k.val) % 8192 = t.val % 8 * 1024 + k.val; omega)
  rw [e, blk3 m c t k n]
  exact congrArg₂ (fun a b => unit a b _) (funext hx) (funext fun j => blk2 m c t j k)

theorem first_x (t : Fin cfg0.N) (r : Fin 512) (j : Fin 2048) :
    k0_pay1 (iblk m c 0 t) (iblk m c 1 t) (ix2 r j) = nrm (fun j => (args m c).x (ix2 (row t r) j)) (fun j => (args m c).nw (ix2 0 j)) j := by
  refine (pay1 _ _ r j).trans ?_
  exact congrArg₂ (fun a b => nrm a b j) (funext fun j => blk0 m c t r j) (funext fun j => blk1 m c t j)

/-- After grid point `n` the scratch buffers hold the block's normalised rows, and the sum of the chunks so far. -/
theorem scr_at (n : ℕ) : ∀ (h : n < cfg0.N) (r : Fin 512),
    (∀ j, (scr m c n h).1 (ix2 r j) = nrm (fun j => (args m c).x (ix2 (row ⟨n, h⟩ r) j)) (fun j => (args m c).nw (ix2 0 j)) j)
      ∧ ∀ q, (scr m c n h).2 (ix2 r q) = ∑ f ∈ Finset.range (n % 8 + 1), chunk (term (args m c) (row ⟨n, h⟩ r) q) f := by
  induction n with
  | zero =>
    intro h r
    refine ⟨fun j => first_x m c ⟨0, h⟩ r j, fun q => ?_⟩
    refine (pay3 _ _ _ _ r q).trans ?_
    rw [pay2, chunk_at m c ⟨0, h⟩ r q _ (fun j => first_x m c ⟨0, h⟩ r j)]
    exact (zero_add _).trans (Finset.sum_range_one _).symm
  | succ n ih =>
    intro h r
    by_cases h0 : (n + 1) % 8 = 0
    · rw [show scr m c (n + 1) h = first m c ⟨n + 1, h⟩ from if_pos h0]
      refine ⟨fun j => first_x m c ⟨n + 1, h⟩ r j, fun q => ?_⟩
      refine (pay3 _ _ _ _ r q).trans ?_
      rw [pay2, chunk_at m c ⟨n + 1, h⟩ r q _ (fun j => first_x m c ⟨n + 1, h⟩ r j), h0]
      refine (zero_add _).trans ?_
      rw [Finset.sum_range_one]
    · rw [show scr m c (n + 1) h = next m c ⟨n + 1, h⟩ (scr m c n (Nat.lt_of_succ_lt h)) from if_neg h0]
      obtain ⟨i1, i2⟩ := ih (Nat.lt_of_succ_lt h) r
      have er : row ⟨n, Nat.lt_of_succ_lt h⟩ r = row ⟨n + 1, h⟩ r := Fin.ext (by
        show n / 8 * 512 + r.val = (n + 1) / 8 * 512 + r.val; omega)
      rw [er] at i1 i2
      refine ⟨i1, fun q => ?_⟩
      refine (pay3 _ _ _ _ r q).trans ?_
      rw [i2 q, chunk_at m c ⟨n + 1, h⟩ r q _ i1, Finset.sum_range_succ _ ((n + 1) % 8)]
      rw [show n % 8 + 1 = (n + 1) % 8 by omega]

/-- At a block's last point the sum is over the whole hidden width. -/
theorem acc_last (t : Fin cfg0.N) (h : t.val % 8 = 7) (r : Fin 512) (q : Fin 2048) :
    (scr m c t.val t.isLt).2 (ix2 r q) = ∑ k, term (args m c) (row t r) q k := by
  refine ((scr_at m c t.val t.isLt r).2 q).trans ?_
  rw [h, ← sum_chunks]

theorem outP_at (t : Fin cfg0.N) (h : t.val % 8 = 7) (r : Fin 512) (n : Fin 2048) : outP m c t (ix2 r n) = out (args m c) (row t r) n := by
  refine (pay4 _ _ _ r n).trans ?_
  unfold out
  exact congrArg₂ (fun a b => nrm a b n) (funext fun j => congrArg₂ (fun x y : EReal => x + y) (blk0 m c t r j) (acc_last m c t h r j))
    (funext fun j => blk4 m c t j)

theorem outS_at (t : Fin cfg0.N) (h : t.val % 8 = 7) (r : Fin 512) (n : Fin 2048) : outS m c t (ix2 r n) = out (args m c) (row t r) n := by
  refine (pay5 _ _ _ r n).trans ?_
  unfold out
  exact congrArg₂ (fun a b => nrm a b n) (funext fun j => congrArg₂ (fun x y : EReal => x + y) (blk0 m c t r j) (acc_last m c t h r j))
    (funext fun j => blk4 m c t j)

/-! ## The results -/

/-- The point whose contents the prompt's buffer holds when point `t` writes it back. -/
theorem held (t : Fin cfg0.N) (hf : (cfg0.win 5).flush t = true) :
    (if t.val < 128 then t else lastP).val % 8 = 7 ∧ (if t.val < 128 then t else lastP).val / 8 = min (t.val / 8) 15 := by
  rw [flush_5, Bool.or_eq_true, Bool.and_eq_true, decide_eq_true_eq, decide_eq_true_eq, decide_eq_true_eq] at hf
  rcases hf with ⟨h7, hl⟩ | h143
  · rw [if_pos (by omega)]; omega
  · rw [if_neg (by omega)]
    refine ⟨rfl, ?_⟩
    show 127 / 8 = min (t.val / 8) 15
    omega

theorem final_P : (dats m 0 c).arrAt 5 cfg0.N = gP (args m c) := by
  refine (dats m 0 c).arrAt_eq_of_covers 5 _ (by decide +kernel) fun t hf y => ?_
  obtain ⟨h7, h8⟩ := held t hf
  blk_simp
  obtain ⟨r, n, rfl⟩ := exists_ix2 y
  rw [after_5]
  refine (outP_at m c _ h7 r n).trans (gP_at _ _ (row (if t.val < 128 then t else lastP) r) n ?_ ?_).symm
  · blk_simp [idxP t]
    show min (t.val / 8) 15 * 512 + r.val = (if t.val < 128 then t else lastP).val / 8 * 512 + r.val
    rw [h8]
  · blk_simp [idxP t]

theorem final_S : (dats m 0 c).arrAt 6 cfg0.N = gS (args m c) := by
  refine (dats m 0 c).arrAt_eq_of_covers 6 _ (by decide +kernel) fun t hf y => ?_
  have hf' := hf
  rw [flush_6, Bool.and_eq_true, decide_eq_true_eq, decide_eq_true_eq] at hf'
  blk_simp
  obtain ⟨r, n, rfl⟩ := exists_ix2 y
  rw [after_6]
  refine (outS_at m c _ hf'.1 r n).trans (gS_at _ _ (row t r) n ?_ ?_).symm
  · blk_simp [idxS t]
    show 8192 + ((t.val / 8 - 16) * 512 + r.val) = t.val / 8 * 512 + r.val
    omega
  · blk_simp [idxS t]

/-- The kernel's run with both results named. -/
theorem run_blocks (ρ : Dev nD → PrngReg) : θ_run defs (onTc (τ := τ) (main (F := Ideal))) ⟨m, fun _ => 0, ρ⟩ fun r => ∀ c : Dev nD,
      r.2.mem ((c : Thread nD τ).loc main_v5_0) = (dats m 0 c).arrAt 5 cfg0.N
      ∧ r.2.mem ((c : Thread nD τ).loc main_v5_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).1 5, (h.1 c).1 6, (h.2 c)⟩)
    (θ_run_and (run_main m ρ) (frame_of m ρ (dats m) (A_eq m) (run_main m ρ)))

end Kernel

section Reference

open Cert.FfnRefIdeal Cert.FfnRefIdeal.Gen Cert.FfnRefIdeal.Read

variable (X : Args)

theorem ref_term (r : Fin 9216) (j : Fin 2048) : val_main_v20 (F := Ideal) X.x X.nw X.w1 X.w2 (ix2 r j) = (X.x (ix2 r j) : EReal) + ∑ k, term X r j k := by
  unfold term unit nrm
  pointwise [val_main_v0, val_main_v1, val_main_cst, val_main_v2, val_main_v3, val_main_cst_0, val_main_v4, val_main_v5, val_main_cst_1, val_main_v6, val_main_v7,
    val_main_v8, val_main_v9, val_main_v10, val_main_v11, val_main_v12, val_main_v13, val_main_v14, val_main_v15, val_main_call0_cst, val_main_call0_v0, val_main_v16,
    val_main_v17, val_main_v18, val_main_v19, val_main_v20]

theorem ref_at (r : Fin 9216) (n : Fin 2048) : val_main_v33 (F := Ideal) X.x X.nw X.w1 X.w2 X.fw (ix2 r n) = out X r n := by
  unfold out nrm
  simp only [← ref_term]
  pointwise [val_main_v21, val_main_cst_2, val_main_v22, val_main_v23, val_main_cst_3, val_main_v24, val_main_v25, val_main_cst_4, val_main_v26, val_main_v27,
    val_main_v28, val_main_v29, val_main_v30, val_main_v31, val_main_v32, val_main_v33]

theorem ref_P : val_main_v34 (F := Ideal) X.x X.nw X.w1 X.w2 X.fw = gP X := by
  funext i
  obtain ⟨r, n, rfl⟩ := exists_ix2 i
  refine Eq.trans ?_ (ref_at X ⟨r.val, by omega⟩ n)
  pointwise [val_main_v34]

theorem ref_S : val_main_v35 (F := Ideal) X.x X.nw X.w1 X.w2 X.fw = gS X := by
  funext i
  obtain ⟨r, n, rfl⟩ := exists_ix2 i
  refine Eq.trans ?_ (ref_at X ⟨8192 + r.val, by omega⟩ n)
  pointwise [val_main_v35]

end Reference

end Cert.FfnValue

end
-- ==== Proof.FfnClaim.lean ====
/-
  The claims about the feed-forward layer.
-/
module

public import proofs.«01_k».proof.Defs
public import proofs.«01_k».proof.Proof.FfnValue
public import proofs.«01_k».proof.Proof.Gen.Ffn
public import proofs.«01_k».proof.Proof.Gen.FfnRefIdeal.Run
public import Idealize.ShloMosaic.Lib.Claim

@[expose] public section

set_option maxRecDepth 16384

noncomputable section

namespace Cert.FfnClaim

open Idealize.ShloMosaic Idealize.ShloMosaic.StableHlo Idealize.SL.Sem Cert.FfnValue

attribute [local instance] Cert.Ffn.Gen.facts Cert.FfnIdeal.Gen.facts Cert.FfnRefIdeal.Gen.facts

section Reference

open Cert.FfnRefIdeal Cert.FfnRefIdeal.Gen Cert.FfnRefIdeal.Read

/-- The reference's arguments at launch. -/
def refArgs (m : (ℓ : Loc nD τ sig) → Buf (Elt Ideal) ℓ) (c : Dev nD) : Args where
  x := m ((c.tc : Thread nD τ).loc main_arg0)
  nw := m ((c.tc : Thread nD τ).loc main_arg1)
  w1 := m ((c.tc : Thread nD τ).loc main_arg2)
  w2 := m ((c.tc : Thread nD τ).loc main_arg3)
  fw := m ((c.tc : Thread nD τ).loc main_arg4)

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = gP (refArgs m c)
      ∧ r.2.mem ((c.tc : Thread nD τ).loc main_v35) = gS (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨e0, e1, e2⟩ := h c
    refine ⟨?_, ?_, e2⟩
    · rw [e0, val_main_v34_eq, ← ref_P (refArgs m c)]; rfl
    · rw [e1, val_main_v35_eq, ← ref_S (refArgs m c)]; rfl) (Cert.FfnRefIdeal.Value.run (F := Ideal) m ρ)

theorem ref_frame : Cert.quiescent_FfnRefIdeal := fun m ρ _ =>
  (θ_run defs _ _).mono (fun r h => ⟨fun c => (h c).2.2,
    Idealize.ShloMosaic.sem_eq_zero_of_no_sems (by decide) r.2⟩) (ref_run m ρ)

end Reference

section Kernel

open Cert.FfnIdeal Cert.FfnIdeal.Gen

theorem algebraic : Cert.algebraic_FfnIdeal_FfnRefIdeal := by
  intro m ρ m' ρ' _ hagree
  have he : ∀ c, refArgs m' c = args m c := by
    intro c
    obtain ⟨h0, h1, h2, h3, h4⟩ := hagree c
    unfold refArgs args
    rw [h0, h1, h2, h3, h4]
  refine ⟨fun c => gP (args m c), fun c => gS (args m c), (θ_run _ _ _).mono (fun _ h c => ?_) (run_blocks m ρ),
    (θ_run _ _ _).mono (fun _ h c => ?_) (ref_run m' ρ')⟩
  · obtain ⟨e0, e1, e2⟩ := h c
    exact ⟨e0.trans (final_P m c), e1.trans (final_S m c), e2⟩
  · have e := he c
    obtain ⟨e0, e1, e2⟩ := h c
    rw [e] at e0 e1
    exact ⟨e0, e1, e2⟩

end Kernel

theorem frame_ideal : Cert.quiescent_FfnIdeal := fun m ρ _ => Cert.FfnFrame.frame m ρ
/-! The kernel and its idealized form have one text, so the run over any float values is the run of both. -/

theorem body_eq : Cert.Ffn.defs₀ (F := Bits) = Cert.FfnIdeal.defs₀ (F := Bits) := by
  refine congrArg Defs.onTc (funext fun l => funext fun a => ?_)
  match l, a with
  | 0, (t, s) => rfl

theorem defs_eq : Cert.Ffn.defs (F := Bits) = Cert.FfnIdeal.defs (F := Bits) := congrArg (Pipeline.defs Cert.FfnIdeal.pcfgs) body_eq

theorem frame : Cert.quiescent_Ffn := fun m ρ _ => by
  rw [defs_eq]
  exact (θ_run Cert.FfnIdeal.defs _ _).mono (fun _ h => h) (Cert.FfnFrame.frame (F := Bits) m ρ)

end Cert.FfnClaim
-- ==== Proof.OutProjValue.lean ====
/-
  The output projection: what the kernel's run leaves in its result, and what the reference computes, at an index.
-/
module

public import proofs.«01_k».proof.Proof.Gen.OutProjIdeal.Value
public import proofs.«01_k».proof.Proof.Gen.OutProjRefIdeal.Read
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.OutProjValue

open Idealize.ShloMosaic Idealize.ShloMosaic.TcCoe

theorem exists_ix2 {a b : ℕ} (x : (⟨2, ![a, b]⟩ : Shape).Idx) : ∃ r n, x = ix2 r n := ⟨x 0, x 1, ValueIdx.eq_ix2 x⟩

section Kernel

open Cert.OutProjIdeal Cert.OutProjIdeal.Gen

/-- The arguments: the merged hidden states, the projection and the two groups' tokens. -/
structure Args where
  u : FVec Ideal S9216x2048 .bf16
  w : FVec Ideal S1x2048x2048 .f32
  xp : FVec Ideal S1x8192x2048 .f32
  xs : FVec Ideal S128x8x2048 .f32

variable (X : Args)

/-- Token `r` of the layer's input: the prompt's tokens, then the sample group's. -/
def tok (r : Fin 9216) (n : Fin 2048) : EReal :=
  if h : r.val < 8192 then X.xp (ix3 0 ⟨r.val, h⟩ n) else X.xs (ix3 ⟨(r.val - 8192) / 8, by omega⟩ ⟨(r.val - 8192) % 8, by omega⟩ n)

/-- The result at row `r` and column `n`. -/
def out (r : Fin 9216) (n : Fin 2048) : EReal := tok X r n + ∑ k : Fin 2048, X.u (ix2 r k) * X.w (ix3 0 k n)

def gOut (i : S9216x2048.Idx) : EReal := out X (i 0) (i 1)

theorem gOut_at (i : S9216x2048.Idx) (r : Fin 9216) (n : Fin 2048) (h0 : (i 0).val = r.val) (h1 : (i 1).val = n.val) : gOut X i = out X r n := by
  unfold gOut
  congr 1 <;> apply Fin.ext <;> assumption

/-! ## The body -/

theorem pay2 (x0 : Vec Ideal S1024x2048 .bf16) (x1 : Vec Ideal S2048x1024 .bf16) (x2 : Vec Ideal S1024x1024 .f32) (r n : Fin 1024) :
    k0_pay2 x0 x1 x2 (ix2 r n) = x2 (ix2 r n) + ∑ k : Fin 2048, (x0 (ix2 r k) : EReal) * x1 (ix2 k n) := by
  pointwise [k0_pay2, k0_pay1]

theorem pay3 (x0 : Vec Ideal S1024x2048 .bf16) (x1 : Vec Ideal S2048x1024 .bf16) (x2 : Vec Ideal S1024x1024 .f32) (r n : Fin 1024) :
    k0_pay3 x0 x1 x2 (ix2 r n) = x2 (ix2 r n) + ∑ k : Fin 2048, (x0 (ix2 r k) : EReal) * x1 (ix2 k n) := by
  pointwise [k0_pay3, k0_pay1]

variable (m : (ℓ : Loc nD τ sig) → Buf (Elt Ideal) ℓ) (c : Dev nD)

/-- The arguments as launched. -/
def args : Args where
  u := m ((c : Thread nD τ).loc main_arg0)
  w := m ((c : Thread nD τ).loc main_arg1)
  xp := m ((c : Thread nD τ).loc main_arg2)
  xs := m ((c : Thread nD τ).loc main_arg3)

theorem N18 : cfg0.N = 18 := rfl

theorem idx0 : ∀ t : Fin cfg0.N, win0_0.index t = ![t.val / 2, 0] ∧ win0_1.index t = ![0, t.val % 2] ∧ win0_4.index t = ![t.val / 2, t.val % 2] := by decide +kernel
theorem idx2 : ∀ t : Fin cfg0.N, t.val < 16 → win0_2.index t = ![t.val / 2, t.val % 2] := by decide +kernel
theorem idx3 : ∀ t : Fin cfg0.N, 16 ≤ t.val → win0_3.index t = ![0, t.val % 2] := by decide +kernel

/-! ## The operands -/

theorem V_v1 : V m c main_v1 = truncf .bf16 (shapeCast S2048x2048 (args m c).w shapeCasts_S1x2048x2048_S2048x2048) bitsLt_bf16_f32 := by
  unfold_abbrev_sides
  try after_results_simp
  rfl
theorem V_v2 : V m c main_v2 = shapeCast S8192x2048 (args m c).xp shapeCasts_S1x8192x2048_S8192x2048 := by
  unfold_abbrev_sides
  try after_results_simp
  rfl
theorem V_v3 : V m c main_v3 = shapeCast S1024x2048 (args m c).xs shapeCasts_S128x8x2048_S1024x2048 := by
  unfold_abbrev_sides
  try after_results_simp
  rfl

theorem w_at (k n : Fin 2048) : V m c main_v1 (ix2 k n) = (args m c).w (ix3 0 k n) := by
  rw [V_v1]; pointwise
theorem xp_at (r : Fin 8192) (n : Fin 2048) : V m c main_v2 (ix2 r n) = (args m c).xp (ix3 0 r n) := by
  rw [V_v2]; pointwise
theorem xs_at (b : Fin 128) (s : Fin 8) (n : Fin 2048) : V m c main_v3 (ix2 ⟨b.val * 8 + s.val, by omega⟩ n) = (args m c).xs (ix3 b s n) := by
  rw [V_v3]; pointwise

theorem xs_row (r : Fin 1024) (q : Fin 9216) (n : Fin 2048) (h : r.val = q.val - 8192) :
    V m c main_v3 (ix2 r n) = (args m c).xs (ix3 ⟨(q.val - 8192) / 8, by omega⟩ ⟨(q.val - 8192) % 8, by omega⟩ n) := by
  rw [← xs_at m c]
  refine congrArg (fun r : Fin 1024 => V m c main_v3 (ix2 r n)) (Fin.ext ?_)
  show r.val = (q.val - 8192) / 8 * 8 + (q.val - 8192) % 8
  omega

/-! ## The blocks -/

theorem blk0 (t : Fin cfg0.N) (r : Fin 1024) (k : Fin 2048) : iblk m c 0 t (ix2 r k) = V m c main_arg0 (ix2 ⟨t.val / 2 * 1024 + r.val, by have h := t.isLt; have e := N18; omega⟩ k) := by
  blk_ext [iblk, (idx0 t).1]
theorem blk1 (t : Fin cfg0.N) (k : Fin 2048) (n : Fin 1024) : iblk m c 1 t (ix2 k n) = V m c main_v1 (ix2 k ⟨t.val % 2 * 1024 + n.val, by omega⟩) := by
  blk_ext [iblk, (idx0 t).2.1]
theorem blk2 (t : Fin cfg0.N) (ht : t.val < 16) (r n : Fin 1024) : iblk m c 2 t (ix2 r n) = V m c main_v2 (ix2 ⟨t.val / 2 * 1024 + r.val, by omega⟩ ⟨t.val % 2 * 1024 + n.val, by omega⟩) := by
  blk_ext [iblk, idx2 t ht]
theorem blk3 (t : Fin cfg0.N) (ht : 16 ≤ t.val) (r n : Fin 1024) : iblk m c 3 t (ix2 r n) = V m c main_v3 (ix2 r ⟨t.val % 2 * 1024 + n.val, by omega⟩) := by
  blk_ext [iblk, idx3 t ht]

/-- Row `r` of grid point `t`, and column `n`. -/
def row (t : Fin cfg0.N) (r : Fin 1024) : Fin 9216 := ⟨t.val / 2 * 1024 + r.val, by have h := t.isLt; have e := N18; omega⟩
def col (t : Fin cfg0.N) (n : Fin 1024) : Fin 2048 := ⟨t.val % 2 * 1024 + n.val, by omega⟩

theorem sum_at (t : Fin cfg0.N) (r n : Fin 1024) : (∑ k : Fin 2048, (fun x y : EReal => x * y) (iblk m c 0 t (ix2 r k)) (iblk m c 1 t (ix2 k n)))
    = ∑ k : Fin 2048, ((args m c).u (ix2 (row t r) k) : EReal) * (args m c).w (ix3 0 k (col t n)) :=
  Finset.sum_congr rfl fun k _ => congrArg₂ (fun x y : EReal => x * y)
    ((blk0 m c t r k).trans (congrFun (V_main_arg0 m c) _)) ((blk1 m c t k n).trans (w_at m c k _))

/-- What grid point `t` leaves in the result's block. -/
theorem after_at (t : Fin cfg0.N) (r n : Fin 1024) : (dats m 0 c).after 4 t (ix2 r n) = out (args m c) (row t r) (col t n) := by
  rw [after0_4]
  have h18 : t.val < 18 := t.isLt
  by_cases h : t.val < 16
  · rw [outsAt0_A m c t h (by omega)]
    frame_out
    refine (pay2 _ _ _ r n).trans ?_
    unfold out tok
    rw [dif_pos (by show t.val / 2 * 1024 + r.val < 8192; omega)]
    exact congrArg₂ (fun x y : EReal => x + y) ((blk2 m c t h r n).trans (xp_at m c _ _)) (sum_at m c t r n)
  · rw [outsAt0_B m c t h (by omega)]
    frame_out
    refine (pay3 _ _ _ r n).trans ?_
    unfold out tok
    rw [dif_neg (by show ¬t.val / 2 * 1024 + r.val < 8192; omega)]
    refine congrArg₂ (fun x y : EReal => x + y) ((blk3 m c t (by omega) r n).trans ?_) (sum_at m c t r n)
    exact xs_row m c _ _ _ (by show r.val = t.val / 2 * 1024 + r.val - 8192; omega)

theorem final_out : (dats m 0 c).arrAt 4 cfg0.N = gOut (args m c) := by
  refine (dats m 0 c).arrAt_eq_of_covers 4 _ (by decide +kernel) fun t hf y => ?_
  blk_simp
  obtain ⟨r, n, rfl⟩ := exists_ix2 y
  refine (after_at m c t r n).trans (gOut_at _ _ (row t r) (col t n) ?_ ?_).symm
  all_goals
    blk_simp [(idx0 t).2.2]
    rfl

end Kernel

section Reference

open Cert.OutProjRefIdeal Cert.OutProjRefIdeal.Gen Cert.OutProjRefIdeal.Read

variable (X : Args)

theorem ref_tok (r : Fin 9216) (n : Fin 2048) : val_main_v2 (F := Ideal) X.xp X.xs (ix2 r n) = tok X r n := by
  unfold tok
  pointwise [val_main_v0, val_main_v1, val_main_v2]

theorem ref_at (r : Fin 9216) (n : Fin 2048) : val_main_v6 (F := Ideal) X.u X.w X.xp X.xs (ix2 r n) = out X r n := by
  unfold out
  rw [← ref_tok]
  pointwise [val_main_v3, val_main_v4, val_main_v5, val_main_v6]

theorem ref_out : val_main_v6 (F := Ideal) X.u X.w X.xp X.xs = gOut X := by
  funext i
  obtain ⟨r, n, rfl⟩ := exists_ix2 i
  exact ref_at X r n

end Reference

end Cert.OutProjValue
-- ==== Proof.OutProjClaim.lean ====
/-
  The claims about the output projection.
-/
module

public import proofs.«01_k».proof.Defs
public import proofs.«01_k».proof.Proof.OutProjValue
public import proofs.«01_k».proof.Proof.Gen.OutProj
public import proofs.«01_k».proof.Proof.Gen.OutProj.Frame
public import proofs.«01_k».proof.Proof.Gen.OutProjRefIdeal.Run
public import Idealize.ShloMosaic.Lib.Claim

@[expose] public section

set_option maxRecDepth 16384

noncomputable section

namespace Cert.OutProjClaim

open Idealize.ShloMosaic Idealize.ShloMosaic.StableHlo Idealize.SL.Sem Cert.OutProjValue

attribute [local instance] Cert.OutProj.Gen.facts Cert.OutProjIdeal.Gen.facts Cert.OutProjRefIdeal.Gen.facts

section Reference

open Cert.OutProjRefIdeal Cert.OutProjRefIdeal.Gen Cert.OutProjRefIdeal.Read

/-- The reference's arguments at launch. -/
def refArgs (m : (ℓ : Loc nD τ sig) → Buf (Elt Ideal) ℓ) (c : Dev nD) : Args where
  u := m ((c.tc : Thread nD τ).loc main_arg0)
  w := m ((c.tc : Thread nD τ).loc main_arg1)
  xp := m ((c.tc : Thread nD τ).loc main_arg2)
  xs := m ((c.tc : Thread nD τ).loc main_arg3)

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = gOut (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨e0, e1⟩ := h c
    refine ⟨?_, e1⟩
    · rw [e0, val_main_v6_eq, ← ref_out (refArgs m c)]; rfl) (Cert.OutProjRefIdeal.Value.run (F := Ideal) m ρ)

theorem ref_frame : Cert.quiescent_OutProjRefIdeal := fun m ρ _ =>
  (θ_run defs _ _).mono (fun r h => ⟨fun c => (h c).2,
    Idealize.ShloMosaic.sem_eq_zero_of_no_sems (by decide) r.2⟩) (ref_run m ρ)

end Reference

section Kernel

open Cert.OutProjIdeal Cert.OutProjIdeal.Gen

theorem algebraic : Cert.algebraic_OutProjIdeal_OutProjRefIdeal := by
  intro m ρ m' ρ' _ hagree
  have he : ∀ c, refArgs m' c = args m c := by
    intro c
    obtain ⟨h0, h1, h2, h3⟩ := hagree c
    unfold refArgs args
    rw [h0, h1, h2, h3]
  refine ⟨fun c => gOut (args m c), (θ_run _ _ _).mono (fun _ h c => ?_) (Cert.OutProjIdeal.Value.run_blocks (F := Ideal) m ρ),
    (θ_run _ _ _).mono (fun _ h c => ?_) (ref_run m' ρ')⟩
  · obtain ⟨e0, e1⟩ := h c
    exact ⟨e0.trans (final_out m c), e1⟩
  · have e := he c
    obtain ⟨e0, e1⟩ := h c
    rw [e] at e0
    exact ⟨e0, e1⟩

end Kernel

theorem frame : Cert.quiescent_OutProj := fun m ρ _ => Cert.OutProj.Gen.frame m ρ
theorem frame_ideal : Cert.quiescent_OutProjIdeal := fun m ρ _ => Cert.OutProjIdeal.Gen.frame m ρ

end Cert.OutProjClaim
-- ==== Proof.MergeValue.lean ====
/-
  The gated merge of the two branches: what the kernel's run leaves in its result, and what the reference computes, at an index.
-/
module

public import proofs.«01_k».proof.Proof.Gen.MergeIdeal.Value
public import proofs.«01_k».proof.Proof.Gen.MergeRefIdeal.Read
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.MergeValue

open Idealize.ShloMosaic Idealize.ShloMosaic.TcCoe

theorem exists_ix2 {a b : ℕ} (x : (⟨2, ![a, b]⟩ : Shape).Idx) : ∃ r n, x = ix2 r n := ⟨x 0, x 1, ValueIdx.eq_ix2 x⟩

section Kernel

open Cert.MergeIdeal Cert.MergeIdeal.Gen

/-- The arguments: each branch's hidden states for the prompt and for the sample group, the two projections, the projected tokens. -/
structure Args where
  hp : FVec Ideal S8192x1024 .bf16
  hs : FVec Ideal S1024x1024 .bf16
  ap : FVec Ideal S8192x1024 .bf16
  ats : FVec Ideal S1024x1024 .bf16
  wa : FVec Ideal S1x1024x2048 .f32
  wb : FVec Ideal S1x1024x2048 .f32
  z : FVec Ideal S9216x9216 .f32

variable (X : Args)

/-- Row `r` of a branch: the prompt's rows, then the sample group's. -/
def rowOf (p : FVec Ideal S8192x1024 .bf16) (s : FVec Ideal S1024x1024 .bf16) (r : Fin 9216) (k : Fin 1024) : EReal :=
  if h : r.val < 8192 then p (ix2 ⟨r.val, h⟩ k) else s (ix2 ⟨r.val - 8192, by omega⟩ k)

/-- The logistic function. -/
def sg (x : EReal) : EReal := Ideal.div 1 (1 + Ideal.exp (0 - x))

/-- The gated sum of two products. -/
def mix (ga gb : EReal) (h wa a wb : Fin 1024 → EReal) : EReal := sg ga * (∑ k, h k * wa k) + sg gb * ∑ k, a k * wb k

/-- The result at row `r` and column `n`. -/
def out (r : Fin 9216) (n : Fin 2048) : EReal :=
  mix (X.z (ix2 r ⟨5120 + n.val, by omega⟩)) (X.z (ix2 r ⟨7168 + n.val, by omega⟩)) (rowOf X.hp X.hs r) (fun k => X.wa (ix3 0 k n))
    (rowOf X.ap X.ats r) (fun k => X.wb (ix3 0 k n))

def gOut (i : S9216x2048.Idx) : EReal := out X (i 0) (i 1)

theorem gOut_at (i : S9216x2048.Idx) (r : Fin 9216) (n : Fin 2048) (h0 : (i 0).val = r.val) (h1 : (i 1).val = n.val) : gOut X i = out X r n := by
  unfold gOut
  congr 1 <;> apply Fin.ext <;> assumption

/-! ## The body -/

theorem pay1 (h wa a wb : Vec Ideal S1024x1024 .bf16) (ga gb : Vec Ideal S1024x1024 .f32) (r n : Fin 1024) :
    k0_pay1 h wa a wb ga gb (ix2 r n) = mix (ga (ix2 r n)) (gb (ix2 r n)) (fun k => h (ix2 r k)) (fun k => wa (ix2 k n)) (fun k => a (ix2 r k)) (fun k => wb (ix2 k n)) := by
  unfold mix sg
  pointwise [k0_pay1]

theorem pay2 (h wa a wb : Vec Ideal S1024x1024 .bf16) (ga gb : Vec Ideal S1024x1024 .f32) (r n : Fin 1024) :
    k0_pay2 h wa a wb ga gb (ix2 r n) = mix (ga (ix2 r n)) (gb (ix2 r n)) (fun k => h (ix2 r k)) (fun k => wa (ix2 k n)) (fun k => a (ix2 r k)) (fun k => wb (ix2 k n)) := by
  unfold mix sg
  pointwise [k0_pay2]

variable (m : (ℓ : Loc nD τ sig) → Buf (Elt Ideal) ℓ) (c : Dev nD)

/-- The arguments as launched. -/
def args : Args where
  hp := m ((c : Thread nD τ).loc main_arg0)
  hs := m ((c : Thread nD τ).loc main_arg1)
  ap := m ((c : Thread nD τ).loc main_arg2)
  ats := m ((c : Thread nD τ).loc main_arg3)
  wa := m ((c : Thread nD τ).loc main_arg4)
  wb := m ((c : Thread nD τ).loc main_arg5)
  z := m ((c : Thread nD τ).loc main_arg6)

theorem N18 : cfg0.N = 18 := rfl

theorem idxP : ∀ t : Fin cfg0.N, t.val < 16 → win0_0.index t = ![t.val / 2, 0] ∧ win0_2.index t = ![t.val / 2, 0] := by decide +kernel
theorem idxS : ∀ t : Fin cfg0.N, 16 ≤ t.val → win0_1.index t = ![0, 0] ∧ win0_3.index t = ![0, 0] := by decide +kernel
theorem idxW : ∀ t : Fin cfg0.N, win0_4.index t = ![0, t.val % 2] ∧ win0_5.index t = ![0, t.val % 2] := by decide +kernel
theorem idxZ : ∀ t : Fin cfg0.N, win0_6.index t = ![t.val / 2, 5 + t.val % 2] ∧ win0_7.index t = ![t.val / 2, 7 + t.val % 2]
    ∧ win0_8.index t = ![t.val / 2, t.val % 2] := by decide +kernel

/-! ## The operands -/

theorem V_v1 : V m c main_v1 = truncf .bf16 (shapeCast S1024x2048 (args m c).wa shapeCasts_S1x1024x2048_S1024x2048) bitsLt_bf16_f32 := by
  unfold_abbrev_sides
  try after_results_simp
  rfl
theorem V_v3 : V m c main_v3 = truncf .bf16 (shapeCast S1024x2048 (args m c).wb shapeCasts_S1x1024x2048_S1024x2048) bitsLt_bf16_f32 := by
  unfold_abbrev_sides
  try after_results_simp
  rfl

theorem wa_at (k : Fin 1024) (n : Fin 2048) : V m c main_v1 (ix2 k n) = (args m c).wa (ix3 0 k n) := by
  rw [V_v1]; pointwise
theorem wb_at (k : Fin 1024) (n : Fin 2048) : V m c main_v3 (ix2 k n) = (args m c).wb (ix3 0 k n) := by
  rw [V_v3]; pointwise

/-- Row `r` of grid point `t`, and column `n`. -/
def row (t : Fin cfg0.N) (r : Fin 1024) : Fin 9216 := ⟨t.val / 2 * 1024 + r.val, by have h := t.isLt; have e := N18; omega⟩
def col (t : Fin cfg0.N) (n : Fin 1024) : Fin 2048 := ⟨t.val % 2 * 1024 + n.val, by omega⟩

/-! ## The blocks -/

theorem blk0 (t : Fin cfg0.N) (ht : t.val < 16) (r k : Fin 1024) : iblk m c 0 t (ix2 r k) = V m c main_arg0 (ix2 ⟨t.val / 2 * 1024 + r.val, by omega⟩ k) := by
  blk_ext [iblk, (idxP t ht).1]
theorem blk2 (t : Fin cfg0.N) (ht : t.val < 16) (r k : Fin 1024) : iblk m c 2 t (ix2 r k) = V m c main_arg2 (ix2 ⟨t.val / 2 * 1024 + r.val, by omega⟩ k) := by
  blk_ext [iblk, (idxP t ht).2]
theorem blk1 (t : Fin cfg0.N) (ht : 16 ≤ t.val) (r k : Fin 1024) : iblk m c 1 t (ix2 r k) = V m c main_arg1 (ix2 r k) := by
  blk_ext [iblk, (idxS t ht).1]
theorem blk3 (t : Fin cfg0.N) (ht : 16 ≤ t.val) (r k : Fin 1024) : iblk m c 3 t (ix2 r k) = V m c main_arg3 (ix2 r k) := by
  blk_ext [iblk, (idxS t ht).2]
theorem blk4 (t : Fin cfg0.N) (k n : Fin 1024) : iblk m c 4 t (ix2 k n) = V m c main_v1 (ix2 k (col t n)) := by
  blk_ext [iblk, (idxW t).1]
  rfl
theorem blk5 (t : Fin cfg0.N) (k n : Fin 1024) : iblk m c 5 t (ix2 k n) = V m c main_v3 (ix2 k (col t n)) := by
  blk_ext [iblk, (idxW t).2]
  rfl
theorem blk6 (t : Fin cfg0.N) (r n : Fin 1024) : iblk m c 6 t (ix2 r n) = V m c main_arg6 (ix2 (row t r) ⟨5120 + (col t n).val, by omega⟩) := by
  blk_ext [iblk, (idxZ t).1]
  · rfl
  · show (5 + t.val % 2) * 1024 + n.val = 5120 + (t.val % 2 * 1024 + n.val); omega
theorem blk7 (t : Fin cfg0.N) (r n : Fin 1024) : iblk m c 7 t (ix2 r n) = V m c main_arg6 (ix2 (row t r) ⟨7168 + (col t n).val, by omega⟩) := by
  blk_ext [iblk, (idxZ t).2.1]
  · rfl
  · show (7 + t.val % 2) * 1024 + n.val = 7168 + (t.val % 2 * 1024 + n.val); omega

theorem mix_congr {ga ga' gb gb' : EReal} {h h' wa wa' a a' wb wb' : Fin 1024 → EReal} (e1 : ga = ga') (e2 : gb = gb') (e3 : ∀ k, h k = h' k)
    (e4 : ∀ k, wa k = wa' k) (e5 : ∀ k, a k = a' k) (e6 : ∀ k, wb k = wb' k) : mix ga gb h wa a wb = mix ga' gb' h' wa' a' wb' := by
  rw [e1, e2, funext e3, funext e4, funext e5, funext e6]

theorem rowOf_p (p s) (r : Fin 9216) (k : Fin 1024) (h : r.val < 8192) : rowOf p s r k = p (ix2 ⟨r.val, h⟩ k) := by
  unfold rowOf; rw [dif_pos h]
theorem rowOf_s (p s) (r : Fin 9216) (k r' : Fin 1024) (h : r.val = 8192 + r'.val) : rowOf p s r k = s (ix2 r' k) := by
  unfold rowOf; rw [dif_neg (by omega)]
  exact congrArg (fun r : Fin 1024 => s (ix2 r k)) (Fin.ext (by show r.val - 8192 = r'.val; omega))

/-- What grid point `t` leaves in the result's block. -/
theorem after_at (t : Fin cfg0.N) (r n : Fin 1024) : (dats m 0 c).after 8 t (ix2 r n) = out (args m c) (row t r) (col t n) := by
  rw [after0_8]
  have h18 : t.val < 18 := t.isLt
  by_cases h : t.val < 16
  · rw [outsAt0_A m c t h (by omega)]
    frame_out
    refine (pay1 _ _ _ _ _ _ r n).trans ?_
    refine mix_congr ((blk6 m c t r n).trans (congrFun (V_main_arg6 m c) _)) ((blk7 m c t r n).trans (congrFun (V_main_arg6 m c) _))
      (fun k => ?_) (fun k => (blk4 m c t k n).trans (wa_at m c k _)) (fun k => ?_) (fun k => (blk5 m c t k n).trans (wb_at m c k _))
    · exact ((blk0 m c t h r k).trans (congrFun (V_main_arg0 m c) _)).trans
        (rowOf_p (args m c).hp _ (row t r) k (by show t.val / 2 * 1024 + r.val < 8192; omega)).symm
    · exact ((blk2 m c t h r k).trans (congrFun (V_main_arg2 m c) _)).trans
        (rowOf_p (args m c).ap _ (row t r) k (by show t.val / 2 * 1024 + r.val < 8192; omega)).symm
  · have h' : 16 ≤ t.val := by omega
    rw [outsAt0_B m c t h h']
    frame_out
    refine (pay2 _ _ _ _ _ _ r n).trans ?_
    refine mix_congr ((blk6 m c t r n).trans (congrFun (V_main_arg6 m c) _)) ((blk7 m c t r n).trans (congrFun (V_main_arg6 m c) _))
      (fun k => ?_) (fun k => (blk4 m c t k n).trans (wa_at m c k _)) (fun k => ?_) (fun k => (blk5 m c t k n).trans (wb_at m c k _))
    · exact ((blk1 m c t h' r k).trans (congrFun (V_main_arg1 m c) _)).trans
        (rowOf_s _ (args m c).hs (row t r) k r (by show t.val / 2 * 1024 + r.val = 8192 + r.val; omega)).symm
    · exact ((blk3 m c t h' r k).trans (congrFun (V_main_arg3 m c) _)).trans
        (rowOf_s _ (args m c).ats (row t r) k r (by show t.val / 2 * 1024 + r.val = 8192 + r.val; omega)).symm

theorem final_out : (dats m 0 c).arrAt 8 cfg0.N = gOut (args m c) := by
  refine (dats m 0 c).arrAt_eq_of_covers 8 _ (by decide +kernel) fun t hf y => ?_
  blk_simp
  obtain ⟨r, n, rfl⟩ := exists_ix2 y
  refine (after_at m c t r n).trans (gOut_at _ _ (row t r) (col t n) ?_ ?_).symm
  all_goals
    blk_simp [(idxZ t).2.2]
    rfl

end Kernel

section Reference

open Cert.MergeRefIdeal Cert.MergeRefIdeal.Gen Cert.MergeRefIdeal.Read

variable (X : Args)

theorem ref_h (r : Fin 9216) (k : Fin 1024) : val_main_v1 (F := Ideal) X.hp X.hs (ix2 r k) = rowOf X.hp X.hs r k := by
  unfold rowOf
  pointwise [val_main_v0, val_main_v1]

theorem ref_a (r : Fin 9216) (k : Fin 1024) : val_main_v5 (F := Ideal) X.ap X.ats (ix2 r k) = rowOf X.ap X.ats r k := by
  unfold rowOf
  pointwise [val_main_v4, val_main_v5]

theorem ref_ga (r : Fin 9216) (n : Fin 2048) : val_main_v15 (F := Ideal) X.z (ix2 r n) = sg (X.z (ix2 r ⟨5120 + n.val, by omega⟩)) := by
  unfold sg
  rw [zero_sub]
  pointwise [val_main_v8, val_main_v10, val_main_v11, val_main_v12, val_main_v13, val_main_v14, val_main_v15, val_main_cst, val_main_cst_0]

theorem ref_gb (r : Fin 9216) (n : Fin 2048) : val_main_v22 (F := Ideal) X.z (ix2 r n) = sg (X.z (ix2 r ⟨7168 + n.val, by omega⟩)) := by
  unfold sg
  rw [zero_sub]
  pointwise [val_main_v9, val_main_v17, val_main_v18, val_main_v19, val_main_v20, val_main_v21, val_main_v22, val_main_cst_1, val_main_cst_2]

theorem ref_at (r : Fin 9216) (n : Fin 2048) : val_main_v25 (F := Ideal) X.hp X.hs X.ap X.ats X.wa X.wb X.z (ix2 r n) = out X r n := by
  unfold out mix
  rw [← ref_ga, ← ref_gb]
  simp only [← ref_h, ← ref_a]
  pointwise [val_main_v2, val_main_v3, val_main_v6, val_main_v7, val_main_v16, val_main_v23, val_main_v24, val_main_v25]

theorem ref_out : val_main_v25 (F := Ideal) X.hp X.hs X.ap X.ats X.wa X.wb X.z = gOut X := by
  funext i
  obtain ⟨r, n, rfl⟩ := exists_ix2 i
  exact ref_at X r n

end Reference

end Cert.MergeValue
-- ==== Proof.MergeClaim.lean ====
/-
  The claims about the gated merge.
-/
module

public import proofs.«01_k».proof.Defs
public import proofs.«01_k».proof.Proof.MergeValue
public import proofs.«01_k».proof.Proof.Gen.Merge
public import proofs.«01_k».proof.Proof.Gen.Merge.Frame
public import proofs.«01_k».proof.Proof.Gen.MergeRefIdeal.Run
public import Idealize.ShloMosaic.Lib.Claim

@[expose] public section

set_option maxRecDepth 16384

noncomputable section

namespace Cert.MergeClaim

open Idealize.ShloMosaic Idealize.ShloMosaic.StableHlo Idealize.SL.Sem Cert.MergeValue

attribute [local instance] Cert.Merge.Gen.facts Cert.MergeIdeal.Gen.facts Cert.MergeRefIdeal.Gen.facts

section Reference

open Cert.MergeRefIdeal Cert.MergeRefIdeal.Gen Cert.MergeRefIdeal.Read

/-- The reference's arguments at launch. -/
def refArgs (m : (ℓ : Loc nD τ sig) → Buf (Elt Ideal) ℓ) (c : Dev nD) : Args where
  hp := m ((c.tc : Thread nD τ).loc main_arg0)
  hs := m ((c.tc : Thread nD τ).loc main_arg1)
  ap := m ((c.tc : Thread nD τ).loc main_arg2)
  ats := m ((c.tc : Thread nD τ).loc main_arg3)
  wa := m ((c.tc : Thread nD τ).loc main_arg4)
  wb := m ((c.tc : Thread nD τ).loc main_arg5)
  z := m ((c.tc : Thread nD τ).loc main_arg6)

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = gOut (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨e0, e1⟩ := h c
    refine ⟨?_, e1⟩
    · rw [e0, val_main_v25_eq, ← ref_out (refArgs m c)]; rfl) (Cert.MergeRefIdeal.Value.run (F := Ideal) m ρ)

theorem ref_frame : Cert.quiescent_MergeRefIdeal := fun m ρ _ =>
  (θ_run defs _ _).mono (fun r h => ⟨fun c => (h c).2,
    Idealize.ShloMosaic.sem_eq_zero_of_no_sems (by decide) r.2⟩) (ref_run m ρ)

end Reference

section Kernel

open Cert.MergeIdeal Cert.MergeIdeal.Gen

theorem algebraic : Cert.algebraic_MergeIdeal_MergeRefIdeal := by
  intro m ρ m' ρ' _ hagree
  have he : ∀ c, refArgs m' c = args m c := by
    intro c
    obtain ⟨h0, h1, h2, h3, h4, h5, h6⟩ := hagree c
    unfold refArgs args
    rw [h0, h1, h2, h3, h4, h5, h6]
  refine ⟨fun c => gOut (args m c), (θ_run _ _ _).mono (fun _ h c => ?_) (Cert.MergeIdeal.Value.run_blocks (F := Ideal) m ρ),
    (θ_run _ _ _).mono (fun _ h c => ?_) (ref_run m' ρ')⟩
  · obtain ⟨e0, e1⟩ := h c
    exact ⟨e0.trans (final_out m c), e1⟩
  · have e := he c
    obtain ⟨e0, e1⟩ := h c
    rw [e] at e0
    exact ⟨e0, e1⟩

end Kernel

theorem frame : Cert.quiescent_Merge := fun m ρ _ => Cert.Merge.Gen.frame m ρ
theorem frame_ideal : Cert.quiescent_MergeIdeal := fun m ρ _ => Cert.MergeIdeal.Gen.frame m ρ

end Cert.MergeClaim
-- ==== Proof.InProjDat.lean ====
/- What the input projection's buffers hold after each grid point, where each output is stored and where it is written back. -/
module

public import proofs.«01_k».proof.Proof.Gen.InProjIdeal.Frame
public import proofs.«01_k».proof.Proof.Gen.InProjIdeal.Skeleton
public import proofs.«01_k».proof.Proof.Gen.InProjIdeal.Points
public import Idealize.ShloMosaic.Lib.Claim

@[expose] public section

set_option maxRecDepth 16384

noncomputable section

namespace Cert.InProjDat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' current buffers -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S16x1024 .f32 := win0_13.stage (cfg0.slots t 13)
abbrev hs0_13 (t : Fin cfg0.N) : (ms0_13 t).IsWhole := hstage0_13 ((cfg0.slots t 13).cast nbuf0_13)

theorem val_lt (t : Fin cfg0.N) : t.val < 198 := lt_of_lt_of_eq t.isLt (show cfg0.N = 198 from N_0)

/-! ## What the scratch buffer and the outputs' buffers hold -/

/-- The scratch that holds the normalised rows, as a whole buffer. -/
abbrev scN : Memref sig .tc .vmem S1024x2048 .bf16 := Memref.whole cc0_scratch0

/-- The first point of the block of rows of point `t`. -/
def base (t : Fin cfg0.N) : Fin cfg0.N := ⟨t.val - t.val % 22, Nat.lt_of_le_of_lt (Nat.sub_le _ _) t.isLt⟩

theorem base_self (t : Fin cfg0.N) (h : t.val % 22 = 0) : base t = t := Fin.ext (by show t.val - t.val % 22 = t.val; omega)

theorem base_pred (t s : Fin cfg0.N) (h : t.val = s.val + 1) (h0 : t.val % 22 ≠ 0) : base s = base t :=
  Fin.ext (by show s.val - s.val % 22 = t.val - t.val % 22; omega)

/-- The normalised rows of a block of rows, from the block's first point, -/
def rows (c : Dev nD) (b : Fin cfg0.N) : Vec F S1024x2048 .bf16 :=
  if b.val < 176 then k0_pay4 (iblk m c 0 b) (iblk m c 2 b) else k0_pay8 (iblk m c 1 b) (iblk m c 2 b)
/-- their products with the padded gate columns, -/
def gateC (c : Dev nD) (b : Fin cfg0.N) : Vec F S1024x256 .f32 :=
  if b.val < 176 then k0_pay5 (iblk m c 0 b) (iblk m c 2 b) (iblk m c 5 b) else k0_pay9 (iblk m c 1 b) (iblk m c 2 b) (iblk m c 5 b)
/-- and with the gate rows. -/
def gateR (c : Dev nD) (b : Fin cfg0.N) : Vec F S16x1024 .f32 :=
  if b.val < 176 then k0_pay6 (iblk m c 0 b) (iblk m c 2 b) (iblk m c 6 b) else k0_pay10 (iblk m c 1 b) (iblk m c 2 b) (iblk m c 6 b)
/-- What the body stores into the common result at a point of either kind. -/
def outZ (c : Dev nD) (t : Fin cfg0.N) : Vec F S1024x512 .f32 :=
  if t.val % 22 < 8 then k0_pay11 (rows m c (base t)) (X0_3 m c t) else k0_pay12 (rows m c (base t)) (iblk m c 4 t)
def outKP (c : Dev nD) (t : Fin cfg0.N) : Vec F S1024x512 .f32 := k0_pay13 (rows m c (base t)) (iblk m c 4 t)
def outKS (c : Dev nD) (t : Fin cfg0.N) : Vec F S1024x512 .f32 := k0_pay14 (rows m c (base t)) (iblk m c 4 t)
def outVP (c : Dev nD) (t : Fin cfg0.N) : Vec F S1024x512 .f32 := k0_pay1 (rows m c (base t)) (iblk m c 4 t)
def outVS (c : Dev nD) (t : Fin cfg0.N) : Vec F S1024x512 .f32 := k0_pay2 (rows m c (base t)) (iblk m c 4 t)

/-! The last point, not after `t`, at which the body stores into each output's buffer (where there is one). -/

/-- A point of the grid from its number, the last one where the number is too large. -/
def pt (n : ℕ) : Fin cfg0.N := ⟨min n 197, by rw [show cfg0.N = 198 from N_0]; omega⟩

theorem pt_val (n : ℕ) (h : n < 198) : (pt n).val = n := by show min n 197 = n; omega
theorem pt_self (t : Fin cfg0.N) : pt t.val = t := Fin.ext (pt_val _ (val_lt t))

def lastZ (n : ℕ) : ℕ := if 10 ≤ n % 22 ∧ n % 22 < 14 then n - n % 22 + 9 else n
def lastKP (n : ℕ) : ℕ := if 176 ≤ n then 165 else if 12 ≤ n % 22 then n - n % 22 + 11 else n
def lastKS (n : ℕ) : ℕ := if 188 ≤ n then 187 else n
def lastVP (n : ℕ) : ℕ := if 176 ≤ n then 167 else if 14 ≤ n % 22 then n - n % 22 + 13 else n
def lastVS (n : ℕ) : ℕ := if 190 ≤ n then 189 else n

/-! ## The invariant -/

/-- Between points: the scratch buffer at the rows of the point before, the generator register at some state. -/
def PhiS (c : Dev nD) : (n : ℕ) → n ≤ cfg0.N → sProp 𝕄
  | 0, _ => Pipeline.ΦA spec0 c
  | n + 1, hn => iprop(owns (c : Thread nD τ) scN fullShare (rows m c (base ⟨n, hn⟩)) ∗ (∃ r, prngReg c r))

theorem PhiS_next (c : Dev nD) (t : Fin cfg0.N) (h : t.val ≤ cfg0.N) (h0 : t.val % 22 ≠ 0) :
    PhiS m c t.val h = iprop(owns (c : Thread nD τ) scN fullShare (rows m c (base t)) ∗ (∃ r, prngReg c r)) := by
  obtain ⟨n, hn⟩ := t
  cases n with
  | zero => exact absurd rfl h0
  | succ n => rw [← base_pred ⟨n + 1, hn⟩ ⟨n, Nat.lt_of_succ_lt hn⟩ rfl h0]; rfl

theorem PhiA_eq (c : Dev nD) :
    (Pipeline.ΦA spec0 c : sProp 𝕄) = iprop((∃ d, owns (c : Thread nD τ) scN fullShare d) ∗ (∃ r, prngReg c r)) := by
  unfold Pipeline.ΦA; rw [scopedRest0_eq]; simp only [scN, owns_whole]; try rfl

/-- Whatever the point, the invariant gives the scratch buffer at some contents. -/
theorem PhiS_any (c : Dev nD) (n : ℕ) (h : n ≤ cfg0.N) : PhiS m c n h ⊢ Pipeline.ΦA spec0 c := by
  cases n with
  | zero => exact Entails.refl _
  | succ n =>
    unfold PhiS; rw [PhiA_eq]
    iintro ⟨HN, Hg⟩
    isplitl [HN]
    · iexists _; iexact HN
    iexact Hg

/-! ## The pipeline's proof data -/

/-- The arrays as the launch finds them; each input's buffer at its block; each output's at what the last point that stored
    into it left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => outZ m c (pt (lastZ t.val))
    | ⟨8, _⟩ => outKP m c (pt (lastKP t.val))
    | ⟨9, _⟩ => outKS m c (pt (lastKS t.val))
    | ⟨10, _⟩ => outVP m c (pt (lastVP t.val))
    | ⟨11, _⟩ => outVS m c (pt (lastVS t.val))
    | ⟨12, _⟩ => gateC m c (base t)
    | ⟨13, _⟩ => gateR m c (base t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outZ m c (pt (lastZ t.val)) := by dsimp only [dats]
theorem after_8 (c : Dev nD) (t : Fin cfg0.N) : (dats m 0 c).after 8 t = outKP m c (pt (lastKP t.val)) := by dsimp only [dats]
theorem after_9 (c : Dev nD) (t : Fin cfg0.N) : (dats m 0 c).after 9 t = outKS m c (pt (lastKS t.val)) := by dsimp only [dats]
theorem after_10 (c : Dev nD) (t : Fin cfg0.N) : (dats m 0 c).after 10 t = outVP m c (pt (lastVP t.val)) := by dsimp only [dats]
theorem after_11 (c : Dev nD) (t : Fin cfg0.N) : (dats m 0 c).after 11 t = outVS m c (pt (lastVS t.val)) := by dsimp only [dats]
theorem after_12 (c : Dev nD) (t : Fin cfg0.N) : (dats m 0 c).after 12 t = gateC m c (base t) := by dsimp only [dats]
theorem after_13 (c : Dev nD) (t : Fin cfg0.N) : (dats m 0 c).after 13 t = gateR m c (base t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## Where the outputs are stored and written back -/

theorem leaves_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms0_3 t) fullShare (X0_3 m c t) := by
  unfold Dat.leavesExact; rw [show cfg0.idle 3 (cfg0.grid.coords t) = false from rfl, after_3]
theorem leaves_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after_5]
theorem leaves_6 (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after_6]
theorem idle_7 : ∀ t : Fin cfg0.N, cfg0.idle 7 (cfg0.grid.coords t) = !(decide (t.val % 22 < 10) || decide (14 ≤ t.val % 22)) := by decide +kernel
theorem idle_8 : ∀ t : Fin cfg0.N, cfg0.idle 8 (cfg0.grid.coords t) = !(decide (10 ≤ t.val % 22) && decide (t.val % 22 < 12) && decide (t.val < 176)) := by decide +kernel
theorem idle_9 : ∀ t : Fin cfg0.N, cfg0.idle 9 (cfg0.grid.coords t) = !(decide (10 ≤ t.val % 22) && decide (t.val % 22 < 12) && decide (176 ≤ t.val)) := by decide +kernel
theorem idle_10 : ∀ t : Fin cfg0.N, cfg0.idle 10 (cfg0.grid.coords t) = !(decide (12 ≤ t.val % 22) && decide (t.val % 22 < 14) && decide (t.val < 176)) := by decide +kernel
theorem idle_11 : ∀ t : Fin cfg0.N, cfg0.idle 11 (cfg0.grid.coords t) = !(decide (12 ≤ t.val % 22) && decide (t.val % 22 < 14) && decide (176 ≤ t.val)) := by decide +kernel
theorem idle_12 : ∀ t : Fin cfg0.N, cfg0.idle 12 (cfg0.grid.coords t) = !(decide (t.val % 22 = 0)) := by decide +kernel
theorem idle_13 : ∀ t : Fin cfg0.N, cfg0.idle 13 (cfg0.grid.coords t) = !(decide (t.val % 22 = 0)) := by decide +kernel
theorem flush_7 : ∀ t : Fin cfg0.N, (cfg0.win 7).flush t = (decide (t.val % 22 < 9) || decide (13 ≤ t.val % 22)) := by decide +kernel
theorem flush_8 : ∀ t : Fin cfg0.N, (cfg0.win 8).flush t = ((decide (t.val < 176) && decide (t.val % 22 = 10)) || (decide (t.val % 22 = 21) && decide (t.val < 154)) || decide (t.val = 197)) := by decide +kernel
theorem flush_9 : ∀ t : Fin cfg0.N, (cfg0.win 9).flush t = (decide (t.val = 186) || decide (t.val = 197)) := by decide +kernel
theorem flush_10 : ∀ t : Fin cfg0.N, (cfg0.win 10).flush t = ((decide (t.val < 176) && decide (t.val % 22 = 12)) || (decide (t.val % 22 = 21) && decide (t.val < 154)) || decide (t.val = 197)) := by decide +kernel
theorem flush_11 : ∀ t : Fin cfg0.N, (cfg0.win 11).flush t = (decide (t.val = 188) || decide (t.val = 197)) := by decide +kernel
theorem flush_12 : ∀ t : Fin cfg0.N, (cfg0.win 12).flush t = (decide (t.val % 22 = 21)) := by decide +kernel
theorem flush_13 : ∀ t : Fin cfg0.N, (cfg0.win 13).flush t = (decide (t.val % 22 = 21)) := by decide +kernel

/-- Along the points that follow a store without a write-back between, an output's buffer keeps what `after` says, where
    `after` does not change along them. -/
theorem before_held (c : Dev nD) (w : Fin cfg0.W) (hw : ∀ t, (cfg0.win w).fetch t = false) (K : Fin cfg0.N → Prop)
    (hk : ∀ s d, (dats m 0 c).kept w s d = (dats m 0 c).after w s)
    (h0 : ∀ t, K t → t.val ≠ 0)
    (hf : ∀ t s : Fin cfg0.N, t.val = s.val + 1 → K t → (cfg0.win w).flush s = false)
    (hi : ∀ t s : Fin cfg0.N, t.val = s.val + 1 → K t → cfg0.idle w (cfg0.grid.coords s) = true → K s)
    (ha : ∀ t s : Fin cfg0.N, t.val = s.val + 1 → K t → (dats m 0 c).after w s = (dats m 0 c).after w t) (d) :
    ∀ (n : ℕ) (hn : n < cfg0.N), K ⟨n, hn⟩ → (dats m 0 c).before w ⟨n, hn⟩ d = (dats m 0 c).after w ⟨n, hn⟩ := by
  intro n
  induction n with
  | zero => intro hn hK; exact absurd rfl (h0 _ hK)
  | succ n ih =>
    intro hn hK
    have hs : n < cfg0.N := Nat.lt_of_succ_lt hn
    have e : (⟨(⟨n + 1, hn⟩ : Fin cfg0.N).val - 1, Nat.lt_of_le_of_lt (Nat.sub_le _ _) (⟨n + 1, hn⟩ : Fin cfg0.N).isLt⟩ : Fin cfg0.N) = ⟨n, hs⟩ := rfl
    rw [(dats m 0 c).before_of_pos w ⟨n + 1, hn⟩ (h0 _ hK) (hw _), e, hf _ ⟨n, hs⟩ rfl hK, if_neg Bool.false_ne_true, ← ha _ ⟨n, hs⟩ rfl hK]
    unfold Dat.left
    split
    · rename_i hI; exact ih hs (hi _ ⟨n, hs⟩ rfl hK hI)
    · exact hk _ _

theorem held_7 (c : Dev nD) (t : Fin cfg0.N) (hK : 10 ≤ t.val % 22 ∧ t.val % 22 < 14) (d) : (dats m 0 c).before 7 t d = (dats m 0 c).after 7 t :=
  before_held m c 7 (fun _ => rfl) (fun t => 10 ≤ t.val % 22 ∧ t.val % 22 < 14) (fun _ _ => rfl)
    (by intro t hK; omega)
    (by
      intro t s h hK
      have ht := val_lt t
      rw [flush_7]; simp only [Bool.not_eq_true', Bool.not_eq_false', Bool.or_eq_true, Bool.or_eq_false_iff, Bool.and_eq_true, Bool.and_eq_false_iff, decide_eq_true_eq, decide_eq_false_iff_not]; omega)
    (by
      intro t s h hK hI
      have ht := val_lt t
      rw [idle_7] at hI
      revert hI
      simp only [Bool.not_eq_true', Bool.not_eq_false', Bool.or_eq_true, Bool.or_eq_false_iff, Bool.and_eq_true, Bool.and_eq_false_iff, decide_eq_true_eq, decide_eq_false_iff_not]; omega)
    (by
      intro t s h hK
      have ht := val_lt t
      rw [after_7, after_7, show lastZ s.val = lastZ t.val from by unfold lastZ; split_ifs <;> omega]) d t.val t.isLt hK

/-- Where the body does not store the common result, handing its buffer back as found is what is asked. -/
theorem pass_7 (c : Dev nD) (t : Fin cfg0.N) (h : ¬((t.val % 22 < 10) ∨ (14 ≤ t.val % 22))) (d) :
    (owns (c : Thread nD τ) (ms0_7 t) fullShare ((dats m 0 c).before 7 t d) : sProp 𝕄) ⊢ (dats m 0 c).leavesExact 7 t := by
  have ht := val_lt t
  have hi : cfg0.idle 7 (cfg0.grid.coords t) = true := by
    rw [idle_7]; simp only [Bool.not_eq_true', Bool.not_eq_false', Bool.or_eq_true, Bool.or_eq_false_iff, Bool.and_eq_true, Bool.and_eq_false_iff, decide_eq_true_eq, decide_eq_false_iff_not]; omega
  by_cases hf : (cfg0.win 7).flush t = true
  · have e : (dats m 0 c).leavesExact 7 t = owns (c : Thread nD τ) (ms0_7 t) fullShare ((dats m 0 c).after 7 t) := by
      unfold Dat.leavesExact; rw [hi, hf]
    rw [e, held_7 m c t (by
      rw [flush_7] at hf
      revert hf
      simp only [Bool.not_eq_true', Bool.not_eq_false', Bool.or_eq_true, Bool.or_eq_false_iff, Bool.and_eq_true, Bool.and_eq_false_iff, decide_eq_true_eq, decide_eq_false_iff_not]; omega) d]
  · rw [(dats m 0 c).leavesExact_idle 7 t hi (Bool.eq_false_iff.mpr hf)]
    iintro H; iexists _; iexact H

theorem leaves_7 (c : Dev nD) (t : Fin cfg0.N) (h : (t.val % 22 < 10) ∨ (14 ≤ t.val % 22)) :
    (dats m 0 c).leavesExact 7 t = owns (c : Thread nD τ) (ms0_7 t) fullShare (outZ m c t) := by
  have ht := val_lt t
  unfold Dat.leavesExact
  rw [show cfg0.idle 7 (cfg0.grid.coords t) = false from by
    rw [idle_7]; simp only [Bool.not_eq_true', Bool.not_eq_false', Bool.or_eq_true, Bool.or_eq_false_iff, Bool.and_eq_true, Bool.and_eq_false_iff, decide_eq_true_eq, decide_eq_false_iff_not]; omega, after_7, show lastZ t.val = t.val from by unfold lastZ; split_ifs <;> omega, pt_self]

theorem held_8 (c : Dev nD) (t : Fin cfg0.N) (hK : 12 ≤ t.val % 22 ∨ 176 ≤ t.val) (d) : (dats m 0 c).before 8 t d = (dats m 0 c).after 8 t :=
  before_held m c 8 (fun _ => rfl) (fun t => 12 ≤ t.val % 22 ∨ 176 ≤ t.val) (fun _ _ => rfl)
    (by intro t hK; omega)
    (by
      intro t s h hK
      have ht := val_lt t
      rw [flush_8]; simp only [Bool.not_eq_true', Bool.not_eq_false', Bool.or_eq_true, Bool.or_eq_false_iff, Bool.and_eq_true, Bool.and_eq_false_iff, decide_eq_true_eq, decide_eq_false_iff_not]; omega)
    (by
      intro t s h hK hI
      have ht := val_lt t
      rw [idle_8] at hI
      revert hI
      simp only [Bool.not_eq_true', Bool.not_eq_false', Bool.or_eq_true, Bool.or_eq_false_iff, Bool.and_eq_true, Bool.and_eq_false_iff, decide_eq_true_eq, decide_eq_false_iff_not]; omega)
    (by
      intro t s h hK
      have ht := val_lt t
      rw [after_8, after_8, show lastKP s.val = lastKP t.val from by unfold lastKP; split_ifs <;> omega]) d t.val t.isLt hK

/-- Where the body does not store the prompt keys, handing its buffer back as found is what is asked. -/
theorem pass_8 (c : Dev nD) (t : Fin cfg0.N) (h : ¬((10 ≤ t.val % 22) ∧ (t.val % 22 < 12) ∧ (t.val < 176))) (d) :
    (owns (c : Thread nD τ) (ms0_8 t) fullShare ((dats m 0 c).before 8 t d) : sProp 𝕄) ⊢ (dats m 0 c).leavesExact 8 t := by
  have ht := val_lt t
  have hi : cfg0.idle 8 (cfg0.grid.coords t) = true := by
    rw [idle_8]; simp only [Bool.not_eq_true', Bool.not_eq_false', Bool.or_eq_true, Bool.or_eq_false_iff, Bool.and_eq_true, Bool.and_eq_false_iff, decide_eq_true_eq, decide_eq_false_iff_not]; omega
  by_cases hf : (cfg0.win 8).flush t = true
  · have e : (dats m 0 c).leavesExact 8 t = owns (c : Thread nD τ) (ms0_8 t) fullShare ((dats m 0 c).after 8 t) := by
      unfold Dat.leavesExact; rw [hi, hf]
    rw [e, held_8 m c t (by
      rw [flush_8] at hf
      revert hf
      simp only [Bool.not_eq_true', Bool.not_eq_false', Bool.or_eq_true, Bool.or_eq_false_iff, Bool.and_eq_true, Bool.and_eq_false_iff, decide_eq_true_eq, decide_eq_false_iff_not]; omega) d]
  · rw [(dats m 0 c).leavesExact_idle 8 t hi (Bool.eq_false_iff.mpr hf)]
    iintro H; iexists _; iexact H

theorem leaves_8 (c : Dev nD) (t : Fin cfg0.N) (h : (10 ≤ t.val % 22) ∧ (t.val % 22 < 12) ∧ (t.val < 176)) :
    (dats m 0 c).leavesExact 8 t = owns (c : Thread nD τ) (ms0_8 t) fullShare (outKP m c t) := by
  have ht := val_lt t
  unfold Dat.leavesExact
  rw [show cfg0.idle 8 (cfg0.grid.coords t) = false from by
    rw [idle_8]; simp only [Bool.not_eq_true', Bool.not_eq_false', Bool.or_eq_true, Bool.or_eq_false_iff, Bool.and_eq_true, Bool.and_eq_false_iff, decide_eq_true_eq, decide_eq_false_iff_not]; omega, after_8, show lastKP t.val = t.val from by unfold lastKP; split_ifs <;> omega, pt_self]

theorem held_9 (c : Dev nD) (t : Fin cfg0.N) (hK : 188 ≤ t.val) (d) : (dats m 0 c).before 9 t d = (dats m 0 c).after 9 t :=
  before_held m c 9 (fun _ => rfl) (fun t => 188 ≤ t.val) (fun _ _ => rfl)
    (by intro t hK; omega)
    (by
      intro t s h hK
      have ht := val_lt t
      rw [flush_9]; simp only [Bool.not_eq_true', Bool.not_eq_false', Bool.or_eq_true, Bool.or_eq_false_iff, Bool.and_eq_true, Bool.and_eq_false_iff, decide_eq_true_eq, decide_eq_false_iff_not]; omega)
    (by
      intro t s h hK hI
      have ht := val_lt t
      rw [idle_9] at hI
      revert hI
      simp only [Bool.not_eq_true', Bool.not_eq_false', Bool.or_eq_true, Bool.or_eq_false_iff, Bool.and_eq_true, Bool.and_eq_false_iff, decide_eq_true_eq, decide_eq_false_iff_not]; omega)
    (by
      intro t s h hK
      have ht := val_lt t
      rw [after_9, after_9, show lastKS s.val = lastKS t.val from by unfold lastKS; split_ifs <;> omega]) d t.val t.isLt hK

/-- Where the body does not store the sample keys, handing its buffer back as found is what is asked. -/
theorem pass_9 (c : Dev nD) (t : Fin cfg0.N) (h : ¬((10 ≤ t.val % 22) ∧ (t.val % 22 < 12) ∧ (176 ≤ t.val))) (d) :
    (owns (c : Thread nD τ) (ms0_9 t) fullShare ((dats m 0 c).before 9 t d) : sProp 𝕄) ⊢ (dats m 0 c).leavesExact 9 t := by
  have ht := val_lt t
  have hi : cfg0.idle 9 (cfg0.grid.coords t) = true := by
    rw [idle_9]; simp only [Bool.not_eq_true', Bool.not_eq_false', Bool.or_eq_true, Bool.or_eq_false_iff, Bool.and_eq_true, Bool.and_eq_false_iff, decide_eq_true_eq, decide_eq_false_iff_not]; omega
  by_cases hf : (cfg0.win 9).flush t = true
  · have e : (dats m 0 c).leavesExact 9 t = owns (c : Thread nD τ) (ms0_9 t) fullShare ((dats m 0 c).after 9 t) := by
      unfold Dat.leavesExact; rw [hi, hf]
    rw [e, held_9 m c t (by
      rw [flush_9] at hf
      revert hf
      simp only [Bool.not_eq_true', Bool.not_eq_false', Bool.or_eq_true, Bool.or_eq_false_iff, Bool.and_eq_true, Bool.and_eq_false_iff, decide_eq_true_eq, decide_eq_false_iff_not]; omega) d]
  · rw [(dats m 0 c).leavesExact_idle 9 t hi (Bool.eq_false_iff.mpr hf)]
    iintro H; iexists _; iexact H

theorem leaves_9 (c : Dev nD) (t : Fin cfg0.N) (h : (10 ≤ t.val % 22) ∧ (t.val % 22 < 12) ∧ (176 ≤ t.val)) :
    (dats m 0 c).leavesExact 9 t = owns (c : Thread nD τ) (ms0_9 t) fullShare (outKS m c t) := by
  have ht := val_lt t
  unfold Dat.leavesExact
  rw [show cfg0.idle 9 (cfg0.grid.coords t) = false from by
    rw [idle_9]; simp only [Bool.not_eq_true', Bool.not_eq_false', Bool.or_eq_true, Bool.or_eq_false_iff, Bool.and_eq_true, Bool.and_eq_false_iff, decide_eq_true_eq, decide_eq_false_iff_not]; omega, after_9, show lastKS t.val = t.val from by unfold lastKS; split_ifs <;> omega, pt_self]

theorem held_10 (c : Dev nD) (t : Fin cfg0.N) (hK : 14 ≤ t.val % 22 ∨ 176 ≤ t.val) (d) : (dats m 0 c).before 10 t d = (dats m 0 c).after 10 t :=
  before_held m c 10 (fun _ => rfl) (fun t => 14 ≤ t.val % 22 ∨ 176 ≤ t.val) (fun _ _ => rfl)
    (by intro t hK; omega)
    (by
      intro t s h hK
      have ht := val_lt t
      rw [flush_10]; simp only [Bool.not_eq_true', Bool.not_eq_false', Bool.or_eq_true, Bool.or_eq_false_iff, Bool.and_eq_true, Bool.and_eq_false_iff, decide_eq_true_eq, decide_eq_false_iff_not]; omega)
    (by
      intro t s h hK hI
      have ht := val_lt t
      rw [idle_10] at hI
      revert hI
      simp only [Bool.not_eq_true', Bool.not_eq_false', Bool.or_eq_true, Bool.or_eq_false_iff, Bool.and_eq_true, Bool.and_eq_false_iff, decide_eq_true_eq, decide_eq_false_iff_not]; omega)
    (by
      intro t s h hK
      have ht := val_lt t
      rw [after_10, after_10, show lastVP s.val = lastVP t.val from by unfold lastVP; split_ifs <;> omega]) d t.val t.isLt hK

/-- Where the body does not store the prompt values, handing its buffer back as found is what is asked. -/
theorem pass_10 (c : Dev nD) (t : Fin cfg0.N) (h : ¬((12 ≤ t.val % 22) ∧ (t.val % 22 < 14) ∧ (t.val < 176))) (d) :
    (owns (c : Thread nD τ) (ms0_10 t) fullShare ((dats m 0 c).before 10 t d) : sProp 𝕄) ⊢ (dats m 0 c).leavesExact 10 t := by
  have ht := val_lt t
  have hi : cfg0.idle 10 (cfg0.grid.coords t) = true := by
    rw [idle_10]; simp only [Bool.not_eq_true', Bool.not_eq_false', Bool.or_eq_true, Bool.or_eq_false_iff, Bool.and_eq_true, Bool.and_eq_false_iff, decide_eq_true_eq, decide_eq_false_iff_not]; omega
  by_cases hf : (cfg0.win 10).flush t = true
  · have e : (dats m 0 c).leavesExact 10 t = owns (c : Thread nD τ) (ms0_10 t) fullShare ((dats m 0 c).after 10 t) := by
      unfold Dat.leavesExact; rw [hi, hf]
    rw [e, held_10 m c t (by
      rw [flush_10] at hf
      revert hf
      simp only [Bool.not_eq_true', Bool.not_eq_false', Bool.or_eq_true, Bool.or_eq_false_iff, Bool.and_eq_true, Bool.and_eq_false_iff, decide_eq_true_eq, decide_eq_false_iff_not]; omega) d]
  · rw [(dats m 0 c).leavesExact_idle 10 t hi (Bool.eq_false_iff.mpr hf)]
    iintro H; iexists _; iexact H

theorem leaves_10 (c : Dev nD) (t : Fin cfg0.N) (h : (12 ≤ t.val % 22) ∧ (t.val % 22 < 14) ∧ (t.val < 176)) :
    (dats m 0 c).leavesExact 10 t = owns (c : Thread nD τ) (ms0_10 t) fullShare (outVP m c t) := by
  have ht := val_lt t
  unfold Dat.leavesExact
  rw [show cfg0.idle 10 (cfg0.grid.coords t) = false from by
    rw [idle_10]; simp only [Bool.not_eq_true', Bool.not_eq_false', Bool.or_eq_true, Bool.or_eq_false_iff, Bool.and_eq_true, Bool.and_eq_false_iff, decide_eq_true_eq, decide_eq_false_iff_not]; omega, after_10, show lastVP t.val = t.val from by unfold lastVP; split_ifs <;> omega, pt_self]

theorem held_11 (c : Dev nD) (t : Fin cfg0.N) (hK : 190 ≤ t.val) (d) : (dats m 0 c).before 11 t d = (dats m 0 c).after 11 t :=
  before_held m c 11 (fun _ => rfl) (fun t => 190 ≤ t.val) (fun _ _ => rfl)
    (by intro t hK; omega)
    (by
      intro t s h hK
      have ht := val_lt t
      rw [flush_11]; simp only [Bool.not_eq_true', Bool.not_eq_false', Bool.or_eq_true, Bool.or_eq_false_iff, Bool.and_eq_true, Bool.and_eq_false_iff, decide_eq_true_eq, decide_eq_false_iff_not]; omega)
    (by
      intro t s h hK hI
      have ht := val_lt t
      rw [idle_11] at hI
      revert hI
      simp only [Bool.not_eq_true', Bool.not_eq_false', Bool.or_eq_true, Bool.or_eq_false_iff, Bool.and_eq_true, Bool.and_eq_false_iff, decide_eq_true_eq, decide_eq_false_iff_not]; omega)
    (by
      intro t s h hK
      have ht := val_lt t
      rw [after_11, after_11, show lastVS s.val = lastVS t.val from by unfold lastVS; split_ifs <;> omega]) d t.val t.isLt hK

/-- Where the body does not store the sample values, handing its buffer back as found is what is asked. -/
theorem pass_11 (c : Dev nD) (t : Fin cfg0.N) (h : ¬((12 ≤ t.val % 22) ∧ (t.val % 22 < 14) ∧ (176 ≤ t.val))) (d) :
    (owns (c : Thread nD τ) (ms0_11 t) fullShare ((dats m 0 c).before 11 t d) : sProp 𝕄) ⊢ (dats m 0 c).leavesExact 11 t := by
  have ht := val_lt t
  have hi : cfg0.idle 11 (cfg0.grid.coords t) = true := by
    rw [idle_11]; simp only [Bool.not_eq_true', Bool.not_eq_false', Bool.or_eq_true, Bool.or_eq_false_iff, Bool.and_eq_true, Bool.and_eq_false_iff, decide_eq_true_eq, decide_eq_false_iff_not]; omega
  by_cases hf : (cfg0.win 11).flush t = true
  · have e : (dats m 0 c).leavesExact 11 t = owns (c : Thread nD τ) (ms0_11 t) fullShare ((dats m 0 c).after 11 t) := by
      unfold Dat.leavesExact; rw [hi, hf]
    rw [e, held_11 m c t (by
      rw [flush_11] at hf
      revert hf
      simp only [Bool.not_eq_true', Bool.not_eq_false', Bool.or_eq_true, Bool.or_eq_false_iff, Bool.and_eq_true, Bool.and_eq_false_iff, decide_eq_true_eq, decide_eq_false_iff_not]; omega) d]
  · rw [(dats m 0 c).leavesExact_idle 11 t hi (Bool.eq_false_iff.mpr hf)]
    iintro H; iexists _; iexact H

theorem leaves_11 (c : Dev nD) (t : Fin cfg0.N) (h : (12 ≤ t.val % 22) ∧ (t.val % 22 < 14) ∧ (176 ≤ t.val)) :
    (dats m 0 c).leavesExact 11 t = owns (c : Thread nD τ) (ms0_11 t) fullShare (outVS m c t) := by
  have ht := val_lt t
  unfold Dat.leavesExact
  rw [show cfg0.idle 11 (cfg0.grid.coords t) = false from by
    rw [idle_11]; simp only [Bool.not_eq_true', Bool.not_eq_false', Bool.or_eq_true, Bool.or_eq_false_iff, Bool.and_eq_true, Bool.and_eq_false_iff, decide_eq_true_eq, decide_eq_false_iff_not]; omega, after_11, show lastVS t.val = t.val from by unfold lastVS; split_ifs <;> omega, pt_self]

theorem held_12 (c : Dev nD) (t : Fin cfg0.N) (hK : t.val % 22 ≠ 0) (d) : (dats m 0 c).before 12 t d = (dats m 0 c).after 12 t :=
  before_held m c 12 (fun _ => rfl) (fun t => t.val % 22 ≠ 0) (fun _ _ => rfl)
    (by intro t hK; omega)
    (by
      intro t s h hK
      have ht := val_lt t
      rw [flush_12]; simp only [Bool.not_eq_true', Bool.not_eq_false', Bool.or_eq_true, Bool.or_eq_false_iff, Bool.and_eq_true, Bool.and_eq_false_iff, decide_eq_true_eq, decide_eq_false_iff_not]; omega)
    (by
      intro t s h hK hI
      have ht := val_lt t
      rw [idle_12] at hI
      revert hI
      simp only [Bool.not_eq_true', Bool.not_eq_false', Bool.or_eq_true, Bool.or_eq_false_iff, Bool.and_eq_true, Bool.and_eq_false_iff, decide_eq_true_eq, decide_eq_false_iff_not]; omega)
    (by
      intro t s h hK
      rw [after_12, after_12, base_pred t s h hK]) d t.val t.isLt hK

/-- Where the body does not store the padded gates, handing its buffer back as found is what is asked. -/
theorem pass_12 (c : Dev nD) (t : Fin cfg0.N) (h : ¬((t.val % 22 = 0))) (d) :
    (owns (c : Thread nD τ) (ms0_12 t) fullShare ((dats m 0 c).before 12 t d) : sProp 𝕄) ⊢ (dats m 0 c).leavesExact 12 t := by
  have ht := val_lt t
  have hi : cfg0.idle 12 (cfg0.grid.coords t) = true := by
    rw [idle_12]; simp only [Bool.not_eq_true', Bool.not_eq_false', Bool.or_eq_true, Bool.or_eq_false_iff, Bool.and_eq_true, Bool.and_eq_false_iff, decide_eq_true_eq, decide_eq_false_iff_not]; omega
  by_cases hf : (cfg0.win 12).flush t = true
  · have e : (dats m 0 c).leavesExact 12 t = owns (c : Thread nD τ) (ms0_12 t) fullShare ((dats m 0 c).after 12 t) := by
      unfold Dat.leavesExact; rw [hi, hf]
    rw [e, held_12 m c t (by
      rw [flush_12] at hf
      revert hf
      simp only [Bool.not_eq_true', Bool.not_eq_false', Bool.or_eq_true, Bool.or_eq_false_iff, Bool.and_eq_true, Bool.and_eq_false_iff, decide_eq_true_eq, decide_eq_false_iff_not]; omega) d]
  · rw [(dats m 0 c).leavesExact_idle 12 t hi (Bool.eq_false_iff.mpr hf)]
    iintro H; iexists _; iexact H

theorem leaves_12 (c : Dev nD) (t : Fin cfg0.N) (h : (t.val % 22 = 0)) :
    (dats m 0 c).leavesExact 12 t = owns (c : Thread nD τ) (ms0_12 t) fullShare (gateC m c (base t)) := by
  have ht := val_lt t
  unfold Dat.leavesExact
  rw [show cfg0.idle 12 (cfg0.grid.coords t) = false from by
    rw [idle_12]; simp only [Bool.not_eq_true', Bool.not_eq_false', Bool.or_eq_true, Bool.or_eq_false_iff, Bool.and_eq_true, Bool.and_eq_false_iff, decide_eq_true_eq, decide_eq_false_iff_not]; omega, after_12]

theorem held_13 (c : Dev nD) (t : Fin cfg0.N) (hK : t.val % 22 ≠ 0) (d) : (dats m 0 c).before 13 t d = (dats m 0 c).after 13 t :=
  before_held m c 13 (fun _ => rfl) (fun t => t.val % 22 ≠ 0) (fun _ _ => rfl)
    (by intro t hK; omega)
    (by
      intro t s h hK
      have ht := val_lt t
      rw [flush_13]; simp only [Bool.not_eq_true', Bool.not_eq_false', Bool.or_eq_true, Bool.or_eq_false_iff, Bool.and_eq_true, Bool.and_eq_false_iff, decide_eq_true_eq, decide_eq_false_iff_not]; omega)
    (by
      intro t s h hK hI
      have ht := val_lt t
      rw [idle_13] at hI
      revert hI
      simp only [Bool.not_eq_true', Bool.not_eq_false', Bool.or_eq_true, Bool.or_eq_false_iff, Bool.and_eq_true, Bool.and_eq_false_iff, decide_eq_true_eq, decide_eq_false_iff_not]; omega)
    (by
      intro t s h hK
      rw [after_13, after_13, base_pred t s h hK]) d t.val t.isLt hK

/-- Where the body does not store the gate rows, handing its buffer back as found is what is asked. -/
theorem pass_13 (c : Dev nD) (t : Fin cfg0.N) (h : ¬((t.val % 22 = 0))) (d) :
    (owns (c : Thread nD τ) (ms0_13 t) fullShare ((dats m 0 c).before 13 t d) : sProp 𝕄) ⊢ (dats m 0 c).leavesExact 13 t := by
  have ht := val_lt t
  have hi : cfg0.idle 13 (cfg0.grid.coords t) = true := by
    rw [idle_13]; simp only [Bool.not_eq_true', Bool.not_eq_false', Bool.or_eq_true, Bool.or_eq_false_iff, Bool.and_eq_true, Bool.and_eq_false_iff, decide_eq_true_eq, decide_eq_false_iff_not]; omega
  by_cases hf : (cfg0.win 13).flush t = true
  · have e : (dats m 0 c).leavesExact 13 t = owns (c : Thread nD τ) (ms0_13 t) fullShare ((dats m 0 c).after 13 t) := by
      unfold Dat.leavesExact; rw [hi, hf]
    rw [e, held_13 m c t (by
      rw [flush_13] at hf
      revert hf
      simp only [Bool.not_eq_true', Bool.not_eq_false', Bool.or_eq_true, Bool.or_eq_false_iff, Bool.and_eq_true, Bool.and_eq_false_iff, decide_eq_true_eq, decide_eq_false_iff_not]; omega) d]
  · rw [(dats m 0 c).leavesExact_idle 13 t hi (Bool.eq_false_iff.mpr hf)]
    iintro H; iexists _; iexact H

theorem leaves_13 (c : Dev nD) (t : Fin cfg0.N) (h : (t.val % 22 = 0)) :
    (dats m 0 c).leavesExact 13 t = owns (c : Thread nD τ) (ms0_13 t) fullShare (gateR m c (base t)) := by
  have ht := val_lt t
  unfold Dat.leavesExact
  rw [show cfg0.idle 13 (cfg0.grid.coords t) = false from by
    rw [idle_13]; simp only [Bool.not_eq_true', Bool.not_eq_false', Bool.or_eq_true, Bool.or_eq_false_iff, Bool.and_eq_true, Bool.and_eq_false_iff, decide_eq_true_eq, decide_eq_false_iff_not]; omega, after_13]

end Cert.InProjDat

end
-- ==== Proof.InProjRun.lean ====
/- The input projection's body run once per case of its conditionals, over any whole buffers. -/
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InProjRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F]

local notation "𝕄" => MT nD τ sig Unit (Elt F) ℕ (UR sig nD τ) ℕ

/-- The point is at the first column block, at prompt rows. -/
abbrev cond1 (i : grid0.Coords) : Prop := k0_cond1 i = 1#1
/-- The point is at the first column block, at sample rows. -/
abbrev cond2 (i : grid0.Coords) : Prop := k0_cond2 i = 1#1
/-- The point is at a column block before the gates. -/
abbrev cond3 (i : grid0.Coords) : Prop := k0_cond3 i = 1#1
/-- The point is at a column block behind the gates that is neither keys nor values. -/
abbrev cond4 (i : grid0.Coords) : Prop := k0_cond4 i = 1#1
/-- The point is at keys, at prompt rows. -/
abbrev cond5 (i : grid0.Coords) : Prop := k0_cond5 i = 1#1
/-- The point is at keys, at sample rows. -/
abbrev cond6 (i : grid0.Coords) : Prop := k0_cond6 i = 1#1
/-- The point is at values, at prompt rows. -/
abbrev cond7 (i : grid0.Coords) : Prop := k0_cond7 i = 1#1
/-- The point is at values, at sample rows. -/
abbrev cond8 (i : grid0.Coords) : Prop := k0_cond8 i = 1#1

theorem cond1_iff : ∀ t : Fin cfg0.N, cond1 (grid0.coords t) ↔ t.val % 22 = 0 ∧ t.val < 176 :=
  (by decide +kernel : ∀ t : Fin grid0.N, cond1 (grid0.coords t) ↔ t.val % 22 = 0 ∧ t.val < 176)
theorem cond2_iff : ∀ t : Fin cfg0.N, cond2 (grid0.coords t) ↔ t.val % 22 = 0 ∧ 176 ≤ t.val :=
  (by decide +kernel : ∀ t : Fin grid0.N, cond2 (grid0.coords t) ↔ t.val % 22 = 0 ∧ 176 ≤ t.val)
theorem cond3_iff : ∀ t : Fin cfg0.N, cond3 (grid0.coords t) ↔ t.val % 22 < 8 :=
  (by decide +kernel : ∀ t : Fin grid0.N, cond3 (grid0.coords t) ↔ t.val % 22 < 8)
theorem cond4_iff : ∀ t : Fin cfg0.N, cond4 (grid0.coords t) ↔ (8 ≤ t.val % 22 ∧ t.val % 22 < 10) ∨ 14 ≤ t.val % 22 :=
  (by decide +kernel : ∀ t : Fin grid0.N, cond4 (grid0.coords t) ↔ (8 ≤ t.val % 22 ∧ t.val % 22 < 10) ∨ 14 ≤ t.val % 22)
theorem cond5_iff : ∀ t : Fin cfg0.N, cond5 (grid0.coords t) ↔ (10 ≤ t.val % 22 ∧ t.val % 22 < 12) ∧ t.val < 176 :=
  (by decide +kernel : ∀ t : Fin grid0.N, cond5 (grid0.coords t) ↔ (10 ≤ t.val % 22 ∧ t.val % 22 < 12) ∧ t.val < 176)
theorem cond6_iff : ∀ t : Fin cfg0.N, cond6 (grid0.coords t) ↔ (10 ≤ t.val % 22 ∧ t.val % 22 < 12) ∧ 176 ≤ t.val :=
  (by decide +kernel : ∀ t : Fin grid0.N, cond6 (grid0.coords t) ↔ (10 ≤ t.val % 22 ∧ t.val % 22 < 12) ∧ 176 ≤ t.val)
theorem cond7_iff : ∀ t : Fin cfg0.N, cond7 (grid0.coords t) ↔ (12 ≤ t.val % 22 ∧ t.val % 22 < 14) ∧ t.val < 176 :=
  (by decide +kernel : ∀ t : Fin grid0.N, cond7 (grid0.coords t) ↔ (12 ≤ t.val % 22 ∧ t.val % 22 < 14) ∧ t.val < 176)
theorem cond8_iff : ∀ t : Fin cfg0.N, cond8 (grid0.coords t) ↔ (12 ≤ t.val % 22 ∧ t.val % 22 < 14) ∧ 176 ≤ t.val :=
  (by decide +kernel : ∀ t : Fin grid0.N, cond8 (grid0.coords t) ↔ (12 ≤ t.val % 22 ∧ t.val % 22 < 14) ∧ 176 ≤ t.val)

set_option maxHeartbeats 1000000 in
/-- What the body stores at the first point of a block of prompt rows, with the run that stores it. -/
def runA (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : cond1 i) (hc2 : ¬cond2 i) (hc3 : cond3 i) (hc4 : ¬cond4 i) (hc5 : ¬cond5 i) (hc6 : ¬cond6 i) (hc7 : ¬cond7 i) (hc8 : ¬cond8 i) (x0 : Vec F S1024x2048 .f32) (x2 : Vec F S1x2048 .f32) (x3 : Vec F S512x2048 .bf16) (x5 : Vec F S256x2048 .bf16) (x6 : Vec F S16x2048 .bf16) :
    Σ' (L16 : List (View.Piece (Elt F) S1024x2048 .bf16)), Σ' (L14 : List (View.Piece (Elt F) S1024x256 .f32)), Σ' (L15 : List (View.Piece (Elt F) S16x1024 .f32)), { L9 : List (View.Piece (Elt F) S1024x512 .f32) //
      ∀ (E : Set ℕ) (K : PUnit → sProp 𝕄),
        iprop(owns (c : Thread nD τ) arg2 fullShare x0 ∗ owns (c : Thread nD τ) arg4 fullShare x2 ∗ owns (c : Thread nD τ) arg5 fullShare x3 ∗ owns (c : Thread nD τ) arg7 fullShare x5 ∗ owns (c : Thread nD τ) arg8 fullShare x6 ∗ (∃ d, owns (c : Thread nD τ) arg16 fullShare d) ∗ (∃ d, owns (c : Thread nD τ) arg14 fullShare d) ∗ (∃ d, owns (c : Thread nD τ) arg15 fullShare d) ∗ (∃ d, owns (c : Thread nD τ) arg9 fullShare d)
            ∗ (iprop(owns (c : Thread nD τ) arg2 fullShare x0 ∗ owns (c : Thread nD τ) arg4 fullShare x2 ∗ owns (c : Thread nD τ) arg5 fullShare x3 ∗ owns (c : Thread nD τ) arg7 fullShare x5 ∗ owns (c : Thread nD τ) arg8 fullShare x6 ∗ (∃ f, arg16.view.loc (c : Thread nD τ) ↦[arg16.view.set]{fullShare} arg16.view.writes (Elt F) f L16) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg9.view.loc (c : Thread nD τ) ↦[arg9.view.set]{fullShare} arg9.view.writes (Elt F) f L9)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_in_proj_eq_skeleton]; unfold cc0_in_proj_skel
    simp only [k0_part1_eq_skeleton]; unfold k0_part1_skel
    unfold owns
    iintro ⟨⟨%f2, %hf2, H2⟩, ⟨%f4, %hf4, H4⟩, ⟨%f5, %hf5, H5⟩, ⟨%f7, %hf7, H7⟩, ⟨%f8, %hf8, H8⟩, ⟨%d16, %f16, -, H16⟩, ⟨%d14, %f14, -, H14⟩, ⟨%d15, %f15, -, H15⟩, ⟨%d9, %f9, -, H9⟩, Hk⟩
    obtain rfl := harg2.eq_unread hf2
    obtain rfl := harg4.eq_unread hf4
    obtain rfl := harg5.eq_unread hf5
    obtain rfl := harg7.eq_unread hf7
    obtain rfl := harg8.eq_unread hf8
    sl_exec (disch := first | sl_exact hc1 | sl_exact hc2 | sl_exact hc3 | sl_exact hc4 | sl_exact hc5 | sl_exact hc6 | sl_exact hc7 | sl_exact hc8)
    sl_step
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H7]
    · iexists _; isplitr; · ipureintro; exact harg7.read_unread _
      iexact H7
    isplitl [H8]
    · iexists _; isplitr; · ipureintro; exact harg8.read_unread _
      iexact H8
    isplitl [H16]
    · iexists _; iexact H16
    isplitl [H14]
    · iexists _; iexact H14
    isplitl [H15]
    · iexists _; iexact H15
    iexists _; iexact H9

set_option maxHeartbeats 1000000 in
/-- What the body stores at the first point of a block of sample rows, with the run that stores it. -/
def runB (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : cond2 i) (hc3 : cond3 i) (hc4 : ¬cond4 i) (hc5 : ¬cond5 i) (hc6 : ¬cond6 i) (hc7 : ¬cond7 i) (hc8 : ¬cond8 i) (x1 : Vec F S1024x2048 .f32) (x2 : Vec F S1x2048 .f32) (x3 : Vec F S512x2048 .bf16) (x5 : Vec F S256x2048 .bf16) (x6 : Vec F S16x2048 .bf16) :
    Σ' (L16 : List (View.Piece (Elt F) S1024x2048 .bf16)), Σ' (L14 : List (View.Piece (Elt F) S1024x256 .f32)), Σ' (L15 : List (View.Piece (Elt F) S16x1024 .f32)), { L9 : List (View.Piece (Elt F) S1024x512 .f32) //
      ∀ (E : Set ℕ) (K : PUnit → sProp 𝕄),
        iprop(owns (c : Thread nD τ) arg3 fullShare x1 ∗ owns (c : Thread nD τ) arg4 fullShare x2 ∗ owns (c : Thread nD τ) arg5 fullShare x3 ∗ owns (c : Thread nD τ) arg7 fullShare x5 ∗ owns (c : Thread nD τ) arg8 fullShare x6 ∗ (∃ d, owns (c : Thread nD τ) arg16 fullShare d) ∗ (∃ d, owns (c : Thread nD τ) arg14 fullShare d) ∗ (∃ d, owns (c : Thread nD τ) arg15 fullShare d) ∗ (∃ d, owns (c : Thread nD τ) arg9 fullShare d)
            ∗ (iprop(owns (c : Thread nD τ) arg3 fullShare x1 ∗ owns (c : Thread nD τ) arg4 fullShare x2 ∗ owns (c : Thread nD τ) arg5 fullShare x3 ∗ owns (c : Thread nD τ) arg7 fullShare x5 ∗ owns (c : Thread nD τ) arg8 fullShare x6 ∗ (∃ f, arg16.view.loc (c : Thread nD τ) ↦[arg16.view.set]{fullShare} arg16.view.writes (Elt F) f L16) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg9.view.loc (c : Thread nD τ) ↦[arg9.view.set]{fullShare} arg9.view.writes (Elt F) f L9)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_in_proj_eq_skeleton]; unfold cc0_in_proj_skel
    simp only [k0_part1_eq_skeleton]; unfold k0_part1_skel
    unfold owns
    iintro ⟨⟨%f3, %hf3, H3⟩, ⟨%f4, %hf4, H4⟩, ⟨%f5, %hf5, H5⟩, ⟨%f7, %hf7, H7⟩, ⟨%f8, %hf8, H8⟩, ⟨%d16, %f16, -, H16⟩, ⟨%d14, %f14, -, H14⟩, ⟨%d15, %f15, -, H15⟩, ⟨%d9, %f9, -, H9⟩, Hk⟩
    obtain rfl := harg3.eq_unread hf3
    obtain rfl := harg4.eq_unread hf4
    obtain rfl := harg5.eq_unread hf5
    obtain rfl := harg7.eq_unread hf7
    obtain rfl := harg8.eq_unread hf8
    sl_exec (disch := first | sl_exact hc1 | sl_exact hc2 | sl_exact hc3 | sl_exact hc4 | sl_exact hc5 | sl_exact hc6 | sl_exact hc7 | sl_exact hc8)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]
    · iexists _; isplitr; · ipureintro; exact harg7.read_unread _
      iexact H7
    isplitl [H8]
    · iexists _; isplitr; · ipureintro; exact harg8.read_unread _
      iexact H8
    isplitl [H16]
    · iexists _; iexact H16
    isplitl [H14]
    · iexists _; iexact H14
    isplitl [H15]
    · iexists _; iexact H15
    iexists _; iexact H9

set_option maxHeartbeats 1000000 in
/-- What the body stores at a column block before the gates, with the run that stores it. -/
def runC (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : cond3 i) (hc4 : ¬cond4 i) (hc5 : ¬cond5 i) (hc6 : ¬cond6 i) (hc7 : ¬cond7 i) (hc8 : ¬cond8 i) (x3 : Vec F S512x2048 .bf16) (xs : Vec F S1024x2048 .bf16) :
    { L9 : List (View.Piece (Elt F) S1024x512 .f32) //
      ∀ (E : Set ℕ) (K : PUnit → sProp 𝕄),
        iprop(owns (c : Thread nD τ) arg5 fullShare x3 ∗ owns (c : Thread nD τ) arg16 fullShare xs ∗ (∃ d, owns (c : Thread nD τ) arg9 fullShare d)
            ∗ (iprop(owns (c : Thread nD τ) arg5 fullShare x3 ∗ owns (c : Thread nD τ) arg16 fullShare xs ∗ (∃ f, arg9.view.loc (c : Thread nD τ) ↦[arg9.view.set]{fullShare} arg9.view.writes (Elt F) f L9)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_in_proj_eq_skeleton]; unfold cc0_in_proj_skel
    simp only [k0_part1_eq_skeleton]; unfold k0_part1_skel
    unfold owns
    iintro ⟨⟨%f5, %hf5, H5⟩, ⟨%f16, %hf16, H16⟩, ⟨%d9, %f9, -, H9⟩, Hk⟩
    obtain rfl := harg5.eq_unread hf5
    obtain rfl := harg16.eq_unread hf16
    sl_exec (disch := first | sl_exact hc1 | sl_exact hc2 | sl_exact hc3 | sl_exact hc4 | sl_exact hc5 | sl_exact hc6 | sl_exact hc7 | sl_exact hc8)
    sl_step
    iapply Hk
    isplitl [H5]
    · iexists _; isplitr; · ipureintro; exact harg5.read_unread _
      iexact H5
    isplitl [H16]
    · iexists _; isplitr; · ipureintro; exact harg16.read_unread _
      iexact H16
    iexists _; iexact H9

set_option maxHeartbeats 1000000 in
/-- What the body stores at a column block behind the gates that goes to the common result, with the run that stores it. -/
def runD (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : cond4 i) (hc5 : ¬cond5 i) (hc6 : ¬cond6 i) (hc7 : ¬cond7 i) (hc8 : ¬cond8 i) (x4 : Vec F S512x2048 .bf16) (xs : Vec F S1024x2048 .bf16) :
    { L9 : List (View.Piece (Elt F) S1024x512 .f32) //
      ∀ (E : Set ℕ) (K : PUnit → sProp 𝕄),
        iprop(owns (c : Thread nD τ) arg6 fullShare x4 ∗ owns (c : Thread nD τ) arg16 fullShare xs ∗ (∃ d, owns (c : Thread nD τ) arg9 fullShare d)
            ∗ (iprop(owns (c : Thread nD τ) arg6 fullShare x4 ∗ owns (c : Thread nD τ) arg16 fullShare xs ∗ (∃ f, arg9.view.loc (c : Thread nD τ) ↦[arg9.view.set]{fullShare} arg9.view.writes (Elt F) f L9)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_in_proj_eq_skeleton]; unfold cc0_in_proj_skel
    simp only [k0_part1_eq_skeleton]; unfold k0_part1_skel
    unfold owns
    iintro ⟨⟨%f6, %hf6, H6⟩, ⟨%f16, %hf16, H16⟩, ⟨%d9, %f9, -, H9⟩, Hk⟩
    obtain rfl := harg6.eq_unread hf6
    obtain rfl := harg16.eq_unread hf16
    sl_exec (disch := first | sl_exact hc1 | sl_exact hc2 | sl_exact hc3 | sl_exact hc4 | sl_exact hc5 | sl_exact hc6 | sl_exact hc7 | sl_exact hc8)
    sl_step
    iapply Hk
    isplitl [H6]
    · iexists _; isplitr; · ipureintro; exact harg6.read_unread _
      iexact H6
    isplitl [H16]
    · iexists _; isplitr; · ipureintro; exact harg16.read_unread _
      iexact H16
    iexists _; iexact H9

set_option maxHeartbeats 1000000 in
/-- What the body stores at a column block of the prompt keys, with the run that stores it. -/
def runE (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : ¬cond4 i) (hc5 : cond5 i) (hc6 : ¬cond6 i) (hc7 : ¬cond7 i) (hc8 : ¬cond8 i) (x4 : Vec F S512x2048 .bf16) (xs : Vec F S1024x2048 .bf16) :
    { L10 : List (View.Piece (Elt F) S1024x512 .f32) //
      ∀ (E : Set ℕ) (K : PUnit → sProp 𝕄),
        iprop(owns (c : Thread nD τ) arg6 fullShare x4 ∗ owns (c : Thread nD τ) arg16 fullShare xs ∗ (∃ d, owns (c : Thread nD τ) arg10 fullShare d)
            ∗ (iprop(owns (c : Thread nD τ) arg6 fullShare x4 ∗ owns (c : Thread nD τ) arg16 fullShare xs ∗ (∃ f, arg10.view.loc (c : Thread nD τ) ↦[arg10.view.set]{fullShare} arg10.view.writes (Elt F) f L10)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_in_proj_eq_skeleton]; unfold cc0_in_proj_skel
    simp only [k0_part1_eq_skeleton]; unfold k0_part1_skel
    unfold owns
    iintro ⟨⟨%f6, %hf6, H6⟩, ⟨%f16, %hf16, H16⟩, ⟨%d10, %f10, -, H10⟩, Hk⟩
    obtain rfl := harg6.eq_unread hf6
    obtain rfl := harg16.eq_unread hf16
    sl_exec (disch := first | sl_exact hc1 | sl_exact hc2 | sl_exact hc3 | sl_exact hc4 | sl_exact hc5 | sl_exact hc6 | sl_exact hc7 | sl_exact hc8)
    sl_step
    iapply Hk
    isplitl [H6]
    · iexists _; isplitr; · ipureintro; exact harg6.read_unread _
      iexact H6
    isplitl [H16]
    · iexists _; isplitr; · ipureintro; exact harg16.read_unread _
      iexact H16
    iexists _; iexact H10

set_option maxHeartbeats 1000000 in
/-- What the body stores at a column block of the sample keys, with the run that stores it. -/
def runF (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : ¬cond4 i) (hc5 : ¬cond5 i) (hc6 : cond6 i) (hc7 : ¬cond7 i) (hc8 : ¬cond8 i) (x4 : Vec F S512x2048 .bf16) (xs : Vec F S1024x2048 .bf16) :
    { L11 : List (View.Piece (Elt F) S1024x512 .f32) //
      ∀ (E : Set ℕ) (K : PUnit → sProp 𝕄),
        iprop(owns (c : Thread nD τ) arg6 fullShare x4 ∗ owns (c : Thread nD τ) arg16 fullShare xs ∗ (∃ d, owns (c : Thread nD τ) arg11 fullShare d)
            ∗ (iprop(owns (c : Thread nD τ) arg6 fullShare x4 ∗ owns (c : Thread nD τ) arg16 fullShare xs ∗ (∃ f, arg11.view.loc (c : Thread nD τ) ↦[arg11.view.set]{fullShare} arg11.view.writes (Elt F) f L11)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_in_proj_eq_skeleton]; unfold cc0_in_proj_skel
    simp only [k0_part1_eq_skeleton]; unfold k0_part1_skel
    unfold owns
    iintro ⟨⟨%f6, %hf6, H6⟩, ⟨%f16, %hf16, H16⟩, ⟨%d11, %f11, -, H11⟩, Hk⟩
    obtain rfl := harg6.eq_unread hf6
    obtain rfl := harg16.eq_unread hf16
    sl_exec (disch := first | sl_exact hc1 | sl_exact hc2 | sl_exact hc3 | sl_exact hc4 | sl_exact hc5 | sl_exact hc6 | sl_exact hc7 | sl_exact hc8)
    sl_step
    iapply Hk
    isplitl [H6]
    · iexists _; isplitr; · ipureintro; exact harg6.read_unread _
      iexact H6
    isplitl [H16]
    · iexists _; isplitr; · ipureintro; exact harg16.read_unread _
      iexact H16
    iexists _; iexact H11

set_option maxHeartbeats 1000000 in
/-- What the body stores at a column block of the prompt values, with the run that stores it. -/
def runG (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : ¬cond4 i) (hc5 : ¬cond5 i) (hc6 : ¬cond6 i) (hc7 : cond7 i) (hc8 : ¬cond8 i) (x4 : Vec F S512x2048 .bf16) (xs : Vec F S1024x2048 .bf16) :
    { L12 : List (View.Piece (Elt F) S1024x512 .f32) //
      ∀ (E : Set ℕ) (K : PUnit → sProp 𝕄),
        iprop(owns (c : Thread nD τ) arg6 fullShare x4 ∗ owns (c : Thread nD τ) arg16 fullShare xs ∗ (∃ d, owns (c : Thread nD τ) arg12 fullShare d)
            ∗ (iprop(owns (c : Thread nD τ) arg6 fullShare x4 ∗ owns (c : Thread nD τ) arg16 fullShare xs ∗ (∃ f, arg12.view.loc (c : Thread nD τ) ↦[arg12.view.set]{fullShare} arg12.view.writes (Elt F) f L12)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_in_proj_eq_skeleton]; unfold cc0_in_proj_skel
    simp only [k0_part1_eq_skeleton]; unfold k0_part1_skel
    unfold owns
    iintro ⟨⟨%f6, %hf6, H6⟩, ⟨%f16, %hf16, H16⟩, ⟨%d12, %f12, -, H12⟩, Hk⟩
    obtain rfl := harg6.eq_unread hf6
    obtain rfl := harg16.eq_unread hf16
    sl_exec (disch := first | sl_exact hc1 | sl_exact hc2 | sl_exact hc3 | sl_exact hc4 | sl_exact hc5 | sl_exact hc6 | sl_exact hc7 | sl_exact hc8)
    sl_step
    iapply Hk
    isplitl [H6]
    · iexists _; isplitr; · ipureintro; exact harg6.read_unread _
      iexact H6
    isplitl [H16]
    · iexists _; isplitr; · ipureintro; exact harg16.read_unread _
      iexact H16
    iexists _; iexact H12

set_option maxHeartbeats 1000000 in
/-- What the body stores at a column block of the sample values, with the run that stores it. -/
def runH (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : ¬cond4 i) (hc5 : ¬cond5 i) (hc6 : ¬cond6 i) (hc7 : ¬cond7 i) (hc8 : cond8 i) (x4 : Vec F S512x2048 .bf16) (xs : Vec F S1024x2048 .bf16) :
    { L13 : List (View.Piece (Elt F) S1024x512 .f32) //
      ∀ (E : Set ℕ) (K : PUnit → sProp 𝕄),
        iprop(owns (c : Thread nD τ) arg6 fullShare x4 ∗ owns (c : Thread nD τ) arg16 fullShare xs ∗ (∃ d, owns (c : Thread nD τ) arg13 fullShare d)
            ∗ (iprop(owns (c : Thread nD τ) arg6 fullShare x4 ∗ owns (c : Thread nD τ) arg16 fullShare xs ∗ (∃ f, arg13.view.loc (c : Thread nD τ) ↦[arg13.view.set]{fullShare} arg13.view.writes (Elt F) f L13)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_in_proj_eq_skeleton]; unfold cc0_in_proj_skel
    simp only [k0_part1_eq_skeleton]; unfold k0_part1_skel
    unfold owns
    iintro ⟨⟨%f6, %hf6, H6⟩, ⟨%f16, %hf16, H16⟩, ⟨%d13, %f13, -, H13⟩, Hk⟩
    obtain rfl := harg6.eq_unread hf6
    obtain rfl := harg16.eq_unread hf16
    sl_exec (disch := first | sl_exact hc1 | sl_exact hc2 | sl_exact hc3 | sl_exact hc4 | sl_exact hc5 | sl_exact hc6 | sl_exact hc7 | sl_exact hc8)
    sl_step
    iapply Hk
    isplitl [H6]
    · iexists _; isplitr; · ipureintro; exact harg6.read_unread _
      iexact H6
    isplitl [H16]
    · iexists _; isplitr; · ipureintro; exact harg16.read_unread _
      iexact H16
    iexists _; iexact H13

end Cert.InProjRun

end
-- ==== Proof.InProjStep.lean ====
/- The contents the input projection's body stores, case by case, named as the payloads of its stores. -/
module

public import proofs.«01_k».proof.Proof.InProjRun
public import Idealize.ShloMosaic.Lib.Pipeline.ValueKit

@[expose] public section

set_option maxRecDepth 16384

noncomputable section

namespace Cert.InProjStep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen Cert.InProjRun

variable {F : FTy → Type} [FloatOps F]

local notation "𝕄" => MT nD τ sig Unit (Elt F) ℕ (UR sig nD τ) ℕ

theorem canonA_16 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : cond1 i) (hc2 : ¬cond2 i) (hc3 : cond3 i) (hc4 : ¬cond4 i) (hc5 : ¬cond5 i) (hc6 : ¬cond6 i) (hc7 : ¬cond7 i) (hc8 : ¬cond8 i) (x0 : Vec F S1024x2048 .f32) (x2 : Vec F S1x2048 .f32) (x3 : Vec F S512x2048 .bf16) (x5 : Vec F S256x2048 .bf16) (x6 : Vec F S16x2048 .bf16) :
    (∀ y : S1024x2048.Idx, ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).1, y ∈ pc.1.set)
      ∧ View.canon (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).1 = (k0_pay4 x0 x2) := by
  refine ⟨fun y => View.cover_of_tiledL (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).1 S1024x2048.size (by sl_kernel_rfl) y, ?_⟩
  frame_out

theorem canonA_14 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : cond1 i) (hc2 : ¬cond2 i) (hc3 : cond3 i) (hc4 : ¬cond4 i) (hc5 : ¬cond5 i) (hc6 : ¬cond6 i) (hc7 : ¬cond7 i) (hc8 : ¬cond8 i) (x0 : Vec F S1024x2048 .f32) (x2 : Vec F S1x2048 .f32) (x3 : Vec F S512x2048 .bf16) (x5 : Vec F S256x2048 .bf16) (x6 : Vec F S16x2048 .bf16) :
    (∀ y : S1024x256.Idx, ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2.1, y ∈ pc.1.set)
      ∧ View.canon (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2.1 = (k0_pay5 x0 x2 x5) := by
  refine ⟨fun y => View.cover_of_tiledL (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2.1 S1024x256.size (by sl_kernel_rfl) y, ?_⟩
  frame_out

theorem canonA_15 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : cond1 i) (hc2 : ¬cond2 i) (hc3 : cond3 i) (hc4 : ¬cond4 i) (hc5 : ¬cond5 i) (hc6 : ¬cond6 i) (hc7 : ¬cond7 i) (hc8 : ¬cond8 i) (x0 : Vec F S1024x2048 .f32) (x2 : Vec F S1x2048 .f32) (x3 : Vec F S512x2048 .bf16) (x5 : Vec F S256x2048 .bf16) (x6 : Vec F S16x2048 .bf16) :
    (∀ y : S16x1024.Idx, ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2.2.1, y ∈ pc.1.set)
      ∧ View.canon (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2.2.1 = (k0_pay6 x0 x2 x6) := by
  refine ⟨fun y => View.cover_of_tiledL (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2.2.1 S16x1024.size (by sl_kernel_rfl) y, ?_⟩
  frame_out

theorem canonA_9 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : cond1 i) (hc2 : ¬cond2 i) (hc3 : cond3 i) (hc4 : ¬cond4 i) (hc5 : ¬cond5 i) (hc6 : ¬cond6 i) (hc7 : ¬cond7 i) (hc8 : ¬cond8 i) (x0 : Vec F S1024x2048 .f32) (x2 : Vec F S1x2048 .f32) (x3 : Vec F S512x2048 .bf16) (x5 : Vec F S256x2048 .bf16) (x6 : Vec F S16x2048 .bf16) :
    (∀ y : S1024x512.Idx, ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2.2.2.1, y ∈ pc.1.set)
      ∧ View.canon (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2.2.2.1 = (k0_pay11 (k0_pay4 x0 x2) x3) := by
  refine ⟨fun y => View.cover_of_tiledL (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2.2.2.1 S1024x512.size (by sl_kernel_rfl) y, ?_⟩
  frame_out

/-- The run at the first point of a block of prompt rows, with the stored contents named. -/
theorem stepA (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : cond1 i) (hc2 : ¬cond2 i) (hc3 : cond3 i) (hc4 : ¬cond4 i) (hc5 : ¬cond5 i) (hc6 : ¬cond6 i) (hc7 : ¬cond7 i) (hc8 : ¬cond8 i) (x0 : Vec F S1024x2048 .f32) (x2 : Vec F S1x2048 .f32) (x3 : Vec F S512x2048 .bf16) (x5 : Vec F S256x2048 .bf16) (x6 : Vec F S16x2048 .bf16) (E : Set ℕ) (K : PUnit → sProp 𝕄) :
    iprop(owns (c : Thread nD τ) arg2 fullShare x0 ∗ owns (c : Thread nD τ) arg4 fullShare x2 ∗ owns (c : Thread nD τ) arg5 fullShare x3 ∗ owns (c : Thread nD τ) arg7 fullShare x5 ∗ owns (c : Thread nD τ) arg8 fullShare x6 ∗ (∃ d, owns (c : Thread nD τ) arg16 fullShare d) ∗ (∃ d, owns (c : Thread nD τ) arg14 fullShare d) ∗ (∃ d, owns (c : Thread nD τ) arg15 fullShare d) ∗ (∃ d, owns (c : Thread nD τ) arg9 fullShare d)
        ∗ (iprop(owns (c : Thread nD τ) arg2 fullShare x0 ∗ owns (c : Thread nD τ) arg4 fullShare x2 ∗ owns (c : Thread nD τ) arg5 fullShare x3 ∗ owns (c : Thread nD τ) arg7 fullShare x5 ∗ owns (c : Thread nD τ) arg8 fullShare x6 ∗ owns (c : Thread nD τ) arg16 fullShare (k0_pay4 x0 x2) ∗ owns (c : Thread nD τ) arg14 fullShare (k0_pay5 x0 x2 x5) ∗ owns (c : Thread nD τ) arg15 fullShare (k0_pay6 x0 x2 x6) ∗ owns (c : Thread nD τ) arg9 fullShare (k0_pay11 (k0_pay4 x0 x2) x3)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H2, H4, H5, H7, H8, H16, H14, H15, H9, Hk⟩
  iapply ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2.2.2.2 E K)
  isplitl [H2]; · iexact H2
  isplitl [H4]; · iexact H4
  isplitl [H5]; · iexact H5
  isplitl [H7]; · iexact H7
  isplitl [H8]; · iexact H8
  isplitl [H16]; · iexact H16
  isplitl [H14]; · iexact H14
  isplitl [H15]; · iexact H15
  isplitl [H9]; · iexact H9
  iintro ⟨H2, H4, H5, H7, H8, ⟨%e16, H16⟩, ⟨%e14, H14⟩, ⟨%e15, H15⟩, ⟨%e9, H9⟩⟩
  iapply Hk
  isplitl [H2]; · iexact H2
  isplitl [H4]; · iexact H4
  isplitl [H5]; · iexact H5
  isplitl [H7]; · iexact H7
  isplitl [H8]; · iexact H8
  isplitl [H16]
  · unfold owns; iexists _; isplitr
    swap; · iexact H16
    ipureintro; exact (View.read_writes_eq_canon _ _ _ (canonA_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).1).trans (canonA_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2
  isplitl [H14]
  · unfold owns; iexists _; isplitr
    swap; · iexact H14
    ipureintro; exact (View.read_writes_eq_canon _ _ _ (canonA_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).1).trans (canonA_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2
  isplitl [H15]
  · unfold owns; iexists _; isplitr
    swap; · iexact H15
    ipureintro; exact (View.read_writes_eq_canon _ _ _ (canonA_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).1).trans (canonA_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2
  unfold owns; iexists _; isplitr
  swap; · iexact H9
  ipureintro; exact (View.read_writes_eq_canon _ _ _ (canonA_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).1).trans (canonA_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x0 x2 x3 x5 x6).2

theorem canonB_16 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : cond2 i) (hc3 : cond3 i) (hc4 : ¬cond4 i) (hc5 : ¬cond5 i) (hc6 : ¬cond6 i) (hc7 : ¬cond7 i) (hc8 : ¬cond8 i) (x1 : Vec F S1024x2048 .f32) (x2 : Vec F S1x2048 .f32) (x3 : Vec F S512x2048 .bf16) (x5 : Vec F S256x2048 .bf16) (x6 : Vec F S16x2048 .bf16) :
    (∀ y : S1024x2048.Idx, ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).1, y ∈ pc.1.set)
      ∧ View.canon (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).1 = (k0_pay8 x1 x2) := by
  refine ⟨fun y => View.cover_of_tiledL (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).1 S1024x2048.size (by sl_kernel_rfl) y, ?_⟩
  frame_out

theorem canonB_14 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : cond2 i) (hc3 : cond3 i) (hc4 : ¬cond4 i) (hc5 : ¬cond5 i) (hc6 : ¬cond6 i) (hc7 : ¬cond7 i) (hc8 : ¬cond8 i) (x1 : Vec F S1024x2048 .f32) (x2 : Vec F S1x2048 .f32) (x3 : Vec F S512x2048 .bf16) (x5 : Vec F S256x2048 .bf16) (x6 : Vec F S16x2048 .bf16) :
    (∀ y : S1024x256.Idx, ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2.1, y ∈ pc.1.set)
      ∧ View.canon (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2.1 = (k0_pay9 x1 x2 x5) := by
  refine ⟨fun y => View.cover_of_tiledL (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2.1 S1024x256.size (by sl_kernel_rfl) y, ?_⟩
  frame_out

theorem canonB_15 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : cond2 i) (hc3 : cond3 i) (hc4 : ¬cond4 i) (hc5 : ¬cond5 i) (hc6 : ¬cond6 i) (hc7 : ¬cond7 i) (hc8 : ¬cond8 i) (x1 : Vec F S1024x2048 .f32) (x2 : Vec F S1x2048 .f32) (x3 : Vec F S512x2048 .bf16) (x5 : Vec F S256x2048 .bf16) (x6 : Vec F S16x2048 .bf16) :
    (∀ y : S16x1024.Idx, ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2.2.1, y ∈ pc.1.set)
      ∧ View.canon (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2.2.1 = (k0_pay10 x1 x2 x6) := by
  refine ⟨fun y => View.cover_of_tiledL (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2.2.1 S16x1024.size (by sl_kernel_rfl) y, ?_⟩
  frame_out

theorem canonB_9 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : cond2 i) (hc3 : cond3 i) (hc4 : ¬cond4 i) (hc5 : ¬cond5 i) (hc6 : ¬cond6 i) (hc7 : ¬cond7 i) (hc8 : ¬cond8 i) (x1 : Vec F S1024x2048 .f32) (x2 : Vec F S1x2048 .f32) (x3 : Vec F S512x2048 .bf16) (x5 : Vec F S256x2048 .bf16) (x6 : Vec F S16x2048 .bf16) :
    (∀ y : S1024x512.Idx, ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2.2.2.1, y ∈ pc.1.set)
      ∧ View.canon (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2.2.2.1 = (k0_pay11 (k0_pay8 x1 x2) x3) := by
  refine ⟨fun y => View.cover_of_tiledL (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2.2.2.1 S1024x512.size (by sl_kernel_rfl) y, ?_⟩
  frame_out

/-- The run at the first point of a block of sample rows, with the stored contents named. -/
theorem stepB (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : cond2 i) (hc3 : cond3 i) (hc4 : ¬cond4 i) (hc5 : ¬cond5 i) (hc6 : ¬cond6 i) (hc7 : ¬cond7 i) (hc8 : ¬cond8 i) (x1 : Vec F S1024x2048 .f32) (x2 : Vec F S1x2048 .f32) (x3 : Vec F S512x2048 .bf16) (x5 : Vec F S256x2048 .bf16) (x6 : Vec F S16x2048 .bf16) (E : Set ℕ) (K : PUnit → sProp 𝕄) :
    iprop(owns (c : Thread nD τ) arg3 fullShare x1 ∗ owns (c : Thread nD τ) arg4 fullShare x2 ∗ owns (c : Thread nD τ) arg5 fullShare x3 ∗ owns (c : Thread nD τ) arg7 fullShare x5 ∗ owns (c : Thread nD τ) arg8 fullShare x6 ∗ (∃ d, owns (c : Thread nD τ) arg16 fullShare d) ∗ (∃ d, owns (c : Thread nD τ) arg14 fullShare d) ∗ (∃ d, owns (c : Thread nD τ) arg15 fullShare d) ∗ (∃ d, owns (c : Thread nD τ) arg9 fullShare d)
        ∗ (iprop(owns (c : Thread nD τ) arg3 fullShare x1 ∗ owns (c : Thread nD τ) arg4 fullShare x2 ∗ owns (c : Thread nD τ) arg5 fullShare x3 ∗ owns (c : Thread nD τ) arg7 fullShare x5 ∗ owns (c : Thread nD τ) arg8 fullShare x6 ∗ owns (c : Thread nD τ) arg16 fullShare (k0_pay8 x1 x2) ∗ owns (c : Thread nD τ) arg14 fullShare (k0_pay9 x1 x2 x5) ∗ owns (c : Thread nD τ) arg15 fullShare (k0_pay10 x1 x2 x6) ∗ owns (c : Thread nD τ) arg9 fullShare (k0_pay11 (k0_pay8 x1 x2) x3)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H3, H4, H5, H7, H8, H16, H14, H15, H9, Hk⟩
  iapply ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2.2.2.2 E K)
  isplitl [H3]; · iexact H3
  isplitl [H4]; · iexact H4
  isplitl [H5]; · iexact H5
  isplitl [H7]; · iexact H7
  isplitl [H8]; · iexact H8
  isplitl [H16]; · iexact H16
  isplitl [H14]; · iexact H14
  isplitl [H15]; · iexact H15
  isplitl [H9]; · iexact H9
  iintro ⟨H3, H4, H5, H7, H8, ⟨%e16, H16⟩, ⟨%e14, H14⟩, ⟨%e15, H15⟩, ⟨%e9, H9⟩⟩
  iapply Hk
  isplitl [H3]; · iexact H3
  isplitl [H4]; · iexact H4
  isplitl [H5]; · iexact H5
  isplitl [H7]; · iexact H7
  isplitl [H8]; · iexact H8
  isplitl [H16]
  · unfold owns; iexists _; isplitr
    swap; · iexact H16
    ipureintro; exact (View.read_writes_eq_canon _ _ _ (canonB_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).1).trans (canonB_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2
  isplitl [H14]
  · unfold owns; iexists _; isplitr
    swap; · iexact H14
    ipureintro; exact (View.read_writes_eq_canon _ _ _ (canonB_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).1).trans (canonB_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2
  isplitl [H15]
  · unfold owns; iexists _; isplitr
    swap; · iexact H15
    ipureintro; exact (View.read_writes_eq_canon _ _ _ (canonB_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).1).trans (canonB_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2
  unfold owns; iexists _; isplitr
  swap; · iexact H9
  ipureintro; exact (View.read_writes_eq_canon _ _ _ (canonB_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).1).trans (canonB_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x1 x2 x3 x5 x6).2

theorem canonC_9 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : cond3 i) (hc4 : ¬cond4 i) (hc5 : ¬cond5 i) (hc6 : ¬cond6 i) (hc7 : ¬cond7 i) (hc8 : ¬cond8 i) (x3 : Vec F S512x2048 .bf16) (xs : Vec F S1024x2048 .bf16) :
    (∀ y : S1024x512.Idx, ∃ pc ∈ (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x3 xs).1, y ∈ pc.1.set)
      ∧ View.canon (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x3 xs).1 = (k0_pay11 xs x3) := by
  refine ⟨fun y => View.cover_of_tiledL (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x3 xs).1 S1024x512.size (by sl_kernel_rfl) y, ?_⟩
  frame_out

/-- The run at a column block before the gates, with the stored contents named. -/
theorem stepC (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : cond3 i) (hc4 : ¬cond4 i) (hc5 : ¬cond5 i) (hc6 : ¬cond6 i) (hc7 : ¬cond7 i) (hc8 : ¬cond8 i) (x3 : Vec F S512x2048 .bf16) (xs : Vec F S1024x2048 .bf16) (E : Set ℕ) (K : PUnit → sProp 𝕄) :
    iprop(owns (c : Thread nD τ) arg5 fullShare x3 ∗ owns (c : Thread nD τ) arg16 fullShare xs ∗ (∃ d, owns (c : Thread nD τ) arg9 fullShare d)
        ∗ (iprop(owns (c : Thread nD τ) arg5 fullShare x3 ∗ owns (c : Thread nD τ) arg16 fullShare xs ∗ owns (c : Thread nD τ) arg9 fullShare (k0_pay11 xs x3)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H5, H16, H9, Hk⟩
  iapply ((runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x3 xs).2 E K)
  isplitl [H5]; · iexact H5
  isplitl [H16]; · iexact H16
  isplitl [H9]; · iexact H9
  iintro ⟨H5, H16, ⟨%e9, H9⟩⟩
  iapply Hk
  isplitl [H5]; · iexact H5
  isplitl [H16]; · iexact H16
  unfold owns; iexists _; isplitr
  swap; · iexact H9
  ipureintro; exact (View.read_writes_eq_canon _ _ _ (canonC_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x3 xs).1).trans (canonC_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x3 xs).2

theorem canonD_9 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : cond4 i) (hc5 : ¬cond5 i) (hc6 : ¬cond6 i) (hc7 : ¬cond7 i) (hc8 : ¬cond8 i) (x4 : Vec F S512x2048 .bf16) (xs : Vec F S1024x2048 .bf16) :
    (∀ y : S1024x512.Idx, ∃ pc ∈ (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1, y ∈ pc.1.set)
      ∧ View.canon (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1 = (k0_pay12 xs x4) := by
  refine ⟨fun y => View.cover_of_tiledL (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1 S1024x512.size (by sl_kernel_rfl) y, ?_⟩
  frame_out

/-- The run at a column block behind the gates that goes to the common result, with the stored contents named. -/
theorem stepD (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : cond4 i) (hc5 : ¬cond5 i) (hc6 : ¬cond6 i) (hc7 : ¬cond7 i) (hc8 : ¬cond8 i) (x4 : Vec F S512x2048 .bf16) (xs : Vec F S1024x2048 .bf16) (E : Set ℕ) (K : PUnit → sProp 𝕄) :
    iprop(owns (c : Thread nD τ) arg6 fullShare x4 ∗ owns (c : Thread nD τ) arg16 fullShare xs ∗ (∃ d, owns (c : Thread nD τ) arg9 fullShare d)
        ∗ (iprop(owns (c : Thread nD τ) arg6 fullShare x4 ∗ owns (c : Thread nD τ) arg16 fullShare xs ∗ owns (c : Thread nD τ) arg9 fullShare (k0_pay12 xs x4)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H6, H16, H9, Hk⟩
  iapply ((runD c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).2 E K)
  isplitl [H6]; · iexact H6
  isplitl [H16]; · iexact H16
  isplitl [H9]; · iexact H9
  iintro ⟨H6, H16, ⟨%e9, H9⟩⟩
  iapply Hk
  isplitl [H6]; · iexact H6
  isplitl [H16]; · iexact H16
  unfold owns; iexists _; isplitr
  swap; · iexact H9
  ipureintro; exact (View.read_writes_eq_canon _ _ _ (canonD_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1).trans (canonD_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).2

theorem canonE_10 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : ¬cond4 i) (hc5 : cond5 i) (hc6 : ¬cond6 i) (hc7 : ¬cond7 i) (hc8 : ¬cond8 i) (x4 : Vec F S512x2048 .bf16) (xs : Vec F S1024x2048 .bf16) :
    (∀ y : S1024x512.Idx, ∃ pc ∈ (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1, y ∈ pc.1.set)
      ∧ View.canon (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1 = (k0_pay13 xs x4) := by
  refine ⟨fun y => View.cover_of_tiledL (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1 S1024x512.size (by sl_kernel_rfl) y, ?_⟩
  frame_out

/-- The run at a column block of the prompt keys, with the stored contents named. -/
theorem stepE (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : ¬cond4 i) (hc5 : cond5 i) (hc6 : ¬cond6 i) (hc7 : ¬cond7 i) (hc8 : ¬cond8 i) (x4 : Vec F S512x2048 .bf16) (xs : Vec F S1024x2048 .bf16) (E : Set ℕ) (K : PUnit → sProp 𝕄) :
    iprop(owns (c : Thread nD τ) arg6 fullShare x4 ∗ owns (c : Thread nD τ) arg16 fullShare xs ∗ (∃ d, owns (c : Thread nD τ) arg10 fullShare d)
        ∗ (iprop(owns (c : Thread nD τ) arg6 fullShare x4 ∗ owns (c : Thread nD τ) arg16 fullShare xs ∗ owns (c : Thread nD τ) arg10 fullShare (k0_pay13 xs x4)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H6, H16, H10, Hk⟩
  iapply ((runE c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).2 E K)
  isplitl [H6]; · iexact H6
  isplitl [H16]; · iexact H16
  isplitl [H10]; · iexact H10
  iintro ⟨H6, H16, ⟨%e10, H10⟩⟩
  iapply Hk
  isplitl [H6]; · iexact H6
  isplitl [H16]; · iexact H16
  unfold owns; iexists _; isplitr
  swap; · iexact H10
  ipureintro; exact (View.read_writes_eq_canon _ _ _ (canonE_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1).trans (canonE_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).2

theorem canonF_11 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : ¬cond4 i) (hc5 : ¬cond5 i) (hc6 : cond6 i) (hc7 : ¬cond7 i) (hc8 : ¬cond8 i) (x4 : Vec F S512x2048 .bf16) (xs : Vec F S1024x2048 .bf16) :
    (∀ y : S1024x512.Idx, ∃ pc ∈ (runF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1, y ∈ pc.1.set)
      ∧ View.canon (runF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1 = (k0_pay14 xs x4) := by
  refine ⟨fun y => View.cover_of_tiledL (runF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1 S1024x512.size (by sl_kernel_rfl) y, ?_⟩
  frame_out

/-- The run at a column block of the sample keys, with the stored contents named. -/
theorem stepF (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : ¬cond4 i) (hc5 : ¬cond5 i) (hc6 : cond6 i) (hc7 : ¬cond7 i) (hc8 : ¬cond8 i) (x4 : Vec F S512x2048 .bf16) (xs : Vec F S1024x2048 .bf16) (E : Set ℕ) (K : PUnit → sProp 𝕄) :
    iprop(owns (c : Thread nD τ) arg6 fullShare x4 ∗ owns (c : Thread nD τ) arg16 fullShare xs ∗ (∃ d, owns (c : Thread nD τ) arg11 fullShare d)
        ∗ (iprop(owns (c : Thread nD τ) arg6 fullShare x4 ∗ owns (c : Thread nD τ) arg16 fullShare xs ∗ owns (c : Thread nD τ) arg11 fullShare (k0_pay14 xs x4)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H6, H16, H11, Hk⟩
  iapply ((runF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).2 E K)
  isplitl [H6]; · iexact H6
  isplitl [H16]; · iexact H16
  isplitl [H11]; · iexact H11
  iintro ⟨H6, H16, ⟨%e11, H11⟩⟩
  iapply Hk
  isplitl [H6]; · iexact H6
  isplitl [H16]; · iexact H16
  unfold owns; iexists _; isplitr
  swap; · iexact H11
  ipureintro; exact (View.read_writes_eq_canon _ _ _ (canonF_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1).trans (canonF_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).2

theorem canonG_12 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : ¬cond4 i) (hc5 : ¬cond5 i) (hc6 : ¬cond6 i) (hc7 : cond7 i) (hc8 : ¬cond8 i) (x4 : Vec F S512x2048 .bf16) (xs : Vec F S1024x2048 .bf16) :
    (∀ y : S1024x512.Idx, ∃ pc ∈ (runG c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1, y ∈ pc.1.set)
      ∧ View.canon (runG c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1 = (k0_pay1 xs x4) := by
  refine ⟨fun y => View.cover_of_tiledL (runG c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1 S1024x512.size (by sl_kernel_rfl) y, ?_⟩
  frame_out

/-- The run at a column block of the prompt values, with the stored contents named. -/
theorem stepG (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : ¬cond4 i) (hc5 : ¬cond5 i) (hc6 : ¬cond6 i) (hc7 : cond7 i) (hc8 : ¬cond8 i) (x4 : Vec F S512x2048 .bf16) (xs : Vec F S1024x2048 .bf16) (E : Set ℕ) (K : PUnit → sProp 𝕄) :
    iprop(owns (c : Thread nD τ) arg6 fullShare x4 ∗ owns (c : Thread nD τ) arg16 fullShare xs ∗ (∃ d, owns (c : Thread nD τ) arg12 fullShare d)
        ∗ (iprop(owns (c : Thread nD τ) arg6 fullShare x4 ∗ owns (c : Thread nD τ) arg16 fullShare xs ∗ owns (c : Thread nD τ) arg12 fullShare (k0_pay1 xs x4)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H6, H16, H12, Hk⟩
  iapply ((runG c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).2 E K)
  isplitl [H6]; · iexact H6
  isplitl [H16]; · iexact H16
  isplitl [H12]; · iexact H12
  iintro ⟨H6, H16, ⟨%e12, H12⟩⟩
  iapply Hk
  isplitl [H6]; · iexact H6
  isplitl [H16]; · iexact H16
  unfold owns; iexists _; isplitr
  swap; · iexact H12
  ipureintro; exact (View.read_writes_eq_canon _ _ _ (canonG_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1).trans (canonG_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).2

theorem canonH_13 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : ¬cond4 i) (hc5 : ¬cond5 i) (hc6 : ¬cond6 i) (hc7 : ¬cond7 i) (hc8 : cond8 i) (x4 : Vec F S512x2048 .bf16) (xs : Vec F S1024x2048 .bf16) :
    (∀ y : S1024x512.Idx, ∃ pc ∈ (runH c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1, y ∈ pc.1.set)
      ∧ View.canon (runH c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1 = (k0_pay2 xs x4) := by
  refine ⟨fun y => View.cover_of_tiledL (runH c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1 S1024x512.size (by sl_kernel_rfl) y, ?_⟩
  frame_out

/-- The run at a column block of the sample values, with the stored contents named. -/
theorem stepH (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x256 .f32) (harg14 : arg14.IsWhole) (arg15 : Memref sig .tc .vmem S16x1024 .f32) (harg15 : arg15.IsWhole) (arg16 : Memref sig .tc .vmem S1024x2048 .bf16) (harg16 : arg16.IsWhole)
    (hc1 : ¬cond1 i) (hc2 : ¬cond2 i) (hc3 : ¬cond3 i) (hc4 : ¬cond4 i) (hc5 : ¬cond5 i) (hc6 : ¬cond6 i) (hc7 : ¬cond7 i) (hc8 : cond8 i) (x4 : Vec F S512x2048 .bf16) (xs : Vec F S1024x2048 .bf16) (E : Set ℕ) (K : PUnit → sProp 𝕄) :
    iprop(owns (c : Thread nD τ) arg6 fullShare x4 ∗ owns (c : Thread nD τ) arg16 fullShare xs ∗ (∃ d, owns (c : Thread nD τ) arg13 fullShare d)
        ∗ (iprop(owns (c : Thread nD τ) arg6 fullShare x4 ∗ owns (c : Thread nD τ) arg16 fullShare xs ∗ owns (c : Thread nD τ) arg13 fullShare (k0_pay2 xs x4)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H6, H16, H13, Hk⟩
  iapply ((runH c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).2 E K)
  isplitl [H6]; · iexact H6
  isplitl [H16]; · iexact H16
  isplitl [H13]; · iexact H13
  iintro ⟨H6, H16, ⟨%e13, H13⟩⟩
  iapply Hk
  isplitl [H6]; · iexact H6
  isplitl [H16]; · iexact H16
  unfold owns; iexists _; isplitr
  swap; · iexact H13
  ipureintro; exact (View.read_writes_eq_canon _ _ _ (canonH_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).1).trans (canonH_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 hc7 hc8 x4 xs).2

end Cert.InProjStep

end
-- ==== Proof.InProjFrame.lean ====
/- The input projection's body at every grid point, the whole run and the frame, over any float values. -/
module

public import proofs.«01_k».proof.Proof.InProjDat
public import proofs.«01_k».proof.Proof.InProjStep
public import Idealize.ShloMosaic.Lib.Claim

@[expose] public section

set_option maxRecDepth 16384

noncomputable section

namespace Cert.InProjFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen Cert.InProjRun Cert.InProjStep Cert.InProjDat

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- The body at the first point of a block of prompt rows. -/
theorem bodyA (c : Dev nD) (t : Fin cfg0.N) (h0 : t.val % 22 = 0) (hp : t.val < 176) :
    bodyPre m c t ⊢ wp frame (wpE (defs₀ (F := F)) Variants.none c none) Set.univ (bodyAt0 t) (fun _ => bodyPost m c t) := by
  have hN := val_lt t
  unfold bodyPre bodyPost bodyAt0
  simp only [before_0, before_1, before_2, before_3, before_4, before_5, before_6]
  rw [leaves_0, leaves_1, leaves_2, leaves_3, leaves_4, leaves_5, leaves_6]
  rw [show (dats m 0 c).owesAt () t.succ = (dats m 0 c).owesAt () t.castSucc from rfl]
  rw [show (dats m 0 c).Φ t.succ = iprop(owns (c : Thread nD τ) scN fullShare (rows m c (base t)) ∗ (∃ r, prngReg c r)) from rfl]
  rw [Phi_castSucc]
  rw [leaves_12 m c t (by omega)]
  rw [leaves_13 m c t (by omega)]
  rw [leaves_7 m c t (by omega)]
  refine BIBase.Entails.trans (BI.BIClass.sep_mono (PhiS_any m c _ _) (Entails.refl _)) ?_
  unfold outZ
  rw [PhiA_eq, if_pos (show t.val % 22 < 8 by omega), base_self t h0]
  unfold rows gateC gateR
  simp only [if_pos hp]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (stepA c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (Memref.isWhole_whole _) ((cond1_iff t).mpr (by omega)) (fun h => by have := (cond2_iff t).mp h; omega) ((cond3_iff t).mpr (by omega)) (fun h => by have := (cond4_iff t).mp h; omega) (fun h => by have := (cond5_iff t).mp h; omega) (fun h => by have := (cond6_iff t).mp h; omega) (fun h => by have := (cond7_iff t).mp h; omega) (fun h => by have := (cond8_iff t).mp h; omega) (iblk m c 0 t) (iblk m c 2 t) (X0_3 m c t) (iblk m c 5 t) (iblk m c 6 t) Set.univ _)
  isplitl [H0]; · iexact H0
  isplitl [H2]; · iexact H2
  isplitl [H3]; · iexact H3
  isplitl [H5]; · iexact H5
  isplitl [H6]; · iexact H6
  isplitl [HS]; · iexact HS
  isplitl [H12]; · iexists _; iexact H12
  isplitl [H13]; · iexists _; iexact H13
  isplitl [H7]; · iexists _; iexact H7
  iintro ⟨H0, H2, H3, H5, H6, HS, H12, H13, H7⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (pass_8 m c t (by omega) d8); iexact H8
  isplitl [H9]; · iapply (pass_9 m c t (by omega) d9); iexact H9
  isplitl [H10]; · iapply (pass_10 m c t (by omega) d10); iexact H10
  isplitl [H11]; · iapply (pass_11 m c t (by omega) d11); iexact H11
  isplitl [H12]; · iexact H12
  iexact H13

/-- The body at the first point of a block of sample rows. -/
theorem bodyB (c : Dev nD) (t : Fin cfg0.N) (h0 : t.val % 22 = 0) (hp : 176 ≤ t.val) :
    bodyPre m c t ⊢ wp frame (wpE (defs₀ (F := F)) Variants.none c none) Set.univ (bodyAt0 t) (fun _ => bodyPost m c t) := by
  have hN := val_lt t
  unfold bodyPre bodyPost bodyAt0
  simp only [before_0, before_1, before_2, before_3, before_4, before_5, before_6]
  rw [leaves_0, leaves_1, leaves_2, leaves_3, leaves_4, leaves_5, leaves_6]
  rw [show (dats m 0 c).owesAt () t.succ = (dats m 0 c).owesAt () t.castSucc from rfl]
  rw [show (dats m 0 c).Φ t.succ = iprop(owns (c : Thread nD τ) scN fullShare (rows m c (base t)) ∗ (∃ r, prngReg c r)) from rfl]
  rw [Phi_castSucc]
  rw [leaves_12 m c t (by omega)]
  rw [leaves_13 m c t (by omega)]
  rw [leaves_7 m c t (by omega)]
  refine BIBase.Entails.trans (BI.BIClass.sep_mono (PhiS_any m c _ _) (Entails.refl _)) ?_
  unfold outZ
  rw [PhiA_eq, if_pos (show t.val % 22 < 8 by omega), base_self t h0]
  unfold rows gateC gateR
  simp only [if_neg (show ¬(t.val < 176) by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (stepB c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (Memref.isWhole_whole _) (fun h => by have := (cond1_iff t).mp h; omega) ((cond2_iff t).mpr (by omega)) ((cond3_iff t).mpr (by omega)) (fun h => by have := (cond4_iff t).mp h; omega) (fun h => by have := (cond5_iff t).mp h; omega) (fun h => by have := (cond6_iff t).mp h; omega) (fun h => by have := (cond7_iff t).mp h; omega) (fun h => by have := (cond8_iff t).mp h; omega) (iblk m c 1 t) (iblk m c 2 t) (X0_3 m c t) (iblk m c 5 t) (iblk m c 6 t) Set.univ _)
  isplitl [H1]; · iexact H1
  isplitl [H2]; · iexact H2
  isplitl [H3]; · iexact H3
  isplitl [H5]; · iexact H5
  isplitl [H6]; · iexact H6
  isplitl [HS]; · iexact HS
  isplitl [H12]; · iexists _; iexact H12
  isplitl [H13]; · iexists _; iexact H13
  isplitl [H7]; · iexists _; iexact H7
  iintro ⟨H1, H2, H3, H5, H6, HS, H12, H13, H7⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (pass_8 m c t (by omega) d8); iexact H8
  isplitl [H9]; · iapply (pass_9 m c t (by omega) d9); iexact H9
  isplitl [H10]; · iapply (pass_10 m c t (by omega) d10); iexact H10
  isplitl [H11]; · iapply (pass_11 m c t (by omega) d11); iexact H11
  isplitl [H12]; · iexact H12
  iexact H13

/-- The body at a column block before the gates. -/
theorem bodyC (c : Dev nD) (t : Fin cfg0.N) (h0 : t.val % 22 ≠ 0) (h8 : t.val % 22 < 8) :
    bodyPre m c t ⊢ wp frame (wpE (defs₀ (F := F)) Variants.none c none) Set.univ (bodyAt0 t) (fun _ => bodyPost m c t) := by
  have hN := val_lt t
  unfold bodyPre bodyPost bodyAt0
  simp only [before_0, before_1, before_2, before_3, before_4, before_5, before_6]
  rw [leaves_0, leaves_1, leaves_2, leaves_3, leaves_4, leaves_5, leaves_6]
  rw [show (dats m 0 c).owesAt () t.succ = (dats m 0 c).owesAt () t.castSucc from rfl]
  rw [show (dats m 0 c).Φ t.succ = iprop(owns (c : Thread nD τ) scN fullShare (rows m c (base t)) ∗ (∃ r, prngReg c r)) from rfl]
  rw [Phi_castSucc]
  rw [leaves_7 m c t (by omega)]
  rw [PhiS_next m c t _ (by omega)]
  unfold outZ
  rw [if_pos h8]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (stepC c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (Memref.isWhole_whole _) (fun h => by have := (cond1_iff t).mp h; omega) (fun h => by have := (cond2_iff t).mp h; omega) ((cond3_iff t).mpr (by omega)) (fun h => by have := (cond4_iff t).mp h; omega) (fun h => by have := (cond5_iff t).mp h; omega) (fun h => by have := (cond6_iff t).mp h; omega) (fun h => by have := (cond7_iff t).mp h; omega) (fun h => by have := (cond8_iff t).mp h; omega) (X0_3 m c t) (rows m c (base t)) Set.univ _)
  isplitl [H3]; · iexact H3
  isplitl [HS]; · iexact HS
  isplitl [H7]; · iexists _; iexact H7
  iintro ⟨H3, HS, H7⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (pass_8 m c t (by omega) d8); iexact H8
  isplitl [H9]; · iapply (pass_9 m c t (by omega) d9); iexact H9
  isplitl [H10]; · iapply (pass_10 m c t (by omega) d10); iexact H10
  isplitl [H11]; · iapply (pass_11 m c t (by omega) d11); iexact H11
  isplitl [H12]; · iapply (pass_12 m c t (by omega) d12); iexact H12
  iapply (pass_13 m c t (by omega) d13); iexact H13

/-- The body at a column block behind the gates that goes to the common result. -/
theorem bodyD (c : Dev nD) (t : Fin cfg0.N) (h0 : (8 ≤ t.val % 22 ∧ t.val % 22 < 10) ∨ 14 ≤ t.val % 22) :
    bodyPre m c t ⊢ wp frame (wpE (defs₀ (F := F)) Variants.none c none) Set.univ (bodyAt0 t) (fun _ => bodyPost m c t) := by
  have hN := val_lt t
  unfold bodyPre bodyPost bodyAt0
  simp only [before_0, before_1, before_2, before_3, before_4, before_5, before_6]
  rw [leaves_0, leaves_1, leaves_2, leaves_3, leaves_4, leaves_5, leaves_6]
  rw [show (dats m 0 c).owesAt () t.succ = (dats m 0 c).owesAt () t.castSucc from rfl]
  rw [show (dats m 0 c).Φ t.succ = iprop(owns (c : Thread nD τ) scN fullShare (rows m c (base t)) ∗ (∃ r, prngReg c r)) from rfl]
  rw [Phi_castSucc]
  rw [leaves_7 m c t (by omega)]
  rw [PhiS_next m c t _ (by omega)]
  unfold outZ
  rw [if_neg (show ¬(t.val % 22 < 8) by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (stepD c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (Memref.isWhole_whole _) (fun h => by have := (cond1_iff t).mp h; omega) (fun h => by have := (cond2_iff t).mp h; omega) (fun h => by have := (cond3_iff t).mp h; omega) ((cond4_iff t).mpr (by omega)) (fun h => by have := (cond5_iff t).mp h; omega) (fun h => by have := (cond6_iff t).mp h; omega) (fun h => by have := (cond7_iff t).mp h; omega) (fun h => by have := (cond8_iff t).mp h; omega) (iblk m c 4 t) (rows m c (base t)) Set.univ _)
  isplitl [H4]; · iexact H4
  isplitl [HS]; · iexact HS
  isplitl [H7]; · iexists _; iexact H7
  iintro ⟨H4, HS, H7⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (pass_8 m c t (by omega) d8); iexact H8
  isplitl [H9]; · iapply (pass_9 m c t (by omega) d9); iexact H9
  isplitl [H10]; · iapply (pass_10 m c t (by omega) d10); iexact H10
  isplitl [H11]; · iapply (pass_11 m c t (by omega) d11); iexact H11
  isplitl [H12]; · iapply (pass_12 m c t (by omega) d12); iexact H12
  iapply (pass_13 m c t (by omega) d13); iexact H13

/-- The body at a column block of the prompt keys. -/
theorem bodyE (c : Dev nD) (t : Fin cfg0.N) (h0 : 10 ≤ t.val % 22 ∧ t.val % 22 < 12) (hp : t.val < 176) :
    bodyPre m c t ⊢ wp frame (wpE (defs₀ (F := F)) Variants.none c none) Set.univ (bodyAt0 t) (fun _ => bodyPost m c t) := by
  have hN := val_lt t
  unfold bodyPre bodyPost bodyAt0
  simp only [before_0, before_1, before_2, before_3, before_4, before_5, before_6]
  rw [leaves_0, leaves_1, leaves_2, leaves_3, leaves_4, leaves_5, leaves_6]
  rw [show (dats m 0 c).owesAt () t.succ = (dats m 0 c).owesAt () t.castSucc from rfl]
  rw [show (dats m 0 c).Φ t.succ = iprop(owns (c : Thread nD τ) scN fullShare (rows m c (base t)) ∗ (∃ r, prngReg c r)) from rfl]
  rw [Phi_castSucc]
  rw [leaves_8 m c t (by omega)]
  rw [PhiS_next m c t _ (by omega)]
  unfold outKP
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (stepE c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (Memref.isWhole_whole _) (fun h => by have := (cond1_iff t).mp h; omega) (fun h => by have := (cond2_iff t).mp h; omega) (fun h => by have := (cond3_iff t).mp h; omega) (fun h => by have := (cond4_iff t).mp h; omega) ((cond5_iff t).mpr (by omega)) (fun h => by have := (cond6_iff t).mp h; omega) (fun h => by have := (cond7_iff t).mp h; omega) (fun h => by have := (cond8_iff t).mp h; omega) (iblk m c 4 t) (rows m c (base t)) Set.univ _)
  isplitl [H4]; · iexact H4
  isplitl [HS]; · iexact HS
  isplitl [H8]; · iexists _; iexact H8
  iintro ⟨H4, HS, H8⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_7 m c t (by omega) d7); iexact H7
  isplitl [H8]; · iexact H8
  isplitl [H9]; · iapply (pass_9 m c t (by omega) d9); iexact H9
  isplitl [H10]; · iapply (pass_10 m c t (by omega) d10); iexact H10
  isplitl [H11]; · iapply (pass_11 m c t (by omega) d11); iexact H11
  isplitl [H12]; · iapply (pass_12 m c t (by omega) d12); iexact H12
  iapply (pass_13 m c t (by omega) d13); iexact H13

/-- The body at a column block of the sample keys. -/
theorem bodyF (c : Dev nD) (t : Fin cfg0.N) (h0 : 10 ≤ t.val % 22 ∧ t.val % 22 < 12) (hp : 176 ≤ t.val) :
    bodyPre m c t ⊢ wp frame (wpE (defs₀ (F := F)) Variants.none c none) Set.univ (bodyAt0 t) (fun _ => bodyPost m c t) := by
  have hN := val_lt t
  unfold bodyPre bodyPost bodyAt0
  simp only [before_0, before_1, before_2, before_3, before_4, before_5, before_6]
  rw [leaves_0, leaves_1, leaves_2, leaves_3, leaves_4, leaves_5, leaves_6]
  rw [show (dats m 0 c).owesAt () t.succ = (dats m 0 c).owesAt () t.castSucc from rfl]
  rw [show (dats m 0 c).Φ t.succ = iprop(owns (c : Thread nD τ) scN fullShare (rows m c (base t)) ∗ (∃ r, prngReg c r)) from rfl]
  rw [Phi_castSucc]
  rw [leaves_9 m c t (by omega)]
  rw [PhiS_next m c t _ (by omega)]
  unfold outKS
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (stepF c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (Memref.isWhole_whole _) (fun h => by have := (cond1_iff t).mp h; omega) (fun h => by have := (cond2_iff t).mp h; omega) (fun h => by have := (cond3_iff t).mp h; omega) (fun h => by have := (cond4_iff t).mp h; omega) (fun h => by have := (cond5_iff t).mp h; omega) ((cond6_iff t).mpr (by omega)) (fun h => by have := (cond7_iff t).mp h; omega) (fun h => by have := (cond8_iff t).mp h; omega) (iblk m c 4 t) (rows m c (base t)) Set.univ _)
  isplitl [H4]; · iexact H4
  isplitl [HS]; · iexact HS
  isplitl [H9]; · iexists _; iexact H9
  iintro ⟨H4, HS, H9⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_7 m c t (by omega) d7); iexact H7
  isplitl [H8]; · iapply (pass_8 m c t (by omega) d8); iexact H8
  isplitl [H9]; · iexact H9
  isplitl [H10]; · iapply (pass_10 m c t (by omega) d10); iexact H10
  isplitl [H11]; · iapply (pass_11 m c t (by omega) d11); iexact H11
  isplitl [H12]; · iapply (pass_12 m c t (by omega) d12); iexact H12
  iapply (pass_13 m c t (by omega) d13); iexact H13

/-- The body at a column block of the prompt values. -/
theorem bodyG (c : Dev nD) (t : Fin cfg0.N) (h0 : 12 ≤ t.val % 22 ∧ t.val % 22 < 14) (hp : t.val < 176) :
    bodyPre m c t ⊢ wp frame (wpE (defs₀ (F := F)) Variants.none c none) Set.univ (bodyAt0 t) (fun _ => bodyPost m c t) := by
  have hN := val_lt t
  unfold bodyPre bodyPost bodyAt0
  simp only [before_0, before_1, before_2, before_3, before_4, before_5, before_6]
  rw [leaves_0, leaves_1, leaves_2, leaves_3, leaves_4, leaves_5, leaves_6]
  rw [show (dats m 0 c).owesAt () t.succ = (dats m 0 c).owesAt () t.castSucc from rfl]
  rw [show (dats m 0 c).Φ t.succ = iprop(owns (c : Thread nD τ) scN fullShare (rows m c (base t)) ∗ (∃ r, prngReg c r)) from rfl]
  rw [Phi_castSucc]
  rw [leaves_10 m c t (by omega)]
  rw [PhiS_next m c t _ (by omega)]
  unfold outVP
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (stepG c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (Memref.isWhole_whole _) (fun h => by have := (cond1_iff t).mp h; omega) (fun h => by have := (cond2_iff t).mp h; omega) (fun h => by have := (cond3_iff t).mp h; omega) (fun h => by have := (cond4_iff t).mp h; omega) (fun h => by have := (cond5_iff t).mp h; omega) (fun h => by have := (cond6_iff t).mp h; omega) ((cond7_iff t).mpr (by omega)) (fun h => by have := (cond8_iff t).mp h; omega) (iblk m c 4 t) (rows m c (base t)) Set.univ _)
  isplitl [H4]; · iexact H4
  isplitl [HS]; · iexact HS
  isplitl [H10]; · iexists _; iexact H10
  iintro ⟨H4, HS, H10⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_7 m c t (by omega) d7); iexact H7
  isplitl [H8]; · iapply (pass_8 m c t (by omega) d8); iexact H8
  isplitl [H9]; · iapply (pass_9 m c t (by omega) d9); iexact H9
  isplitl [H10]; · iexact H10
  isplitl [H11]; · iapply (pass_11 m c t (by omega) d11); iexact H11
  isplitl [H12]; · iapply (pass_12 m c t (by omega) d12); iexact H12
  iapply (pass_13 m c t (by omega) d13); iexact H13

/-- The body at a column block of the sample values. -/
theorem bodyH (c : Dev nD) (t : Fin cfg0.N) (h0 : 12 ≤ t.val % 22 ∧ t.val % 22 < 14) (hp : 176 ≤ t.val) :
    bodyPre m c t ⊢ wp frame (wpE (defs₀ (F := F)) Variants.none c none) Set.univ (bodyAt0 t) (fun _ => bodyPost m c t) := by
  have hN := val_lt t
  unfold bodyPre bodyPost bodyAt0
  simp only [before_0, before_1, before_2, before_3, before_4, before_5, before_6]
  rw [leaves_0, leaves_1, leaves_2, leaves_3, leaves_4, leaves_5, leaves_6]
  rw [show (dats m 0 c).owesAt () t.succ = (dats m 0 c).owesAt () t.castSucc from rfl]
  rw [show (dats m 0 c).Φ t.succ = iprop(owns (c : Thread nD τ) scN fullShare (rows m c (base t)) ∗ (∃ r, prngReg c r)) from rfl]
  rw [Phi_castSucc]
  rw [leaves_11 m c t (by omega)]
  rw [PhiS_next m c t _ (by omega)]
  unfold outVS
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (stepH c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (Memref.isWhole_whole _) (fun h => by have := (cond1_iff t).mp h; omega) (fun h => by have := (cond2_iff t).mp h; omega) (fun h => by have := (cond3_iff t).mp h; omega) (fun h => by have := (cond4_iff t).mp h; omega) (fun h => by have := (cond5_iff t).mp h; omega) (fun h => by have := (cond6_iff t).mp h; omega) (fun h => by have := (cond7_iff t).mp h; omega) ((cond8_iff t).mpr (by omega)) (iblk m c 4 t) (rows m c (base t)) Set.univ _)
  isplitl [H4]; · iexact H4
  isplitl [HS]; · iexact HS
  isplitl [H11]; · iexists _; iexact H11
  iintro ⟨H4, HS, H11⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (pass_7 m c t (by omega) d7); iexact H7
  isplitl [H8]; · iapply (pass_8 m c t (by omega) d8); iexact H8
  isplitl [H9]; · iapply (pass_9 m c t (by omega) d9); iexact H9
  isplitl [H10]; · iapply (pass_10 m c t (by omega) d10); iexact H10
  isplitl [H11]; · iexact H11
  isplitl [H12]; · iapply (pass_12 m c t (by omega) d12); iexact H12
  iapply (pass_13 m c t (by omega) d13); iexact H13

/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 22 = 0
  · by_cases hp : t.val < 176
    · exact bodyA m c t h0 hp
    · exact bodyB m c t h0 (by omega)
  · by_cases h8 : t.val % 22 < 8
    · exact bodyC m c t h0 h8
    · by_cases hz : (8 ≤ t.val % 22 ∧ t.val % 22 < 10) ∨ 14 ≤ t.val % 22
      · exact bodyD m c t hz
      · by_cases hp : t.val < 176
        · by_cases hk : t.val % 22 < 12
          · exact bodyE m c t (by omega) hp
          · exact bodyG m c t (by omega) hp
        · by_cases hk : t.val % 22 < 12
          · exact bodyF m c t (by omega) (by omega)
          · exact bodyH m c t (by omega) (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

/-! ## The run and the frame -/

set_option backward.isDefEq.respectTransparency.types false in
/-- The whole program runs to the end; every window's array ends at what the write-backs made it, and every semaphore is at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.InProjFrame

end
-- ==== Proof.InProjValue.lean ====
/-
  The input projection: what the kernel's run leaves in its seven results, and what the reference computes, at an index.
  Every result is the normalised tokens' product with the combined projection, at the columns that belong to it.
-/
module

public import proofs.«01_k».proof.Proof.InProjFrame
public import proofs.«01_k».proof.Proof.Gen.InProjRefIdeal.Read
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.InProjValue

open Idealize.ShloMosaic Idealize.ShloMosaic.TcCoe Idealize.SL.Sem

theorem exists_ix2 {a b : ℕ} (x : (⟨2, ![a, b]⟩ : Shape).Idx) : ∃ r n, x = ix2 r n := ⟨x 0, x 1, ValueIdx.eq_ix2 x⟩

section Kernel

open Cert.InProjIdeal Cert.InProjIdeal.Gen Cert.InProjDat Cert.InProjFrame

/-- The arguments: the prompt's tokens, the sample group's, the norm's weights and the combined projection. -/
structure Args where
  xp : FVec Ideal S1x8192x2048 .f32
  xs : FVec Ideal S128x8x2048 .f32
  nw : FVec Ideal S1x2048 .f32
  w : FVec Ideal S1x2048x11280 .f32

variable (X : Args)

/-- Row `r` of the tokens: the prompt's rows, then the sample group's. -/
def tok (r : Fin 9216) (j : Fin 2048) : EReal :=
  if h : r.val < 8192 then X.xp (ix3 0 ⟨r.val, h⟩ j) else X.xs (ix3 ⟨(r.val - 8192) / 8, by omega⟩ ⟨(r.val - 8192) % 8, by omega⟩ j)

/-- A row over its root mean square, times the weights. -/
def nrm (h w : Fin 2048 → EReal) (j : Fin 2048) : EReal :=
  h j * Ideal.rsqrt (Ideal.div (∑ x, h x * h x) (Ideal.ofBits FTy.f32 0x45000000#32) + Ideal.ofBits FTy.f32 0x358637BD#32) * w j

def dot (a b : Fin 2048 → EReal) : EReal := ∑ k, a k * b k

/-- The normalised row `r`, and its projection on column `n`. -/
def xn (r : Fin 9216) : Fin 2048 → EReal := nrm (tok X r) fun j => X.nw (ix2 0 j)
def zz (r : Fin 9216) (n : Fin 11280) : EReal := dot (xn X r) fun j => X.w (ix3 0 j n)

theorem zz_congr {r r' : Fin 9216} {n n' : Fin 11280} (h0 : r.val = r'.val) (h1 : n.val = n'.val) : zz X r n = zz X r' n' := by
  rw [Fin.ext h0, Fin.ext h1]

/-- The projection's column that the common result's column `n` holds: the gates', keys' and values' columns are left out. -/
def zcol (n : Fin 9216) : Fin 11280 := ⟨if n.val < 4096 then n.val else if n.val < 5120 then n.val + 16 else n.val + 2064, by split_ifs <;> omega⟩

def gZ (i : S9216x9216.Idx) : EReal := zz X (i 0) (zcol (i 1))
def gKP (i : S8192x1024.Idx) : EReal := zz X ⟨(i 0).val, lt_of_lt_of_le (show (i 0).val < 8192 from (i 0).isLt) (by decide)⟩
  ⟨5136 + (i 1).val, by have h : (i 1).val < 1024 := (i 1).isLt; omega⟩
def gKS (i : S1024x1024.Idx) : EReal := zz X ⟨8192 + (i 0).val, by have h : (i 0).val < 1024 := (i 0).isLt; omega⟩
  ⟨5136 + (i 1).val, by have h : (i 1).val < 1024 := (i 1).isLt; omega⟩
def gVP (i : S8192x1024.Idx) : EReal := zz X ⟨(i 0).val, lt_of_lt_of_le (show (i 0).val < 8192 from (i 0).isLt) (by decide)⟩
  ⟨6160 + (i 1).val, by have h : (i 1).val < 1024 := (i 1).isLt; omega⟩
def gVS (i : S1024x1024.Idx) : EReal := zz X ⟨8192 + (i 0).val, by have h : (i 0).val < 1024 := (i 0).isLt; omega⟩
  ⟨6160 + (i 1).val, by have h : (i 1).val < 1024 := (i 1).isLt; omega⟩
/-- The two gates' columns, each padded to 128 lanes. -/
def gates (r : Fin 9216) (n : Fin 256) : EReal :=
  if h : n.val < 8 then zz X r ⟨4096 + n.val, by omega⟩
  else if h' : 128 ≤ n.val ∧ n.val < 136 then zz X r ⟨4104 + (n.val - 128), by omega⟩ else 0
def gC (i : S9216x256.Idx) : EReal := gates X (i 0) (i 1)
def gR (i : S16x9216.Idx) : EReal := zz X (i 1) ⟨4096 + (i 0).val, by have h : (i 0).val < 16 := (i 0).isLt; omega⟩

/-! ## The body -/

theorem pay4 (x0 : Vec Ideal S1024x2048 .f32) (x1 : Vec Ideal S1x2048 .f32) (r : Fin 1024) (j : Fin 2048) :
    k0_pay4 x0 x1 (ix2 r j) = nrm (fun j => x0 (ix2 r j)) (fun j => x1 (ix2 0 j)) j := by
  unfold nrm
  pointwise [k0_pay4, k0_pay3]

theorem pay5 (x0 : Vec Ideal S1024x2048 .f32) (x1 : Vec Ideal S1x2048 .f32) (w : Vec Ideal S256x2048 .bf16) (r : Fin 1024) (n : Fin 256) :
    k0_pay5 x0 x1 w (ix2 r n) = dot (nrm (fun j => x0 (ix2 r j)) fun j => x1 (ix2 0 j)) fun j => w (ix2 n j) := by
  unfold dot nrm
  pointwise [k0_pay5, k0_pay3]

theorem pay6 (x0 : Vec Ideal S1024x2048 .f32) (x1 : Vec Ideal S1x2048 .f32) (w : Vec Ideal S16x2048 .bf16) (n : Fin 16) (r : Fin 1024) :
    k0_pay6 x0 x1 w (ix2 n r) = dot (fun j => w (ix2 n j)) (nrm (fun j => x0 (ix2 r j)) fun j => x1 (ix2 0 j)) := by
  unfold dot nrm
  pointwise [k0_pay6, k0_pay3]

theorem pay8 (x0 : Vec Ideal S1024x2048 .f32) (x1 : Vec Ideal S1x2048 .f32) (r : Fin 1024) (j : Fin 2048) :
    k0_pay8 x0 x1 (ix2 r j) = nrm (fun j => x0 (ix2 r j)) (fun j => x1 (ix2 0 j)) j := by
  unfold nrm
  pointwise [k0_pay8, k0_pay7]

theorem pay9 (x0 : Vec Ideal S1024x2048 .f32) (x1 : Vec Ideal S1x2048 .f32) (w : Vec Ideal S256x2048 .bf16) (r : Fin 1024) (n : Fin 256) :
    k0_pay9 x0 x1 w (ix2 r n) = dot (nrm (fun j => x0 (ix2 r j)) fun j => x1 (ix2 0 j)) fun j => w (ix2 n j) := by
  unfold dot nrm
  pointwise [k0_pay9, k0_pay7]

theorem pay10 (x0 : Vec Ideal S1024x2048 .f32) (x1 : Vec Ideal S1x2048 .f32) (w : Vec Ideal S16x2048 .bf16) (n : Fin 16) (r : Fin 1024) :
    k0_pay10 x0 x1 w (ix2 n r) = dot (fun j => w (ix2 n j)) (nrm (fun j => x0 (ix2 r j)) fun j => x1 (ix2 0 j)) := by
  unfold dot nrm
  pointwise [k0_pay10, k0_pay7]

theorem pay11 (x : Vec Ideal S1024x2048 .bf16) (w : Vec Ideal S512x2048 .bf16) (r : Fin 1024) (n : Fin 512) :
    k0_pay11 x w (ix2 r n) = dot (fun j => x (ix2 r j)) fun j => w (ix2 n j) := by
  unfold dot
  pointwise [k0_pay11]

theorem pay12 (x : Vec Ideal S1024x2048 .bf16) (w : Vec Ideal S512x2048 .bf16) (r : Fin 1024) (n : Fin 512) :
    k0_pay12 x w (ix2 r n) = dot (fun j => x (ix2 r j)) fun j => w (ix2 n j) := by
  unfold dot
  pointwise [k0_pay12]

theorem pay13 (x : Vec Ideal S1024x2048 .bf16) (w : Vec Ideal S512x2048 .bf16) (r : Fin 1024) (n : Fin 512) :
    k0_pay13 x w (ix2 r n) = dot (fun j => x (ix2 r j)) fun j => w (ix2 n j) := by
  unfold dot
  pointwise [k0_pay13]

theorem pay14 (x : Vec Ideal S1024x2048 .bf16) (w : Vec Ideal S512x2048 .bf16) (r : Fin 1024) (n : Fin 512) :
    k0_pay14 x w (ix2 r n) = dot (fun j => x (ix2 r j)) fun j => w (ix2 n j) := by
  unfold dot
  pointwise [k0_pay14]

theorem pay1 (x : Vec Ideal S1024x2048 .bf16) (w : Vec Ideal S512x2048 .bf16) (r : Fin 1024) (n : Fin 512) :
    k0_pay1 x w (ix2 r n) = dot (fun j => x (ix2 r j)) fun j => w (ix2 n j) := by
  unfold dot
  pointwise [k0_pay1]

theorem pay2 (x : Vec Ideal S1024x2048 .bf16) (w : Vec Ideal S512x2048 .bf16) (r : Fin 1024) (n : Fin 512) :
    k0_pay2 x w (ix2 r n) = dot (fun j => x (ix2 r j)) fun j => w (ix2 n j) := by
  unfold dot
  pointwise [k0_pay2]

theorem dot_comm (a b : Fin 2048 → EReal) : dot a b = dot b a := Finset.sum_congr rfl fun k _ => mul_comm _ _
theorem dot_zero (a : Fin 2048 → EReal) : dot a (fun _ => 0) = 0 := Finset.sum_eq_zero fun k _ => mul_zero _

variable (m : (ℓ : Loc nD τ sig) → Buf (Elt Ideal) ℓ) (c : Dev nD)

/-- The arguments as launched. -/
def args : Args where
  xp := m ((c : Thread nD τ).loc main_arg0)
  xs := m ((c : Thread nD τ).loc main_arg1)
  nw := m ((c : Thread nD τ).loc main_arg2)
  w := m ((c : Thread nD τ).loc main_arg3)

theorem idx0 : ∀ t : Fin cfg0.N, t.val < 176 → win0_0.index t = ![t.val / 22, 0] := by decide +kernel
theorem idx1 : ∀ t : Fin cfg0.N, 176 ≤ t.val → win0_1.index t = ![0, 0] := by decide +kernel
theorem idx2 : ∀ t : Fin cfg0.N, win0_2.index t = ![0, 0] ∧ win0_5.index t = ![0, 0] ∧ win0_6.index t = ![0, 0] := by decide +kernel
theorem idx3 : ∀ t : Fin cfg0.N, t.val % 22 < 8 → win0_3.index t = ![t.val % 22, 0] := by decide +kernel
theorem idx4 : ∀ t : Fin cfg0.N, 8 ≤ t.val % 22 → win0_4.index t = ![t.val % 22 - 8, 0] := by decide +kernel
theorem idx7 : ∀ t : Fin cfg0.N, win0_7.index t = ![t.val / 22, if t.val % 22 < 10 then t.val % 22 else if t.val % 22 < 14 then 9 else t.val % 22 - 4] := by decide +kernel
theorem idx8 : ∀ t : Fin cfg0.N, win0_8.index t = ![min (t.val / 22) 7, if t.val < 176 ∧ t.val % 22 ≤ 10 then 0 else 1] := by decide +kernel
theorem idx9 : ∀ t : Fin cfg0.N, win0_9.index t = ![0, if t.val ≤ 186 then 0 else 1] := by decide +kernel
theorem idx10 : ∀ t : Fin cfg0.N, win0_10.index t = ![min (t.val / 22) 7, if t.val < 176 ∧ t.val % 22 ≤ 12 then 0 else 1] := by decide +kernel
theorem idx11 : ∀ t : Fin cfg0.N, win0_11.index t = ![0, if t.val ≤ 188 then 0 else 1] := by decide +kernel
theorem idx12 : ∀ t : Fin cfg0.N, win0_12.index t = ![t.val / 22, 0] := by decide +kernel
theorem idx13 : ∀ t : Fin cfg0.N, win0_13.index t = ![0, t.val / 22] := by decide +kernel

/-! ## The operands -/

/-- The projection's columns as rows. -/
abbrev wT : FVec Ideal S11280x2048 .bf16 :=
  truncf .bf16 (transpose S11280x2048 [1, 0] (shapeCast S2048x11280 (args m c).w shapeCasts_S1x2048x11280_S2048x11280) transposes_S2048x11280_S11280x2048_1_0) bitsLt_bf16_f32
/-- The gates' sixteen. -/
abbrev wG : FVec Ideal S16x2048 .bf16 := extractStridedSlice S16x2048 ![4096, 0] (wT m c) slices_S11280x2048_S16x2048_4096_0
abbrev zeros : FVec Ideal S120x2048 .bf16 := broadcastInDim S120x2048 ![] bcast_S_S120x2048 (constant (F := Ideal) S_ .bf16 0x0000#16)

theorem V_v2 : V m c main_v2 = wT m c := by
  unfold_abbrev_sides
  try after_results_simp
  rfl
theorem V_v3 : V m c main_v3 = extractStridedSlice S7168x2048 ![4112, 0] (wT m c) slices_S11280x2048_S7168x2048_4112_0 := by
  unfold_abbrev_sides
  try after_results_simp
  rfl
theorem V_v4 : V m c main_v4 = wG m c := by
  unfold_abbrev_sides
  try after_results_simp
  rfl
theorem V_v8 : V m c main_v8 = concatenate S256x2048 0 [⟨S8x2048, extractStridedSlice S8x2048 ![0, 0] (wG m c) slices_S16x2048_S8x2048_0_0⟩, ⟨S120x2048, zeros⟩,
    ⟨S8x2048, extractStridedSlice S8x2048 ![8, 0] (wG m c) slices_S16x2048_S8x2048_8_0⟩, ⟨S120x2048, zeros⟩] concatenates_S8x2048_S120x2048_S8x2048_S120x2048_S256x2048_d0 := by
  unfold_abbrev_sides
  try after_results_simp
  rfl
theorem V_v9 : V m c main_v9 = shapeCast S8192x2048 (args m c).xp shapeCasts_S1x8192x2048_S8192x2048 := by
  unfold_abbrev_sides
  try after_results_simp
  rfl
theorem V_v10 : V m c main_v10 = shapeCast S1024x2048 (args m c).xs shapeCasts_S128x8x2048_S1024x2048 := by
  unfold_abbrev_sides
  try after_results_simp
  rfl

theorem v2_at (n : Fin 11280) (j : Fin 2048) : V m c main_v2 (ix2 n j) = (args m c).w (ix3 0 j n) := by
  rw [V_v2]; pointwise
theorem v3_at (n : Fin 7168) (j : Fin 2048) : V m c main_v3 (ix2 n j) = (args m c).w (ix3 0 j ⟨4112 + n.val, by omega⟩) := by
  rw [V_v3]; pointwise
theorem wG_at (n : Fin 16) (j : Fin 2048) : wG m c (ix2 n j) = (args m c).w (ix3 0 j ⟨4096 + n.val, by omega⟩) := by
  pointwise
theorem v4_at (n : Fin 16) (j : Fin 2048) : V m c main_v4 (ix2 n j) = (args m c).w (ix3 0 j ⟨4096 + n.val, by omega⟩) := by
  rw [V_v4]; pointwise
/-- Row `n` of the padded gate columns. -/
def padded (n : Fin 256) (j : Fin 2048) : EReal :=
  if h : n.val < 8 then X.w (ix3 0 j ⟨4096 + n.val, by omega⟩)
  else if h' : 128 ≤ n.val ∧ n.val < 136 then X.w (ix3 0 j ⟨4104 + (n.val - 128), by omega⟩) else 0
theorem v9_at (r : Fin 8192) (j : Fin 2048) : V m c main_v9 (ix2 r j) = (args m c).xp (ix3 0 r j) := by
  rw [V_v9]; pointwise
theorem v10_at (r : Fin 1024) (j : Fin 2048) : V m c main_v10 (ix2 r j) = (args m c).xs (ix3 ⟨r.val / 8, by omega⟩ ⟨r.val % 8, by omega⟩ j) := by
  rw [V_v10]; pointwise
theorem v8_at (n : Fin 256) (j : Fin 2048) : V m c main_v8 (ix2 n j) = padded (args m c) n j := by
  rw [V_v8]
  unfold padded
  pointwise
  by_cases h : n.val < 8
  · rw [dif_pos h, dif_pos h]
  by_cases h' : 128 ≤ n.val ∧ n.val < 136
  · rw [dif_neg h, dif_neg h, dif_neg (by omega), dif_pos (by omega), dif_pos h']
    refine congrArg (fun k => (args m c).w (ix3 0 j k)) (Fin.ext ?_)
    dsimp only
    omega
  · rw [dif_neg h, dif_neg h, dif_neg h']
    split_ifs <;> first | rfl | omega

/-! ## The blocks -/

/-- Row `r` of point `t`'s block, and the projection's column that the point computes at `n`. -/
def row (t : Fin cfg0.N) (r : Fin 1024) : Fin 9216 := ⟨t.val / 22 * 1024 + r.val, by have h := val_lt t; omega⟩
def gcol (t : Fin cfg0.N) (n : Fin 512) : Fin 11280 :=
  ⟨if t.val % 22 < 8 then t.val % 22 * 512 + n.val else 4112 + (t.val % 22 - 8) * 512 + n.val, by split_ifs <;> omega⟩

theorem row_base (t : Fin cfg0.N) (r : Fin 1024) : row (base t) r = row t r := Fin.ext (by
  show (t.val - t.val % 22) / 22 * 1024 + r.val = t.val / 22 * 1024 + r.val; omega)

theorem blk0 (t : Fin cfg0.N) (h : t.val < 176) (r : Fin 1024) (j : Fin 2048) : iblk m c 0 t (ix2 r j) = tok (args m c) (row t r) j := by
  unfold tok
  rw [dif_pos (show (row t r).val < 8192 by show t.val / 22 * 1024 + r.val < 8192; omega), ← v9_at]
  blk_ext [iblk, idx0 t h]
  rfl
theorem blk1 (t : Fin cfg0.N) (h : 176 ≤ t.val) (r : Fin 1024) (j : Fin 2048) : iblk m c 1 t (ix2 r j) = tok (args m c) (row t r) j := by
  have ht := val_lt t
  have e : (row t r).val - 8192 = r.val := by show t.val / 22 * 1024 + r.val - 8192 = r.val; omega
  unfold tok
  rw [dif_neg (show ¬ (row t r).val < 8192 by show ¬ t.val / 22 * 1024 + r.val < 8192; omega)]
  simp only [e]
  rw [← v10_at]
  blk_ext [iblk, idx1 t h]
theorem blk2 (t : Fin cfg0.N) (j : Fin 2048) : iblk m c 2 t (ix2 0 j) = (args m c).nw (ix2 0 j) := by
  refine Eq.trans ?_ (congrFun (V_main_arg2 m c) (ix2 0 j))
  blk_ext [iblk, (idx2 t).1]
theorem blk3 (t : Fin cfg0.N) (h : t.val % 22 < 8) (n : Fin 512) (j : Fin 2048) : X0_3 m c t (ix2 n j) = (args m c).w (ix3 0 j (gcol t n)) := by
  have e : gcol t n = ⟨t.val % 22 * 512 + n.val, by omega⟩ := Fin.ext (if_pos h)
  rw [e, ← v2_at]
  unfold X0_3 Pipeline.Window.fill
  rw [dif_pos (moved0_3 t _)]
  blk_ext [iblk, idx3 t h]
theorem blk4 (t : Fin cfg0.N) (h : 8 ≤ t.val % 22) (n : Fin 512) (j : Fin 2048) : iblk m c 4 t (ix2 n j) = (args m c).w (ix3 0 j (gcol t n)) := by
  have e : gcol t n = ⟨4112 + ((t.val % 22 - 8) * 512 + n.val), by omega⟩ := Fin.ext ((if_neg (by omega)).trans (Nat.add_assoc _ _ _))
  rw [e, ← v3_at m c ⟨(t.val % 22 - 8) * 512 + n.val, by omega⟩]
  blk_ext [iblk, idx4 t h]
theorem blk5 (t : Fin cfg0.N) (n : Fin 256) (j : Fin 2048) : iblk m c 5 t (ix2 n j) = padded (args m c) n j := by
  rw [← v8_at]
  blk_ext [iblk, (idx2 t).2.1]
theorem blk6 (t : Fin cfg0.N) (n : Fin 16) (j : Fin 2048) : iblk m c 6 t (ix2 n j) = (args m c).w (ix3 0 j ⟨4096 + n.val, by omega⟩) := by
  rw [← v4_at]
  blk_ext [iblk, (idx2 t).2.2]

/-! ## What the body stores -/

theorem nrm0 (t : Fin cfg0.N) (h : t.val < 176) (r : Fin 1024) :
    nrm (fun j => iblk m c 0 t (ix2 r j)) (fun j => iblk m c 2 t (ix2 0 j)) = xn (args m c) (row t r) :=
  congrArg₂ nrm (funext fun j => blk0 m c t h r j) (funext fun j => blk2 m c t j)
theorem nrm1 (t : Fin cfg0.N) (h : 176 ≤ t.val) (r : Fin 1024) :
    nrm (fun j => iblk m c 1 t (ix2 r j)) (fun j => iblk m c 2 t (ix2 0 j)) = xn (args m c) (row t r) :=
  congrArg₂ nrm (funext fun j => blk1 m c t h r j) (funext fun j => blk2 m c t j)

theorem rows_at (t : Fin cfg0.N) (r : Fin 1024) (j : Fin 2048) : rows m c t (ix2 r j) = xn (args m c) (row t r) j := by
  by_cases h : t.val < 176
  · rw [show rows m c t = _ from if_pos h]
    exact (pay4 _ _ r j).trans (congrFun (nrm0 m c t h r) j)
  · rw [show rows m c t = _ from if_neg h]
    exact (pay8 _ _ r j).trans (congrFun (nrm1 m c t (by omega) r) j)

theorem rows_base (t : Fin cfg0.N) (r : Fin 1024) : (fun j => rows m c (base t) (ix2 r j)) = xn (args m c) (row t r) :=
  funext fun j => (rows_at m c (base t) r j).trans (by rw [row_base])

theorem zz_padded (r : Fin 9216) (n : Fin 256) : dot (xn X r) (padded X n) = gates X r n := by
  unfold gates
  split_ifs with h h'
  · exact congrArg (dot _) (funext fun j => dif_pos h)
  · exact congrArg (dot _) (funext fun j => (dif_neg h).trans (dif_pos h'))
  · exact (congrArg (dot _) (funext fun j => (dif_neg h).trans (dif_neg h'))).trans (dot_zero _)

theorem gateC_at (t : Fin cfg0.N) (r : Fin 1024) (n : Fin 256) : gateC m c (base t) (ix2 r n) = gates (args m c) (row t r) n := by
  rw [← zz_padded, ← row_base]
  by_cases h : (base t).val < 176
  · rw [show gateC m c (base t) = _ from if_pos h]
    exact (pay5 _ _ _ r n).trans (congrArg₂ dot (nrm0 m c _ h r) (funext fun j => blk5 m c _ n j))
  · rw [show gateC m c (base t) = _ from if_neg h]
    exact (pay9 _ _ _ r n).trans (congrArg₂ dot (nrm1 m c _ (by omega) r) (funext fun j => blk5 m c _ n j))

theorem gateR_at (t : Fin cfg0.N) (n : Fin 16) (r : Fin 1024) :
    gateR m c (base t) (ix2 n r) = zz (args m c) (row t r) ⟨4096 + n.val, by omega⟩ := by
  unfold zz
  rw [dot_comm, ← row_base]
  by_cases h : (base t).val < 176
  · rw [show gateR m c (base t) = _ from if_pos h]
    exact (pay6 _ _ _ n r).trans (congrArg₂ dot (funext fun j => blk6 m c _ n j) (nrm0 m c _ h r))
  · rw [show gateR m c (base t) = _ from if_neg h]
    exact (pay10 _ _ _ n r).trans (congrArg₂ dot (funext fun j => blk6 m c _ n j) (nrm1 m c _ (by omega) r))

theorem outZ_at (t : Fin cfg0.N) (r : Fin 1024) (n : Fin 512) : outZ m c t (ix2 r n) = zz (args m c) (row t r) (gcol t n) := by
  by_cases h : t.val % 22 < 8
  · rw [show outZ m c t = _ from if_pos h]
    exact (pay11 _ _ r n).trans (congrArg₂ dot (rows_base m c t r) (funext fun j => blk3 m c t h n j))
  · rw [show outZ m c t = _ from if_neg h]
    exact (pay12 _ _ r n).trans (congrArg₂ dot (rows_base m c t r) (funext fun j => blk4 m c t (by omega) n j))
theorem outKP_at (t : Fin cfg0.N) (h : 8 ≤ t.val % 22) (r : Fin 1024) (n : Fin 512) : outKP m c t (ix2 r n) = zz (args m c) (row t r) (gcol t n) :=
  (pay13 _ _ r n).trans (congrArg₂ dot (rows_base m c t r) (funext fun j => blk4 m c t h n j))
theorem outKS_at (t : Fin cfg0.N) (h : 8 ≤ t.val % 22) (r : Fin 1024) (n : Fin 512) : outKS m c t (ix2 r n) = zz (args m c) (row t r) (gcol t n) :=
  (pay14 _ _ r n).trans (congrArg₂ dot (rows_base m c t r) (funext fun j => blk4 m c t h n j))
theorem outVP_at (t : Fin cfg0.N) (h : 8 ≤ t.val % 22) (r : Fin 1024) (n : Fin 512) : outVP m c t (ix2 r n) = zz (args m c) (row t r) (gcol t n) :=
  (pay1 _ _ r n).trans (congrArg₂ dot (rows_base m c t r) (funext fun j => blk4 m c t h n j))
theorem outVS_at (t : Fin cfg0.N) (h : 8 ≤ t.val % 22) (r : Fin 1024) (n : Fin 512) : outVS m c t (ix2 r n) = zz (args m c) (row t r) (gcol t n) :=
  (pay2 _ _ r n).trans (congrArg₂ dot (rows_base m c t r) (funext fun j => blk4 m c t h n j))

/-! ## The results -/

theorem gZ_at (i : S9216x9216.Idx) (q : ℕ) (r : Fin 9216) (n : Fin 11280) (h0 : (i 0).val = r.val) (hq : (i 1).val = q)
    (h1 : (if q < 4096 then q else if q < 5120 then q + 16 else q + 2064) = n.val) : gZ X i = zz X r n := by
  subst hq
  exact zz_congr X h0 h1
theorem gC_at (i : S9216x256.Idx) (r : Fin 9216) (n : Fin 256) (h0 : (i 0).val = r.val) (h1 : (i 1).val = n.val) : gC X i = gates X r n :=
  congrArg₂ (gates X) (Fin.ext h0) (Fin.ext h1)
theorem gR_at (i : S16x9216.Idx) (n : Fin 16) (r : Fin 9216) (h0 : (i 0).val = n.val) (h1 : (i 1).val = r.val) : gR X i = zz X r ⟨4096 + n.val, by omega⟩ :=
  zz_congr X h1 (congrArg (4096 + ·) h0)
theorem gKP_at (i : S8192x1024.Idx) (p q : ℕ) (r : Fin 9216) (n : Fin 11280) (h0 : (i 0).val = p) (h1 : (i 1).val = q) (h2 : p = r.val) (h3 : 5136 + q = n.val) : gKP X i = zz X r n := by
  subst h0 h1
  exact zz_congr X h2 h3
theorem gKS_at (i : S1024x1024.Idx) (p q : ℕ) (r : Fin 9216) (n : Fin 11280) (h0 : (i 0).val = p) (h1 : (i 1).val = q) (h2 : 8192 + p = r.val) (h3 : 5136 + q = n.val) : gKS X i = zz X r n := by
  subst h0 h1
  exact zz_congr X h2 h3
theorem gVP_at (i : S8192x1024.Idx) (p q : ℕ) (r : Fin 9216) (n : Fin 11280) (h0 : (i 0).val = p) (h1 : (i 1).val = q) (h2 : p = r.val) (h3 : 6160 + q = n.val) : gVP X i = zz X r n := by
  subst h0 h1
  exact zz_congr X h2 h3
theorem gVS_at (i : S1024x1024.Idx) (p q : ℕ) (r : Fin 9216) (n : Fin 11280) (h0 : (i 0).val = p) (h1 : (i 1).val = q) (h2 : 8192 + p = r.val) (h3 : 6160 + q = n.val) : gVS X i = zz X r n := by
  subst h0 h1
  exact zz_congr X h2 h3

theorem final_Z : (dats m 0 c).arrAt 7 cfg0.N = gZ (args m c) := by
  refine (dats m 0 c).arrAt_eq_of_covers 7 _ (by decide +kernel) fun t hf y => ?_
  have ht := val_lt t
  have hs : (pt (lastZ t.val)).val = lastZ t.val := pt_val _ (by unfold lastZ; split_ifs <;> omega)
  rw [flush_7, Bool.or_eq_true, decide_eq_true_eq, decide_eq_true_eq] at hf
  blk_simp
  obtain ⟨r, n, rfl⟩ := exists_ix2 y
  rw [after_7]
  refine (outZ_at m c _ r n).trans (gZ_at _ _ ((if t.val % 22 < 10 then t.val % 22 else if t.val % 22 < 14 then 9 else t.val % 22 - 4) * 512 + n.val)
    (row (pt (lastZ t.val)) r) (gcol (pt (lastZ t.val)) n) ?_ ?_ ?_).symm
  · blk_simp [idx7 t]
    show t.val / 22 * 1024 + r.val = (pt (lastZ t.val)).val / 22 * 1024 + r.val
    rw [hs]; unfold lastZ; split_ifs <;> omega
  · blk_simp [idx7 t]
  · show _ = if (pt (lastZ t.val)).val % 22 < 8 then (pt (lastZ t.val)).val % 22 * 512 + n.val else 4112 + ((pt (lastZ t.val)).val % 22 - 8) * 512 + n.val
    rw [hs]; unfold lastZ; split_ifs <;> omega

theorem final_KP : (dats m 0 c).arrAt 8 cfg0.N = gKP (args m c) := by
  refine (dats m 0 c).arrAt_eq_of_covers 8 _ (by decide +kernel) fun t hf y => ?_
  have ht := val_lt t
  have hs : (pt (lastKP t.val)).val = lastKP t.val := pt_val _ (by unfold lastKP; split_ifs <;> omega)
  rw [flush_8, Bool.or_eq_true, Bool.or_eq_true, Bool.and_eq_true, Bool.and_eq_true] at hf
  simp only [decide_eq_true_eq] at hf
  have hl : lastKP t.val % 22 = (if t.val < 176 ∧ t.val % 22 ≤ 10 then 10 else 11) ∧ lastKP t.val / 22 = min (t.val / 22) 7 := by
    unfold lastKP; split_ifs <;> omega
  blk_simp
  obtain ⟨r, n, rfl⟩ := exists_ix2 y
  rw [after_8]
  refine (outKP_at m c _ (by rw [hs, hl.1]; split_ifs <;> omega) r n).trans (gKP_at _ _ (min (t.val / 22) 7 * 1024 + r.val) ((if t.val < 176 ∧ t.val % 22 ≤ 10 then 0 else 1) * 512 + n.val)
    (row (pt (lastKP t.val)) r) (gcol (pt (lastKP t.val)) n) ?_ ?_ ?_ ?_).symm
  · blk_simp [idx8 t]
  · blk_simp [idx8 t]
  · show _ = (pt (lastKP t.val)).val / 22 * 1024 + r.val
    rw [hs, hl.2]
  · show _ = if (pt (lastKP t.val)).val % 22 < 8 then (pt (lastKP t.val)).val % 22 * 512 + n.val else 4112 + ((pt (lastKP t.val)).val % 22 - 8) * 512 + n.val
    rw [hs, hl.1]; split_ifs <;> omega

theorem final_KS : (dats m 0 c).arrAt 9 cfg0.N = gKS (args m c) := by
  refine (dats m 0 c).arrAt_eq_of_covers 9 _ (by decide +kernel) fun t hf y => ?_
  have ht := val_lt t
  have hs : (pt (lastKS t.val)).val = lastKS t.val := pt_val _ (by unfold lastKS; split_ifs <;> omega)
  rw [flush_9, Bool.or_eq_true] at hf
  simp only [decide_eq_true_eq] at hf
  have hl : lastKS t.val % 22 = (if t.val ≤ 186 then 10 else 11) ∧ lastKS t.val / 22 = 8 := by
    unfold lastKS; split_ifs <;> omega
  blk_simp
  obtain ⟨r, n, rfl⟩ := exists_ix2 y
  rw [after_9]
  refine (outKS_at m c _ (by rw [hs, hl.1]; split_ifs <;> omega) r n).trans (gKS_at _ _ (r.val) ((if t.val ≤ 186 then 0 else 1) * 512 + n.val)
    (row (pt (lastKS t.val)) r) (gcol (pt (lastKS t.val)) n) ?_ ?_ ?_ ?_).symm
  · blk_simp [idx9 t]
  · blk_simp [idx9 t]
  · show _ = (pt (lastKS t.val)).val / 22 * 1024 + r.val
    rw [hs, hl.2]
  · show _ = if (pt (lastKS t.val)).val % 22 < 8 then (pt (lastKS t.val)).val % 22 * 512 + n.val else 4112 + ((pt (lastKS t.val)).val % 22 - 8) * 512 + n.val
    rw [hs, hl.1]; split_ifs <;> omega

theorem final_VP : (dats m 0 c).arrAt 10 cfg0.N = gVP (args m c) := by
  refine (dats m 0 c).arrAt_eq_of_covers 10 _ (by decide +kernel) fun t hf y => ?_
  have ht := val_lt t
  have hs : (pt (lastVP t.val)).val = lastVP t.val := pt_val _ (by unfold lastVP; split_ifs <;> omega)
  rw [flush_10, Bool.or_eq_true, Bool.or_eq_true, Bool.and_eq_true, Bool.and_eq_true] at hf
  simp only [decide_eq_true_eq] at hf
  have hl : lastVP t.val % 22 = (if t.val < 176 ∧ t.val % 22 ≤ 12 then 12 else 13) ∧ lastVP t.val / 22 = min (t.val / 22) 7 := by
    unfold lastVP; split_ifs <;> omega
  blk_simp
  obtain ⟨r, n, rfl⟩ := exists_ix2 y
  rw [after_10]
  refine (outVP_at m c _ (by rw [hs, hl.1]; split_ifs <;> omega) r n).trans (gVP_at _ _ (min (t.val / 22) 7 * 1024 + r.val) ((if t.val < 176 ∧ t.val % 22 ≤ 12 then 0 else 1) * 512 + n.val)
    (row (pt (lastVP t.val)) r) (gcol (pt (lastVP t.val)) n) ?_ ?_ ?_ ?_).symm
  · blk_simp [idx10 t]
  · blk_simp [idx10 t]
  · show _ = (pt (lastVP t.val)).val / 22 * 1024 + r.val
    rw [hs, hl.2]
  · show _ = if (pt (lastVP t.val)).val % 22 < 8 then (pt (lastVP t.val)).val % 22 * 512 + n.val else 4112 + ((pt (lastVP t.val)).val % 22 - 8) * 512 + n.val
    rw [hs, hl.1]; split_ifs <;> omega

theorem final_VS : (dats m 0 c).arrAt 11 cfg0.N = gVS (args m c) := by
  refine (dats m 0 c).arrAt_eq_of_covers 11 _ (by decide +kernel) fun t hf y => ?_
  have ht := val_lt t
  have hs : (pt (lastVS t.val)).val = lastVS t.val := pt_val _ (by unfold lastVS; split_ifs <;> omega)
  rw [flush_11, Bool.or_eq_true] at hf
  simp only [decide_eq_true_eq] at hf
  have hl : lastVS t.val % 22 = (if t.val ≤ 188 then 12 else 13) ∧ lastVS t.val / 22 = 8 := by
    unfold lastVS; split_ifs <;> omega
  blk_simp
  obtain ⟨r, n, rfl⟩ := exists_ix2 y
  rw [after_11]
  refine (outVS_at m c _ (by rw [hs, hl.1]; split_ifs <;> omega) r n).trans (gVS_at _ _ (r.val) ((if t.val ≤ 188 then 0 else 1) * 512 + n.val)
    (row (pt (lastVS t.val)) r) (gcol (pt (lastVS t.val)) n) ?_ ?_ ?_ ?_).symm
  · blk_simp [idx11 t]
  · blk_simp [idx11 t]
  · show _ = (pt (lastVS t.val)).val / 22 * 1024 + r.val
    rw [hs, hl.2]
  · show _ = if (pt (lastVS t.val)).val % 22 < 8 then (pt (lastVS t.val)).val % 22 * 512 + n.val else 4112 + ((pt (lastVS t.val)).val % 22 - 8) * 512 + n.val
    rw [hs, hl.1]; split_ifs <;> omega

theorem final_C : (dats m 0 c).arrAt 12 cfg0.N = gC (args m c) := by
  refine (dats m 0 c).arrAt_eq_of_covers 12 _ (by decide +kernel) fun t hf y => ?_
  blk_simp
  obtain ⟨r, n, rfl⟩ := exists_ix2 y
  rw [after_12]
  refine (gateC_at m c t r n).trans (gC_at _ _ (row t r) n ?_ ?_).symm
  · blk_simp [idx12 t]
    rfl
  · blk_simp [idx12 t]

theorem final_R : (dats m 0 c).arrAt 13 cfg0.N = gR (args m c) := by
  refine (dats m 0 c).arrAt_eq_of_covers 13 _ (by decide +kernel) fun t hf y => ?_
  blk_simp
  obtain ⟨n, r, rfl⟩ := exists_ix2 y
  rw [after_13]
  refine (gateR_at m c t n r).trans (gR_at _ _ n (row t r) ?_ ?_).symm
  · blk_simp [idx13 t]
  · blk_simp [idx13 t]
    rfl

/-- The kernel's run with the seven results named. -/
theorem run_blocks (ρ : Dev nD → PrngReg) : θ_run defs (onTc (τ := τ) (main (F := Ideal))) ⟨m, fun _ => 0, ρ⟩ fun r => ∀ c : Dev nD,
      r.2.mem ((c : Thread nD τ).loc main_v11_0) = (dats m 0 c).arrAt 7 cfg0.N
      ∧ r.2.mem ((c : Thread nD τ).loc main_v11_1) = (dats m 0 c).arrAt 8 cfg0.N
      ∧ r.2.mem ((c : Thread nD τ).loc main_v11_2) = (dats m 0 c).arrAt 9 cfg0.N
      ∧ r.2.mem ((c : Thread nD τ).loc main_v11_3) = (dats m 0 c).arrAt 10 cfg0.N
      ∧ r.2.mem ((c : Thread nD τ).loc main_v11_4) = (dats m 0 c).arrAt 11 cfg0.N
      ∧ r.2.mem ((c : Thread nD τ).loc main_v11_5) = (dats m 0 c).arrAt 12 cfg0.N
      ∧ r.2.mem ((c : Thread nD τ).loc main_v11_6) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 7, (h.1 c).1 8, (h.1 c).1 9, (h.1 c).1 10, (h.1 c).1 11, (h.1 c).1 12, (h.1 c).1 13, (h.2 c)⟩)
    (θ_run_and (run_main m ρ) (frame_of m ρ (dats m) (A_eq m) (run_main m ρ)))

end Kernel

section Reference

open Cert.InProjRefIdeal Cert.InProjRefIdeal.Gen Cert.InProjRefIdeal.Read

variable (X : Args)

theorem ref_zz (r : Fin 9216) (n : Fin 11280) : val_main_v18 (F := Ideal) X.xp X.xs X.nw X.w (ix2 r n) = zz X r n := by
  unfold zz xn dot nrm tok
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_cst, val_main_cst_0, val_main_cst_1]

theorem ref_Z : val_main_v22 (F := Ideal) X.xp X.xs X.nw X.w = gZ X := by
  funext i
  obtain ⟨r, n, rfl⟩ := exists_ix2 i
  refine Eq.trans ?_ (ref_zz X r (zcol n))
  unfold zcol
  pointwise [val_main_v19, val_main_v20, val_main_v21, val_main_v22]
  by_cases h : n.val < 4096
  · rw [dif_pos h]
    refine congrArg (val_main_v18 (F := Ideal) X.xp X.xs X.nw X.w) (congrArg (ix2 r) (Fin.ext ?_))
    exact (if_pos h).symm
  rw [dif_neg h]
  by_cases h' : n.val < 5120
  · rw [dif_pos (by omega)]
    refine congrArg (val_main_v18 (F := Ideal) X.xp X.xs X.nw X.w) (congrArg (ix2 r) (Fin.ext ?_))
    refine Eq.trans ?_ ((if_neg h).trans (if_pos h')).symm
    show 4112 + (n.val - 4096) = n.val + 16
    omega
  · rw [dif_neg (by omega)]
    refine congrArg (val_main_v18 (F := Ideal) X.xp X.xs X.nw X.w) (congrArg (ix2 r) (Fin.ext ?_))
    refine Eq.trans ?_ ((if_neg h).trans (if_neg h')).symm
    show 7184 + (n.val - 4096 - 1024) = n.val + 2064
    omega

theorem ref_KP : val_main_v28 (F := Ideal) X.xp X.xs X.nw X.w = gKP X := by
  funext i
  obtain ⟨r, n, rfl⟩ := exists_ix2 i
  refine Eq.trans ?_ (ref_zz X ⟨r.val, by omega⟩ ⟨5136 + n.val, by omega⟩)
  pointwise [val_main_v25, val_main_v28]

theorem ref_KS : val_main_v29 (F := Ideal) X.xp X.xs X.nw X.w = gKS X := by
  funext i
  obtain ⟨r, n, rfl⟩ := exists_ix2 i
  refine Eq.trans ?_ (ref_zz X ⟨8192 + r.val, by omega⟩ ⟨5136 + n.val, by omega⟩)
  pointwise [val_main_v25, val_main_v29]

theorem ref_VP : val_main_v30 (F := Ideal) X.xp X.xs X.nw X.w = gVP X := by
  funext i
  obtain ⟨r, n, rfl⟩ := exists_ix2 i
  refine Eq.trans ?_ (ref_zz X ⟨r.val, by omega⟩ ⟨6160 + n.val, by omega⟩)
  pointwise [val_main_v26, val_main_v30]

theorem ref_VS : val_main_v31 (F := Ideal) X.xp X.xs X.nw X.w = gVS X := by
  funext i
  obtain ⟨r, n, rfl⟩ := exists_ix2 i
  refine Eq.trans ?_ (ref_zz X ⟨8192 + r.val, by omega⟩ ⟨6160 + n.val, by omega⟩)
  pointwise [val_main_v26, val_main_v31]

theorem ref_C : val_main_v32 (F := Ideal) X.xp X.xs X.nw X.w = gC X := by
  funext i
  obtain ⟨r, n, rfl⟩ := exists_ix2 i
  show _ = gates X r n
  unfold gates
  simp only [← ref_zz]
  pointwise [val_main_v23, val_main_v24, val_main_cst_2, val_main_v27, val_main_v32]
  by_cases h : n.val < 8
  · rw [dif_pos h, dif_pos h]
  by_cases h' : 128 ≤ n.val ∧ n.val < 136
  · rw [dif_neg h, dif_neg h, dif_neg (by omega), dif_pos (by omega), dif_pos h']
    refine congrArg (val_main_v18 (F := Ideal) X.xp X.xs X.nw X.w) (congrArg (ix2 r) (Fin.ext ?_))
    show 4104 + (n.val - 8 - 120) = 4104 + (n.val - 128)
    omega
  · rw [dif_neg h, dif_neg h, dif_neg h']
    split_ifs <;> first | rfl | omega

theorem ref_R : val_main_v34 (F := Ideal) X.xp X.xs X.nw X.w = gR X := by
  funext i
  obtain ⟨n, r, rfl⟩ := exists_ix2 i
  refine Eq.trans ?_ (ref_zz X r ⟨4096 + n.val, by omega⟩)
  pointwise [val_main_v23, val_main_v24, val_main_v33, val_main_v34]
  by_cases h : n.val < 8
  · rw [dif_pos h]
  · rw [dif_neg h]
    refine congrArg (val_main_v18 (F := Ideal) X.xp X.xs X.nw X.w) (congrArg (ix2 r) (Fin.ext ?_))
    show 4104 + (n.val - 8) = 4096 + n.val
    omega

end Reference

end Cert.InProjValue

end
-- ==== Proof.InProjClaim.lean ====
/-
  The claims about the input projection.
-/
module

public import proofs.«01_k».proof.Defs
public import proofs.«01_k».proof.Proof.InProjValue
public import proofs.«01_k».proof.Proof.Gen.InProj
public import proofs.«01_k».proof.Proof.Gen.InProjRefIdeal.Run
public import Idealize.ShloMosaic.Lib.Claim

@[expose] public section

set_option maxRecDepth 16384

noncomputable section

namespace Cert.InProjClaim

open Idealize.ShloMosaic Idealize.ShloMosaic.StableHlo Idealize.SL.Sem Cert.InProjValue

attribute [local instance] Cert.InProj.Gen.facts Cert.InProjIdeal.Gen.facts Cert.InProjRefIdeal.Gen.facts

section Reference

open Cert.InProjRefIdeal Cert.InProjRefIdeal.Gen Cert.InProjRefIdeal.Read

/-- The reference's arguments at launch. -/
def refArgs (m : (ℓ : Loc nD τ sig) → Buf (Elt Ideal) ℓ) (c : Dev nD) : Args where
  xp := m ((c.tc : Thread nD τ).loc main_arg0)
  xs := m ((c.tc : Thread nD τ).loc main_arg1)
  nw := m ((c.tc : Thread nD τ).loc main_arg2)
  w := m ((c.tc : Thread nD τ).loc main_arg3)

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = gZ (refArgs m c)
      ∧ r.2.mem ((c.tc : Thread nD τ).loc main_v28) = gKP (refArgs m c)
      ∧ r.2.mem ((c.tc : Thread nD τ).loc main_v29) = gKS (refArgs m c)
      ∧ r.2.mem ((c.tc : Thread nD τ).loc main_v30) = gVP (refArgs m c)
      ∧ r.2.mem ((c.tc : Thread nD τ).loc main_v31) = gVS (refArgs m c)
      ∧ r.2.mem ((c.tc : Thread nD τ).loc main_v32) = gC (refArgs m c)
      ∧ r.2.mem ((c.tc : Thread nD τ).loc main_v34) = gR (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨e0, e1, e2, e3, e4, e5, e6, e7⟩ := h c
    refine ⟨?_, ?_, ?_, ?_, ?_, ?_, ?_, e7⟩
    · rw [e0, val_main_v22_eq, ← ref_Z (refArgs m c)]; rfl
    · rw [e1, val_main_v28_eq, ← ref_KP (refArgs m c)]; rfl
    · rw [e2, val_main_v29_eq, ← ref_KS (refArgs m c)]; rfl
    · rw [e3, val_main_v30_eq, ← ref_VP (refArgs m c)]; rfl
    · rw [e4, val_main_v31_eq, ← ref_VS (refArgs m c)]; rfl
    · rw [e5, val_main_v32_eq, ← ref_C (refArgs m c)]; rfl
    · rw [e6, val_main_v34_eq, ← ref_R (refArgs m c)]; rfl) (Cert.InProjRefIdeal.Value.run (F := Ideal) m ρ)

theorem ref_frame : Cert.quiescent_InProjRefIdeal := fun m ρ _ =>
  (θ_run defs _ _).mono (fun r h => ⟨fun c => (h c).2.2.2.2.2.2.2,
    Idealize.ShloMosaic.sem_eq_zero_of_no_sems (by decide) r.2⟩) (ref_run m ρ)

end Reference

section Kernel

open Cert.InProjIdeal Cert.InProjIdeal.Gen

theorem algebraic : Cert.algebraic_InProjIdeal_InProjRefIdeal := by
  intro m ρ m' ρ' _ hagree
  have he : ∀ c, refArgs m' c = args m c := by
    intro c
    obtain ⟨h0, h1, h2, h3⟩ := hagree c
    unfold refArgs args
    rw [h0, h1, h2, h3]
  refine ⟨fun c => gZ (args m c), fun c => gKP (args m c), fun c => gKS (args m c), fun c => gVP (args m c), fun c => gVS (args m c), fun c => gC (args m c), fun c => gR (args m c), (θ_run _ _ _).mono (fun _ h c => ?_) (run_blocks m ρ),
    (θ_run _ _ _).mono (fun _ h c => ?_) (ref_run m' ρ')⟩
  · obtain ⟨e0, e1, e2, e3, e4, e5, e6, e7⟩ := h c
    exact ⟨e0.trans (final_Z m c), e1.trans (final_KP m c), e2.trans (final_KS m c), e3.trans (final_VP m c), e4.trans (final_VS m c), e5.trans (final_C m c), e6.trans (final_R m c), e7⟩
  · have e := he c
    obtain ⟨e0, e1, e2, e3, e4, e5, e6, e7⟩ := h c
    rw [e] at e0 e1 e2 e3 e4 e5 e6
    exact ⟨e0, e1, e2, e3, e4, e5, e6, e7⟩

end Kernel

theorem frame_ideal : Cert.quiescent_InProjIdeal := fun m ρ _ => Cert.InProjFrame.frame m ρ

/-! The kernel and its idealized form have one text, so the run over any float values is the run of both. -/

theorem body_eq : Cert.InProj.defs₀ (F := Bits) = Cert.InProjIdeal.defs₀ (F := Bits) := by
  refine congrArg Defs.onTc (funext fun l => funext fun a => ?_)
  match l, a with
  | 0, (t, s) => rfl

theorem defs_eq : Cert.InProj.defs (F := Bits) = Cert.InProjIdeal.defs (F := Bits) := congrArg (Pipeline.defs Cert.InProjIdeal.pcfgs) body_eq

theorem frame : Cert.quiescent_InProj := fun m ρ _ => by
  rw [defs_eq]
  exact (θ_run Cert.InProjIdeal.defs _ _).mono (fun _ h => h) (Cert.InProjFrame.frame (F := Bits) m ρ)

end Cert.InProjClaim
-- ==== Proof.RecurPValue.lean ====
/-
  The recurrence over the prompt: the history block its last point leaves, and the history the program returns.
-/
module

public import proofs.«01_k».proof.Proof.Gen.RecurPIdeal.Frame
public import Idealize.ShloMosaic.Lib.Pipeline.Value
public import Idealize.ShloMosaic.Lib.Tactic
public import Idealize.ShloMosaic.Lib.Pointwise
public import Idealize.ShloMosaic.Lib.Pipeline.ValueKit.Point
public import Idealize.ShloMosaic.Lib.Pipeline.ValueKit.Tiles
public import Idealize.ShloMosaic.PureOps.Ideal

@[expose] public section

set_option maxRecDepth 16384

noncomputable section

open Idealize.ShloMosaic Idealize.ShloMosaic.TcCoe Idealize.SL.Sem

namespace Cert.RecurPValue

open Cert.RecurPIdeal Cert.RecurPIdeal.Gen

attribute [local instance] Cert.RecurPIdeal.Gen.facts

theorem origin : (![0, 0] : Fin 2 → Nat) = fun _ => 0 := funext fun a => by fin_cases a <;> rfl

variable (m : (ℓ : Loc nD τ sig) → Buf (Elt Ideal) ℓ) (c : Dev nD)

/-- A later point leaves in the history buffer the last eight rows of the queries and keys it read. -/
theorem history (t : Fin cfg0.N) (h : ¬t.val % 32 = 0) :
    (outsAt0 m c t.val t.isLt).2.2.2.2.1 = fun y => iblk m c 0 t (ix2 ⟨248 + (y 0).val, by have h : (y 0).val < 8 := (y 0).isLt; omega⟩ (y 1)) := by
  rw [outsAt0_B m c t h]
  dsimp only
  funext y
  unfold out0_B_14
  refine (congrFun (View.read_writes_eq_canon _ _ _ fun y => cover0_B_14 (y := y) ..) y).trans ?_
  unfold kernelRun0_B
  dsimp only
  rw [View.canon_unit_zero origin]
  sl_unfold_words
  unfold k0_pay11
  simp only [View.readAt_eq_ld, (hs0_0 t).read_unread, View.ld_unit_zero (S := S256x2048) origin, shapeCast_self]
  obtain ⟨r, k, rfl⟩ : ∃ r k, y = ix2 r k := ⟨y 0, y 1, ValueIdx.eq_ix2 y⟩
  pointwise

/-- The history block after the last point: the last eight of the prompt's rows. -/
def gH (z : S9216x8192.Idx → EReal) (i : S8x2048.Idx) : EReal :=
  z (ix2 ⟨8184 + (i 0).val, by have h : (i 0).val < 8 := (i 0).isLt; omega⟩
    ⟨(i 1).val, by have h : (i 1).val < 2048 := (i 1).isLt; omega⟩)

/-- The history returned: the last three of the prompt's rows, before the convolution. -/
def gP (z : S9216x8192.Idx → EReal) (i : S1x1x3x2048.Idx) : EReal :=
  z (ix2 ⟨8189 + (i 2).val, by have h : (i 2).val < 3 := (i 2).isLt; omega⟩
    ⟨(i 3).val, by have h : (i 3).val < 2048 := (i 3).isLt; omega⟩)

theorem idx0 : ∀ t : Fin cfg0.N, win0_0.index t = ![t.val, 0] := by decide +kernel
theorem idx14 : ∀ t : Fin cfg0.N, win0_14.index t = ![0, 0] := by decide +kernel

theorem blk0 (t : Fin cfg0.N) (r : Fin 256) (k : Fin 2048) (p : Fin 9216) (q : Fin 8192) (hp : p.val = t.val * 256 + r.val)
    (hq : q.val = k.val) : iblk m c 0 t (ix2 r k) = V m c main_arg0 (ix2 p q) := by
  blk_ext [iblk, (idx0 t)]

theorem V_arg0 : V m c main_arg0 = m ((c.tc : Thread nD τ).loc main_arg0) := by
  unfold_abbrev_sides
  try after_results_simp
  rfl

theorem final_history : (dats m 0 c).arrAt 14 cfg0.N = gH (m ((c.tc : Thread nD τ).loc main_arg0)) := by
  refine (dats m 0 c).arrAt_eq_of_covers 14 _ (by decide +kernel) fun t hf y => ?_
  have ht : t.val % 32 = 31 := (flush0_14 t).mp hf
  blk_simp
  rw [after0_14, history m c t (by omega)]
  have hN : t.val < 32 := lt_of_lt_of_eq t.isLt (show cfg0.N = 32 from N_0)
  obtain ⟨r, k, rfl⟩ : ∃ r k, y = ix2 r k := ⟨y 0, y 1, ValueIdx.eq_ix2 y⟩
  have h0 : ((((cfg0.win 14).blk t).view.emb (ix2 r k)) 0 : ℕ) = r.val := by
    blk_simp [(idx14 t)]
  have h1 : ((((cfg0.win 14).blk t).view.emb (ix2 r k)) 1 : ℕ) = k.val := by
    blk_simp [(idx14 t)]
  refine (blk0 m c t ⟨248 + r.val, _⟩ k ⟨8184 + r.val, by omega⟩ ⟨k.val, by omega⟩ ?_ rfl).trans ?_
  · show 8184 + r.val = t.val * 256 + (248 + r.val)
    omega
  · rw [V_arg0]
    unfold gH
    refine congrArg (m ((c.tc : Thread nD τ).loc main_arg0)) (congrArg₂ ix2 (Fin.ext ?_) (Fin.ext ?_))
    · exact congrArg (8184 + ·) h0.symm
    · exact h1.symm

/-- The host's tail cuts the last three rows out of the block and reshapes them. -/
theorem final_P : Pipeline.afterTail₀ cfgs (dats m) 0 (V0 m) [hostOps1] c main_v22 = gP (m ((c.tc : Thread nD τ).loc main_arg0)) := by
  unfold Pipeline.afterTail₀
  have e : ∀ W : Valuation τ sig (Elt Ideal), StableHlo.after (List.flatten [hostOps1]) W (Proc.devRef .tc main_v22)
      = shapeCast S1x1x3x2048 (extractStridedSlice S3x2048 ![5, 0] (W (Proc.devRef .tc main_v20_4)) slices_S8x2048_S3x2048_5_0)
          shapeCasts_S3x2048_S1x1x3x2048 := by
    intro W
    try after_results_simp
    rfl
  have h : Pipeline.withArrays (cfgs 0).spec c (V0 m c) (fun w => (dats m 0 c).arrAt w (cfgs 0).N) (Proc.devRef .tc main_v20_4)
      = gH (m ((c.tc : Thread nD τ).loc main_arg0)) :=
    ((dats m 0 c).withArrays_arrAt sharedIn0 (V0 m c) (A_eq m c) 14).trans (final_history m c)
  refine (e _).trans ?_
  rw [h]
  funext i
  obtain ⟨a, b, s, k, rfl⟩ : ∃ a b s k, i = ix4 a b s k := ⟨i 0, i 1, i 2, i 3, ValueIdx.eq_ix4 i⟩
  pointwise
  refine congrArg (m ((c.tc : Thread nD τ).loc main_arg0)) (congrArg₂ ix2 (Fin.ext ?_) rfl)
  show 8184 + (5 + s.val) = 8189 + s.val
  omega

/-- The run with its result named. -/
theorem run_all (ρ : Dev nD → PrngReg) : θ_run defs (onTc (τ := τ) (main (F := Ideal))) ⟨m, fun _ => 0, ρ⟩ fun r => ∀ c : Dev nD,
      r.2.mem ((c.tc : Thread nD τ).loc main_v22) = gP (m ((c.tc : Thread nD τ).loc main_arg0)) :=
  (θ_run defs _ _).mono (fun _ h c => ((h c).2 main_v22 (by decide)).trans (final_P m c)) (run_main m ρ)

end Cert.RecurPValue
-- ==== Proof.RecurPClaim.lean ====
/-
  The claims about the recurrence over the prompt: both programs return the same history of the convolution.
-/
module

public import proofs.«01_k».proof.Defs
public import proofs.«01_k».proof.Proof.RecurPValue
public import proofs.«01_k».proof.Proof.Gen.RecurP
public import proofs.«01_k».proof.Proof.Gen.RecurP.Frame
public import proofs.«01_k».proof.Proof.Gen.RecurPRefIdeal
public import proofs.«01_k».proof.Proof.Gen.RecurPRefIdeal.Run
public import proofs.«01_k».proof.Proof.Gen.RecurPRefIdeal.Read
public import Idealize.ShloMosaic.Lib.Claim

@[expose] public section

set_option maxRecDepth 16384

noncomputable section

namespace Cert.RecurPClaim

open Idealize.ShloMosaic Idealize.ShloMosaic.StableHlo Idealize.ShloMosaic.TcCoe Idealize.SL.Sem Cert.RecurPValue

attribute [local instance] Cert.RecurP.Gen.facts Cert.RecurPIdeal.Gen.facts Cert.RecurPRefIdeal.Gen.facts

section Reference

open Cert.RecurPRefIdeal Cert.RecurPRefIdeal.Gen Cert.RecurPRefIdeal.Read

/-- Three rows of zeros before the prompt's: the last three of all are the prompt's last three. -/
theorem ref_P (z : Cert.RecurPIdeal.S9216x8192.Idx → EReal) : val_main_v5 (F := Ideal) z = gP z := by
  funext i
  obtain ⟨a, b, s, k, rfl⟩ : ∃ a b s k, i = ix4 a b s k := ⟨i 0, i 1, i 2, i 3, ValueIdx.eq_ix4 i⟩
  pointwise [val_main_v5, val_main_v4, val_main_v3, val_main_v2, val_main_v1, val_main_v0, val_main_cst]
  rw [dif_neg (by show ¬ 8192 + s.val < 3; omega)]
  refine congrArg z (congrArg₂ ix2 (Fin.ext ?_) rfl)
  show 8192 + s.val - 3 = 8189 + s.val
  omega

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = gP (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans ((val_main_v5_eq _).trans (ref_P _)), (h c).2⟩)
    (Cert.RecurPRefIdeal.Value.run (F := Ideal) m ρ)

theorem ref_frame : Cert.quiescent_RecurPRefIdeal := fun m ρ _ =>
  (θ_run defs _ _).mono (fun r h => ⟨fun c => (h c).2,
    Idealize.ShloMosaic.sem_eq_zero_of_no_sems (by decide) r.2⟩) (ref_run m ρ)

end Reference

section Kernel

open Cert.RecurPIdeal Cert.RecurPIdeal.Gen

theorem algebraic : Cert.algebraic_RecurPIdeal_RecurPRefIdeal := by
  intro m ρ m' ρ' _ hagree
  refine ⟨fun c => gP (m ((c.tc : Thread nD τ).loc main_arg0)),
    (θ_run _ _ _).mono (fun _ h c => ⟨h.1 c, h.2 c⟩) (θ_run_and (run_all m ρ) (unchanged m ρ)),
    (θ_run _ _ _).mono (fun _ h c => ?_) (ref_run m' ρ')⟩
  have e := (h c).1
  rw [(hagree c).1] at e
  exact ⟨e, (h c).2⟩

end Kernel

theorem frame : Cert.quiescent_RecurP := fun m ρ _ => Cert.RecurP.Gen.frame m ρ
theorem frame_ideal : Cert.quiescent_RecurPIdeal := fun m ρ _ => Cert.RecurPIdeal.Gen.frame m ρ

end Cert.RecurPClaim
-- ==== Proof.lean ====
/- The assembly of the certificate: the facts of the printed programs, then each claim from its module. -/
module

public import proofs.«01_k».proof.Defs
public import proofs.«01_k».proof.Proof.Gen.Recur
public import proofs.«01_k».proof.Proof.Gen.Recur.Skeleton
public import proofs.«01_k».proof.Proof.Gen.Recur.Launch
public import proofs.«01_k».proof.Proof.Gen.Recur.Points
public import proofs.«01_k».proof.Proof.Gen.Recur.Frame
public import proofs.«01_k».proof.Proof.Gen.RecurIdeal
public import proofs.«01_k».proof.Proof.Gen.RecurIdeal.Skeleton
public import proofs.«01_k».proof.Proof.Gen.RecurIdeal.Launch
public import proofs.«01_k».proof.Proof.Gen.RecurIdeal.Points
public import proofs.«01_k».proof.Proof.Gen.RecurIdeal.Frame
public import proofs.«01_k».proof.Proof.Gen.RecurIdeal.Value
public import proofs.«01_k».proof.Proof.Gen.RecurRefIdeal
public import proofs.«01_k».proof.Proof.Gen.RecurRefIdeal.Run
public import proofs.«01_k».proof.Proof.Gen.RecurRefIdeal.Read
public import proofs.«01_k».proof.Proof.RecurClaim
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.FfnClaim
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.OutProjClaim
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.MergeClaim
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.InProjClaim
public import proofs.«01_k».proof.Proof.Gen.RecurP
public import proofs.«01_k».proof.Proof.Gen.RecurP.Skeleton
public import proofs.«01_k».proof.Proof.Gen.RecurP.Launch
public import proofs.«01_k».proof.Proof.Gen.RecurP.Points
public import proofs.«01_k».proof.Proof.Gen.RecurP.Frame
public import proofs.«01_k».proof.Proof.Gen.RecurPIdeal
public import proofs.«01_k».proof.Proof.Gen.RecurPIdeal.Skeleton
public import proofs.«01_k».proof.Proof.Gen.RecurPIdeal.Launch
public import proofs.«01_k».proof.Proof.Gen.RecurPIdeal.Points
public import proofs.«01_k».proof.Proof.Gen.RecurPIdeal.Frame
public import proofs.«01_k».proof.Proof.Gen.RecurPRefIdeal
public import proofs.«01_k».proof.Proof.Gen.RecurPRefIdeal.Run
public import proofs.«01_k».proof.Proof.Gen.RecurPRefIdeal.Read
public import proofs.«01_k».proof.Proof.RecurPClaim
public import Idealize.ShloMosaic.Adequacy
public import Idealize.ShloMosaic.Init

@[expose] public section

noncomputable section

namespace Cert.Proof

open Idealize.ShloMosaic Idealize.SL.Sem

theorem claim : Cert.Claim := ⟨Cert.Recur.Gen.facts, Cert.RecurIdeal.Gen.facts, Cert.RecurRefIdeal.Gen.facts, Cert.Ffn.Gen.facts, Cert.FfnIdeal.Gen.facts, Cert.FfnRefIdeal.Gen.facts, Cert.OutProj.Gen.facts, Cert.OutProjIdeal.Gen.facts, Cert.OutProjRefIdeal.Gen.facts, Cert.Merge.Gen.facts, Cert.MergeIdeal.Gen.facts, Cert.MergeRefIdeal.Gen.facts, Cert.InProj.Gen.facts, Cert.InProjIdeal.Gen.facts, Cert.InProjRefIdeal.Gen.facts, Cert.RecurP.Gen.facts, Cert.RecurPIdeal.Gen.facts, Cert.RecurPRefIdeal.Gen.facts,
  Cert.RecurClaim.frame, Cert.RecurClaim.frame_ideal, Cert.RecurClaim.ref_frame,
  Cert.FfnClaim.frame, Cert.FfnClaim.frame_ideal, Cert.FfnClaim.ref_frame,
  Cert.OutProjClaim.frame, Cert.OutProjClaim.frame_ideal, Cert.OutProjClaim.ref_frame,
  Cert.MergeClaim.frame, Cert.MergeClaim.frame_ideal, Cert.MergeClaim.ref_frame,
  Cert.InProjClaim.frame, Cert.InProjClaim.frame_ideal, Cert.InProjClaim.ref_frame,
  Cert.RecurPClaim.frame, Cert.RecurPClaim.frame_ideal, Cert.RecurPClaim.ref_frame,
  trivial, Cert.RecurClaim.algebraic, trivial, Cert.FfnClaim.algebraic, trivial, Cert.OutProjClaim.algebraic, trivial, Cert.MergeClaim.algebraic, trivial, Cert.InProjClaim.algebraic, trivial, Cert.RecurPClaim.algebraic⟩

end Cert.Proof

end
